-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6)
      ∧ r.2.mem ((c.tc : Thread Cert.Kernel13.nD Cert.Kernel13.τ).loc Cert.Kernel13.main_arg7) = m ((c.tc : Thread Cert.Kernel13.nD Cert.Kernel13.τ).loc Cert.Kernel13.main_arg7)
      ∧ r.2.mem ((c.tc : Thread Cert.Kernel13.nD Cert.Kernel13.τ).loc Cert.Kernel13.main_arg8) = m ((c.tc : Thread Cert.Kernel13.nD Cert.Kernel13.τ).loc Cert.Kernel13.main_arg8))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
      ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
      ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6)
      ∧ r.2.mem ((c.tc : Thread Cert.Reference13Ideal.nD Cert.Reference13Ideal.τ).loc Cert.Reference13Ideal.main_arg7) = m ((c.tc : Thread Cert.Reference13Ideal.nD Cert.Reference13Ideal.τ).loc Cert.Reference13Ideal.main_arg7)
      ∧ r.2.mem ((c.tc : Thread Cert.Reference13Ideal.nD Cert.Reference13Ideal.τ).loc Cert.Reference13Ideal.main_arg8) = m ((c.tc : Thread Cert.Reference13Ideal.nD Cert.Reference13Ideal.τ).loc Cert.Reference13Ideal.main_arg8))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_v41) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v3_0)) (v1 : (c : Dev Cert.Kernel6Ideal.nD) → Buf (Elt Ideal) ((c.tc : Thread Cert.Kernel6Ideal.nD Cert.Kernel6Ideal.τ).loc Cert.Kernel6Ideal.main_v3_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3_0) = v0 c
          ∧ r.2.mem ((c.tc : Thread Cert.Kernel6Ideal.nD Cert.Kernel6Ideal.τ).loc Cert.Kernel6Ideal.main_v3_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v41) = v0 c
          ∧ r.2.mem ((c.tc : Thread Cert.Reference6Ideal.nD Cert.Reference6Ideal.τ).loc Cert.Reference6Ideal.main_v24) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v3_0)) (v1 : (c : Dev Cert.Kernel7Ideal.nD) → Buf (Elt Ideal) ((c.tc : Thread Cert.Kernel7Ideal.nD Cert.Kernel7Ideal.τ).loc Cert.Kernel7Ideal.main_v3_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3_0) = v0 c
          ∧ r.2.mem ((c.tc : Thread Cert.Kernel7Ideal.nD Cert.Kernel7Ideal.τ).loc Cert.Kernel7Ideal.main_v3_2) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v35) = v0 c
          ∧ r.2.mem ((c.tc : Thread Cert.Reference7Ideal.nD Cert.Reference7Ideal.τ).loc Cert.Reference7Ideal.main_v18) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v6_0)) (v1 : (c : Dev Cert.Kernel8Ideal.nD) → Buf (Elt Ideal) ((c.tc : Thread Cert.Kernel8Ideal.nD Cert.Kernel8Ideal.τ).loc Cert.Kernel8Ideal.main_v6_1)) (v2 : (c : Dev Cert.Kernel8Ideal.nD) → Buf (Elt Ideal) ((c.tc : Thread Cert.Kernel8Ideal.nD Cert.Kernel8Ideal.τ).loc Cert.Kernel8Ideal.main_v6_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v6_0) = v0 c
          ∧ r.2.mem ((c.tc : Thread Cert.Kernel8Ideal.nD Cert.Kernel8Ideal.τ).loc Cert.Kernel8Ideal.main_v6_1) = v1 c
          ∧ r.2.mem ((c.tc : Thread Cert.Kernel8Ideal.nD Cert.Kernel8Ideal.τ).loc Cert.Kernel8Ideal.main_v6_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v32) = v0 c
          ∧ r.2.mem ((c.tc : Thread Cert.Reference8Ideal.nD Cert.Reference8Ideal.τ).loc Cert.Reference8Ideal.main_v33) = v1 c
          ∧ r.2.mem ((c.tc : Thread Cert.Reference8Ideal.nD Cert.Reference8Ideal.τ).loc Cert.Reference8Ideal.main_v34) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v5_0)) (v1 : (c : Dev Cert.Kernel9Ideal.nD) → Buf (Elt Ideal) ((c.tc : Thread Cert.Kernel9Ideal.nD Cert.Kernel9Ideal.τ).loc Cert.Kernel9Ideal.main_v5_1)) (v2 : (c : Dev Cert.Kernel9Ideal.nD) → Buf (Elt Ideal) ((c.tc : Thread Cert.Kernel9Ideal.nD Cert.Kernel9Ideal.τ).loc Cert.Kernel9Ideal.main_v5_2)) (v3 : (c : Dev Cert.Kernel9Ideal.nD) → Buf (Elt Ideal) ((c.tc : Thread Cert.Kernel9Ideal.nD Cert.Kernel9Ideal.τ).loc Cert.Kernel9Ideal.main_v5_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v5_0) = v0 c
          ∧ r.2.mem ((c.tc : Thread Cert.Kernel9Ideal.nD Cert.Kernel9Ideal.τ).loc Cert.Kernel9Ideal.main_v5_1) = v1 c
          ∧ r.2.mem ((c.tc : Thread Cert.Kernel9Ideal.nD Cert.Kernel9Ideal.τ).loc Cert.Kernel9Ideal.main_v5_2) = v2 c
          ∧ r.2.mem ((c.tc : Thread Cert.Kernel9Ideal.nD Cert.Kernel9Ideal.τ).loc Cert.Kernel9Ideal.main_v5_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v41) = v0 c
          ∧ r.2.mem ((c.tc : Thread Cert.Reference9Ideal.nD Cert.Reference9Ideal.τ).loc Cert.Reference9Ideal.main_v39) = v1 c
          ∧ r.2.mem ((c.tc : Thread Cert.Reference9Ideal.nD Cert.Reference9Ideal.τ).loc Cert.Reference9Ideal.main_v42) = v2 c
          ∧ r.2.mem ((c.tc : Thread Cert.Reference9Ideal.nD Cert.Reference9Ideal.τ).loc Cert.Reference9Ideal.main_v20) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)) →
    ∃ (v0 : (c : Dev Cert.Kernel10Ideal.nD) → Buf (Elt Ideal) ((c.tc : Thread Cert.Kernel10Ideal.nD Cert.Kernel10Ideal.τ).loc Cert.Kernel10Ideal.main_v19_0)) (v1 : (c : Dev Cert.Kernel10Ideal.nD) → Buf (Elt Ideal) ((c.tc : Thread Cert.Kernel10Ideal.nD Cert.Kernel10Ideal.τ).loc Cert.Kernel10Ideal.main_v19_1)) (v2 : (c : Dev Cert.Kernel10Ideal.nD) → Buf (Elt Ideal) ((c.tc : Thread Cert.Kernel10Ideal.nD Cert.Kernel10Ideal.τ).loc Cert.Kernel10Ideal.main_v19_2)) (v3 : (c : Dev Cert.Kernel10Ideal.nD) → Buf (Elt Ideal) ((c.tc : Thread Cert.Kernel10Ideal.nD Cert.Kernel10Ideal.τ).loc Cert.Kernel10Ideal.main_v19_3)) (v4 : (c : Dev Cert.Kernel10Ideal.nD) → Buf (Elt Ideal) ((c.tc : Thread Cert.Kernel10Ideal.nD Cert.Kernel10Ideal.τ).loc Cert.Kernel10Ideal.main_v19_4)) (v5 : (c : Dev Cert.Kernel10Ideal.nD) → Buf (Elt Ideal) ((c.tc : Thread Cert.Kernel10Ideal.nD Cert.Kernel10Ideal.τ).loc Cert.Kernel10Ideal.main_v19_5)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v19_0) = v0 c
          ∧ r.2.mem ((c.tc : Thread Cert.Kernel10Ideal.nD Cert.Kernel10Ideal.τ).loc Cert.Kernel10Ideal.main_v19_1) = v1 c
          ∧ r.2.mem ((c.tc : Thread Cert.Kernel10Ideal.nD Cert.Kernel10Ideal.τ).loc Cert.Kernel10Ideal.main_v19_2) = v2 c
          ∧ r.2.mem ((c.tc : Thread Cert.Kernel10Ideal.nD Cert.Kernel10Ideal.τ).loc Cert.Kernel10Ideal.main_v19_3) = v3 c
          ∧ r.2.mem ((c.tc : Thread Cert.Kernel10Ideal.nD Cert.Kernel10Ideal.τ).loc Cert.Kernel10Ideal.main_v19_4) = v4 c
          ∧ r.2.mem ((c.tc : Thread Cert.Kernel10Ideal.nD Cert.Kernel10Ideal.τ).loc Cert.Kernel10Ideal.main_v19_5) = v5 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v66) = v0 c
          ∧ r.2.mem ((c.tc : Thread Cert.Reference10Ideal.nD Cert.Reference10Ideal.τ).loc Cert.Reference10Ideal.main_v67) = v1 c
          ∧ r.2.mem ((c.tc : Thread Cert.Reference10Ideal.nD Cert.Reference10Ideal.τ).loc Cert.Reference10Ideal.main_v60) = v2 c
          ∧ r.2.mem ((c.tc : Thread Cert.Reference10Ideal.nD Cert.Reference10Ideal.τ).loc Cert.Reference10Ideal.main_v62) = v3 c
          ∧ r.2.mem ((c.tc : Thread Cert.Reference10Ideal.nD Cert.Reference10Ideal.τ).loc Cert.Reference10Ideal.main_v46) = v4 c
          ∧ r.2.mem ((c.tc : Thread Cert.Reference10Ideal.nD Cert.Reference10Ideal.τ).loc Cert.Reference10Ideal.main_v65) = v5 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v3_0)) (v1 : (c : Dev Cert.Kernel11Ideal.nD) → Buf (Elt Ideal) ((c.tc : Thread Cert.Kernel11Ideal.nD Cert.Kernel11Ideal.τ).loc Cert.Kernel11Ideal.main_v3_1)) (v2 : (c : Dev Cert.Kernel11Ideal.nD) → Buf (Elt Ideal) ((c.tc : Thread Cert.Kernel11Ideal.nD Cert.Kernel11Ideal.τ).loc Cert.Kernel11Ideal.main_v3_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3_0) = v0 c
          ∧ r.2.mem ((c.tc : Thread Cert.Kernel11Ideal.nD Cert.Kernel11Ideal.τ).loc Cert.Kernel11Ideal.main_v3_1) = v1 c
          ∧ r.2.mem ((c.tc : Thread Cert.Kernel11Ideal.nD Cert.Kernel11Ideal.τ).loc Cert.Kernel11Ideal.main_v3_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v15) = v0 c
          ∧ r.2.mem ((c.tc : Thread Cert.Reference11Ideal.nD Cert.Reference11Ideal.τ).loc Cert.Reference11Ideal.main_v13) = v1 c
          ∧ r.2.mem ((c.tc : Thread Cert.Reference11Ideal.nD Cert.Reference11Ideal.τ).loc Cert.Reference11Ideal.main_v14) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v1_0)) (v1 : (c : Dev Cert.Kernel12Ideal.nD) → Buf (Elt Ideal) ((c.tc : Thread Cert.Kernel12Ideal.nD Cert.Kernel12Ideal.τ).loc Cert.Kernel12Ideal.main_v1_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1_0) = v0 c
          ∧ r.2.mem ((c.tc : Thread Cert.Kernel12Ideal.nD Cert.Kernel12Ideal.τ).loc Cert.Kernel12Ideal.main_v1_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v16) = v0 c
          ∧ r.2.mem ((c.tc : Thread Cert.Reference12Ideal.nD Cert.Reference12Ideal.τ).loc Cert.Reference12Ideal.main_v17) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)
      ∧ m' ((c.tc : Thread Cert.Reference13Ideal.nD Cert.Reference13Ideal.τ).loc Cert.Reference13Ideal.main_arg7) = m ((c.tc : Thread Cert.Kernel13Ideal.nD Cert.Kernel13Ideal.τ).loc Cert.Kernel13Ideal.main_arg7)
      ∧ m' ((c.tc : Thread Cert.Reference13Ideal.nD Cert.Reference13Ideal.τ).loc Cert.Reference13Ideal.main_arg8) = m ((c.tc : Thread Cert.Kernel13Ideal.nD Cert.Kernel13Ideal.τ).loc Cert.Kernel13Ideal.main_arg8)) →
    ∃ (v0 : (c : Dev Cert.Kernel13Ideal.nD) → Buf (Elt Ideal) ((c.tc : Thread Cert.Kernel13Ideal.nD Cert.Kernel13Ideal.τ).loc Cert.Kernel13Ideal.main_v1_0)) (v1 : (c : Dev Cert.Kernel13Ideal.nD) → Buf (Elt Ideal) ((c.tc : Thread Cert.Kernel13Ideal.nD Cert.Kernel13Ideal.τ).loc Cert.Kernel13Ideal.main_v1_1)) (v2 : (c : Dev Cert.Kernel13Ideal.nD) → Buf (Elt Ideal) ((c.tc : Thread Cert.Kernel13Ideal.nD Cert.Kernel13Ideal.τ).loc Cert.Kernel13Ideal.main_v1_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1_0) = v0 c
          ∧ r.2.mem ((c.tc : Thread Cert.Kernel13Ideal.nD Cert.Kernel13Ideal.τ).loc Cert.Kernel13Ideal.main_v1_1) = v1 c
          ∧ r.2.mem ((c.tc : Thread Cert.Kernel13Ideal.nD Cert.Kernel13Ideal.τ).loc Cert.Kernel13Ideal.main_v1_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
          ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
          ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v28) = v0 c
          ∧ r.2.mem ((c.tc : Thread Cert.Reference13Ideal.nD Cert.Reference13Ideal.τ).loc Cert.Reference13Ideal.main_v27) = v1 c
          ∧ r.2.mem ((c.tc : Thread Cert.Reference13Ideal.nD Cert.Reference13Ideal.τ).loc Cert.Reference13Ideal.main_v41) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6)
          ∧ r.2.mem ((c.tc : Thread Cert.Reference13Ideal.nD Cert.Reference13Ideal.τ).loc Cert.Reference13Ideal.main_arg7) = m' ((c.tc : Thread Cert.Reference13Ideal.nD Cert.Reference13Ideal.τ).loc Cert.Reference13Ideal.main_arg7)
          ∧ r.2.mem ((c.tc : Thread Cert.Reference13Ideal.nD Cert.Reference13Ideal.τ).loc Cert.Reference13Ideal.main_arg8) = m' ((c.tc : Thread Cert.Reference13Ideal.nD Cert.Reference13Ideal.τ).loc Cert.Reference13Ideal.main_arg8))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v2_0)) (v1 : (c : Dev Cert.Kernel14Ideal.nD) → Buf (Elt Ideal) ((c.tc : Thread Cert.Kernel14Ideal.nD Cert.Kernel14Ideal.τ).loc Cert.Kernel14Ideal.main_v2_1)) (v2 : (c : Dev Cert.Kernel14Ideal.nD) → Buf (Elt Ideal) ((c.tc : Thread Cert.Kernel14Ideal.nD Cert.Kernel14Ideal.τ).loc Cert.Kernel14Ideal.main_v2_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2_0) = v0 c
          ∧ r.2.mem ((c.tc : Thread Cert.Kernel14Ideal.nD Cert.Kernel14Ideal.τ).loc Cert.Kernel14Ideal.main_v2_1) = v1 c
          ∧ r.2.mem ((c.tc : Thread Cert.Kernel14Ideal.nD Cert.Kernel14Ideal.τ).loc Cert.Kernel14Ideal.main_v2_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v9) = v0 c
          ∧ r.2.mem ((c.tc : Thread Cert.Reference14Ideal.nD Cert.Reference14Ideal.τ).loc Cert.Reference14Ideal.main_v0) = v1 c
          ∧ r.2.mem ((c.tc : Thread Cert.Reference14Ideal.nD Cert.Reference14Ideal.τ).loc Cert.Reference14Ideal.main_v1) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v6_0)) (v1 : (c : Dev Cert.Kernel15Ideal.nD) → Buf (Elt Ideal) ((c.tc : Thread Cert.Kernel15Ideal.nD Cert.Kernel15Ideal.τ).loc Cert.Kernel15Ideal.main_v6_1)) (v2 : (c : Dev Cert.Kernel15Ideal.nD) → Buf (Elt Ideal) ((c.tc : Thread Cert.Kernel15Ideal.nD Cert.Kernel15Ideal.τ).loc Cert.Kernel15Ideal.main_v6_2)) (v3 : (c : Dev Cert.Kernel15Ideal.nD) → Buf (Elt Ideal) ((c.tc : Thread Cert.Kernel15Ideal.nD Cert.Kernel15Ideal.τ).loc Cert.Kernel15Ideal.main_v6_3)) (v4 : (c : Dev Cert.Kernel15Ideal.nD) → Buf (Elt Ideal) ((c.tc : Thread Cert.Kernel15Ideal.nD Cert.Kernel15Ideal.τ).loc Cert.Kernel15Ideal.main_v6_4)) (v5 : (c : Dev Cert.Kernel15Ideal.nD) → Buf (Elt Ideal) ((c.tc : Thread Cert.Kernel15Ideal.nD Cert.Kernel15Ideal.τ).loc Cert.Kernel15Ideal.main_v6_5)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v6_0) = v0 c
          ∧ r.2.mem ((c.tc : Thread Cert.Kernel15Ideal.nD Cert.Kernel15Ideal.τ).loc Cert.Kernel15Ideal.main_v6_1) = v1 c
          ∧ r.2.mem ((c.tc : Thread Cert.Kernel15Ideal.nD Cert.Kernel15Ideal.τ).loc Cert.Kernel15Ideal.main_v6_2) = v2 c
          ∧ r.2.mem ((c.tc : Thread Cert.Kernel15Ideal.nD Cert.Kernel15Ideal.τ).loc Cert.Kernel15Ideal.main_v6_3) = v3 c
          ∧ r.2.mem ((c.tc : Thread Cert.Kernel15Ideal.nD Cert.Kernel15Ideal.τ).loc Cert.Kernel15Ideal.main_v6_4) = v4 c
          ∧ r.2.mem ((c.tc : Thread Cert.Kernel15Ideal.nD Cert.Kernel15Ideal.τ).loc Cert.Kernel15Ideal.main_v6_5) = v5 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v30) = v0 c
          ∧ r.2.mem ((c.tc : Thread Cert.Reference15Ideal.nD Cert.Reference15Ideal.τ).loc Cert.Reference15Ideal.main_v31) = v1 c
          ∧ r.2.mem ((c.tc : Thread Cert.Reference15Ideal.nD Cert.Reference15Ideal.τ).loc Cert.Reference15Ideal.main_v32) = v2 c
          ∧ r.2.mem ((c.tc : Thread Cert.Reference15Ideal.nD Cert.Reference15Ideal.τ).loc Cert.Reference15Ideal.main_v33) = v3 c
          ∧ r.2.mem ((c.tc : Thread Cert.Reference15Ideal.nD Cert.Reference15Ideal.τ).loc Cert.Reference15Ideal.main_v34) = v4 c
          ∧ r.2.mem ((c.tc : Thread Cert.Reference15Ideal.nD Cert.Reference15Ideal.τ).loc Cert.Reference15Ideal.main_v29) = v5 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v1_0)) (v1 : (c : Dev Cert.Kernel16Ideal.nD) → Buf (Elt Ideal) ((c.tc : Thread Cert.Kernel16Ideal.nD Cert.Kernel16Ideal.τ).loc Cert.Kernel16Ideal.main_v1_1)) (v2 : (c : Dev Cert.Kernel16Ideal.nD) → Buf (Elt Ideal) ((c.tc : Thread Cert.Kernel16Ideal.nD Cert.Kernel16Ideal.τ).loc Cert.Kernel16Ideal.main_v1_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1_0) = v0 c
          ∧ r.2.mem ((c.tc : Thread Cert.Kernel16Ideal.nD Cert.Kernel16Ideal.τ).loc Cert.Kernel16Ideal.main_v1_1) = v1 c
          ∧ r.2.mem ((c.tc : Thread Cert.Kernel16Ideal.nD Cert.Kernel16Ideal.τ).loc Cert.Kernel16Ideal.main_v1_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_v2) = v1 c
          ∧ r.2.mem ((c.tc : Thread Cert.Reference16Ideal.nD Cert.Reference16Ideal.τ).loc Cert.Reference16Ideal.main_v16) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
-- ==== Kernel.lean ====
abbrev S8192x1024 : Shape := ⟨2, ![8192, 1024]⟩
abbrev S1x1024 : Shape := ⟨2, ![1, 1024]⟩
abbrev S1024x2048 : Shape := ⟨2, ![1024, 2048]⟩
abbrev S1024x1024 : Shape := ⟨2, ![1024, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 19
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .bf16⟩
  | .hbm, ⟨6, _⟩ => ⟨S1x1024, .f32⟩
  | .hbm, ⟨7, _⟩ => ⟨S1x1024, .f32⟩
  | .hbm, ⟨8, _⟩ => ⟨S1024x2048, .f32⟩
  | .hbm, ⟨9, _⟩ => ⟨S1024x2048, .f32⟩
  | .hbm, ⟨10, _⟩ => ⟨S1024x2048, .bf16⟩
  | .hbm, ⟨11, _⟩ => ⟨S1024x1024, .bf16⟩
  | .hbm, ⟨12, _⟩ => ⟨S1024x1024, .bf16⟩
  | .hbm, ⟨13, _⟩ => ⟨S1024x2048, .bf16⟩
  | .hbm, ⟨14, _⟩ => ⟨S1024x1024, .bf16⟩
  | .hbm, ⟨15, _⟩ => ⟨S1024x1024, .bf16⟩
  | .hbm, ⟨16, _⟩ => ⟨S8192x1024, .f32⟩
  | .hbm, ⟨17, _⟩ => ⟨S1x1024, .f32⟩
  | .hbm, ⟨18, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S1x1024, .f32⟩
  | .local _ .vmem, ⟨13, _⟩ => ⟨S1x1024, .f32⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S256x1024, .f32⟩
  | .local _ .vmem, ⟨19, _⟩ => ⟨S256x1024, .f32⟩
  | .local _ .vmem, ⟨20, _⟩ => ⟨S1x1024, .f32⟩
  | .local _ .vmem, ⟨21, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg14_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem14_0 : DmaSem sig := 21

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v96 : BitVec 1 := Scalar.cmpi .eq arg0 c0_i32
  let v97 : BitVec 32 := Scalar.extui v96
  let c0_i32_44 : BitVec 32 := 0#32
  let v98 : BitVec 1 := Scalar.cmpi .ne v97 c0_i32_44
  v98

def k0_cond2 (i : grid0.Coords) : BitVec 1 :=
  let arg0 : BitVec 32 := BitVec.ofNat 32 (i 0).val
  let c0_i32_45 : BitVec 32 := 0#32
  let v99 : BitVec 1 := Scalar.cmpi .sgt arg0 c0_i32_45
  let v100 : BitVec 32 := Scalar.extui v99
  let c0_i32_46 : BitVec 32 := 0#32
  let v101 : BitVec 1 := Scalar.cmpi .ne v100 c0_i32_46
  v101

def k0_cond3 (i : grid0.Coords) : BitVec 1 :=
  let arg0 : BitVec 32 := BitVec.ofNat 32 (i 0).val
  let c0_i32_47 : BitVec 32 := 0#32
  let v102 : BitVec 1 := Scalar.cmpi .eq arg0 c0_i32_47
  let v103 : BitVec 32 := Scalar.extui v102
  let c0_i32_48 : BitVec 32 := 0#32
  let v104 : BitVec 1 := Scalar.cmpi .ne v103 c0_i32_48
  v104

def k0_cond4 (i : grid0.Coords) : BitVec 1 :=
  let arg0 : BitVec 32 := BitVec.ofNat 32 (i 0).val
  let c0_i32_49 : BitVec 32 := 0#32
  let v105 : BitVec 1 := Scalar.cmpi .sgt arg0 c0_i32_49
  let v106 : BitVec 32 := Scalar.extui v105
  let c0_i32_50 : BitVec 32 := 0#32
  let v107 : BitVec 1 := Scalar.cmpi .ne v106 c0_i32_50
  v107

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ReferenceIdeal.lean ====
abbrev S8192x1024 : Shape := ⟨2, ![8192, 1024]⟩
abbrev S1x1024 : Shape := ⟨2, ![1, 1024]⟩
abbrev S1024x2048 : Shape := ⟨2, ![1024, 2048]⟩
abbrev S_ : Shape := ⟨0, ![]⟩
abbrev S8192 : Shape := ⟨1, ![8192]⟩
abbrev S8192x1 : Shape := ⟨2, ![8192, 1]⟩
abbrev S8192x2048 : Shape := ⟨2, ![8192, 2048]⟩
abbrev S1024 : Shape := ⟨1, ![1024]⟩

abbrev nBuf : Space → Nat
  | .hbm => 107
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .bf16⟩
  | .hbm, ⟨6, _⟩ => ⟨S1x1024, .f32⟩
  | .hbm, ⟨7, _⟩ => ⟨S1x1024, .f32⟩
  | .hbm, ⟨8, _⟩ => ⟨S1024x2048, .f32⟩
  | .hbm, ⟨9, _⟩ => ⟨S1024x2048, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x2048, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x2048, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x2048, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S_, .f32⟩
  | .hbm, ⟨65, _⟩ => ⟨S8192, .f32⟩
  | .hbm, ⟨66, _⟩ => ⟨S8192x1, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1, .f32⟩
  | .hbm, ⟨71, _⟩ => ⟨S_, .f32⟩
  | .hbm, ⟨72, _⟩ => ⟨S8192x1, .f32⟩
  | .hbm, ⟨73, _⟩ => ⟨S8192x1, .f32⟩
  | .hbm, ⟨74, _⟩ => ⟨S_, .f32⟩
  | .hbm, ⟨75, _⟩ => ⟨S8192, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S8192x2048, .f32⟩
  | .hbm, ⟨82, _⟩ => ⟨S8192x1024, .f32⟩
  | .hbm, ⟨83, _⟩ => ⟨S8192x1024, .f32⟩
  | .hbm, ⟨84, _⟩ => ⟨S_, .f32⟩
  | .hbm, ⟨85, _⟩ => ⟨S1024, .f32⟩
  | .hbm, ⟨86, _⟩ => ⟨S1x1024, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S_, .f32⟩
  | .hbm, ⟨91, _⟩ => ⟨S8192, .f32⟩
  | .hbm, ⟨92, _⟩ => ⟨S8192x1, .f32⟩
  | .hbm, ⟨93, _⟩ => ⟨S8192x1024, .f32⟩
  | .hbm, ⟨94, _⟩ => ⟨S8192x1024, .f32⟩
  | .hbm, ⟨95, _⟩ => ⟨S8192x1024, .f32⟩
  | .hbm, ⟨96, _⟩ => ⟨S8192x1, .f32⟩
  | .hbm, ⟨97, _⟩ => ⟨S_, .f32⟩
  | .hbm, ⟨98, _⟩ => ⟨S8192x1, .f32⟩
  | .hbm, ⟨99, _⟩ => ⟨S8192x1, .f32⟩
  | .hbm, ⟨100, _⟩ => ⟨S_, .f32⟩
  | .hbm, ⟨101, _⟩ => ⟨S8192, .f32⟩
  | .hbm, ⟨102, _⟩ => ⟨S8192x1024, .f32⟩
  | .hbm, ⟨103, _⟩ => ⟨S8192x1024, .f32⟩
  | .hbm, ⟨104, _⟩ => ⟨S8192x1024, .f32⟩
  | .hbm, ⟨105, _⟩ => ⟨S8192x1024, .f32⟩
  | .hbm, ⟨106, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_8 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_9 : Ref sig .tc := ⟨.hbm, 71, rfl⟩
abbrev main_v51 : Ref sig .tc := ⟨.hbm, 72, rfl⟩
abbrev main_v52 : Ref sig .tc := ⟨.hbm, 73, rfl⟩
abbrev main_cst_10 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_11 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_12 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_13 : Ref sig .tc := ⟨.hbm, 97, rfl⟩
abbrev main_v73 : Ref sig .tc := ⟨.hbm, 98, rfl⟩
abbrev main_v74 : Ref sig .tc := ⟨.hbm, 99, rfl⟩
abbrev main_cst_14 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩

abbrev nD : Nat := 1
abbrev τ : Topo := Topo.v7x

variable {F : FTy → Type} [FloatOps F]
-- ==== Kernel2.lean ====
abbrev S8192x1024 : Shape := ⟨2, ![8192, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S8192x1024, .bf16⟩
  | .hbm, ⟨3, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Kernel2Ideal.lean ====
abbrev S8192x1024 : Shape := ⟨2, ![8192, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S8192x1024, .bf16⟩
  | .hbm, ⟨3, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference2Ideal.lean ====
abbrev S8192x1024 : Shape := ⟨2, ![8192, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S8192x1024, .bf16⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel3.lean ====
abbrev S8192x1024 : Shape := ⟨2, ![8192, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S8192x1024, .f32⟩
  | .hbm, ⟨3, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Kernel3Ideal.lean ====
abbrev S8192x1024 : Shape := ⟨2, ![8192, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S8192x1024, .f32⟩
  | .hbm, ⟨3, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference3Ideal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S1024x1024, .f32⟩
  | .hbm, ⟨6, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S8192x1024 : Shape := ⟨2, ![8192, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .bf16⟩
  | .hbm, ⟨3, _⟩ => ⟨S1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Kernel4Ideal.lean ====
abbrev S8192x1024 : Shape := ⟨2, ![8192, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .bf16⟩
  | .hbm, ⟨3, _⟩ => ⟨S1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference4Ideal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .bf16⟩
  | .hbm, ⟨3, _⟩ => ⟨S8192x1024, .f32⟩
  | .hbm, ⟨4, _⟩ => ⟨S8192x1024, .f32⟩
  | .hbm, ⟨5, _⟩ => ⟨S1024x1024, .f32⟩
  | .hbm, ⟨6, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel5.lean ====
abbrev S8192x256 : Shape := ⟨2, ![8192, 256]⟩
abbrev S256x1024 : Shape := ⟨2, ![256, 1024]⟩
abbrev S8192x1024 : Shape := ⟨2, ![8192, 1024]⟩
abbrev S1024x256 : Shape := ⟨2, ![1024, 256]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x256, .f32⟩
  | .hbm, ⟨1, _⟩ => ⟨S256x1024, .f32⟩
  | .hbm, ⟨2, _⟩ => ⟨S8192x1024, .bf16⟩
  | .hbm, ⟨3, _⟩ => ⟨S256x1024, .f32⟩
  | .local _ .vmem, ⟨0, _⟩ => ⟨S1024x256, .f32⟩
  | .local _ .vmem, ⟨1, _⟩ => ⟨S1024x256, .f32⟩
  | .local _ .vmem, ⟨2, _⟩ => ⟨S1024x1024, .bf16⟩
  | .local _ .vmem, ⟨3, _⟩ => ⟨S1024x1024, .bf16⟩
  | .local _ .vmem, ⟨4, _⟩ => ⟨S256x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference5Ideal.lean ====
abbrev S8192x256 : Shape := ⟨2, ![8192, 256]⟩
abbrev S256x1024 : Shape := ⟨2, ![256, 1024]⟩
abbrev S8192x1024 : Shape := ⟨2, ![8192, 1024]⟩
abbrev S1024x256 : Shape := ⟨2, ![1024, 256]⟩

abbrev nBuf : Space → Nat
  | .hbm => 7
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x1024, .f32⟩
  | .hbm, ⟨2, _⟩ => ⟨S8192x1024, .bf16⟩
  | .hbm, ⟨3, _⟩ => ⟨S8192x1024, .f32⟩
  | .hbm, ⟨4, _⟩ => ⟨S8192x1024, .f32⟩
  | .hbm, ⟨5, _⟩ => ⟨S1024x256, .f32⟩
  | .hbm, ⟨6, _⟩ => ⟨S256x1024, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel6.lean ====
abbrev S8192x1024 : Shape := ⟨2, ![8192, 1024]⟩
abbrev S1x1024 : Shape := ⟨2, ![1, 1024]⟩
abbrev S1024x2048 : Shape := ⟨2, ![1024, 2048]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 11
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S1x1024, .f32⟩
  | .hbm, ⟨5, _⟩ => ⟨S1024x2048, .f32⟩
  | .hbm, ⟨6, _⟩ => ⟨S1024x2048, .bf16⟩
  | .hbm, ⟨7, _⟩ => ⟨S1024x1024, .bf16⟩
  | .hbm, ⟨8, _⟩ => ⟨S1024x1024, .bf16⟩
  | .hbm, ⟨9, _⟩ => ⟨S8192x1024, .f32⟩
  | .hbm, ⟨10, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1024x1024, .bf16⟩
  | .local _ .vmem, ⟨10, _⟩ => ⟨S1024x1024, .bf16⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v51 : BitVec 1 := Scalar.cmpi .eq arg0 c0_i32
  let v52 : BitVec 32 := Scalar.extui v51
  let c0_i32_24 : BitVec 32 := 0#32
  let v53 : BitVec 1 := Scalar.cmpi .ne v52 c0_i32_24
  v53

def k0_cond2 (i : grid0.Coords) : BitVec 1 :=
  let arg0 : BitVec 32 := BitVec.ofNat 32 (i 0).val
  let c0_i32_25 : BitVec 32 := 0#32
  let v54 : BitVec 1 := Scalar.cmpi .sgt arg0 c0_i32_25
  let v55 : BitVec 32 := Scalar.extui v54
  let c0_i32_26 : BitVec 32 := 0#32
  let v56 : BitVec 1 := Scalar.cmpi .ne v55 c0_i32_26
  v56

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference6Ideal.lean ====
abbrev S8192x1024 : Shape := ⟨2, ![8192, 1024]⟩
abbrev S1x1024 : Shape := ⟨2, ![1, 1024]⟩
abbrev S1024x2048 : Shape := ⟨2, ![1024, 2048]⟩
abbrev S_ : Shape := ⟨0, ![]⟩
abbrev S8192 : Shape := ⟨1, ![8192]⟩
abbrev S8192x1 : Shape := ⟨2, ![8192, 1]⟩
abbrev S8192x2048 : Shape := ⟨2, ![8192, 2048]⟩
abbrev S1024 : Shape := ⟨1, ![1024]⟩

abbrev nBuf : Space → Nat
  | .hbm => 56
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S1x1024, .f32⟩
  | .hbm, ⟨5, _⟩ => ⟨S1024x2048, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x2048, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x2048, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Kernel7.lean ====
abbrev S8192x1024 : Shape := ⟨2, ![8192, 1024]⟩
abbrev S1x1024 : Shape := ⟨2, ![1, 1024]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1024x1024, .f32⟩
  | .hbm, ⟨4, _⟩ => ⟨S1024x1024, .bf16⟩
  | .hbm, ⟨5, _⟩ => ⟨S8192x1024, .bf16⟩
  | .hbm, ⟨6, _⟩ => ⟨S8192x1024, .f32⟩
  | .hbm, ⟨7, _⟩ => ⟨S8192x1024, .f32⟩
  | .hbm, ⟨8, _⟩ => ⟨S8192x1024, .bf16⟩
  | .hbm, ⟨9, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1024x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v43 : BitVec 1 := Scalar.cmpi .eq arg0 c0_i32
  let v44 : BitVec 32 := Scalar.extui v43
  let c0_i32_19 : BitVec 32 := 0#32
  let v45 : BitVec 1 := Scalar.cmpi .ne v44 c0_i32_19
  v45

def k0_cond2 (i : grid0.Coords) : BitVec 1 :=
  let arg0 : BitVec 32 := BitVec.ofNat 32 (i 0).val
  let c0_i32_20 : BitVec 32 := 0#32
  let v46 : BitVec 1 := Scalar.cmpi .sgt arg0 c0_i32_20
  let v47 : BitVec 32 := Scalar.extui v46
  let c0_i32_21 : BitVec 32 := 0#32
  let v48 : BitVec 1 := Scalar.cmpi .ne v47 c0_i32_21
  v48

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference7Ideal.lean ====
abbrev S8192x1024 : Shape := ⟨2, ![8192, 1024]⟩
abbrev S1x1024 : Shape := ⟨2, ![1, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 48
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S8192x1024, .f32⟩
  | .hbm, ⟨35, _⟩ => ⟨S8192x1024, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S_, .f32⟩
  | .hbm, ⟨41, _⟩ => ⟨S8192, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Kernel8.lean ====
abbrev S8192x1024 : Shape := ⟨2, ![8192, 1024]⟩
abbrev S8192x256 : Shape := ⟨2, ![8192, 256]⟩
abbrev S1024x1024 : Shape := ⟨2, ![1024, 1024]⟩
abbrev S256x1024 : Shape := ⟨2, ![256, 1024]⟩
abbrev S512x1024 : Shape := ⟨2, ![512, 1024]⟩

abbrev nBuf : Space → Nat
  | .hbm => 14
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x1024, .f32⟩
  | .hbm, ⟨3, _⟩ => ⟨S1024x1024, .f32⟩
  | .hbm, ⟨4, _⟩ => ⟨S256x1024, .f32⟩
  | .hbm, ⟨5, _⟩ => ⟨S1024x1024, .bf16⟩
  | .hbm, ⟨6, _⟩ => ⟨S256x1024, .bf16⟩
  | .hbm, ⟨7, _⟩ => ⟨S8192x1024, .bf16⟩
  | .hbm, ⟨8, _⟩ => ⟨S8192x1024, .f32⟩
  | .hbm, ⟨9, _⟩ => ⟨S8192x256, .bf16⟩
  | .hbm, ⟨10, _⟩ => ⟨S8192x1024, .f32⟩
  | .hbm, ⟨11, _⟩ => ⟨S8192x1024, .f32⟩
  | .hbm, ⟨12, _⟩ => ⟨S8192x1024, .bf16⟩
  | .hbm, ⟨13, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference8Ideal.lean ====
abbrev S8192x1024 : Shape := ⟨2, ![8192, 1024]⟩
abbrev S8192x256 : Shape := ⟨2, ![8192, 256]⟩
abbrev S1024x1024 : Shape := ⟨2, ![1024, 1024]⟩
abbrev S256x1024 : Shape := ⟨2, ![256, 1024]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x1024, .f32⟩
  | .hbm, ⟨3, _⟩ => ⟨S1024x1024, .f32⟩
  | .hbm, ⟨4, _⟩ => ⟨S256x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .bf16⟩
  | .hbm, ⟨45, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Kernel9.lean ====
abbrev S8192x1024 : Shape := ⟨2, ![8192, 1024]⟩
abbrev S1x1024 : Shape := ⟨2, ![1, 1024]⟩
abbrev S1024x1024 : Shape := ⟨2, ![1024, 1024]⟩
abbrev S_ : Shape := ⟨0, ![]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 22
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1024x1024, .f32⟩
  | .hbm, ⟨5, _⟩ => ⟨S1024x1024, .bf16⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .bf16⟩
  | .hbm, ⟨17, _⟩ => ⟨S8192x1024, .f32⟩
  | .hbm, ⟨18, _⟩ => ⟨S8192x1024, .bf16⟩
  | .hbm, ⟨19, _⟩ => ⟨S8192x1024, .f32⟩
  | .hbm, ⟨20, _⟩ => ⟨S8192x1024, .bf16⟩
  | .hbm, ⟨21, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1024x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5_0 : Ref sig .tc := ⟨.hbm, 18, rfl⟩
abbrev main_v5_1 : Ref sig .tc := ⟨.hbm, 19, rfl⟩
abbrev main_v5_2 : Ref sig .tc := ⟨.hbm, 20, rfl⟩
abbrev main_v5_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v71 : BitVec 1 := Scalar.cmpi .eq arg0 c0_i32
  let v72 : BitVec 32 := Scalar.extui v71
  let c0_i32_32 : BitVec 32 := 0#32
  let v73 : BitVec 1 := Scalar.cmpi .ne v72 c0_i32_32
  v73

def k0_cond2 (i : grid0.Coords) : BitVec 1 :=
  let arg0 : BitVec 32 := BitVec.ofNat 32 (i 0).val
  let c0_i32_33 : BitVec 32 := 0#32
  let v74 : BitVec 1 := Scalar.cmpi .sgt arg0 c0_i32_33
  let v75 : BitVec 32 := Scalar.extui v74
  let c0_i32_34 : BitVec 32 := 0#32
  let v76 : BitVec 1 := Scalar.cmpi .ne v75 c0_i32_34
  v76

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference9Ideal.lean ====
abbrev S8192x1024 : Shape := ⟨2, ![8192, 1024]⟩
abbrev S1x1024 : Shape := ⟨2, ![1, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 71
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192, .f32⟩
  | .hbm, ⟨48, _⟩ => ⟨S8192x1, .f32⟩
  | .hbm, ⟨49, _⟩ => ⟨S8192x1024, .f32⟩
  | .hbm, ⟨50, _⟩ => ⟨S8192x1024, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S_, .f32⟩
  | .hbm, ⟨56, _⟩ => ⟨S8192, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .bf16⟩
  | .hbm, ⟨70, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v0_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v0_1 : Ref sig .tc := ⟨.hbm, 16, rfl⟩
abbrev main_v0_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_v5 : Ref sig .tc := ⟨.hbm, 23, rfl⟩
abbrev main_cst_0 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst_2 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_3 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_4 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_5 : Ref sig .tc := ⟨.hbm, 52, rfl⟩
abbrev main_v29 : Ref sig .tc := ⟨.hbm, 53, rfl⟩
abbrev main_v30 : Ref sig .tc := ⟨.hbm, 54, rfl⟩
abbrev main_cst_6 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩

abbrev nD : Nat := 1
abbrev τ : Topo := Topo.v7x

variable {F : FTy → Type} [FloatOps F]
-- ==== Kernel10.lean ====
abbrev S8192x1024 : Shape := ⟨2, ![8192, 1024]⟩
abbrev S1x1024 : Shape := ⟨2, ![1, 1024]⟩
abbrev S1024x1024 : Shape := ⟨2, ![1024, 1024]⟩
abbrev S_ : Shape := ⟨0, ![]⟩
abbrev S256x1024 : Shape := ⟨2, ![256, 1024]⟩
abbrev S1024 : Shape := ⟨1, ![1024]⟩

abbrev nBuf : Space → Nat
  | .hbm => 36
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S1024x1024, .f32⟩
  | .hbm, ⟨7, _⟩ => ⟨S1024x1024, .bf16⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .bf16⟩
  | .hbm, ⟨29, _⟩ => ⟨S8192x1024, .f32⟩
  | .hbm, ⟨30, _⟩ => ⟨S8192x1024, .bf16⟩
  | .hbm, ⟨31, _⟩ => ⟨S8192x1024, .bf16⟩
  | .hbm, ⟨32, _⟩ => ⟨S8192x1024, .f32⟩
  | .hbm, ⟨33, _⟩ => ⟨S8192x1024, .f32⟩
  | .hbm, ⟨34, _⟩ => ⟨S1x1024, .f32⟩
  | .hbm, ⟨35, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S1x1024, .f32⟩
  | .local _ .vmem, ⟨12, _⟩ => ⟨S1024x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S1x1024, .f32⟩
  | .local _ .vmem, ⟨22, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19_0 : Ref sig .tc := ⟨.hbm, 30, rfl⟩
abbrev main_v19_1 : Ref sig .tc := ⟨.hbm, 31, rfl⟩
abbrev main_v19_2 : Ref sig .tc := ⟨.hbm, 32, rfl⟩
abbrev main_v19_3 : Ref sig .tc := ⟨.hbm, 33, rfl⟩
abbrev main_v19_4 : Ref sig .tc := ⟨.hbm, 34, rfl⟩
abbrev main_v19_5 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem13_0 : DmaSem sig := 22

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v110 : BitVec 1 := Scalar.cmpi .eq arg0 c0_i32
  let v111 : BitVec 32 := Scalar.extui v110
  let c0_i32_48 : BitVec 32 := 0#32
  let v112 : BitVec 1 := Scalar.cmpi .ne v111 c0_i32_48
  v112

def k0_cond2 (i : grid0.Coords) : BitVec 1 :=
  let arg0 : BitVec 32 := BitVec.ofNat 32 (i 0).val
  let c0_i32_49 : BitVec 32 := 0#32
  let v113 : BitVec 1 := Scalar.cmpi .sgt arg0 c0_i32_49
  let v114 : BitVec 32 := Scalar.extui v113
  let c0_i32_50 : BitVec 32 := 0#32
  let v115 : BitVec 1 := Scalar.cmpi .ne v114 c0_i32_50
  v115

def k0_cond3 (i : grid0.Coords) : BitVec 1 :=
  let arg0 : BitVec 32 := BitVec.ofNat 32 (i 0).val
  let c0_i32_51 : BitVec 32 := 0#32
  let v116 : BitVec 1 := Scalar.cmpi .eq arg0 c0_i32_51
  let v117 : BitVec 32 := Scalar.extui v116
  let c0_i32_52 : BitVec 32 := 0#32
  let v118 : BitVec 1 := Scalar.cmpi .ne v117 c0_i32_52
  v118

def k0_cond4 (i : grid0.Coords) : BitVec 1 :=
  let arg0 : BitVec 32 := BitVec.ofNat 32 (i 0).val
  let c0_i32_53 : BitVec 32 := 0#32
  let v119 : BitVec 1 := Scalar.cmpi .sgt arg0 c0_i32_53
  let v120 : BitVec 32 := Scalar.extui v119
  let c0_i32_54 : BitVec 32 := 0#32
  let v121 : BitVec 1 := Scalar.cmpi .ne v120 c0_i32_54
  v121

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference10Ideal.lean ====
abbrev S8192x1024 : Shape := ⟨2, ![8192, 1024]⟩
abbrev S1x1024 : Shape := ⟨2, ![1, 1024]⟩
abbrev S1024x1024 : Shape := ⟨2, ![1024, 1024]⟩
abbrev S_ : Shape := ⟨0, ![]⟩
abbrev S1024 : Shape := ⟨1, ![1024]⟩

abbrev nBuf : Space → Nat
  | .hbm => 105
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S1024x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S8192x1024, .f32⟩
  | .hbm, ⟨61, _⟩ => ⟨S8192x1024, .f32⟩
  | .hbm, ⟨62, _⟩ => ⟨S_, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S_, .f32⟩
  | .hbm, ⟨78, _⟩ => ⟨S1024, .f32⟩
  | .hbm, ⟨79, _⟩ => ⟨S1x1024, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S_, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S_, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S_, .f32⟩
  | .hbm, ⟨93, _⟩ => ⟨S8192x1024, .f32⟩
  | .hbm, ⟨94, _⟩ => ⟨S8192x1024, .f32⟩
  | .hbm, ⟨95, _⟩ => ⟨S8192x1024, .f32⟩
  | .hbm, ⟨96, _⟩ => ⟨S8192x1024, .f32⟩
  | .hbm, ⟨97, _⟩ => ⟨S8192x1024, .f32⟩
  | .hbm, ⟨98, _⟩ => ⟨S8192x1024, .f32⟩
  | .hbm, ⟨99, _⟩ => ⟨S8192x1024, .f32⟩
  | .hbm, ⟨100, _⟩ => ⟨S_, .f32⟩
  | .hbm, ⟨101, _⟩ => ⟨S1024, .f32⟩
  | .hbm, ⟨102, _⟩ => ⟨S1x1024, .f32⟩
  | .hbm, ⟨103, _⟩ => ⟨S8192x1024, .bf16⟩
  | .hbm, ⟨104, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_cst_8 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_call0_v0 : Ref sig .tc := ⟨.hbm, 54, rfl⟩
abbrev main_call0_v1 : Ref sig .tc := ⟨.hbm, 55, rfl⟩
abbrev main_call0_cst : Ref sig .tc := ⟨.hbm, 56, rfl⟩
abbrev main_call0_v2 : Ref sig .tc := ⟨.hbm, 57, rfl⟩
abbrev main_call0_v3 : Ref sig .tc := ⟨.hbm, 58, rfl⟩
abbrev main_call0_cst_0 : Ref sig .tc := ⟨.hbm, 59, rfl⟩
abbrev main_call0_v4 : Ref sig .tc := ⟨.hbm, 60, rfl⟩
abbrev main_v37_2 : Ref sig .tc := ⟨.hbm, 61, rfl⟩
abbrev main_call0_cst_1 : Ref sig .tc := ⟨.hbm, 62, rfl⟩
abbrev main_call0_v6 : Ref sig .tc := ⟨.hbm, 63, rfl⟩
abbrev main_call0_v7 : Ref sig .tc := ⟨.hbm, 64, rfl⟩
abbrev main_v37_1 : Ref sig .tc := ⟨.hbm, 65, rfl⟩
abbrev main_v37_0 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_cst_9 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_cst_10 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_cst_11 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_cst_12 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_13 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩

abbrev nD : Nat := 1
abbrev τ : Topo := Topo.v7x

variable {F : FTy → Type} [FloatOps F]
-- ==== Kernel11.lean ====
abbrev S8192x1024 : Shape := ⟨2, ![8192, 1024]⟩
abbrev S1x1024 : Shape := ⟨2, ![1, 1024]⟩
abbrev S1024x2048 : Shape := ⟨2, ![1024, 2048]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2048, .f32⟩
  | .hbm, ⟨3, _⟩ => ⟨S1024x2048, .bf16⟩
  | .hbm, ⟨4, _⟩ => ⟨S1024x1024, .bf16⟩
  | .hbm, ⟨5, _⟩ => ⟨S1024x1024, .bf16⟩
  | .hbm, ⟨6, _⟩ => ⟨S8192x1024, .bf16⟩
  | .hbm, ⟨7, _⟩ => ⟨S8192x1024, .f32⟩
  | .hbm, ⟨8, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference11Ideal.lean ====
abbrev S8192x1024 : Shape := ⟨2, ![8192, 1024]⟩
abbrev S1x1024 : Shape := ⟨2, ![1, 1024]⟩
abbrev S1024x2048 : Shape := ⟨2, ![1024, 2048]⟩
abbrev S_ : Shape := ⟨0, ![]⟩
abbrev S8192 : Shape := ⟨1, ![8192]⟩
abbrev S8192x1 : Shape := ⟨2, ![8192, 1]⟩
abbrev S8192x2048 : Shape := ⟨2, ![8192, 2048]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2048, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x2048, .f32⟩
  | .hbm, ⟨19, _⟩ => ⟨S8192x1024, .f32⟩
  | .hbm, ⟨20, _⟩ => ⟨S8192x1024, .f32⟩
  | .hbm, ⟨21, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel12.lean ====
abbrev S8192x1024 : Shape := ⟨2, ![8192, 1024]⟩
abbrev S1x1024 : Shape := ⟨2, ![1, 1024]⟩
abbrev S1024x1024 : Shape := ⟨2, ![1024, 1024]⟩
abbrev S512x1024 : Shape := ⟨2, ![512, 1024]⟩

abbrev nBuf : Space → Nat
  | .hbm => 7
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1024x1024, .f32⟩
  | .hbm, ⟨4, _⟩ => ⟨S1024x1024, .bf16⟩
  | .hbm, ⟨5, _⟩ => ⟨S8192x1024, .bf16⟩
  | .hbm, ⟨6, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1024x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference12Ideal.lean ====
abbrev S8192x1024 : Shape := ⟨2, ![8192, 1024]⟩
abbrev S1x1024 : Shape := ⟨2, ![1, 1024]⟩
abbrev S1024x1024 : Shape := ⟨2, ![1024, 1024]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .bf16⟩
  | .hbm, ⟨25, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Kernel13.lean ====
abbrev S8192x1024 : Shape := ⟨2, ![8192, 1024]⟩
abbrev S1x1024 : Shape := ⟨2, ![1, 1024]⟩
abbrev S1024x1024 : Shape := ⟨2, ![1024, 1024]⟩
abbrev S256x1024 : Shape := ⟨2, ![256, 1024]⟩
abbrev S256 : Shape := ⟨1, ![256]⟩
abbrev S256x1 : Shape := ⟨2, ![256, 1]⟩

abbrev nBuf : Space → Nat
  | .hbm => 13
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1024x1024, .f32⟩
  | .hbm, ⟨9, _⟩ => ⟨S1024x1024, .bf16⟩
  | .hbm, ⟨10, _⟩ => ⟨S8192x1024, .bf16⟩
  | .hbm, ⟨11, _⟩ => ⟨S8192x1024, .f32⟩
  | .hbm, ⟨12, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1024x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference13Ideal.lean ====
abbrev S8192x1024 : Shape := ⟨2, ![8192, 1024]⟩
abbrev S1x1024 : Shape := ⟨2, ![1, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩

abbrev nBuf : Space → Nat
  | .hbm => 68
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1024x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .bf16⟩
  | .hbm, ⟨52, _⟩ => ⟨S8192x1024, .f32⟩
  | .hbm, ⟨53, _⟩ => ⟨S_, .f32⟩
  | .hbm, ⟨54, _⟩ => ⟨S8192, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S8192x1, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_5 : Ref sig .tc := ⟨.hbm, 53, rfl⟩
abbrev main_v30 : Ref sig .tc := ⟨.hbm, 54, rfl⟩
abbrev main_v31 : Ref sig .tc := ⟨.hbm, 55, rfl⟩
abbrev main_cst_6 : Ref sig .tc := ⟨.hbm, 56, rfl⟩
abbrev main_v32 : Ref sig .tc := ⟨.hbm, 57, rfl⟩
abbrev main_v33 : Ref sig .tc := ⟨.hbm, 58, rfl⟩
abbrev main_cst_7 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩

abbrev nD : Nat := 1
abbrev τ : Topo := Topo.v7x

variable {F : FTy → Type} [FloatOps F]
-- ==== Kernel14.lean ====
abbrev S8192x1024 : Shape := ⟨2, ![8192, 1024]⟩
abbrev S8192x256 : Shape := ⟨2, ![8192, 256]⟩
abbrev S1024x1024 : Shape := ⟨2, ![1024, 1024]⟩
abbrev S256x1024 : Shape := ⟨2, ![256, 1024]⟩
abbrev S512x1024 : Shape := ⟨2, ![512, 1024]⟩
abbrev S512x256 : Shape := ⟨2, ![512, 256]⟩

abbrev nBuf : Space → Nat
  | .hbm => 9
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S1024x1024, .f32⟩
  | .hbm, ⟨3, _⟩ => ⟨S256x1024, .f32⟩
  | .hbm, ⟨4, _⟩ => ⟨S1024x1024, .bf16⟩
  | .hbm, ⟨5, _⟩ => ⟨S256x1024, .bf16⟩
  | .hbm, ⟨6, _⟩ => ⟨S8192x1024, .f32⟩
  | .hbm, ⟨7, _⟩ => ⟨S8192x1024, .f32⟩
  | .hbm, ⟨8, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S1024x1024, .bf16⟩
  | .local _ .vmem, ⟨5, _⟩ => ⟨S256x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference14Ideal.lean ====
abbrev S8192x1024 : Shape := ⟨2, ![8192, 1024]⟩
abbrev S8192x256 : Shape := ⟨2, ![8192, 256]⟩
abbrev S1024x1024 : Shape := ⟨2, ![1024, 1024]⟩
abbrev S256x1024 : Shape := ⟨2, ![256, 1024]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S1024x1024, .f32⟩
  | .hbm, ⟨3, _⟩ => ⟨S256x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Kernel15.lean ====
abbrev S8192x1024 : Shape := ⟨2, ![8192, 1024]⟩
abbrev S1x1024 : Shape := ⟨2, ![1, 1024]⟩
abbrev S1024x2048 : Shape := ⟨2, ![1024, 2048]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩

abbrev nBuf : Space → Nat
  | .hbm => 17
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1024x2048, .f32⟩
  | .hbm, ⟨4, _⟩ => ⟨S1024x2048, .f32⟩
  | .hbm, ⟨5, _⟩ => ⟨S1024x2048, .bf16⟩
  | .hbm, ⟨6, _⟩ => ⟨S1024x1024, .bf16⟩
  | .hbm, ⟨7, _⟩ => ⟨S1024x1024, .bf16⟩
  | .hbm, ⟨8, _⟩ => ⟨S1024x2048, .bf16⟩
  | .hbm, ⟨9, _⟩ => ⟨S1024x1024, .bf16⟩
  | .hbm, ⟨10, _⟩ => ⟨S1024x1024, .bf16⟩
  | .hbm, ⟨11, _⟩ => ⟨S8192x1024, .bf16⟩
  | .hbm, ⟨12, _⟩ => ⟨S8192x1024, .bf16⟩
  | .hbm, ⟨13, _⟩ => ⟨S8192x1024, .bf16⟩
  | .hbm, ⟨14, _⟩ => ⟨S8192x1024, .bf16⟩
  | .hbm, ⟨15, _⟩ => ⟨S8192x1024, .bf16⟩
  | .hbm, ⟨16, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .f32⟩
  | .local _ .vmem, ⟨19, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev main_v6_4 : Ref sig .tc := ⟨.hbm, 15, rfl⟩
abbrev main_v6_5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference15Ideal.lean ====
abbrev S8192x1024 : Shape := ⟨2, ![8192, 1024]⟩
abbrev S1x1024 : Shape := ⟨2, ![1, 1024]⟩
abbrev S1024x2048 : Shape := ⟨2, ![1024, 2048]⟩
abbrev S_ : Shape := ⟨0, ![]⟩
abbrev S8192 : Shape := ⟨1, ![8192]⟩
abbrev S8192x1 : Shape := ⟨2, ![8192, 1]⟩
abbrev S8192x2048 : Shape := ⟨2, ![8192, 2048]⟩

abbrev nBuf : Space → Nat
  | .hbm => 46
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1024x2048, .f32⟩
  | .hbm, ⟨4, _⟩ => ⟨S1024x2048, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x2048, .f32⟩
  | .hbm, ⟨36, _⟩ => ⟨S8192x1024, .f32⟩
  | .hbm, ⟨37, _⟩ => ⟨S8192x1024, .f32⟩
  | .hbm, ⟨38, _⟩ => ⟨S8192x2048, .f32⟩
  | .hbm, ⟨39, _⟩ => ⟨S8192x1024, .f32⟩
  | .hbm, ⟨40, _⟩ => ⟨S8192x1024, .f32⟩
  | .hbm, ⟨41, _⟩ => ⟨S8192x1024, .bf16⟩
  | .hbm, ⟨42, _⟩ => ⟨S8192x1024, .bf16⟩
  | .hbm, ⟨43, _⟩ => ⟨S8192x1024, .bf16⟩
  | .hbm, ⟨44, _⟩ => ⟨S8192x1024, .bf16⟩
  | .hbm, ⟨45, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Kernel16.lean ====
abbrev S8192x1024 : Shape := ⟨2, ![8192, 1024]⟩
abbrev S1x1024 : Shape := ⟨2, ![1, 1024]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1024x1024, .f32⟩
  | .hbm, ⟨5, _⟩ => ⟨S1024x1024, .bf16⟩
  | .hbm, ⟨6, _⟩ => ⟨S8192x1024, .bf16⟩
  | .hbm, ⟨7, _⟩ => ⟨S8192x1024, .f32⟩
  | .hbm, ⟨8, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1024x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference16Ideal.lean ====
abbrev S8192x1024 : Shape := ⟨2, ![8192, 1024]⟩
abbrev S1x1024 : Shape := ⟨2, ![1, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩

abbrev nBuf : Space → Nat
  | .hbm => 33
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .bf16⟩
  | .hbm, ⟨17, _⟩ => ⟨S8192x1024, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩

abbrev nD : Nat := 1
abbrev τ : Topo := Topo.v7x

variable {F : FTy → Type} [FloatOps F]
-- ==== Proof.Formula.lean ====
/-
  The scalars the two programs compute, row by row, over the extended reals: the root-mean-square norm of a row of 1024
  elements, and the gradient of its input row. Both the kernel's blocks and the reference's results are read down to these.
-/
module

public import Idealize.ShloMosaic.Lib.Pointwise

@[expose] public section

noncomputable section

namespace Cert.NormsProj

open Idealize.ShloMosaic

/-- The mean square of a row plus the norm's epsilon. -/
def meanSq (x : Fin 1024 → EReal) : EReal :=
  Ideal.div (∑ k, x k * x k) (Ideal.ofBits .f32 1149239296#32) + Ideal.ofBits .f32 897988541#32

/-- The factor the norm multiplies a row by. -/
def scale (x : Fin 1024 → EReal) : EReal := Ideal.rsqrt (meanSq x)

/-- The cotangent of one squared element: what the scale's cotangent gives each `x k * x k`. -/
def slope (x t : Fin 1024 → EReal) : EReal :=
  Ideal.div ((∑ k, x k * t k) * (Ideal.ofBits .f32 3204448256#32 * Ideal.div (scale x) (meanSq x)))
    (Ideal.ofBits .f32 1149239296#32)

/-- The gradient of element `l` of a normalised row: `t` is the row's cotangent times the gain. -/
def normGrad (x t : Fin 1024 → EReal) (l : Fin 1024) : EReal :=
  t l * scale x + x l * slope x t + slope x t * x l

/-- The cotangent of a normalised row that two projections read. -/
def back (a b : Fin 1024 → EReal) (A B : Fin 1024 → Fin 1024 → EReal) (l : Fin 1024) : EReal :=
  ∑ k, a k * A l k + ∑ k, b k * B l k

/-- The arrays of a whole device: 8192 rows of 1024, a gain as one row, a matrix of two halves side by side. -/
abbrev Rows : Type := (⟨2, ![8192, 1024]⟩ : Shape).Idx → EReal
abbrev Gain : Type := (⟨2, ![1, 1024]⟩ : Shape).Idx → EReal
abbrev Wide : Type := (⟨2, ![1024, 2048]⟩ : Shape).Idx → EReal

/-- The cotangent of the normalised rows: the two projections' cotangents `a`, `b` times the two halves of `W` transposed. -/
def rowsBack (a b : Rows) (W : Wide) (p : Fin 8192) (l : Fin 1024) : EReal :=
  back (fun k => a (ix2 p k)) (fun k => b (ix2 p k)) (fun l k => W (ix2 l ⟨k.val, by omega⟩))
    (fun l k => W (ix2 l ⟨1024 + k.val, by omega⟩)) l

/-- One row's share of a gain's gradient. -/
def gainTerm (x a b : Rows) (W : Wide) (p : Fin 8192) (l : Fin 1024) : EReal :=
  x (ix2 p l) * scale (fun k => x (ix2 p k)) * rowsBack a b W p l

/-- A gain's gradient: the sum over the rows. -/
def gainGrad (x a b : Rows) (W : Wide) : Gain := fun i => ∑ p : Fin 8192, gainTerm x a b W p (i 1)

/-- The gradient of the residual rows: what arrives along the residual plus what comes back through the two norms. -/
def residualGrad (x d dk dv dq dg : Rows) (gk gp : Gain) (wkv win : Wide) : Rows := fun i =>
  d i + (normGrad (fun k => x (ix2 (i 0) k)) (fun k => rowsBack dq dg win (i 0) k * gp (ix2 0 k)) (i 1)
    + normGrad (fun k => x (ix2 (i 0) k)) (fun k => rowsBack dk dv wkv (i 0) k * gk (ix2 0 k)) (i 1))

/-- A sum over `n` blocks of `w` consecutive terms is the sum over all of them. -/
theorem sum_blocks {M : Type*} [AddCommMonoid M] (f : ℕ → M) (w n : ℕ) :
    ∑ t ∈ Finset.range n, ∑ r : Fin w, f (w * t + r.val) = ∑ p ∈ Finset.range (w * n), f p := by
  induction n with
  | zero => simp
  | succ n ih =>
    rw [Finset.sum_range_succ, ih, Nat.mul_succ, Finset.sum_range_add, Finset.sum_range (fun r => f (w * n + r))]

end Cert.NormsProj
-- ==== Proof.Block.lean ====
/-
  What one grid point of the kernel computes, read at an index: 256 rows of the residual's gradient, and the block's
  share of the two gains' gradients.
-/
module

public import proofs.«01_k».proof.Proof.Gen.KernelIdeal.Skeleton
public import proofs.«01_k».proof.Proof.Formula

@[expose] public section

noncomputable section

namespace Cert.NormsProj

open Cert.KernelIdeal Cert.KernelIdeal.Gen Idealize.ShloMosaic

variable (x d dk dv dq : FVec Ideal S256x1024 .f32) (dg : FVec Ideal S256x1024 .bf16) (gk gp : FVec Ideal S1x1024 .f32)
  (wk wv wq wg : FVec Ideal S1024x1024 .bf16)

theorem pay4_apply (a b : FVec Ideal S256x1024 .f32) (A B : FVec Ideal S1024x1024 .bf16) (r : Fin 256) (l : Fin 1024) :
    k0_pay4 (F := Ideal) a b A B (ix2 r l)
      = back (fun k => a (ix2 r k)) (fun k => b (ix2 r k)) (fun l k => A (ix2 l k)) (fun l k => B (ix2 l k)) l := by
  pointwise [k0_pay4, back]

theorem pay5_apply (a : FVec Ideal S256x1024 .f32) (b : FVec Ideal S256x1024 .bf16) (A B : FVec Ideal S1024x1024 .bf16)
    (r : Fin 256) (l : Fin 1024) :
    k0_pay5 (F := Ideal) a b A B (ix2 r l)
      = back (fun k => a (ix2 r k)) (fun k => b (ix2 r k)) (fun l k => A (ix2 l k)) (fun l k => B (ix2 l k)) l := by
  pointwise [k0_pay5, back]

theorem pay12_apply (u : FVec Ideal S256x1024 .f32) (l : Fin 1024) :
    k0_pay12 (F := Ideal) x u (ix2 0 l)
      = ∑ r : Fin 256, x (ix2 r l) * scale (fun k => x (ix2 r k)) * u (ix2 r l) := by
  pointwise [k0_pay12, k0_pay11, k0_pay10, scale, meanSq]

theorem pay14_apply (u : FVec Ideal S256x1024 .f32) (l : Fin 1024) :
    k0_pay14 (F := Ideal) x u (k0_pay6 x) (ix2 0 l)
      = ∑ r : Fin 256, x (ix2 r l) * scale (fun k => x (ix2 r k)) * u (ix2 r l) := by
  pointwise [k0_pay14, k0_pay8, k0_pay7, k0_pay6, scale, meanSq]

theorem pay1_apply (u v : FVec Ideal S256x1024 .f32) (r : Fin 256) (l : Fin 1024) :
    k0_pay1 (F := Ideal) x d (k0_pay8 (F := Ideal) (k0_pay6 (F := Ideal) x)) (k0_pay9 (F := Ideal) (k0_pay6 (F := Ideal) x))
        (k0_pay13 (F := Ideal) x gp v) (k0_pay15 (F := Ideal) gk u) (ix2 r l)
      = d (ix2 r l) + (normGrad (fun k => x (ix2 r k)) (fun k => v (ix2 r k) * gp (ix2 0 k)) l
          + normGrad (fun k => x (ix2 r k)) (fun k => u (ix2 r k) * gk (ix2 0 k)) l) := by
  pointwise [k0_pay1, k0_pay13, k0_pay11, k0_pay10, k0_pay15, k0_pay9, k0_pay8, k0_pay7, k0_pay6, normGrad, slope, scale,
    meanSq, Fin.sum_univ_one, add_assoc]

end Cert.NormsProj
-- ==== Proof.KernelCase.lean ====
/-
  What one grid point leaves in its three staging buffers: the block of the residual's gradient, and the two gains'
  gradients with the block's share added.
-/
module

public import proofs.«01_k».proof.Proof.Gen.KernelIdeal.Value
public import proofs.«01_k».proof.Proof.Block

@[expose] public section

noncomputable section

namespace Cert.NormsProj

open Cert.KernelIdeal Cert.KernelIdeal.Gen Idealize.ShloMosaic Idealize.ShloMosaic.TcCoe Idealize.SL.Sem

theorem zeros : (![0, 0] : Fin 2 → Nat) = fun _ => 0 := funext fun a => by fin_cases a <;> rfl

section Cases

variable (c : Dev nD) (i : grid0.Coords) (a1 : Memref sig .tc .vmem S256x1024 .f32) (h1 : a1.IsWhole) (a2 : Memref sig .tc .vmem S256x1024 .f32) (h2 : a2.IsWhole)
  (a3 : Memref sig .tc .vmem S256x1024 .f32) (h3 : a3.IsWhole) (a4 : Memref sig .tc .vmem S256x1024 .f32) (h4 : a4.IsWhole)
  (a5 : Memref sig .tc .vmem S256x1024 .f32) (h5 : a5.IsWhole) (a6 : Memref sig .tc .vmem S256x1024 .bf16) (h6 : a6.IsWhole)
  (a7 : Memref sig .tc .vmem S1x1024 .f32) (h7 : a7.IsWhole) (a8 : Memref sig .tc .vmem S1x1024 .f32) (h8 : a8.IsWhole)
  (a9 : Memref sig .tc .vmem S1024x1024 .bf16) (h9 : a9.IsWhole) (a10 : Memref sig .tc .vmem S1024x1024 .bf16) (h10 : a10.IsWhole)
  (a11 : Memref sig .tc .vmem S1024x1024 .bf16) (h11 : a11.IsWhole) (a12 : Memref sig .tc .vmem S1024x1024 .bf16) (h12 : a12.IsWhole)
  (a13 : Memref sig .tc .vmem S256x1024 .f32) (h13 : a13.IsWhole) (a14 : Memref sig .tc .vmem S1x1024 .f32) (h14 : a14.IsWhole)
  (a15 : Memref sig .tc .vmem S1x1024 .f32) (h15 : a15.IsWhole)
  (x d dk dv dq : FVec Ideal S256x1024 .f32) (dg : FVec Ideal S256x1024 .bf16) (gk gp : FVec Ideal S1x1024 .f32)
  (wk wv wq wg : FVec Ideal S1024x1024 .bf16)

/-- The stored block of the residual's gradient. -/
def outX : FVec Ideal S256x1024 .f32 :=
  k0_pay1 (F := Ideal) x d (k0_pay8 (F := Ideal) (k0_pay6 (F := Ideal) x)) (k0_pay9 (F := Ideal) (k0_pay6 (F := Ideal) x))
    (k0_pay13 (F := Ideal) x gp (k0_pay5 (F := Ideal) dq dg wq wg)) (k0_pay15 (F := Ideal) gk (k0_pay4 (F := Ideal) dk dv wk wv))

/-- The block's share of the first gain's gradient. -/
def outK : FVec Ideal S1x1024 .f32 := k0_pay14 (F := Ideal) x (k0_pay4 (F := Ideal) dk dv wk wv) (k0_pay6 (F := Ideal) x)

/-- The block's share of the second gain's gradient. -/
def outP : FVec Ideal S1x1024 .f32 := k0_pay12 (F := Ideal) x (k0_pay5 (F := Ideal) dq dg wq wg)

theorem caseA_X (e0 e1 e2 e3) :
    out0_A_12 (F := Ideal) c i a1 h1 a2 h2 a3 h3 a4 h4 a5 h5 a6 h6 a7 h7 a8 h8 a9 h9 a10 h10 a11 h11 a12 h12 a13 h13 a14 h14 a15 h15 e0 e1 e2 e3
      x d dk dv dq dg gk gp wk wv wq wg = outX x d dk dv dq dg gk gp wk wv wq wg := by
  unfold out0_A_12
  rw [View.read_writes_eq_canon _ _ _ (fun y => cover0_A_12 (y := y) ..)]
  unfold kernelRun0_A
  dsimp only
  sl_unfold_words
  rw [View.canon_unit_zero zeros]
  simp only [View.readAt_eq_ld, h1.read_unread, h2.read_unread, h3.read_unread, h4.read_unread, h5.read_unread, h6.read_unread, h7.read_unread,
    h8.read_unread, h9.read_unread, h10.read_unread, h11.read_unread, h12.read_unread, View.ld_unit_zero (S := S256x1024) zeros,
    View.ld_unit_zero (S := S1x1024) zeros, View.ld_unit_zero (S := S1024x1024) zeros]
  rfl

theorem caseA_K (e0 e1 e2 e3) :
    out0_A_13 (F := Ideal) c i a1 h1 a2 h2 a3 h3 a4 h4 a5 h5 a6 h6 a7 h7 a8 h8 a9 h9 a10 h10 a11 h11 a12 h12 a13 h13 a14 h14 a15 h15 e0 e1 e2 e3
      x d dk dv dq dg gk gp wk wv wq wg = outK x dk dv wk wv := by
  unfold out0_A_13
  rw [View.read_writes_eq_canon _ _ _ (fun y => cover0_A_13 (y := y) ..)]
  unfold kernelRun0_A
  dsimp only
  sl_unfold_words
  rw [View.canon_unit_zero zeros]
  simp only [View.readAt_eq_ld, h1.read_unread, h3.read_unread, h4.read_unread, h9.read_unread, h10.read_unread, View.ld_unit_zero (S := S256x1024) zeros,
    View.ld_unit_zero (S := S1024x1024) zeros]
  rfl

theorem caseA_P (e0 e1 e2 e3) :
    out0_A_14 (F := Ideal) c i a1 h1 a2 h2 a3 h3 a4 h4 a5 h5 a6 h6 a7 h7 a8 h8 a9 h9 a10 h10 a11 h11 a12 h12 a13 h13 a14 h14 a15 h15 e0 e1 e2 e3
      x d dk dv dq dg gk gp wk wv wq wg = outP x dq dg wq wg := by
  unfold out0_A_14
  rw [View.read_writes_eq_canon _ _ _ (fun y => cover0_A_14 (y := y) ..)]
  unfold kernelRun0_A
  dsimp only
  sl_unfold_words
  rw [View.canon_unit_zero zeros]
  simp only [View.readAt_eq_ld, h1.read_unread, h5.read_unread, h6.read_unread, h11.read_unread, h12.read_unread, View.ld_unit_zero (S := S256x1024) zeros,
    View.ld_unit_zero (S := S1024x1024) zeros]
  rfl

theorem caseB_X (e0 e1 e2 e3) (ak ap : FVec Ideal S1x1024 .f32) :
    out0_B_12 (F := Ideal) c i a1 h1 a2 h2 a3 h3 a4 h4 a5 h5 a6 h6 a7 h7 a8 h8 a9 h9 a10 h10 a11 h11 a12 h12 a13 h13 a14 h14 a15 h15 e0 e1 e2 e3
      x d dk dv dq dg gk gp wk wv wq wg ak ap = outX x d dk dv dq dg gk gp wk wv wq wg := by
  unfold out0_B_12
  rw [View.read_writes_eq_canon _ _ _ (fun y => cover0_B_12 (y := y) ..)]
  unfold kernelRun0_B
  dsimp only
  sl_unfold_words
  rw [View.canon_unit_zero zeros]
  simp only [View.readAt_eq_ld, h1.read_unread, h2.read_unread, h3.read_unread, h4.read_unread, h5.read_unread, h6.read_unread, h7.read_unread,
    h8.read_unread, h9.read_unread, h10.read_unread, h11.read_unread, h12.read_unread, View.ld_unit_zero (S := S256x1024) zeros,
    View.ld_unit_zero (S := S1x1024) zeros, View.ld_unit_zero (S := S1024x1024) zeros]
  rfl

theorem caseB_K (e0 e1 e2 e3) (ak ap : FVec Ideal S1x1024 .f32) :
    out0_B_13 (F := Ideal) c i a1 h1 a2 h2 a3 h3 a4 h4 a5 h5 a6 h6 a7 h7 a8 h8 a9 h9 a10 h10 a11 h11 a12 h12 a13 h13 a14 h14 a15 h15 e0 e1 e2 e3
      x d dk dv dq dg gk gp wk wv wq wg ak ap = addf ak (outK x dk dv wk wv) := by
  unfold out0_B_13
  rw [View.read_writes_eq_canon _ _ _ (fun y => cover0_B_13 (y := y) ..)]
  unfold kernelRun0_B
  dsimp only
  sl_unfold_words
  rw [View.canon_unit_zero zeros]
  unfold k0_pay2
  simp only [View.readAt_eq_ld, h1.read_unread, h3.read_unread, h4.read_unread, h9.read_unread, h10.read_unread, h14.read_unread, View.ld_unit_zero (S := S256x1024) zeros,
    View.ld_unit_zero (S := S1x1024) zeros, View.ld_unit_zero (S := S1024x1024) zeros, shapeCast_self]
  rfl

theorem caseB_P (e0 e1 e2 e3) (ak ap : FVec Ideal S1x1024 .f32) :
    out0_B_14 (F := Ideal) c i a1 h1 a2 h2 a3 h3 a4 h4 a5 h5 a6 h6 a7 h7 a8 h8 a9 h9 a10 h10 a11 h11 a12 h12 a13 h13 a14 h14 a15 h15 e0 e1 e2 e3
      x d dk dv dq dg gk gp wk wv wq wg ak ap = addf ap (outP x dq dg wq wg) := by
  unfold out0_B_14
  rw [View.read_writes_eq_canon _ _ _ (fun y => cover0_B_14 (y := y) ..)]
  unfold kernelRun0_B
  dsimp only
  sl_unfold_words
  rw [View.canon_unit_zero zeros]
  unfold k0_pay3
  simp only [View.readAt_eq_ld, h1.read_unread, h5.read_unread, h6.read_unread, h11.read_unread, h12.read_unread, h15.read_unread, View.ld_unit_zero (S := S256x1024) zeros,
    View.ld_unit_zero (S := S1x1024) zeros, View.ld_unit_zero (S := S1024x1024) zeros, shapeCast_self]
  rfl

end Cases

end Cert.NormsProj
-- ==== Proof.KernelValue.lean ====
/-
  The kernel's three result arrays in closed form: each row of the residual's gradient is its grid point's row, and the
  two gains' gradients, added up block by block over the 32 grid points, are the sums over all 8192 rows.
-/
module

public import proofs.«01_k».proof.Proof.Gen.KernelIdeal.Value
public import proofs.«01_k».proof.Proof.KernelCase

@[expose] public section

noncomputable section

namespace Cert.NormsProj

open Cert.KernelIdeal Cert.KernelIdeal.Gen Idealize.ShloMosaic Idealize.ShloMosaic.TcCoe Idealize.SL.Sem

variable (m : (ℓ : Loc nD τ sig) → Buf (Elt Ideal) ℓ) (c : Dev nD)

/-! ## The windows' blocks -/

theorem index0 : ∀ t : Fin cfg0.N, win0_0.index t 0 = t.val ∧ win0_0.index t 1 = 0 := by decide +kernel

/-- Row `r` of window 0's block at point `t` is row `256 t + r` of the array. -/
theorem blk0 (t : Fin cfg0.N) (r : Fin 256) (l : Fin 1024) (h : 256 * t.val + r.val < 8192) :
    (iblk m c 0 t : FVec Ideal S256x1024 .f32) (ix2 r l) = m ((c : Thread nD τ).loc main_arg0) (ix2 ⟨256 * t.val + r.val, h⟩ l) := by
  unfold iblk
  rw [View.read_apply]
  show V m c main_arg0 _ = m (c.tc.loc main_arg0) _
  rw [V_main_arg0]
  congr 1
  funext a
  apply Fin.ext
  match a with
  | ⟨0, _⟩ => show win0_0.index t 0 * 256 + 1 * r.val = 256 * t.val + r.val; rw [(index0 t).1]; omega
  | ⟨1, _⟩ => show win0_0.index t 1 * 1024 + 1 * l.val = l.val; rw [(index0 t).2]; omega

theorem index1 : ∀ t : Fin cfg0.N, win0_1.index t 0 = t.val ∧ win0_1.index t 1 = 0 := by decide +kernel

/-- Row `r` of window 1's block at point `t` is row `256 t + r` of the array. -/
theorem blk1 (t : Fin cfg0.N) (r : Fin 256) (l : Fin 1024) (h : 256 * t.val + r.val < 8192) :
    (iblk m c 1 t : FVec Ideal S256x1024 .f32) (ix2 r l) = m ((c : Thread nD τ).loc main_arg1) (ix2 ⟨256 * t.val + r.val, h⟩ l) := by
  unfold iblk
  rw [View.read_apply]
  show V m c main_arg1 _ = m (c.tc.loc main_arg1) _
  rw [V_main_arg1]
  congr 1
  funext a
  apply Fin.ext
  match a with
  | ⟨0, _⟩ => show win0_1.index t 0 * 256 + 1 * r.val = 256 * t.val + r.val; rw [(index1 t).1]; omega
  | ⟨1, _⟩ => show win0_1.index t 1 * 1024 + 1 * l.val = l.val; rw [(index1 t).2]; omega

theorem index2 : ∀ t : Fin cfg0.N, win0_2.index t 0 = t.val ∧ win0_2.index t 1 = 0 := by decide +kernel

/-- Row `r` of window 2's block at point `t` is row `256 t + r` of the array. -/
theorem blk2 (t : Fin cfg0.N) (r : Fin 256) (l : Fin 1024) (h : 256 * t.val + r.val < 8192) :
    (iblk m c 2 t : FVec Ideal S256x1024 .f32) (ix2 r l) = m ((c : Thread nD τ).loc main_arg2) (ix2 ⟨256 * t.val + r.val, h⟩ l) := by
  unfold iblk
  rw [View.read_apply]
  show V m c main_arg2 _ = m (c.tc.loc main_arg2) _
  rw [V_main_arg2]
  congr 1
  funext a
  apply Fin.ext
  match a with
  | ⟨0, _⟩ => show win0_2.index t 0 * 256 + 1 * r.val = 256 * t.val + r.val; rw [(index2 t).1]; omega
  | ⟨1, _⟩ => show win0_2.index t 1 * 1024 + 1 * l.val = l.val; rw [(index2 t).2]; omega

theorem index3 : ∀ t : Fin cfg0.N, win0_3.index t 0 = t.val ∧ win0_3.index t 1 = 0 := by decide +kernel

/-- Row `r` of window 3's block at point `t` is row `256 t + r` of the array. -/
theorem blk3 (t : Fin cfg0.N) (r : Fin 256) (l : Fin 1024) (h : 256 * t.val + r.val < 8192) :
    (iblk m c 3 t : FVec Ideal S256x1024 .f32) (ix2 r l) = m ((c : Thread nD τ).loc main_arg3) (ix2 ⟨256 * t.val + r.val, h⟩ l) := by
  unfold iblk
  rw [View.read_apply]
  show V m c main_arg3 _ = m (c.tc.loc main_arg3) _
  rw [V_main_arg3]
  congr 1
  funext a
  apply Fin.ext
  match a with
  | ⟨0, _⟩ => show win0_3.index t 0 * 256 + 1 * r.val = 256 * t.val + r.val; rw [(index3 t).1]; omega
  | ⟨1, _⟩ => show win0_3.index t 1 * 1024 + 1 * l.val = l.val; rw [(index3 t).2]; omega

theorem index4 : ∀ t : Fin cfg0.N, win0_4.index t 0 = t.val ∧ win0_4.index t 1 = 0 := by decide +kernel

/-- Row `r` of window 4's block at point `t` is row `256 t + r` of the array. -/
theorem blk4 (t : Fin cfg0.N) (r : Fin 256) (l : Fin 1024) (h : 256 * t.val + r.val < 8192) :
    (iblk m c 4 t : FVec Ideal S256x1024 .f32) (ix2 r l) = m ((c : Thread nD τ).loc main_arg4) (ix2 ⟨256 * t.val + r.val, h⟩ l) := by
  unfold iblk
  rw [View.read_apply]
  show V m c main_arg4 _ = m (c.tc.loc main_arg4) _
  rw [V_main_arg4]
  congr 1
  funext a
  apply Fin.ext
  match a with
  | ⟨0, _⟩ => show win0_4.index t 0 * 256 + 1 * r.val = 256 * t.val + r.val; rw [(index4 t).1]; omega
  | ⟨1, _⟩ => show win0_4.index t 1 * 1024 + 1 * l.val = l.val; rw [(index4 t).2]; omega

theorem index5 : ∀ t : Fin cfg0.N, win0_5.index t 0 = t.val ∧ win0_5.index t 1 = 0 := by decide +kernel

/-- Row `r` of window 5's block at point `t` is row `256 t + r` of the array. -/
theorem blk5 (t : Fin cfg0.N) (r : Fin 256) (l : Fin 1024) (h : 256 * t.val + r.val < 8192) :
    (iblk m c 5 t : FVec Ideal S256x1024 .bf16) (ix2 r l) = m ((c : Thread nD τ).loc main_arg5) (ix2 ⟨256 * t.val + r.val, h⟩ l) := by
  unfold iblk
  rw [View.read_apply]
  show V m c main_arg5 _ = m (c.tc.loc main_arg5) _
  rw [V_main_arg5]
  congr 1
  funext a
  apply Fin.ext
  match a with
  | ⟨0, _⟩ => show win0_5.index t 0 * 256 + 1 * r.val = 256 * t.val + r.val; rw [(index5 t).1]; omega
  | ⟨1, _⟩ => show win0_5.index t 1 * 1024 + 1 * l.val = l.val; rw [(index5 t).2]; omega

theorem index6 : ∀ t : Fin cfg0.N, win0_6.index t 0 = 0 ∧ win0_6.index t 1 = 0 := by decide +kernel

/-- Window 6 stages the whole gain at every point. -/
theorem blk6 (t : Fin cfg0.N) (l : Fin 1024) :
    (iblk m c 6 t : FVec Ideal S1x1024 .f32) (ix2 0 l) = m ((c : Thread nD τ).loc main_arg6) (ix2 0 l) := by
  unfold iblk
  rw [View.read_apply]
  show V m c main_arg6 _ = m (c.tc.loc main_arg6) _
  rw [V_main_arg6]
  congr 1
  funext a
  apply Fin.ext
  match a with
  | ⟨0, _⟩ => show win0_6.index t 0 * 1 + 1 * 0 = 0; rw [(index6 t).1]
  | ⟨1, _⟩ => show win0_6.index t 1 * 1024 + 1 * l.val = l.val; rw [(index6 t).2]; omega

theorem index7 : ∀ t : Fin cfg0.N, win0_7.index t 0 = 0 ∧ win0_7.index t 1 = 0 := by decide +kernel

/-- Window 7 stages the whole gain at every point. -/
theorem blk7 (t : Fin cfg0.N) (l : Fin 1024) :
    (iblk m c 7 t : FVec Ideal S1x1024 .f32) (ix2 0 l) = m ((c : Thread nD τ).loc main_arg7) (ix2 0 l) := by
  unfold iblk
  rw [View.read_apply]
  show V m c main_arg7 _ = m (c.tc.loc main_arg7) _
  rw [V_main_arg7]
  congr 1
  funext a
  apply Fin.ext
  match a with
  | ⟨0, _⟩ => show win0_7.index t 0 * 1 + 1 * 0 = 0; rw [(index7 t).1]
  | ⟨1, _⟩ => show win0_7.index t 1 * 1024 + 1 * l.val = l.val; rw [(index7 t).2]; omega

theorem index8 : ∀ t : Fin cfg0.N, win0_8.index t 0 = 0 ∧ win0_8.index t 1 = 0 := by decide +kernel

/-- Window 8 stages one half of the wide matrix at every point. -/
theorem blk8 (t : Fin cfg0.N) (l k : Fin 1024) :
    (iblk m c 8 t : FVec Ideal S1024x1024 .bf16) (ix2 l k) = m ((c : Thread nD τ).loc main_arg8) (ix2 l ⟨k.val, by omega⟩) := by
  unfold iblk
  rw [View.read_apply]
  show V m c main_v1 _ = m (c.tc.loc main_arg8) _
  refine (congrArg (V m c main_v1) (?_ : _ = (ix2 l k : S1024x1024.Idx))).trans ?_
  · funext a
    apply Fin.ext
    match a with
    | ⟨0, _⟩ => show win0_8.index t 0 * 1024 + 1 * l.val = l.val; rw [(index8 t).1]; omega
    | ⟨1, _⟩ => show win0_8.index t 1 * 1024 + 1 * k.val = k.val; rw [(index8 t).2]; omega
  · entry_read
    pointwise

theorem index9 : ∀ t : Fin cfg0.N, win0_9.index t 0 = 0 ∧ win0_9.index t 1 = 0 := by decide +kernel

/-- Window 9 stages one half of the wide matrix at every point. -/
theorem blk9 (t : Fin cfg0.N) (l k : Fin 1024) :
    (iblk m c 9 t : FVec Ideal S1024x1024 .bf16) (ix2 l k) = m ((c : Thread nD τ).loc main_arg8) (ix2 l ⟨1024 + k.val, by omega⟩) := by
  unfold iblk
  rw [View.read_apply]
  show V m c main_v2 _ = m (c.tc.loc main_arg8) _
  refine (congrArg (V m c main_v2) (?_ : _ = (ix2 l k : S1024x1024.Idx))).trans ?_
  · funext a
    apply Fin.ext
    match a with
    | ⟨0, _⟩ => show win0_9.index t 0 * 1024 + 1 * l.val = l.val; rw [(index9 t).1]; omega
    | ⟨1, _⟩ => show win0_9.index t 1 * 1024 + 1 * k.val = k.val; rw [(index9 t).2]; omega
  · entry_read
    pointwise

theorem index10 : ∀ t : Fin cfg0.N, win0_10.index t 0 = 0 ∧ win0_10.index t 1 = 0 := by decide +kernel

/-- Window 10 stages one half of the wide matrix at every point. -/
theorem blk10 (t : Fin cfg0.N) (l k : Fin 1024) :
    (iblk m c 10 t : FVec Ideal S1024x1024 .bf16) (ix2 l k) = m ((c : Thread nD τ).loc main_arg9) (ix2 l ⟨k.val, by omega⟩) := by
  unfold iblk
  rw [View.read_apply]
  show V m c main_v4 _ = m (c.tc.loc main_arg9) _
  refine (congrArg (V m c main_v4) (?_ : _ = (ix2 l k : S1024x1024.Idx))).trans ?_
  · funext a
    apply Fin.ext
    match a with
    | ⟨0, _⟩ => show win0_10.index t 0 * 1024 + 1 * l.val = l.val; rw [(index10 t).1]; omega
    | ⟨1, _⟩ => show win0_10.index t 1 * 1024 + 1 * k.val = k.val; rw [(index10 t).2]; omega
  · entry_read
    pointwise

theorem index11 : ∀ t : Fin cfg0.N, win0_11.index t 0 = 0 ∧ win0_11.index t 1 = 0 := by decide +kernel

/-- Window 11 stages one half of the wide matrix at every point. -/
theorem blk11 (t : Fin cfg0.N) (l k : Fin 1024) :
    (iblk m c 11 t : FVec Ideal S1024x1024 .bf16) (ix2 l k) = m ((c : Thread nD τ).loc main_arg9) (ix2 l ⟨1024 + k.val, by omega⟩) := by
  unfold iblk
  rw [View.read_apply]
  show V m c main_v5 _ = m (c.tc.loc main_arg9) _
  refine (congrArg (V m c main_v5) (?_ : _ = (ix2 l k : S1024x1024.Idx))).trans ?_
  · funext a
    apply Fin.ext
    match a with
    | ⟨0, _⟩ => show win0_11.index t 0 * 1024 + 1 * l.val = l.val; rw [(index11 t).1]; omega
    | ⟨1, _⟩ => show win0_11.index t 1 * 1024 + 1 * k.val = k.val; rw [(index11 t).2]; omega
  · entry_read
    pointwise

/-! ## One point's three contributions -/

/-- The kernel's results on device `c`, as functions of the arrays it starts from. -/
def kerX : Rows :=
  residualGrad (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))
def kerK : Gain :=
  gainGrad (m ((c : Thread nD τ).loc main_arg0)) (m ((c : Thread nD τ).loc main_arg2)) (m ((c : Thread nD τ).loc main_arg3))
    (m ((c : Thread nD τ).loc main_arg8))
def kerP : Gain :=
  gainGrad (m ((c : Thread nD τ).loc main_arg0)) (m ((c : Thread nD τ).loc main_arg4)) (m ((c : Thread nD τ).loc main_arg5))
    (m ((c : Thread nD τ).loc main_arg9))

theorem point_row (t : Fin cfg0.N) (r : Fin 256) : 256 * t.val + r.val < 8192 := by
  have := t.isLt; have : cfg0.N = 32 := N_0; omega

/-- The block's row `r` of the residual's gradient is row `256 t + r` of the whole. -/
theorem outX_apply (t : Fin cfg0.N) (r : Fin 256) (l : Fin 1024) :
    outX (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (ix2 r l) = kerX m c (ix2 ⟨256 * t.val + r.val, point_row t r⟩ l) := by
  unfold outX
  rw [pay1_apply]
  simp only [pay4_apply, pay5_apply, blk0 m c t r _ (point_row t r), blk1 m c t r _ (point_row t r), blk2 m c t r _ (point_row t r),
    blk3 m c t r _ (point_row t r), blk4 m c t r _ (point_row t r), blk5 m c t r _ (point_row t r), blk6, blk7, blk8, blk9, blk10, blk11]
  rfl

/-- Row `p`'s term of a gain's gradient, zero past the last row. -/
def termAt (f : Fin 8192 → Fin 1024 → EReal) (l : Fin 1024) (p : ℕ) : EReal := if h : p < 8192 then f ⟨p, h⟩ l else 0

theorem sum_termAt (f : Fin 8192 → Fin 1024 → EReal) (l : Fin 1024) :
    ∑ t ∈ Finset.range 32, ∑ r : Fin 256, termAt f l (256 * t + r.val) = ∑ p : Fin 8192, f p l := by
  rw [sum_blocks (termAt f l) 256 32, Finset.sum_range]
  exact Finset.sum_congr rfl fun p _ => dif_pos p.isLt

abbrev termK : Fin 8192 → Fin 1024 → EReal :=
  gainTerm (m ((c : Thread nD τ).loc main_arg0)) (m ((c : Thread nD τ).loc main_arg2)) (m ((c : Thread nD τ).loc main_arg3))
    (m ((c : Thread nD τ).loc main_arg8))
abbrev termP : Fin 8192 → Fin 1024 → EReal :=
  gainTerm (m ((c : Thread nD τ).loc main_arg0)) (m ((c : Thread nD τ).loc main_arg4)) (m ((c : Thread nD τ).loc main_arg5))
    (m ((c : Thread nD τ).loc main_arg9))

theorem outK_apply (t : Fin cfg0.N) (l : Fin 1024) :
    outK (iblk m c 0 t) (iblk m c 2 t) (iblk m c 3 t) (iblk m c 8 t) (iblk m c 9 t) (ix2 0 l)
      = ∑ r : Fin 256, termAt (termK m c) l (256 * t.val + r.val) := by
  unfold outK
  rw [pay14_apply]
  refine Finset.sum_congr rfl fun r _ => ?_
  rw [termAt, dif_pos (point_row t r)]
  simp only [pay4_apply, blk0 m c t r _ (point_row t r), blk2 m c t r _ (point_row t r), blk3 m c t r _ (point_row t r), blk8, blk9]
  rfl

theorem outP_apply (t : Fin cfg0.N) (l : Fin 1024) :
    outP (iblk m c 0 t) (iblk m c 4 t) (iblk m c 5 t) (iblk m c 10 t) (iblk m c 11 t) (ix2 0 l)
      = ∑ r : Fin 256, termAt (termP m c) l (256 * t.val + r.val) := by
  unfold outP
  rw [pay12_apply]
  refine Finset.sum_congr rfl fun r _ => ?_
  rw [termAt, dif_pos (point_row t r)]
  simp only [pay5_apply, blk0 m c t r _ (point_row t r), blk4 m c t r _ (point_row t r), blk5 m c t r _ (point_row t r), blk10, blk11]
  rfl

/-! ## The grid -/

/-- What the three staging buffers hold after the first point, and after a later one. -/
theorem stepX (t : Fin cfg0.N) :
    (outsAt0 m c t.val t.isLt).1 = outX (iblk m c 0 t) (iblk m c 1 t) (iblk m c 2 t) (iblk m c 3 t) (iblk m c 4 t)
      (iblk m c 5 t) (iblk m c 6 t) (iblk m c 7 t) (iblk m c 8 t) (iblk m c 9 t) (iblk m c 10 t) (iblk m c 11 t) := by
  have hN : cfg0.N = 32 := N_0
  have := t.isLt
  by_cases h : t.val = 0
  · rw [outsAt0_A m c t (by omega) (by omega) (by omega) (by omega)]
    dsimp only
    exact caseA_X ..
  · rw [outsAt0_B m c t (by omega) (by omega) (by omega) (by omega)]
    dsimp only
    exact caseB_X ..

theorem firstK (t : Fin cfg0.N) (h : t.val = 0) (l : Fin 1024) :
    (outsAt0 m c t.val t.isLt).2.1 (ix2 0 l) = ∑ r : Fin 256, termAt (termK m c) l (256 * t.val + r.val) := by
  rw [outsAt0_A m c t (by omega) (by omega) (by omega) (by omega), ← outK_apply m c t l]
  dsimp only
  exact congrFun (caseA_K ..) _

theorem laterK (t : Fin cfg0.N) (h : t.val ≠ 0) (l : Fin 1024) :
    (outsAt0 m c t.val t.isLt).2.1 (ix2 0 l) = (outsAt0 m c (t.val - 1) (Nat.lt_of_le_of_lt (Nat.sub_le _ _) t.isLt)).2.1 (ix2 0 l)
      + ∑ r : Fin 256, termAt (termK m c) l (256 * t.val + r.val) := by
  have hN : cfg0.N = 32 := N_0
  have := t.isLt
  rw [outsAt0_B m c t (by omega) (by omega) (by omega) (by omega), ← outK_apply m c t l]
  dsimp only
  exact congrFun (caseB_K ..) _

theorem firstP (t : Fin cfg0.N) (h : t.val = 0) (l : Fin 1024) :
    (outsAt0 m c t.val t.isLt).2.2 (ix2 0 l) = ∑ r : Fin 256, termAt (termP m c) l (256 * t.val + r.val) := by
  rw [outsAt0_A m c t (by omega) (by omega) (by omega) (by omega), ← outP_apply m c t l]
  dsimp only
  exact congrFun (caseA_P ..) _

theorem laterP (t : Fin cfg0.N) (h : t.val ≠ 0) (l : Fin 1024) :
    (outsAt0 m c t.val t.isLt).2.2 (ix2 0 l) = (outsAt0 m c (t.val - 1) (Nat.lt_of_le_of_lt (Nat.sub_le _ _) t.isLt)).2.2 (ix2 0 l)
      + ∑ r : Fin 256, termAt (termP m c) l (256 * t.val + r.val) := by
  have hN : cfg0.N = 32 := N_0
  have := t.isLt
  rw [outsAt0_B m c t (by omega) (by omega) (by omega) (by omega), ← outP_apply m c t l]
  dsimp only
  exact congrFun (caseB_P ..) _

theorem outs_K (l : Fin 1024) : ∀ (n : ℕ) (h : n < cfg0.N),
    (outsAt0 m c n h).2.1 (ix2 0 l) = ∑ t ∈ Finset.range (n + 1), ∑ r : Fin 256, termAt (termK m c) l (256 * t + r.val)
  | 0, h => by
    rw [Nat.zero_add, Finset.sum_range_one]
    exact firstK m c ⟨0, h⟩ rfl l
  | n + 1, h => by
    rw [Finset.sum_range_succ, ← outs_K l n (Nat.lt_of_succ_lt h)]
    exact laterK m c ⟨n + 1, h⟩ (Nat.succ_ne_zero n) l

theorem outs_P (l : Fin 1024) : ∀ (n : ℕ) (h : n < cfg0.N),
    (outsAt0 m c n h).2.2 (ix2 0 l) = ∑ t ∈ Finset.range (n + 1), ∑ r : Fin 256, termAt (termP m c) l (256 * t + r.val)
  | 0, h => by
    rw [Nat.zero_add, Finset.sum_range_one]
    exact firstP m c ⟨0, h⟩ rfl l
  | n + 1, h => by
    rw [Finset.sum_range_succ, ← outs_P l n (Nat.lt_of_succ_lt h)]
    exact laterP m c ⟨n + 1, h⟩ (Nat.succ_ne_zero n) l

/-! ## The result arrays -/

theorem index12 : ∀ t : Fin cfg0.N, win0_12.index t 0 = t.val ∧ win0_12.index t 1 = 0 := by decide +kernel
theorem index13 : ∀ t : Fin cfg0.N, win0_13.index t 0 = 0 ∧ win0_13.index t 1 = 0 := by decide +kernel
theorem index14 : ∀ t : Fin cfg0.N, win0_14.index t 0 = 0 ∧ win0_14.index t 1 = 0 := by decide +kernel

theorem flushedX (t : Fin cfg0.N) : (dats m 0 c).flushed 12 t = ((cfg0.win 12).blk t).view.read (Elt Ideal) (kerX m c) := by
  rw [Cert.KernelIdeal.Value.flushed12, stepX]
  funext j
  obtain ⟨r, l, rfl⟩ : ∃ (r : Fin 256) (l : Fin 1024), j = ix2 r l := ⟨j 0, j 1, eq_ix2 j⟩
  refine (outX_apply m c t r l).trans ?_
  rw [View.read_apply]
  congr 1
  funext a
  apply Fin.ext
  match a with
  | ⟨0, _⟩ => show 256 * t.val + r.val = win0_12.index t 0 * 256 + 1 * r.val; rw [(index12 t).1]; omega
  | ⟨1, _⟩ => show l.val = win0_12.index t 1 * 1024 + 1 * l.val; rw [(index12 t).2]; omega

theorem final_X : (dats m 0 c).arrAt 12 cfg0.N = kerX m c :=
  (dats m 0 c).arrAt_eq_of_cover 12 (kerX m c) (fun t _ => flushedX m c t) fun i => by
    have hN : cfg0.N = 32 := N_0
    have h0 : (i 0 : Nat) < 8192 := (i 0).isLt
    have h1 : (i 1 : Nat) < 1024 := (i 1).isLt
    obtain ⟨t, ht⟩ : ∃ t : Fin cfg0.N, t.val = (i 0 : Nat) / 256 := ⟨⟨(i 0 : Nat) / 256, by omega⟩, rfl⟩
    refine ⟨t, flush0_12 t, ?_⟩
    show i ∈ ((View.whole main_v6_0).slice (win0_12.rect t)).set
    rw [View.set_slice_whole, Rect.mem_set_unit]
    intro a
    match a with
    | ⟨0, _⟩ =>
      show win0_12.index t 0 * 256 ≤ (i 0 : Nat) ∧ (i 0 : Nat) < win0_12.index t 0 * 256 + 256
      rw [(index12 t).1]; omega
    | ⟨1, _⟩ =>
      show win0_12.index t 1 * 1024 ≤ (i 1 : Nat) ∧ (i 1 : Nat) < win0_12.index t 1 * 1024 + 1024
      rw [(index12 t).2]; omega

theorem flushedK (t : Fin cfg0.N) (hf : (cfg0.win 13).flush t = true) :
    (dats m 0 c).flushed 13 t = ((cfg0.win 13).blk t).view.read (Elt Ideal) (kerK m c) := by
  have hN : cfg0.N = 32 := N_0
  have h31 : t.val = 31 := by have := (flush0_13 t).mp hf; have := t.isLt; omega
  rw [Cert.KernelIdeal.Value.flushed13]
  funext j
  obtain ⟨u, l, rfl⟩ : ∃ (u : Fin 1) (l : Fin 1024), j = ix2 u l := ⟨j 0, j 1, eq_ix2 j⟩
  obtain rfl : u = 0 := Subsingleton.elim _ _
  refine (outs_K m c l t.val t.isLt).trans ?_
  rw [h31, sum_termAt, View.read_apply]
  show kerK m c (ix2 0 l) = _
  congr 1
  funext a
  apply Fin.ext
  match a with
  | ⟨0, _⟩ => show 0 = win0_13.index t 0 * 1 + 1 * 0; rw [(index13 t).1]
  | ⟨1, _⟩ => show l.val = win0_13.index t 1 * 1024 + 1 * l.val; rw [(index13 t).2]; omega

theorem flushedP (t : Fin cfg0.N) (hf : (cfg0.win 14).flush t = true) :
    (dats m 0 c).flushed 14 t = ((cfg0.win 14).blk t).view.read (Elt Ideal) (kerP m c) := by
  have hN : cfg0.N = 32 := N_0
  have h31 : t.val = 31 := by have := (flush0_14 t).mp hf; have := t.isLt; omega
  rw [Cert.KernelIdeal.Value.flushed14]
  funext j
  obtain ⟨u, l, rfl⟩ : ∃ (u : Fin 1) (l : Fin 1024), j = ix2 u l := ⟨j 0, j 1, eq_ix2 j⟩
  obtain rfl : u = 0 := Subsingleton.elim _ _
  refine (outs_P m c l t.val t.isLt).trans ?_
  rw [h31, sum_termAt, View.read_apply]
  show kerP m c (ix2 0 l) = _
  congr 1
  funext a
  apply Fin.ext
  match a with
  | ⟨0, _⟩ => show 0 = win0_14.index t 0 * 1 + 1 * 0; rw [(index14 t).1]
  | ⟨1, _⟩ => show l.val = win0_14.index t 1 * 1024 + 1 * l.val; rw [(index14 t).2]; omega

theorem final_K : (dats m 0 c).arrAt 13 cfg0.N = kerK m c :=
  (dats m 0 c).arrAt_eq_of_cover 13 (kerK m c) (flushedK m c) fun i => by
    have hN : cfg0.N = 32 := N_0
    have h0 : (i 0 : Nat) < 1 := (i 0).isLt
    have h1 : (i 1 : Nat) < 1024 := (i 1).isLt
    obtain ⟨t, ht⟩ : ∃ t : Fin cfg0.N, t.val = 31 := ⟨⟨31, by omega⟩, rfl⟩
    refine ⟨t, (flush0_13 t).mpr (by omega), ?_⟩
    show i ∈ ((View.whole main_v6_1).slice (win0_13.rect t)).set
    rw [View.set_slice_whole, Rect.mem_set_unit]
    intro a
    match a with
    | ⟨0, _⟩ =>
      show win0_13.index t 0 * 1 ≤ (i 0 : Nat) ∧ (i 0 : Nat) < win0_13.index t 0 * 1 + 1
      rw [(index13 t).1]; omega
    | ⟨1, _⟩ =>
      show win0_13.index t 1 * 1024 ≤ (i 1 : Nat) ∧ (i 1 : Nat) < win0_13.index t 1 * 1024 + 1024
      rw [(index13 t).2]; omega

theorem final_P : (dats m 0 c).arrAt 14 cfg0.N = kerP m c :=
  (dats m 0 c).arrAt_eq_of_cover 14 (kerP m c) (flushedP m c) fun i => by
    have hN : cfg0.N = 32 := N_0
    have h0 : (i 0 : Nat) < 1 := (i 0).isLt
    have h1 : (i 1 : Nat) < 1024 := (i 1).isLt
    obtain ⟨t, ht⟩ : ∃ t : Fin cfg0.N, t.val = 31 := ⟨⟨31, by omega⟩, rfl⟩
    refine ⟨t, (flush0_14 t).mpr (by omega), ?_⟩
    show i ∈ ((View.whole main_v6_2).slice (win0_14.rect t)).set
    rw [View.set_slice_whole, Rect.mem_set_unit]
    intro a
    match a with
    | ⟨0, _⟩ =>
      show win0_14.index t 0 * 1 ≤ (i 0 : Nat) ∧ (i 0 : Nat) < win0_14.index t 0 * 1 + 1
      rw [(index14 t).1]; omega
    | ⟨1, _⟩ =>
      show win0_14.index t 1 * 1024 ≤ (i 1 : Nat) ∧ (i 1 : Nat) < win0_14.index t 1 * 1024 + 1024
      rw [(index14 t).2]; omega

/-- The whole run: the three results in closed form, the arguments unchanged. -/
theorem kernel_run (ρ : Dev nD → PrngReg) :
    θ_run (defs (F := Ideal)) (onTc (τ := τ) (main (F := Ideal))) ⟨m, fun _ => 0, ρ⟩ fun r => ∀ c : Dev nD,
      r.2.mem ((c.tc : Thread nD τ).loc main_v6_0) = kerX m c
      ∧ r.2.mem ((c.tc : Thread nD τ).loc main_v6_1) = kerK m c
      ∧ r.2.mem ((c.tc : Thread nD τ).loc main_v6_2) = kerP m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c).1.trans (final_X m c), (h c).2.1.trans (final_K m c), (h c).2.2.1.trans (final_P m c), (h c).2.2.2⟩)
    (Cert.KernelIdeal.Value.run_blocks m ρ)

end Cert.NormsProj
-- ==== Proof.RefValue.lean ====
/-
  The reference's run, its three results read down to the row formulas.
-/
module

public import proofs.«01_k».proof.Proof.Gen.ReferenceIdeal.Run
public import proofs.«01_k».proof.Proof.Formula

@[expose] public section

noncomputable section

namespace Cert.NormsProj

open Cert.ReferenceIdeal Cert.ReferenceIdeal.Gen Idealize.ShloMosaic Idealize.ShloMosaic.TcCoe Idealize.SL.Sem

variable (m : (ℓ : Loc nD τ sig) → Buf (Elt Ideal) ℓ)

/-- The reference's results on device `c`, as functions of the arrays it starts from. -/
def refX (c : Dev nD) : Rows :=
  residualGrad (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9))
def refK (c : Dev nD) : Gain :=
  gainGrad (m ((c.tc : Thread nD τ).loc main_arg0)) (m ((c.tc : Thread nD τ).loc main_arg2)) (m ((c.tc : Thread nD τ).loc main_arg3))
    (m ((c.tc : Thread nD τ).loc main_arg8))
def refP (c : Dev nD) : Gain :=
  gainGrad (m ((c.tc : Thread nD τ).loc main_arg0)) (m ((c.tc : Thread nD τ).loc main_arg4)) (m ((c.tc : Thread nD τ).loc main_arg5))
    (m ((c.tc : Thread nD τ).loc main_arg9))

theorem reference_run (ρ : Dev nD → PrngReg) :
    θ_run (defs (F := Ideal)) (onTc (τ := τ) (main (F := Ideal))) ⟨m, fun _ => 0, ρ⟩ fun r => ∀ c : Dev nD,
      r.2.mem ((c.tc : Thread nD τ).loc main_v80) = refX m c
      ∧ r.2.mem ((c.tc : Thread nD τ).loc main_v63) = refK m c
      ∧ r.2.mem ((c.tc : Thread nD τ).loc main_v41) = refP m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run defs _ _).mono (fun _ h c => ⟨(h c).1.trans ?_, (h c).2.1.trans ?_, (h c).2.2.1.trans ?_, (h c).2.2.2⟩)
    (Cert.ReferenceIdeal.Value.run m ρ)
  · unfold Cert.ReferenceIdeal.Value.res_main_v80
    funext j
    obtain ⟨p, l, rfl⟩ : ∃ (p : Fin 8192) (l : Fin 1024), j = ix2 p l := ⟨j 0, j 1, eq_ix2 j⟩
    pointwise [refX, residualGrad, normGrad, slope, scale, meanSq, rowsBack, back, Fin.sum_univ_one, add_assoc]
  · funext j
    obtain ⟨p, l, rfl⟩ : ∃ (p : Fin 1) (l : Fin 1024), j = ix2 p l := ⟨j 0, j 1, eq_ix2 j⟩
    pointwise [refK, gainGrad, gainTerm, scale, meanSq, rowsBack, back]
  · funext j
    obtain ⟨p, l, rfl⟩ : ∃ (p : Fin 1) (l : Fin 1024), j = ix2 p l := ⟨j 0, j 1, eq_ix2 j⟩
    pointwise [refP, gainGrad, gainTerm, scale, meanSq, rowsBack, back]

end Cert.NormsProj
-- ==== Proof.Weight.lean ====
/-
  A weight's gradient `aᵀ b` over a device's 8192 rows, and the sum of eight blocks of 1024 rows that gives it.
-/
module

public import proofs.«01_k».proof.Proof.Formula

@[expose] public section

noncomputable section

namespace Cert.Weight

open Idealize.ShloMosaic Cert.NormsProj

theorem zeros : (![0, 0] : Fin 2 → Nat) = fun _ => 0 := funext fun a => by fin_cases a <;> rfl

/-- The product of the rows' transpose with the cotangent's rows. -/
def product {k : ℕ} (a : (⟨2, ![8192, k]⟩ : Shape).Idx → EReal) (b : Rows) : (⟨2, ![k, 1024]⟩ : Shape).Idx → EReal :=
  fun i => ∑ p : Fin 8192, a (ix2 p (i 0)) * b (ix2 p (i 1))

/-- Row `p`'s term of one entry, zero past the last row. -/
def rowTerm {k : ℕ} (a : (⟨2, ![8192, k]⟩ : Shape).Idx → EReal) (b : Rows) (u : Fin k) (l : Fin 1024) (p : ℕ) : EReal :=
  if h : p < 8192 then a (ix2 ⟨p, h⟩ u) * b (ix2 ⟨p, h⟩ l) else 0

theorem sum_rowTerm {k : ℕ} (a : (⟨2, ![8192, k]⟩ : Shape).Idx → EReal) (b : Rows) (u : Fin k) (l : Fin 1024) :
    ∑ t ∈ Finset.range 8, ∑ r : Fin 1024, rowTerm a b u l (1024 * t + r.val) = product a b (ix2 u l) := by
  rw [sum_blocks (rowTerm a b u l) 1024 8, Finset.sum_range]
  exact Finset.sum_congr rfl fun p _ => dif_pos p.isLt

/-- A buffer each point adds to holds the sum of what the points so far gave. -/
theorem accumulate {N : ℕ} (o : (n : ℕ) → n < N → EReal) (f : ℕ → EReal) (first : ∀ h, o 0 h = f 0)
    (later : ∀ n h, o (n + 1) h = o n (Nat.lt_of_succ_lt h) + f (n + 1)) :
    ∀ (n : ℕ) (h : n < N), o n h = ∑ t ∈ Finset.range (n + 1), f t
  | 0, h => by rw [Nat.zero_add, Finset.sum_range_one]; exact first h
  | n + 1, h => by rw [Finset.sum_range_succ, ← accumulate o f first later n (Nat.lt_of_succ_lt h)]; exact later n h

end Cert.Weight
-- ==== Proof.Weight2.lean ====
/-
  A product of bf16 rows with a bf16 cotangent: the kernel's run and the reference's, both read down to the product over the rows.
-/
module

public import proofs.«01_k».proof.Proof.Gen.Kernel2Ideal.Value
public import proofs.«01_k».proof.Proof.Gen.Reference2Ideal.Run
public import proofs.«01_k».proof.Proof.Weight

@[expose] public section

noncomputable section

namespace Cert.Weight2

section Kernel

open Cert.Weight Cert.Kernel2Ideal Cert.Kernel2Ideal.Gen Idealize.ShloMosaic Idealize.ShloMosaic.TcCoe Idealize.SL.Sem

theorem share_apply (a : FVec Ideal S1024x1024 .bf16) (b : FVec Ideal S1024x1024 .bf16) (u : Fin 1024) (l : Fin 1024) :
    k0_pay1 (F := Ideal) a b (ix2 u l) = ∑ r : Fin 1024, a (ix2 r u) * b (ix2 r l) := by
  pointwise [k0_pay1]

section Cases

variable (c : Dev nD) (i : grid0.Coords) (a3 : Memref sig .tc .vmem S1024x1024 .bf16) (h3 : a3.IsWhole)
  (a4 : Memref sig .tc .vmem S1024x1024 .bf16) (h4 : a4.IsWhole) (a5 : Memref sig .tc .vmem S1024x1024 .f32) (h5 : a5.IsWhole)
  (a : FVec Ideal S1024x1024 .bf16) (b : FVec Ideal S1024x1024 .bf16)

theorem caseA (e0 e1) : out0_A_2 (F := Ideal) c i a3 h3 a4 h4 a5 h5 e0 e1 a b = k0_pay1 (F := Ideal) a b := by
  unfold out0_A_2
  rw [View.read_writes_eq_canon _ _ _ (fun y => cover0_A_2 (y := y) ..)]
  unfold kernelRun0_A
  dsimp only
  sl_unfold_words
  rw [View.canon_unit_zero zeros]
  simp only [View.readAt_eq_ld, h3.read_unread, h4.read_unread, View.ld_unit_zero (S := S1024x1024) zeros]

theorem caseB (e0 e1) (v : FVec Ideal S1024x1024 .f32) :
    out0_B_2 (F := Ideal) c i a3 h3 a4 h4 a5 h5 e0 e1 a b v = addf v (k0_pay1 (F := Ideal) a b) := by
  unfold out0_B_2
  rw [View.read_writes_eq_canon _ _ _ (fun y => cover0_B_2 (y := y) ..)]
  unfold kernelRun0_B
  dsimp only
  sl_unfold_words
  rw [View.canon_unit_zero zeros]
  unfold k0_pay2
  simp only [View.readAt_eq_ld, h3.read_unread, h4.read_unread, h5.read_unread, View.ld_unit_zero (S := S1024x1024) zeros, shapeCast_self]

end Cases

variable (m : (ℓ : Loc nD τ sig) → Buf (Elt Ideal) ℓ) (c : Dev nD)

theorem index0 : ∀ t : Fin cfg0.N, win0_0.index t 0 = t.val ∧ win0_0.index t 1 = 0 := by decide +kernel
theorem index1 : ∀ t : Fin cfg0.N, win0_1.index t 0 = t.val ∧ win0_1.index t 1 = 0 := by decide +kernel
theorem index2 : ∀ t : Fin cfg0.N, win0_2.index t 0 = 0 ∧ win0_2.index t 1 = 0 := by decide +kernel

theorem blk0 (t : Fin cfg0.N) (r : Fin 1024) (l : Fin 1024) (h : 1024 * t.val + r.val < 8192) :
    (iblk m c 0 t : FVec Ideal S1024x1024 .bf16) (ix2 r l) = m ((c : Thread nD τ).loc main_arg0) (ix2 ⟨1024 * t.val + r.val, h⟩ l) := by
  unfold iblk
  rw [View.read_apply]
  show V m c main_arg0 _ = m (c.tc.loc main_arg0) _
  rw [V_main_arg0]
  congr 1
  funext a
  apply Fin.ext
  match a with
  | ⟨0, _⟩ => show win0_0.index t 0 * 1024 + 1 * r.val = 1024 * t.val + r.val; rw [(index0 t).1]; omega
  | ⟨1, _⟩ => show win0_0.index t 1 * 1024 + 1 * l.val = l.val; rw [(index0 t).2]; omega

theorem blk1 (t : Fin cfg0.N) (r l : Fin 1024) (h : 1024 * t.val + r.val < 8192) :
    (iblk m c 1 t : FVec Ideal S1024x1024 .bf16) (ix2 r l) = m ((c : Thread nD τ).loc main_arg2) (ix2 ⟨1024 * t.val + r.val, h⟩ l) := by
  unfold iblk
  rw [View.read_apply]
  show V m c main_arg2 _ = m (c.tc.loc main_arg2) _
  rw [V_main_arg2]
  congr 1
  funext a
  apply Fin.ext
  match a with
  | ⟨0, _⟩ => show win0_1.index t 0 * 1024 + 1 * r.val = 1024 * t.val + r.val; rw [(index1 t).1]; omega
  | ⟨1, _⟩ => show win0_1.index t 1 * 1024 + 1 * l.val = l.val; rw [(index1 t).2]; omega

/-- The kernel's result on device `c`, as a function of the arrays it starts from. -/
def ker : (⟨2, ![1024, 1024]⟩ : Shape).Idx → EReal :=
  product (m ((c : Thread nD τ).loc main_arg0)) (m ((c : Thread nD τ).loc main_arg2))

abbrev term (u : Fin 1024) (l : Fin 1024) : ℕ → EReal :=
  rowTerm (m ((c : Thread nD τ).loc main_arg0)) (m ((c : Thread nD τ).loc main_arg2)) u l

theorem share_blocks (t : Fin cfg0.N) (u : Fin 1024) (l : Fin 1024) :
    k0_pay1 (F := Ideal) (iblk m c 0 t) (iblk m c 1 t) (ix2 u l) = ∑ r : Fin 1024, term m c u l (1024 * t.val + r.val) := by
  have row : ∀ r : Fin 1024, 1024 * t.val + r.val < 8192 := fun r => by
    have := t.isLt; have : cfg0.N = 8 := N_0; omega
  rw [share_apply]
  refine Finset.sum_congr rfl fun r _ => ?_
  rw [term, rowTerm, dif_pos (row r), blk0 m c t r u (row r), blk1 m c t r l (row r)]

theorem first (t : Fin cfg0.N) (h : t.val = 0) (u : Fin 1024) (l : Fin 1024) :
    outsAt0 m c t.val t.isLt (ix2 u l) = ∑ r : Fin 1024, term m c u l (1024 * t.val + r.val) := by
  rw [outsAt0_A m c t (by omega) (by omega), ← share_blocks m c t u l]
  exact congrFun (caseA ..) _

theorem later (t : Fin cfg0.N) (h : t.val ≠ 0) (u : Fin 1024) (l : Fin 1024) :
    outsAt0 m c t.val t.isLt (ix2 u l) = outsAt0 m c (t.val - 1) (Nat.lt_of_le_of_lt (Nat.sub_le _ _) t.isLt) (ix2 u l)
      + ∑ r : Fin 1024, term m c u l (1024 * t.val + r.val) := by
  have hN : cfg0.N = 8 := N_0
  have := t.isLt
  rw [outsAt0_B m c t (by omega) (by omega), ← share_blocks m c t u l]
  exact congrFun (caseB ..) _

theorem outs (u : Fin 1024) (l : Fin 1024) (n : ℕ) (h : n < cfg0.N) :
    outsAt0 m c n h (ix2 u l) = ∑ t ∈ Finset.range (n + 1), ∑ r : Fin 1024, term m c u l (1024 * t + r.val) :=
  accumulate (fun n h => outsAt0 m c n h (ix2 u l)) (fun t => ∑ r : Fin 1024, term m c u l (1024 * t + r.val))
    (fun h => first m c ⟨0, h⟩ rfl u l) (fun n h => later m c ⟨n + 1, h⟩ (Nat.succ_ne_zero n) u l) n h

theorem flushed (t : Fin cfg0.N) (hf : (cfg0.win 2).flush t = true) :
    (dats m 0 c).flushed 2 t = ((cfg0.win 2).blk t).view.read (Elt Ideal) (ker m c) := by
  have hN : cfg0.N = 8 := N_0
  have h7 : t.val = 7 := by have := (flush0_2 t).mp hf; have := t.isLt; omega
  rw [Cert.Kernel2Ideal.Value.flushed2]
  funext j
  obtain ⟨u, l, rfl⟩ : ∃ (u : Fin 1024) (l : Fin 1024), j = ix2 u l := ⟨j 0, j 1, eq_ix2 j⟩
  refine (outs m c u l t.val t.isLt).trans ?_
  rw [h7, sum_rowTerm, View.read_apply]
  show ker m c (ix2 u l) = _
  congr 1
  funext a
  apply Fin.ext
  match a with
  | ⟨0, _⟩ => show u.val = win0_2.index t 0 * 1024 + 1 * u.val; rw [(index2 t).1]; omega
  | ⟨1, _⟩ => show l.val = win0_2.index t 1 * 1024 + 1 * l.val; rw [(index2 t).2]; omega

theorem final : (dats m 0 c).arrAt 2 cfg0.N = ker m c :=
  (dats m 0 c).arrAt_eq_of_cover 2 (ker m c) (flushed m c) fun i => by
    have hN : cfg0.N = 8 := N_0
    have h0 : (i 0 : Nat) < 1024 := (i 0).isLt
    have h1 : (i 1 : Nat) < 1024 := (i 1).isLt
    obtain ⟨t, ht⟩ : ∃ t : Fin cfg0.N, t.val = 7 := ⟨⟨7, by omega⟩, rfl⟩
    refine ⟨t, (flush0_2 t).mpr (by omega), ?_⟩
    show i ∈ ((View.whole main_v0).slice (win0_2.rect t)).set
    rw [View.set_slice_whole, Rect.mem_set_unit]
    intro a
    match a with
    | ⟨0, _⟩ =>
      show win0_2.index t 0 * 1024 ≤ (i 0 : Nat) ∧ (i 0 : Nat) < win0_2.index t 0 * 1024 + 1024
      rw [(index2 t).1]; omega
    | ⟨1, _⟩ =>
      show win0_2.index t 1 * 1024 ≤ (i 1 : Nat) ∧ (i 1 : Nat) < win0_2.index t 1 * 1024 + 1024
      rw [(index2 t).2]; omega

/-- The whole run: the result in closed form, the arguments unchanged. -/
theorem kernel_run (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = ker m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (final m c), (h c).2⟩) (Cert.Kernel2Ideal.Value.run_blocks m ρ)

end Kernel

section Reference

open Cert.Weight Cert.Reference2Ideal Cert.Reference2Ideal.Gen Idealize.ShloMosaic Idealize.ShloMosaic.TcCoe Idealize.SL.Sem

variable (m : (ℓ : Loc nD τ sig) → Buf (Elt Ideal) ℓ)

/-- The reference's result on device `c`. -/
def ref (c : Dev nD) : (⟨2, ![1024, 1024]⟩ : Shape).Idx → EReal :=
  product (m ((c.tc : Thread nD τ).loc main_arg0)) (m ((c.tc : Thread nD τ).loc main_arg2))

theorem reference_run (ρ : Dev nD → PrngReg) :
    θ_run (defs (F := Ideal)) (onTc (τ := τ) (main (F := Ideal))) ⟨m, fun _ => 0, ρ⟩ fun r => ∀ c : Dev nD,
      r.2.mem ((c.tc : Thread nD τ).loc main_v4) = ref m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun _ h c => ⟨(h c).1.trans ?_, (h c).2⟩) (Cert.Reference2Ideal.Value.run m ρ)
  funext j
  obtain ⟨u, l, rfl⟩ : ∃ (u : Fin 1024) (l : Fin 1024), j = ix2 u l := ⟨j 0, j 1, eq_ix2 j⟩
  pointwise [ref, product]
  exact Finset.sum_congr rfl fun _ _ => mul_comm _ _

end Reference

end Cert.Weight2
-- ==== Proof.Weight3.lean ====
/-
  A product of bf16 rows with an f32 cotangent: the kernel's run and the reference's, both read down to the product over the rows.
-/
module

public import proofs.«01_k».proof.Proof.Gen.Kernel3Ideal.Value
public import proofs.«01_k».proof.Proof.Gen.Reference3Ideal.Run
public import proofs.«01_k».proof.Proof.Weight

@[expose] public section

noncomputable section

namespace Cert.Weight3

section Kernel

open Cert.Weight Cert.Kernel3Ideal Cert.Kernel3Ideal.Gen Idealize.ShloMosaic Idealize.ShloMosaic.TcCoe Idealize.SL.Sem

theorem share_apply (a : FVec Ideal S1024x1024 .bf16) (b : FVec Ideal S1024x1024 .f32) (u : Fin 1024) (l : Fin 1024) :
    k0_pay1 (F := Ideal) a b (ix2 u l) = ∑ r : Fin 1024, a (ix2 r u) * b (ix2 r l) := by
  pointwise [k0_pay1]

section Cases

variable (c : Dev nD) (i : grid0.Coords) (a3 : Memref sig .tc .vmem S1024x1024 .bf16) (h3 : a3.IsWhole)
  (a4 : Memref sig .tc .vmem S1024x1024 .f32) (h4 : a4.IsWhole) (a5 : Memref sig .tc .vmem S1024x1024 .f32) (h5 : a5.IsWhole)
  (a : FVec Ideal S1024x1024 .bf16) (b : FVec Ideal S1024x1024 .f32)

theorem caseA (e0 e1) : out0_A_2 (F := Ideal) c i a3 h3 a4 h4 a5 h5 e0 e1 a b = k0_pay1 (F := Ideal) a b := by
  unfold out0_A_2
  rw [View.read_writes_eq_canon _ _ _ (fun y => cover0_A_2 (y := y) ..)]
  unfold kernelRun0_A
  dsimp only
  sl_unfold_words
  rw [View.canon_unit_zero zeros]
  simp only [View.readAt_eq_ld, h3.read_unread, h4.read_unread, View.ld_unit_zero (S := S1024x1024) zeros]

theorem caseB (e0 e1) (v : FVec Ideal S1024x1024 .f32) :
    out0_B_2 (F := Ideal) c i a3 h3 a4 h4 a5 h5 e0 e1 a b v = addf v (k0_pay1 (F := Ideal) a b) := by
  unfold out0_B_2
  rw [View.read_writes_eq_canon _ _ _ (fun y => cover0_B_2 (y := y) ..)]
  unfold kernelRun0_B
  dsimp only
  sl_unfold_words
  rw [View.canon_unit_zero zeros]
  unfold k0_pay2
  simp only [View.readAt_eq_ld, h3.read_unread, h4.read_unread, h5.read_unread, View.ld_unit_zero (S := S1024x1024) zeros, shapeCast_self]

end Cases

variable (m : (ℓ : Loc nD τ sig) → Buf (Elt Ideal) ℓ) (c : Dev nD)

theorem index0 : ∀ t : Fin cfg0.N, win0_0.index t 0 = t.val ∧ win0_0.index t 1 = 0 := by decide +kernel
theorem index1 : ∀ t : Fin cfg0.N, win0_1.index t 0 = t.val ∧ win0_1.index t 1 = 0 := by decide +kernel
theorem index2 : ∀ t : Fin cfg0.N, win0_2.index t 0 = 0 ∧ win0_2.index t 1 = 0 := by decide +kernel

theorem blk0 (t : Fin cfg0.N) (r : Fin 1024) (l : Fin 1024) (h : 1024 * t.val + r.val < 8192) :
    (iblk m c 0 t : FVec Ideal S1024x1024 .bf16) (ix2 r l) = m ((c : Thread nD τ).loc main_arg0) (ix2 ⟨1024 * t.val + r.val, h⟩ l) := by
  unfold iblk
  rw [View.read_apply]
  show V m c main_arg0 _ = m (c.tc.loc main_arg0) _
  rw [V_main_arg0]
  congr 1
  funext a
  apply Fin.ext
  match a with
  | ⟨0, _⟩ => show win0_0.index t 0 * 1024 + 1 * r.val = 1024 * t.val + r.val; rw [(index0 t).1]; omega
  | ⟨1, _⟩ => show win0_0.index t 1 * 1024 + 1 * l.val = l.val; rw [(index0 t).2]; omega

theorem blk1 (t : Fin cfg0.N) (r l : Fin 1024) (h : 1024 * t.val + r.val < 8192) :
    (iblk m c 1 t : FVec Ideal S1024x1024 .f32) (ix2 r l) = m ((c : Thread nD τ).loc main_arg2) (ix2 ⟨1024 * t.val + r.val, h⟩ l) := by
  unfold iblk
  rw [View.read_apply]
  show V m c main_arg2 _ = m (c.tc.loc main_arg2) _
  rw [V_main_arg2]
  congr 1
  funext a
  apply Fin.ext
  match a with
  | ⟨0, _⟩ => show win0_1.index t 0 * 1024 + 1 * r.val = 1024 * t.val + r.val; rw [(index1 t).1]; omega
  | ⟨1, _⟩ => show win0_1.index t 1 * 1024 + 1 * l.val = l.val; rw [(index1 t).2]; omega

/-- The kernel's result on device `c`, as a function of the arrays it starts from. -/
def ker : (⟨2, ![1024, 1024]⟩ : Shape).Idx → EReal :=
  product (m ((c : Thread nD τ).loc main_arg0)) (m ((c : Thread nD τ).loc main_arg2))

abbrev term (u : Fin 1024) (l : Fin 1024) : ℕ → EReal :=
  rowTerm (m ((c : Thread nD τ).loc main_arg0)) (m ((c : Thread nD τ).loc main_arg2)) u l

theorem share_blocks (t : Fin cfg0.N) (u : Fin 1024) (l : Fin 1024) :
    k0_pay1 (F := Ideal) (iblk m c 0 t) (iblk m c 1 t) (ix2 u l) = ∑ r : Fin 1024, term m c u l (1024 * t.val + r.val) := by
  have row : ∀ r : Fin 1024, 1024 * t.val + r.val < 8192 := fun r => by
    have := t.isLt; have : cfg0.N = 8 := N_0; omega
  rw [share_apply]
  refine Finset.sum_congr rfl fun r _ => ?_
  rw [term, rowTerm, dif_pos (row r), blk0 m c t r u (row r), blk1 m c t r l (row r)]

theorem first (t : Fin cfg0.N) (h : t.val = 0) (u : Fin 1024) (l : Fin 1024) :
    outsAt0 m c t.val t.isLt (ix2 u l) = ∑ r : Fin 1024, term m c u l (1024 * t.val + r.val) := by
  rw [outsAt0_A m c t (by omega) (by omega), ← share_blocks m c t u l]
  exact congrFun (caseA ..) _

theorem later (t : Fin cfg0.N) (h : t.val ≠ 0) (u : Fin 1024) (l : Fin 1024) :
    outsAt0 m c t.val t.isLt (ix2 u l) = outsAt0 m c (t.val - 1) (Nat.lt_of_le_of_lt (Nat.sub_le _ _) t.isLt) (ix2 u l)
      + ∑ r : Fin 1024, term m c u l (1024 * t.val + r.val) := by
  have hN : cfg0.N = 8 := N_0
  have := t.isLt
  rw [outsAt0_B m c t (by omega) (by omega), ← share_blocks m c t u l]
  exact congrFun (caseB ..) _

theorem outs (u : Fin 1024) (l : Fin 1024) (n : ℕ) (h : n < cfg0.N) :
    outsAt0 m c n h (ix2 u l) = ∑ t ∈ Finset.range (n + 1), ∑ r : Fin 1024, term m c u l (1024 * t + r.val) :=
  accumulate (fun n h => outsAt0 m c n h (ix2 u l)) (fun t => ∑ r : Fin 1024, term m c u l (1024 * t + r.val))
    (fun h => first m c ⟨0, h⟩ rfl u l) (fun n h => later m c ⟨n + 1, h⟩ (Nat.succ_ne_zero n) u l) n h

theorem flushed (t : Fin cfg0.N) (hf : (cfg0.win 2).flush t = true) :
    (dats m 0 c).flushed 2 t = ((cfg0.win 2).blk t).view.read (Elt Ideal) (ker m c) := by
  have hN : cfg0.N = 8 := N_0
  have h7 : t.val = 7 := by have := (flush0_2 t).mp hf; have := t.isLt; omega
  rw [Cert.Kernel3Ideal.Value.flushed2]
  funext j
  obtain ⟨u, l, rfl⟩ : ∃ (u : Fin 1024) (l : Fin 1024), j = ix2 u l := ⟨j 0, j 1, eq_ix2 j⟩
  refine (outs m c u l t.val t.isLt).trans ?_
  rw [h7, sum_rowTerm, View.read_apply]
  show ker m c (ix2 u l) = _
  congr 1
  funext a
  apply Fin.ext
  match a with
  | ⟨0, _⟩ => show u.val = win0_2.index t 0 * 1024 + 1 * u.val; rw [(index2 t).1]; omega
  | ⟨1, _⟩ => show l.val = win0_2.index t 1 * 1024 + 1 * l.val; rw [(index2 t).2]; omega

theorem final : (dats m 0 c).arrAt 2 cfg0.N = ker m c :=
  (dats m 0 c).arrAt_eq_of_cover 2 (ker m c) (flushed m c) fun i => by
    have hN : cfg0.N = 8 := N_0
    have h0 : (i 0 : Nat) < 1024 := (i 0).isLt
    have h1 : (i 1 : Nat) < 1024 := (i 1).isLt
    obtain ⟨t, ht⟩ : ∃ t : Fin cfg0.N, t.val = 7 := ⟨⟨7, by omega⟩, rfl⟩
    refine ⟨t, (flush0_2 t).mpr (by omega), ?_⟩
    show i ∈ ((View.whole main_v0).slice (win0_2.rect t)).set
    rw [View.set_slice_whole, Rect.mem_set_unit]
    intro a
    match a with
    | ⟨0, _⟩ =>
      show win0_2.index t 0 * 1024 ≤ (i 0 : Nat) ∧ (i 0 : Nat) < win0_2.index t 0 * 1024 + 1024
      rw [(index2 t).1]; omega
    | ⟨1, _⟩ =>
      show win0_2.index t 1 * 1024 ≤ (i 1 : Nat) ∧ (i 1 : Nat) < win0_2.index t 1 * 1024 + 1024
      rw [(index2 t).2]; omega

/-- The whole run: the result in closed form, the arguments unchanged. -/
theorem kernel_run (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = ker m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (final m c), (h c).2⟩) (Cert.Kernel3Ideal.Value.run_blocks m ρ)

end Kernel

section Reference

open Cert.Weight Cert.Reference3Ideal Cert.Reference3Ideal.Gen Idealize.ShloMosaic Idealize.ShloMosaic.TcCoe Idealize.SL.Sem

variable (m : (ℓ : Loc nD τ sig) → Buf (Elt Ideal) ℓ)

/-- The reference's result on device `c`. -/
def ref (c : Dev nD) : (⟨2, ![1024, 1024]⟩ : Shape).Idx → EReal :=
  product (m ((c.tc : Thread nD τ).loc main_arg0)) (m ((c.tc : Thread nD τ).loc main_arg2))

theorem reference_run (ρ : Dev nD → PrngReg) :
    θ_run (defs (F := Ideal)) (onTc (τ := τ) (main (F := Ideal))) ⟨m, fun _ => 0, ρ⟩ fun r => ∀ c : Dev nD,
      r.2.mem ((c.tc : Thread nD τ).loc main_v3) = ref m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun _ h c => ⟨(h c).1.trans ?_, (h c).2⟩) (Cert.Reference3Ideal.Value.run m ρ)
  funext j
  obtain ⟨u, l, rfl⟩ : ∃ (u : Fin 1024) (l : Fin 1024), j = ix2 u l := ⟨j 0, j 1, eq_ix2 j⟩
  pointwise [ref, product]
  exact Finset.sum_congr rfl fun _ _ => mul_comm _ _

end Reference

end Cert.Weight3
-- ==== Proof.Weight4.lean ====
/-
  A product of f32 rows with a bf16 cotangent: the kernel's run and the reference's, both read down to the product over the rows.
-/
module

public import proofs.«01_k».proof.Proof.Gen.Kernel4Ideal.Value
public import proofs.«01_k».proof.Proof.Gen.Reference4Ideal.Run
public import proofs.«01_k».proof.Proof.Weight

@[expose] public section

noncomputable section

namespace Cert.Weight4

section Kernel

open Cert.Weight Cert.Kernel4Ideal Cert.Kernel4Ideal.Gen Idealize.ShloMosaic Idealize.ShloMosaic.TcCoe Idealize.SL.Sem

theorem share_apply (a : FVec Ideal S1024x1024 .f32) (b : FVec Ideal S1024x1024 .bf16) (u : Fin 1024) (l : Fin 1024) :
    k0_pay1 (F := Ideal) a b (ix2 u l) = ∑ r : Fin 1024, a (ix2 r u) * b (ix2 r l) := by
  pointwise [k0_pay1]

section Cases

variable (c : Dev nD) (i : grid0.Coords) (a3 : Memref sig .tc .vmem S1024x1024 .f32) (h3 : a3.IsWhole)
  (a4 : Memref sig .tc .vmem S1024x1024 .bf16) (h4 : a4.IsWhole) (a5 : Memref sig .tc .vmem S1024x1024 .f32) (h5 : a5.IsWhole)
  (a : FVec Ideal S1024x1024 .f32) (b : FVec Ideal S1024x1024 .bf16)

theorem caseA (e0 e1) : out0_A_2 (F := Ideal) c i a3 h3 a4 h4 a5 h5 e0 e1 a b = k0_pay1 (F := Ideal) a b := by
  unfold out0_A_2
  rw [View.read_writes_eq_canon _ _ _ (fun y => cover0_A_2 (y := y) ..)]
  unfold kernelRun0_A
  dsimp only
  sl_unfold_words
  rw [View.canon_unit_zero zeros]
  simp only [View.readAt_eq_ld, h3.read_unread, h4.read_unread, View.ld_unit_zero (S := S1024x1024) zeros]

theorem caseB (e0 e1) (v : FVec Ideal S1024x1024 .f32) :
    out0_B_2 (F := Ideal) c i a3 h3 a4 h4 a5 h5 e0 e1 a b v = addf v (k0_pay1 (F := Ideal) a b) := by
  unfold out0_B_2
  rw [View.read_writes_eq_canon _ _ _ (fun y => cover0_B_2 (y := y) ..)]
  unfold kernelRun0_B
  dsimp only
  sl_unfold_words
  rw [View.canon_unit_zero zeros]
  unfold k0_pay2
  simp only [View.readAt_eq_ld, h3.read_unread, h4.read_unread, h5.read_unread, View.ld_unit_zero (S := S1024x1024) zeros, shapeCast_self]

end Cases

variable (m : (ℓ : Loc nD τ sig) → Buf (Elt Ideal) ℓ) (c : Dev nD)

theorem index0 : ∀ t : Fin cfg0.N, win0_0.index t 0 = t.val ∧ win0_0.index t 1 = 0 := by decide +kernel
theorem index1 : ∀ t : Fin cfg0.N, win0_1.index t 0 = t.val ∧ win0_1.index t 1 = 0 := by decide +kernel
theorem index2 : ∀ t : Fin cfg0.N, win0_2.index t 0 = 0 ∧ win0_2.index t 1 = 0 := by decide +kernel

theorem blk0 (t : Fin cfg0.N) (r : Fin 1024) (l : Fin 1024) (h : 1024 * t.val + r.val < 8192) :
    (iblk m c 0 t : FVec Ideal S1024x1024 .f32) (ix2 r l) = m ((c : Thread nD τ).loc main_arg0) (ix2 ⟨1024 * t.val + r.val, h⟩ l) := by
  unfold iblk
  rw [View.read_apply]
  show V m c main_arg0 _ = m (c.tc.loc main_arg0) _
  rw [V_main_arg0]
  congr 1
  funext a
  apply Fin.ext
  match a with
  | ⟨0, _⟩ => show win0_0.index t 0 * 1024 + 1 * r.val = 1024 * t.val + r.val; rw [(index0 t).1]; omega
  | ⟨1, _⟩ => show win0_0.index t 1 * 1024 + 1 * l.val = l.val; rw [(index0 t).2]; omega

theorem blk1 (t : Fin cfg0.N) (r l : Fin 1024) (h : 1024 * t.val + r.val < 8192) :
    (iblk m c 1 t : FVec Ideal S1024x1024 .bf16) (ix2 r l) = m ((c : Thread nD τ).loc main_arg2) (ix2 ⟨1024 * t.val + r.val, h⟩ l) := by
  unfold iblk
  rw [View.read_apply]
  show V m c main_arg2 _ = m (c.tc.loc main_arg2) _
  rw [V_main_arg2]
  congr 1
  funext a
  apply Fin.ext
  match a with
  | ⟨0, _⟩ => show win0_1.index t 0 * 1024 + 1 * r.val = 1024 * t.val + r.val; rw [(index1 t).1]; omega
  | ⟨1, _⟩ => show win0_1.index t 1 * 1024 + 1 * l.val = l.val; rw [(index1 t).2]; omega

/-- The kernel's result on device `c`, as a function of the arrays it starts from. -/
def ker : (⟨2, ![1024, 1024]⟩ : Shape).Idx → EReal :=
  product (m ((c : Thread nD τ).loc main_arg0)) (m ((c : Thread nD τ).loc main_arg2))

abbrev term (u : Fin 1024) (l : Fin 1024) : ℕ → EReal :=
  rowTerm (m ((c : Thread nD τ).loc main_arg0)) (m ((c : Thread nD τ).loc main_arg2)) u l

theorem share_blocks (t : Fin cfg0.N) (u : Fin 1024) (l : Fin 1024) :
    k0_pay1 (F := Ideal) (iblk m c 0 t) (iblk m c 1 t) (ix2 u l) = ∑ r : Fin 1024, term m c u l (1024 * t.val + r.val) := by
  have row : ∀ r : Fin 1024, 1024 * t.val + r.val < 8192 := fun r => by
    have := t.isLt; have : cfg0.N = 8 := N_0; omega
  rw [share_apply]
  refine Finset.sum_congr rfl fun r _ => ?_
  rw [term, rowTerm, dif_pos (row r), blk0 m c t r u (row r), blk1 m c t r l (row r)]

theorem first (t : Fin cfg0.N) (h : t.val = 0) (u : Fin 1024) (l : Fin 1024) :
    outsAt0 m c t.val t.isLt (ix2 u l) = ∑ r : Fin 1024, term m c u l (1024 * t.val + r.val) := by
  rw [outsAt0_A m c t (by omega) (by omega), ← share_blocks m c t u l]
  exact congrFun (caseA ..) _

theorem later (t : Fin cfg0.N) (h : t.val ≠ 0) (u : Fin 1024) (l : Fin 1024) :
    outsAt0 m c t.val t.isLt (ix2 u l) = outsAt0 m c (t.val - 1) (Nat.lt_of_le_of_lt (Nat.sub_le _ _) t.isLt) (ix2 u l)
      + ∑ r : Fin 1024, term m c u l (1024 * t.val + r.val) := by
  have hN : cfg0.N = 8 := N_0
  have := t.isLt
  rw [outsAt0_B m c t (by omega) (by omega), ← share_blocks m c t u l]
  exact congrFun (caseB ..) _

theorem outs (u : Fin 1024) (l : Fin 1024) (n : ℕ) (h : n < cfg0.N) :
    outsAt0 m c n h (ix2 u l) = ∑ t ∈ Finset.range (n + 1), ∑ r : Fin 1024, term m c u l (1024 * t + r.val) :=
  accumulate (fun n h => outsAt0 m c n h (ix2 u l)) (fun t => ∑ r : Fin 1024, term m c u l (1024 * t + r.val))
    (fun h => first m c ⟨0, h⟩ rfl u l) (fun n h => later m c ⟨n + 1, h⟩ (Nat.succ_ne_zero n) u l) n h

theorem flushed (t : Fin cfg0.N) (hf : (cfg0.win 2).flush t = true) :
    (dats m 0 c).flushed 2 t = ((cfg0.win 2).blk t).view.read (Elt Ideal) (ker m c) := by
  have hN : cfg0.N = 8 := N_0
  have h7 : t.val = 7 := by have := (flush0_2 t).mp hf; have := t.isLt; omega
  rw [Cert.Kernel4Ideal.Value.flushed2]
  funext j
  obtain ⟨u, l, rfl⟩ : ∃ (u : Fin 1024) (l : Fin 1024), j = ix2 u l := ⟨j 0, j 1, eq_ix2 j⟩
  refine (outs m c u l t.val t.isLt).trans ?_
  rw [h7, sum_rowTerm, View.read_apply]
  show ker m c (ix2 u l) = _
  congr 1
  funext a
  apply Fin.ext
  match a with
  | ⟨0, _⟩ => show u.val = win0_2.index t 0 * 1024 + 1 * u.val; rw [(index2 t).1]; omega
  | ⟨1, _⟩ => show l.val = win0_2.index t 1 * 1024 + 1 * l.val; rw [(index2 t).2]; omega

theorem final : (dats m 0 c).arrAt 2 cfg0.N = ker m c :=
  (dats m 0 c).arrAt_eq_of_cover 2 (ker m c) (flushed m c) fun i => by
    have hN : cfg0.N = 8 := N_0
    have h0 : (i 0 : Nat) < 1024 := (i 0).isLt
    have h1 : (i 1 : Nat) < 1024 := (i 1).isLt
    obtain ⟨t, ht⟩ : ∃ t : Fin cfg0.N, t.val = 7 := ⟨⟨7, by omega⟩, rfl⟩
    refine ⟨t, (flush0_2 t).mpr (by omega), ?_⟩
    show i ∈ ((View.whole main_v0).slice (win0_2.rect t)).set
    rw [View.set_slice_whole, Rect.mem_set_unit]
    intro a
    match a with
    | ⟨0, _⟩ =>
      show win0_2.index t 0 * 1024 ≤ (i 0 : Nat) ∧ (i 0 : Nat) < win0_2.index t 0 * 1024 + 1024
      rw [(index2 t).1]; omega
    | ⟨1, _⟩ =>
      show win0_2.index t 1 * 1024 ≤ (i 1 : Nat) ∧ (i 1 : Nat) < win0_2.index t 1 * 1024 + 1024
      rw [(index2 t).2]; omega

/-- The whole run: the result in closed form, the arguments unchanged. -/
theorem kernel_run (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = ker m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (final m c), (h c).2⟩) (Cert.Kernel4Ideal.Value.run_blocks m ρ)

end Kernel

section Reference

open Cert.Weight Cert.Reference4Ideal Cert.Reference4Ideal.Gen Idealize.ShloMosaic Idealize.ShloMosaic.TcCoe Idealize.SL.Sem

variable (m : (ℓ : Loc nD τ sig) → Buf (Elt Ideal) ℓ)

/-- The reference's result on device `c`. -/
def ref (c : Dev nD) : (⟨2, ![1024, 1024]⟩ : Shape).Idx → EReal :=
  product (m ((c.tc : Thread nD τ).loc main_arg0)) (m ((c.tc : Thread nD τ).loc main_arg2))

theorem reference_run (ρ : Dev nD → PrngReg) :
    θ_run (defs (F := Ideal)) (onTc (τ := τ) (main (F := Ideal))) ⟨m, fun _ => 0, ρ⟩ fun r => ∀ c : Dev nD,
      r.2.mem ((c.tc : Thread nD τ).loc main_v3) = ref m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun _ h c => ⟨(h c).1.trans ?_, (h c).2⟩) (Cert.Reference4Ideal.Value.run m ρ)
  funext j
  obtain ⟨u, l, rfl⟩ : ∃ (u : Fin 1024) (l : Fin 1024), j = ix2 u l := ⟨j 0, j 1, eq_ix2 j⟩
  pointwise [ref, product]
  exact Finset.sum_congr rfl fun _ _ => mul_comm _ _

end Reference

end Cert.Weight4
-- ==== Proof.Weight5.lean ====
/-
  A product of f32 rows of 256 with a bf16 cotangent: the kernel's run and the reference's, both read down to the product over the rows.
-/
module

public import proofs.«01_k».proof.Proof.Gen.Kernel5Ideal.Value
public import proofs.«01_k».proof.Proof.Gen.Reference5Ideal.Run
public import proofs.«01_k».proof.Proof.Weight

@[expose] public section

noncomputable section

namespace Cert.Weight5

section Kernel

open Cert.Weight Cert.Kernel5Ideal Cert.Kernel5Ideal.Gen Idealize.ShloMosaic Idealize.ShloMosaic.TcCoe Idealize.SL.Sem

theorem share_apply (a : FVec Ideal S1024x256 .f32) (b : FVec Ideal S1024x1024 .bf16) (u : Fin 256) (l : Fin 1024) :
    k0_pay1 (F := Ideal) a b (ix2 u l) = ∑ r : Fin 1024, a (ix2 r u) * b (ix2 r l) := by
  pointwise [k0_pay1]

section Cases

variable (c : Dev nD) (i : grid0.Coords) (a3 : Memref sig .tc .vmem S1024x256 .f32) (h3 : a3.IsWhole)
  (a4 : Memref sig .tc .vmem S1024x1024 .bf16) (h4 : a4.IsWhole) (a5 : Memref sig .tc .vmem S256x1024 .f32) (h5 : a5.IsWhole)
  (a : FVec Ideal S1024x256 .f32) (b : FVec Ideal S1024x1024 .bf16)

theorem caseA (e0 e1) : out0_A_2 (F := Ideal) c i a3 h3 a4 h4 a5 h5 e0 e1 a b = k0_pay1 (F := Ideal) a b := by
  unfold out0_A_2
  rw [View.read_writes_eq_canon _ _ _ (fun y => cover0_A_2 (y := y) ..)]
  unfold kernelRun0_A
  dsimp only
  sl_unfold_words
  rw [View.canon_unit_zero zeros]
  simp only [View.readAt_eq_ld, h3.read_unread, h4.read_unread, View.ld_unit_zero (S := S1024x1024) zeros, View.ld_unit_zero (S := S1024x256) zeros, View.ld_unit_zero (S := S256x1024) zeros]

theorem caseB (e0 e1) (v : FVec Ideal S256x1024 .f32) :
    out0_B_2 (F := Ideal) c i a3 h3 a4 h4 a5 h5 e0 e1 a b v = addf v (k0_pay1 (F := Ideal) a b) := by
  unfold out0_B_2
  rw [View.read_writes_eq_canon _ _ _ (fun y => cover0_B_2 (y := y) ..)]
  unfold kernelRun0_B
  dsimp only
  sl_unfold_words
  rw [View.canon_unit_zero zeros]
  unfold k0_pay2
  simp only [View.readAt_eq_ld, h3.read_unread, h4.read_unread, h5.read_unread, View.ld_unit_zero (S := S1024x1024) zeros, View.ld_unit_zero (S := S1024x256) zeros, View.ld_unit_zero (S := S256x1024) zeros, shapeCast_self]

end Cases

variable (m : (ℓ : Loc nD τ sig) → Buf (Elt Ideal) ℓ) (c : Dev nD)

theorem index0 : ∀ t : Fin cfg0.N, win0_0.index t 0 = t.val ∧ win0_0.index t 1 = 0 := by decide +kernel
theorem index1 : ∀ t : Fin cfg0.N, win0_1.index t 0 = t.val ∧ win0_1.index t 1 = 0 := by decide +kernel
theorem index2 : ∀ t : Fin cfg0.N, win0_2.index t 0 = 0 ∧ win0_2.index t 1 = 0 := by decide +kernel

theorem blk0 (t : Fin cfg0.N) (r : Fin 1024) (l : Fin 256) (h : 1024 * t.val + r.val < 8192) :
    (iblk m c 0 t : FVec Ideal S1024x256 .f32) (ix2 r l) = m ((c : Thread nD τ).loc main_arg0) (ix2 ⟨1024 * t.val + r.val, h⟩ l) := by
  unfold iblk
  rw [View.read_apply]
  show V m c main_arg0 _ = m (c.tc.loc main_arg0) _
  rw [V_main_arg0]
  congr 1
  funext a
  apply Fin.ext
  match a with
  | ⟨0, _⟩ => show win0_0.index t 0 * 1024 + 1 * r.val = 1024 * t.val + r.val; rw [(index0 t).1]; omega
  | ⟨1, _⟩ => show win0_0.index t 1 * 256 + 1 * l.val = l.val; rw [(index0 t).2]; omega

theorem blk1 (t : Fin cfg0.N) (r l : Fin 1024) (h : 1024 * t.val + r.val < 8192) :
    (iblk m c 1 t : FVec Ideal S1024x1024 .bf16) (ix2 r l) = m ((c : Thread nD τ).loc main_arg2) (ix2 ⟨1024 * t.val + r.val, h⟩ l) := by
  unfold iblk
  rw [View.read_apply]
  show V m c main_arg2 _ = m (c.tc.loc main_arg2) _
  rw [V_main_arg2]
  congr 1
  funext a
  apply Fin.ext
  match a with
  | ⟨0, _⟩ => show win0_1.index t 0 * 1024 + 1 * r.val = 1024 * t.val + r.val; rw [(index1 t).1]; omega
  | ⟨1, _⟩ => show win0_1.index t 1 * 1024 + 1 * l.val = l.val; rw [(index1 t).2]; omega

/-- The kernel's result on device `c`, as a function of the arrays it starts from. -/
def ker : (⟨2, ![256, 1024]⟩ : Shape).Idx → EReal :=
  product (m ((c : Thread nD τ).loc main_arg0)) (m ((c : Thread nD τ).loc main_arg2))

abbrev term (u : Fin 256) (l : Fin 1024) : ℕ → EReal :=
  rowTerm (m ((c : Thread nD τ).loc main_arg0)) (m ((c : Thread nD τ).loc main_arg2)) u l

theorem share_blocks (t : Fin cfg0.N) (u : Fin 256) (l : Fin 1024) :
    k0_pay1 (F := Ideal) (iblk m c 0 t) (iblk m c 1 t) (ix2 u l) = ∑ r : Fin 1024, term m c u l (1024 * t.val + r.val) := by
  have row : ∀ r : Fin 1024, 1024 * t.val + r.val < 8192 := fun r => by
    have := t.isLt; have : cfg0.N = 8 := N_0; omega
  rw [share_apply]
  refine Finset.sum_congr rfl fun r _ => ?_
  rw [term, rowTerm, dif_pos (row r), blk0 m c t r u (row r), blk1 m c t r l (row r)]

theorem first (t : Fin cfg0.N) (h : t.val = 0) (u : Fin 256) (l : Fin 1024) :
    outsAt0 m c t.val t.isLt (ix2 u l) = ∑ r : Fin 1024, term m c u l (1024 * t.val + r.val) := by
  rw [outsAt0_A m c t (by omega) (by omega), ← share_blocks m c t u l]
  exact congrFun (caseA ..) _

theorem later (t : Fin cfg0.N) (h : t.val ≠ 0) (u : Fin 256) (l : Fin 1024) :
    outsAt0 m c t.val t.isLt (ix2 u l) = outsAt0 m c (t.val - 1) (Nat.lt_of_le_of_lt (Nat.sub_le _ _) t.isLt) (ix2 u l)
      + ∑ r : Fin 1024, term m c u l (1024 * t.val + r.val) := by
  have hN : cfg0.N = 8 := N_0
  have := t.isLt
  rw [outsAt0_B m c t (by omega) (by omega), ← share_blocks m c t u l]
  exact congrFun (caseB ..) _

theorem outs (u : Fin 256) (l : Fin 1024) (n : ℕ) (h : n < cfg0.N) :
    outsAt0 m c n h (ix2 u l) = ∑ t ∈ Finset.range (n + 1), ∑ r : Fin 1024, term m c u l (1024 * t + r.val) :=
  accumulate (fun n h => outsAt0 m c n h (ix2 u l)) (fun t => ∑ r : Fin 1024, term m c u l (1024 * t + r.val))
    (fun h => first m c ⟨0, h⟩ rfl u l) (fun n h => later m c ⟨n + 1, h⟩ (Nat.succ_ne_zero n) u l) n h

theorem flushed (t : Fin cfg0.N) (hf : (cfg0.win 2).flush t = true) :
    (dats m 0 c).flushed 2 t = ((cfg0.win 2).blk t).view.read (Elt Ideal) (ker m c) := by
  have hN : cfg0.N = 8 := N_0
  have h7 : t.val = 7 := by have := (flush0_2 t).mp hf; have := t.isLt; omega
  rw [Cert.Kernel5Ideal.Value.flushed2]
  funext j
  obtain ⟨u, l, rfl⟩ : ∃ (u : Fin 256) (l : Fin 1024), j = ix2 u l := ⟨j 0, j 1, eq_ix2 j⟩
  refine (outs m c u l t.val t.isLt).trans ?_
  rw [h7, sum_rowTerm, View.read_apply]
  show ker m c (ix2 u l) = _
  congr 1
  funext a
  apply Fin.ext
  match a with
  | ⟨0, _⟩ => show u.val = win0_2.index t 0 * 256 + 1 * u.val; rw [(index2 t).1]; omega
  | ⟨1, _⟩ => show l.val = win0_2.index t 1 * 1024 + 1 * l.val; rw [(index2 t).2]; omega

theorem final : (dats m 0 c).arrAt 2 cfg0.N = ker m c :=
  (dats m 0 c).arrAt_eq_of_cover 2 (ker m c) (flushed m c) fun i => by
    have hN : cfg0.N = 8 := N_0
    have h0 : (i 0 : Nat) < 256 := (i 0).isLt
    have h1 : (i 1 : Nat) < 1024 := (i 1).isLt
    obtain ⟨t, ht⟩ : ∃ t : Fin cfg0.N, t.val = 7 := ⟨⟨7, by omega⟩, rfl⟩
    refine ⟨t, (flush0_2 t).mpr (by omega), ?_⟩
    show i ∈ ((View.whole main_v0).slice (win0_2.rect t)).set
    rw [View.set_slice_whole, Rect.mem_set_unit]
    intro a
    match a with
    | ⟨0, _⟩ =>
      show win0_2.index t 0 * 256 ≤ (i 0 : Nat) ∧ (i 0 : Nat) < win0_2.index t 0 * 256 + 256
      rw [(index2 t).1]; omega
    | ⟨1, _⟩ =>
      show win0_2.index t 1 * 1024 ≤ (i 1 : Nat) ∧ (i 1 : Nat) < win0_2.index t 1 * 1024 + 1024
      rw [(index2 t).2]; omega

/-- The whole run: the result in closed form, the arguments unchanged. -/
theorem kernel_run (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = ker m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (final m c), (h c).2⟩) (Cert.Kernel5Ideal.Value.run_blocks m ρ)

end Kernel

section Reference

open Cert.Weight Cert.Reference5Ideal Cert.Reference5Ideal.Gen Idealize.ShloMosaic Idealize.ShloMosaic.TcCoe Idealize.SL.Sem

variable (m : (ℓ : Loc nD τ sig) → Buf (Elt Ideal) ℓ)

/-- The reference's result on device `c`. -/
def ref (c : Dev nD) : (⟨2, ![256, 1024]⟩ : Shape).Idx → EReal :=
  product (m ((c.tc : Thread nD τ).loc main_arg0)) (m ((c.tc : Thread nD τ).loc main_arg2))

theorem reference_run (ρ : Dev nD → PrngReg) :
    θ_run (defs (F := Ideal)) (onTc (τ := τ) (main (F := Ideal))) ⟨m, fun _ => 0, ρ⟩ fun r => ∀ c : Dev nD,
      r.2.mem ((c.tc : Thread nD τ).loc main_v3) = ref m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun _ h c => ⟨(h c).1.trans ?_, (h c).2⟩) (Cert.Reference5Ideal.Value.run m ρ)
  funext j
  obtain ⟨u, l, rfl⟩ : ∃ (u : Fin 256) (l : Fin 1024), j = ix2 u l := ⟨j 0, j 1, eq_ix2 j⟩
  pointwise [ref, product]
  exact Finset.sum_congr rfl fun _ _ => mul_comm _ _

end Reference

end Cert.Weight5
-- ==== Proof.RowFormula.lean ====
/-
  The scalars of the training step's other row-by-row calls, and the sum over a device's rows taken block by block.
-/
module

public import proofs.«01_k».proof.Proof.Weight

@[expose] public section

noncomputable section

namespace Cert.RowFormula

open Idealize.ShloMosaic Cert.NormsProj

/-- Row `p`'s term of a sum over the rows, zero past the last row. -/
def termAt (f : Fin 8192 → EReal) (p : ℕ) : EReal := if h : p < 8192 then f ⟨p, h⟩ else 0

theorem sum_termAt (f : Fin 8192 → EReal) (w n : ℕ) (h : w * n = 8192) :
    ∑ t ∈ Finset.range n, ∑ r : Fin w, termAt f (w * t + r.val) = ∑ p : Fin 8192, f p := by
  rw [sum_blocks (termAt f) w n, h, Finset.sum_range]
  exact Finset.sum_congr rfl fun p _ => dif_pos p.isLt

/-- The logistic function as the kernel writes it. -/
def sigmoid (x : EReal) : EReal := Ideal.div 1 (1 + Ideal.exp (-x))

/-- An array of `r` rows of `c`. -/
abbrev Arr (r c : ℕ) : Type := (⟨2, ![r, c]⟩ : Shape).Idx → EReal

/-- A row times a matrix, and a row times its transpose. -/
def times {n : ℕ} (a : Fin n → EReal) (W : Fin n → Fin 1024 → EReal) (l : Fin 1024) : EReal := ∑ k, a k * W k l
def timesT (a : Fin 1024 → EReal) (W : Fin 1024 → Fin 1024 → EReal) (l : Fin 1024) : EReal := ∑ k, a k * W l k

/-- A normalised row times its gain. -/
def normed (x g : Fin 1024 → EReal) (l : Fin 1024) : EReal := x l * scale x * g l

/-- One row's share of a gain's gradient. -/
def gainShare (x t : Fin 1024 → EReal) (l : Fin 1024) : EReal := x l * scale x * t l

/-- The gradient through the per-layer gate: of the gate's argument, of the projection, of the residual. -/
def gateBack (dx pg pp : Fin 1024 → EReal) (l : Fin 1024) : EReal := dx l * pp l * sigmoid (pg l) * (1 - sigmoid (pg l))
def projBack (dx pg : Fin 1024 → EReal) (l : Fin 1024) : EReal := dx l * sigmoid (pg l)
def inputBack (dx pg pp : Fin 1024 → EReal) (W : Fin 1024 → Fin 1024 → EReal) (l : Fin 1024) : EReal :=
  dx l + ∑ k, gateBack dx pg pp k * W l k

/-- The gelu and the silu as the kernel writes them. -/
def gelu (x : EReal) : EReal :=
  Ideal.ofBits .f32 0x3F000000#32 * x * (1 + Ideal.tanh (Ideal.ofBits .f32 0x3F4C422A#32 * (x + Ideal.ofBits .f32 0x3D372713#32 * x * x * x)))
def silu (x : EReal) : EReal := x * sigmoid x

theorem gelu_eq (x : EReal) :
    x * (Ideal.ofBits .f32 0x3F000000#32 * (1 + Ideal.tanh (Ideal.ofBits .f32 0x3F4C422A#32 * (x + Ideal.ofBits .f32 0x3D372713#32 * (x * x * x))))) = gelu x := by
  simp only [gelu, mul_assoc]
  exact mul_left_comm _ _ _

theorem div_coe (a b : ℝ) (h : 0 < b) : Ideal.div (a : EReal) (b : EReal) = ((a / b : ℝ) : EReal) := by
  have hb : (b : EReal) ≠ 0 := by exact_mod_cast h.ne'
  rw [Ideal.div, if_neg hb, div_eq_mul_inv, EReal.coe_mul, EReal.coe_inv]

/-- The derivative of the logistic function, written over the square and over the function's values. -/
theorem sigmoid_slope (x : EReal) :
    Ideal.div 1 ((1 + Ideal.exp (-x)) * (1 + Ideal.exp (-x))) * Ideal.exp (-x) = sigmoid x * (1 - sigmoid x) := by
  unfold sigmoid
  induction x with
  | bot =>
    have e : Ideal.exp (-(⊥ : EReal)) = ⊤ := by rw [EReal.neg_bot]; rfl
    have d : (1 : EReal) + ⊤ = ⊤ := EReal.add_top_of_ne_bot (by decide)
    have z : Ideal.div 1 (⊤ : EReal) = 0 := by
      rw [Ideal.div, if_neg EReal.top_ne_zero, EReal.inv_top, mul_zero]
    rw [e, d, EReal.top_mul_top, z, zero_mul, zero_mul]
  | top =>
    have e : Ideal.exp (-(⊤ : EReal)) = 0 := by rw [EReal.neg_top]; rfl
    have z : Ideal.div 1 (1 : EReal) = 1 := by
      have := div_coe 1 1 one_pos
      simpa using this
    rw [e, add_zero, mul_one, z, mul_zero, one_mul]
    exact (EReal.sub_self (by decide) (by decide)).symm
  | coe r =>
    have e : Ideal.exp (-(r : EReal)) = ((Real.exp (-r) : ℝ) : EReal) := by rw [← EReal.coe_neg]; rfl
    have p := Real.exp_pos (-r)
    have d : (1 : EReal) + ((Real.exp (-r) : ℝ) : EReal) = ((1 + Real.exp (-r) : ℝ) : EReal) := by
      rw [EReal.coe_add, EReal.coe_one]
    have q : 0 < 1 + Real.exp (-r) := by positivity
    have o : (1 : EReal) = ((1 : ℝ) : EReal) := EReal.coe_one.symm
    rw [e, d, ← EReal.coe_mul, o, div_coe _ _ (mul_pos q q), div_coe _ _ q, ← EReal.coe_sub, ← EReal.coe_mul, ← EReal.coe_mul]
    congr 1
    field_simp
    ring

/-- What `x` gets of a cotangent `g` of `silu x`, as the kernel writes it. -/
def siluBack (g x : EReal) : EReal :=
  g * sigmoid x + -(-(x * g * Ideal.div 1 ((1 + Ideal.exp (-x)) * (1 + Ideal.exp (-x)))) * Ideal.exp (-x))

theorem siluBack_eq (g x : EReal) : siluBack g x = g * sigmoid x + x * g * (sigmoid x * (1 - sigmoid x)) := by
  rw [siluBack, neg_mul, neg_neg, mul_assoc _ _ (Ideal.exp (-x)), sigmoid_slope]

/-- The rows the step's forward calls store. -/
def activated (ys u d : Fin 1024 → EReal) (l : Fin 1024) : EReal := gelu (ys l + d l * u l)
def gatedA (ys u s ga d b : Fin 1024 → EReal) (l : Fin 1024) : EReal :=
  activated ys u d l * sigmoid (s l + b l) * silu (ga l)
def gatedB (o ga : Fin 1024 → EReal) (l : Fin 1024) : EReal := o l * silu (ga l)
def residualNorm (x y g : Fin 1024 → EReal) (l : Fin 1024) : EReal := x l + normed y g l

end Cert.RowFormula
-- ==== Proof.InputBackA.lean ====
/-
  The backward step of the first mixer's norm and projections: the kernel's run and the reference's, both read down to the same row formulas.
-/
module

public import proofs.«01_k».proof.Proof.Gen.Kernel6Ideal.Value
public import proofs.«01_k».proof.Proof.Gen.Reference6Ideal.Run
public import proofs.«01_k».proof.Proof.RowFormula

@[expose] public section

noncomputable section

namespace Cert.InputBackA

open Idealize.ShloMosaic Cert.NormsProj Cert.Weight Cert.RowFormula

/-- The residual's gradient along one row, and the row's share of the gain's gradient. -/
def residual (x d du dga g : Fin 1024 → EReal) (wu wga : Fin 1024 → Fin 1024 → EReal) (l : Fin 1024) : EReal :=
  d l + normGrad x (fun k => back du dga wu wga k * g k) l
def gainOf (x du dga : Fin 1024 → EReal) (wu wga : Fin 1024 → Fin 1024 → EReal) (l : Fin 1024) : EReal :=
  gainShare x (back du dga wu wga) l

/-- The gradient of the residual, row by row. -/
def rowsGrad (A0 : Arr 8192 1024) (A1 : Arr 8192 1024) (A2 : Arr 8192 1024) (A3 : Arr 8192 1024) (A4 : Arr 1 1024) (A5 : Arr 1024 2048) : Rows := fun i =>
  residual (fun k => A0 (ix2 (i 0) k)) (fun k => A1 (ix2 (i 0) k)) (fun k => A2 (ix2 (i 0) k)) (fun k => A3 (ix2 (i 0) k)) (fun k => A4 (ix2 0 k)) (fun u k => A5 (ix2 u ⟨k.val, by omega⟩)) (fun u k => A5 (ix2 u ⟨1024 + k.val, by omega⟩)) (i 1)

/-- The gradient of the norm's gain, summed over the rows. -/
def gainGrad (A0 : Arr 8192 1024) (A1 : Arr 8192 1024) (A2 : Arr 8192 1024) (A3 : Arr 8192 1024) (A4 : Arr 1 1024) (A5 : Arr 1024 2048) : Gain := fun i =>
  ∑ p : Fin 8192, gainOf (fun k => A0 (ix2 p k)) (fun k => A2 (ix2 p k)) (fun k => A3 (ix2 p k)) (fun u k => A5 (ix2 u ⟨k.val, by omega⟩)) (fun u k => A5 (ix2 u ⟨1024 + k.val, by omega⟩)) (i 1)

section Kernel

open Cert.Kernel6Ideal Cert.Kernel6Ideal.Gen Idealize.ShloMosaic.TcCoe Idealize.SL.Sem

/-- What a grid point gives output 1. -/
def blockOut0 (x0 : FVec Ideal S512x1024 .f32) (x1 : FVec Ideal S512x1024 .f32) (x2 : FVec Ideal S512x1024 .bf16) (x3 : FVec Ideal S512x1024 .bf16) (x4 : FVec Ideal S1x1024 .f32) (x5 : FVec Ideal S1024x1024 .bf16) (x6 : FVec Ideal S1024x1024 .bf16) : FVec Ideal S512x1024 .f32 :=
  (k0_pay1 (F := Ideal) x0 x1 (k0_pay5 (F := Ideal) x0) (k0_pay6 (F := Ideal) x0) (k0_pay8 (F := Ideal) x2 x3 x4 x5 x6) (k0_pay9 (F := Ideal) x0 x2 x3 x4 x5 x6))

theorem blockOut0_apply (x0 : FVec Ideal S512x1024 .f32) (x1 : FVec Ideal S512x1024 .f32) (x2 : FVec Ideal S512x1024 .bf16) (x3 : FVec Ideal S512x1024 .bf16) (x4 : FVec Ideal S1x1024 .f32) (x5 : FVec Ideal S1024x1024 .bf16) (x6 : FVec Ideal S1024x1024 .bf16) (r : Fin 512) (l : Fin 1024) :
    blockOut0 x0 x1 x2 x3 x4 x5 x6 (ix2 r l) = residual (fun k => x0 (ix2 r k)) (fun k => x1 (ix2 r k)) (fun k => x2 (ix2 r k)) (fun k => x3 (ix2 r k)) (fun k => x4 (ix2 0 k)) (fun u k => x5 (ix2 u k)) (fun u k => x6 (ix2 u k)) l := by
  pointwise [blockOut0, zero_sub, k0_pay1, k0_pay2, k0_pay3, k0_pay4, k0_pay5, k0_pay6, k0_pay7, k0_pay8, k0_pay9, residual, back, normGrad, NormsProj.slope, scale, meanSq, Fin.sum_univ_one, add_assoc]

/-- What a grid point gives output 2. -/
def blockOut1 (x0 : FVec Ideal S512x1024 .f32) (x2 : FVec Ideal S512x1024 .bf16) (x3 : FVec Ideal S512x1024 .bf16) (x5 : FVec Ideal S1024x1024 .bf16) (x6 : FVec Ideal S1024x1024 .bf16) : FVec Ideal S1x1024 .f32 :=
  (k0_pay7 (F := Ideal) x0 x2 x3 x5 x6)

theorem blockOut1_apply (x0 : FVec Ideal S512x1024 .f32) (x2 : FVec Ideal S512x1024 .bf16) (x3 : FVec Ideal S512x1024 .bf16) (x5 : FVec Ideal S1024x1024 .bf16) (x6 : FVec Ideal S1024x1024 .bf16) (l : Fin 1024) :
    blockOut1 x0 x2 x3 x5 x6 (ix2 0 l) = ∑ r : Fin 512, gainOf (fun k => x0 (ix2 r k)) (fun k => x2 (ix2 r k)) (fun k => x3 (ix2 r k)) (fun u k => x5 (ix2 u k)) (fun u k => x6 (ix2 u k)) l := by
  pointwise [blockOut1, zero_sub, k0_pay1, k0_pay2, k0_pay3, k0_pay4, k0_pay5, k0_pay6, k0_pay7, k0_pay8, k0_pay9, gainOf, gainShare, back, scale, meanSq]

section Cases

variable (c : Dev nD) (i : grid0.Coords) (a1 : Memref sig .tc .vmem S512x1024 .f32) (h1 : a1.IsWhole) (a2 : Memref sig .tc .vmem S512x1024 .f32) (h2 : a2.IsWhole) (a3 : Memref sig .tc .vmem S512x1024 .bf16) (h3 : a3.IsWhole) (a4 : Memref sig .tc .vmem S512x1024 .bf16) (h4 : a4.IsWhole) (a5 : Memref sig .tc .vmem S1x1024 .f32) (h5 : a5.IsWhole) (a6 : Memref sig .tc .vmem S1024x1024 .bf16) (h6 : a6.IsWhole) (a7 : Memref sig .tc .vmem S1024x1024 .bf16) (h7 : a7.IsWhole) (a8 : Memref sig .tc .vmem S512x1024 .f32) (h8 : a8.IsWhole) (a9 : Memref sig .tc .vmem S1x1024 .f32) (h9 : a9.IsWhole)
  (x0 : FVec Ideal S512x1024 .f32) (x1 : FVec Ideal S512x1024 .f32) (x2 : FVec Ideal S512x1024 .bf16) (x3 : FVec Ideal S512x1024 .bf16) (x4 : FVec Ideal S1x1024 .f32) (x5 : FVec Ideal S1024x1024 .bf16) (x6 : FVec Ideal S1024x1024 .bf16)

theorem caseA0 (e0 e1) :
    out0_A_7 (F := Ideal) c i a1 h1 a2 h2 a3 h3 a4 h4 a5 h5 a6 h6 a7 h7 a8 h8 a9 h9 e0 e1
      x0 x1 x2 x3 x4 x5 x6 = blockOut0 x0 x1 x2 x3 x4 x5 x6 := by
  unfold out0_A_7
  rw [View.read_writes_eq_canon _ _ _ (fun y => cover0_A_7 (y := y) ..)]
  unfold kernelRun0_A
  dsimp only
  sl_unfold_words
  rw [View.canon_unit_zero zeros]
  simp only [View.readAt_eq_ld, h1.read_unread, h2.read_unread, h3.read_unread, h4.read_unread, h5.read_unread, h6.read_unread, h7.read_unread, View.ld_unit_zero (S := S1024x1024) zeros, View.ld_unit_zero (S := S1x1024) zeros, View.ld_unit_zero (S := S512x1024) zeros]
  rfl

theorem caseB0 (e0 e1) (c1 : FVec Ideal S1x1024 .f32) :
    out0_B_7 (F := Ideal) c i a1 h1 a2 h2 a3 h3 a4 h4 a5 h5 a6 h6 a7 h7 a8 h8 a9 h9 e0 e1
      x0 x1 x2 x3 x4 x5 x6 c1 = blockOut0 x0 x1 x2 x3 x4 x5 x6 := by
  unfold out0_B_7
  rw [View.read_writes_eq_canon _ _ _ (fun y => cover0_B_7 (y := y) ..)]
  unfold kernelRun0_B
  dsimp only
  sl_unfold_words
  rw [View.canon_unit_zero zeros]
  simp only [View.readAt_eq_ld, h1.read_unread, h2.read_unread, h3.read_unread, h4.read_unread, h5.read_unread, h6.read_unread, h7.read_unread, View.ld_unit_zero (S := S1024x1024) zeros, View.ld_unit_zero (S := S1x1024) zeros, View.ld_unit_zero (S := S512x1024) zeros]
  rfl

theorem caseA1 (e0 e1) :
    out0_A_8 (F := Ideal) c i a1 h1 a2 h2 a3 h3 a4 h4 a5 h5 a6 h6 a7 h7 a8 h8 a9 h9 e0 e1
      x0 x1 x2 x3 x4 x5 x6 = blockOut1 x0 x2 x3 x5 x6 := by
  unfold out0_A_8
  rw [View.read_writes_eq_canon _ _ _ (fun y => cover0_A_8 (y := y) ..)]
  unfold kernelRun0_A
  dsimp only
  sl_unfold_words
  rw [View.canon_unit_zero zeros]
  simp only [View.readAt_eq_ld, h1.read_unread, h3.read_unread, h4.read_unread, h6.read_unread, h7.read_unread, View.ld_unit_zero (S := S1024x1024) zeros, View.ld_unit_zero (S := S512x1024) zeros]
  rfl

theorem caseB1 (e0 e1) (c1 : FVec Ideal S1x1024 .f32) :
    out0_B_8 (F := Ideal) c i a1 h1 a2 h2 a3 h3 a4 h4 a5 h5 a6 h6 a7 h7 a8 h8 a9 h9 e0 e1
      x0 x1 x2 x3 x4 x5 x6 c1 = addf c1 (blockOut1 x0 x2 x3 x5 x6) := by
  unfold out0_B_8
  rw [View.read_writes_eq_canon _ _ _ (fun y => cover0_B_8 (y := y) ..)]
  unfold kernelRun0_B
  dsimp only
  sl_unfold_words
  rw [View.canon_unit_zero zeros]
  unfold k0_pay2
  simp only [View.readAt_eq_ld, h1.read_unread, h3.read_unread, h4.read_unread, h6.read_unread, h7.read_unread, h9.read_unread, View.ld_unit_zero (S := S1024x1024) zeros, View.ld_unit_zero (S := S1x1024) zeros, View.ld_unit_zero (S := S512x1024) zeros, shapeCast_self]
  rfl

end Cases

variable (m : (ℓ : Loc nD τ sig) → Buf (Elt Ideal) ℓ) (c : Dev nD)

theorem index0 : ∀ t : Fin cfg0.N, win0_0.index t 0 = t.val ∧ win0_0.index t 1 = 0 := by decide +kernel

theorem blk0 (t : Fin cfg0.N) (r : Fin 512) (k : Fin 1024) (h : 512 * t.val + r.val < 8192) :
    (iblk m c 0 t : FVec Ideal S512x1024 .f32) (ix2 r k) = m ((c : Thread nD τ).loc main_arg0) (ix2 ⟨512 * t.val + r.val, h⟩ k) := by
  unfold iblk
  rw [View.read_apply]
  show V m c main_arg0 _ = _
  refine (congrArg (V m c main_arg0) (?_ : _ = (ix2 ⟨512 * t.val + r.val, h⟩ k : S8192x1024.Idx))).trans ?_
  · funext a
    apply Fin.ext
    match a with
    | ⟨0, _⟩ => show win0_0.index t 0 * 512 + 1 * r.val = 512 * t.val + r.val; rw [(index0 t).1]; omega
    | ⟨1, _⟩ => show win0_0.index t 1 * 1024 + 1 * k.val = k.val; rw [(index0 t).2]; omega
  · rw [V_main_arg0]

theorem index1 : ∀ t : Fin cfg0.N, win0_1.index t 0 = t.val ∧ win0_1.index t 1 = 0 := by decide +kernel

theorem blk1 (t : Fin cfg0.N) (r : Fin 512) (k : Fin 1024) (h : 512 * t.val + r.val < 8192) :
    (iblk m c 1 t : FVec Ideal S512x1024 .f32) (ix2 r k) = m ((c : Thread nD τ).loc main_arg1) (ix2 ⟨512 * t.val + r.val, h⟩ k) := by
  unfold iblk
  rw [View.read_apply]
  show V m c main_arg1 _ = _
  refine (congrArg (V m c main_arg1) (?_ : _ = (ix2 ⟨512 * t.val + r.val, h⟩ k : S8192x1024.Idx))).trans ?_
  · funext a
    apply Fin.ext
    match a with
    | ⟨0, _⟩ => show win0_1.index t 0 * 512 + 1 * r.val = 512 * t.val + r.val; rw [(index1 t).1]; omega
    | ⟨1, _⟩ => show win0_1.index t 1 * 1024 + 1 * k.val = k.val; rw [(index1 t).2]; omega
  · rw [V_main_arg1]

theorem index2 : ∀ t : Fin cfg0.N, win0_2.index t 0 = t.val ∧ win0_2.index t 1 = 0 := by decide +kernel

theorem blk2 (t : Fin cfg0.N) (r : Fin 512) (k : Fin 1024) (h : 512 * t.val + r.val < 8192) :
    (iblk m c 2 t : FVec Ideal S512x1024 .bf16) (ix2 r k) = m ((c : Thread nD τ).loc main_arg2) (ix2 ⟨512 * t.val + r.val, h⟩ k) := by
  unfold iblk
  rw [View.read_apply]
  show V m c main_arg2 _ = _
  refine (congrArg (V m c main_arg2) (?_ : _ = (ix2 ⟨512 * t.val + r.val, h⟩ k : S8192x1024.Idx))).trans ?_
  · funext a
    apply Fin.ext
    match a with
    | ⟨0, _⟩ => show win0_2.index t 0 * 512 + 1 * r.val = 512 * t.val + r.val; rw [(index2 t).1]; omega
    | ⟨1, _⟩ => show win0_2.index t 1 * 1024 + 1 * k.val = k.val; rw [(index2 t).2]; omega
  · rw [V_main_arg2]

theorem index3 : ∀ t : Fin cfg0.N, win0_3.index t 0 = t.val ∧ win0_3.index t 1 = 0 := by decide +kernel

theorem blk3 (t : Fin cfg0.N) (r : Fin 512) (k : Fin 1024) (h : 512 * t.val + r.val < 8192) :
    (iblk m c 3 t : FVec Ideal S512x1024 .bf16) (ix2 r k) = m ((c : Thread nD τ).loc main_arg3) (ix2 ⟨512 * t.val + r.val, h⟩ k) := by
  unfold iblk
  rw [View.read_apply]
  show V m c main_arg3 _ = _
  refine (congrArg (V m c main_arg3) (?_ : _ = (ix2 ⟨512 * t.val + r.val, h⟩ k : S8192x1024.Idx))).trans ?_
  · funext a
    apply Fin.ext
    match a with
    | ⟨0, _⟩ => show win0_3.index t 0 * 512 + 1 * r.val = 512 * t.val + r.val; rw [(index3 t).1]; omega
    | ⟨1, _⟩ => show win0_3.index t 1 * 1024 + 1 * k.val = k.val; rw [(index3 t).2]; omega
  · rw [V_main_arg3]

theorem index4 : ∀ t : Fin cfg0.N, win0_4.index t 0 = 0 ∧ win0_4.index t 1 = 0 := by decide +kernel

theorem blk4 (t : Fin cfg0.N) (k : Fin 1024) :
    (iblk m c 4 t : FVec Ideal S1x1024 .f32) (ix2 0 k) = m ((c : Thread nD τ).loc main_arg4) (ix2 0 k) := by
  unfold iblk
  rw [View.read_apply]
  show V m c main_arg4 _ = _
  refine (congrArg (V m c main_arg4) (?_ : _ = (ix2 0 k : S1x1024.Idx))).trans ?_
  · funext a
    apply Fin.ext
    match a with
    | ⟨0, _⟩ => show win0_4.index t 0 * 1 + 1 * 0 = 0; rw [(index4 t).1]
    | ⟨1, _⟩ => show win0_4.index t 1 * 1024 + 1 * k.val = k.val; rw [(index4 t).2]; omega
  · rw [V_main_arg4]

theorem index5 : ∀ t : Fin cfg0.N, win0_5.index t 0 = 0 ∧ win0_5.index t 1 = 0 := by decide +kernel

theorem blk5 (t : Fin cfg0.N) (u : Fin 1024) (k : Fin 1024) :
    (iblk m c 5 t : FVec Ideal S1024x1024 .bf16) (ix2 u k) = (m ((c : Thread nD τ).loc main_arg5)) (ix2 u ⟨k.val, by omega⟩) := by
  unfold iblk
  rw [View.read_apply]
  show V m c main_v1 _ = _
  refine (congrArg (V m c main_v1) (?_ : _ = (ix2 u k : S1024x1024.Idx))).trans ?_
  · funext a
    apply Fin.ext
    match a with
    | ⟨0, _⟩ => show win0_5.index t 0 * 1024 + 1 * u.val = u.val; rw [(index5 t).1]; omega
    | ⟨1, _⟩ => show win0_5.index t 1 * 1024 + 1 * k.val = k.val; rw [(index5 t).2]; omega
  · entry_read
    pointwise

theorem index6 : ∀ t : Fin cfg0.N, win0_6.index t 0 = 0 ∧ win0_6.index t 1 = 0 := by decide +kernel

theorem blk6 (t : Fin cfg0.N) (u : Fin 1024) (k : Fin 1024) :
    (iblk m c 6 t : FVec Ideal S1024x1024 .bf16) (ix2 u k) = (m ((c : Thread nD τ).loc main_arg5)) (ix2 u ⟨1024 + k.val, by omega⟩) := by
  unfold iblk
  rw [View.read_apply]
  show V m c main_v2 _ = _
  refine (congrArg (V m c main_v2) (?_ : _ = (ix2 u k : S1024x1024.Idx))).trans ?_
  · funext a
    apply Fin.ext
    match a with
    | ⟨0, _⟩ => show win0_6.index t 0 * 1024 + 1 * u.val = u.val; rw [(index6 t).1]; omega
    | ⟨1, _⟩ => show win0_6.index t 1 * 1024 + 1 * k.val = k.val; rw [(index6 t).2]; omega
  · entry_read
    pointwise

theorem point_row (t : Fin cfg0.N) (r : Fin 512) : 512 * t.val + r.val < 8192 := by
  have := t.isLt; have : cfg0.N = 16 := N_0; omega

/-- The kernel's result 1 on device `c`, as a function of the arrays it starts from. -/
def ker0 : Rows :=
  rowsGrad (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

theorem share0 (t : Fin cfg0.N) (r : Fin 512) (l : Fin 1024) :
    blockOut0 (iblk m c 0 t) (iblk m c 1 t) (iblk m c 2 t) (iblk m c 3 t) (iblk m c 4 t) (iblk m c 5 t) (iblk m c 6 t) (ix2 r l) = ker0 m c (ix2 ⟨512 * t.val + r.val, point_row t r⟩ l) := by
  rw [blockOut0_apply]
  simp only [blk0 m c t r _ (point_row t r), blk1 m c t r _ (point_row t r), blk2 m c t r _ (point_row t r), blk3 m c t r _ (point_row t r), blk4, blk5, blk6]
  rfl

/-- The kernel's result 2 on device `c`, as a function of the arrays it starts from. -/
def ker1 : Gain :=
  gainGrad (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

abbrev term1 (l : Fin 1024) : Fin 8192 → EReal := fun p =>
  gainOf (fun k => (m ((c : Thread nD τ).loc main_arg0)) (ix2 p k)) (fun k => (m ((c : Thread nD τ).loc main_arg2)) (ix2 p k)) (fun k => (m ((c : Thread nD τ).loc main_arg3)) (ix2 p k)) (fun u k => (m ((c : Thread nD τ).loc main_arg5)) (ix2 u ⟨k.val, by omega⟩)) (fun u k => (m ((c : Thread nD τ).loc main_arg5)) (ix2 u ⟨1024 + k.val, by omega⟩)) l

theorem share1 (t : Fin cfg0.N) (l : Fin 1024) :
    blockOut1 (iblk m c 0 t) (iblk m c 2 t) (iblk m c 3 t) (iblk m c 5 t) (iblk m c 6 t) (ix2 0 l) = ∑ r : Fin 512, termAt (term1 m c l) (512 * t.val + r.val) := by
  rw [blockOut1_apply]
  refine Finset.sum_congr rfl fun r _ => ?_
  rw [termAt, dif_pos (point_row t r)]
  simp only [blk0 m c t r _ (point_row t r), blk2 m c t r _ (point_row t r), blk3 m c t r _ (point_row t r), blk5, blk6]

theorem index7 : ∀ t : Fin cfg0.N, win0_7.index t 0 = t.val ∧ win0_7.index t 1 = 0 := by decide +kernel

theorem step0 (t : Fin cfg0.N) : (outsAt0 m c t.val t.isLt).1 = blockOut0 (iblk m c 0 t) (iblk m c 1 t) (iblk m c 2 t) (iblk m c 3 t) (iblk m c 4 t) (iblk m c 5 t) (iblk m c 6 t) := by
  have hN : cfg0.N = 16 := N_0
  have := t.isLt
  by_cases h : t.val = 0
  · rw [outsAt0_A m c t (by omega) (by omega)]
    dsimp only
    exact caseA0 ..
  · rw [outsAt0_B m c t (by omega) (by omega)]
    dsimp only
    exact caseB0 ..

theorem flushed0 (t : Fin cfg0.N) : (dats m 0 c).flushed 7 t = ((cfg0.win 7).blk t).view.read (Elt Ideal) (ker0 m c) := by
  rw [Cert.Kernel6Ideal.Value.flushed7, step0]
  funext j
  obtain ⟨r, l, rfl⟩ : ∃ (r : Fin 512) (l : Fin 1024), j = ix2 r l := ⟨j 0, j 1, eq_ix2 j⟩
  refine (share0 m c t r l).trans ?_
  rw [View.read_apply]
  congr 1
  funext a
  apply Fin.ext
  match a with
  | ⟨0, _⟩ => show 512 * t.val + r.val = win0_7.index t 0 * 512 + 1 * r.val; rw [(index7 t).1]; omega
  | ⟨1, _⟩ => show l.val = win0_7.index t 1 * 1024 + 1 * l.val; rw [(index7 t).2]; omega

theorem final0 : (dats m 0 c).arrAt 7 cfg0.N = ker0 m c :=
  (dats m 0 c).arrAt_eq_of_cover 7 (ker0 m c) (fun t _ => flushed0 m c t) fun i => by
    have hN : cfg0.N = 16 := N_0
    have h0 : (i 0 : Nat) < 8192 := (i 0).isLt
    have h1 : (i 1 : Nat) < 1024 := (i 1).isLt
    obtain ⟨t, ht⟩ : ∃ t : Fin cfg0.N, t.val = (i 0 : Nat) / 512 := ⟨⟨(i 0 : Nat) / 512, by omega⟩, rfl⟩
    refine ⟨t, flush0_7 t, ?_⟩
    show i ∈ ((View.whole main_v3_0).slice (win0_7.rect t)).set
    rw [View.set_slice_whole, Rect.mem_set_unit]
    intro a
    match a with
    | ⟨0, _⟩ =>
      show win0_7.index t 0 * 512 ≤ (i 0 : Nat) ∧ (i 0 : Nat) < win0_7.index t 0 * 512 + 512
      rw [(index7 t).1]; omega
    | ⟨1, _⟩ =>
      show win0_7.index t 1 * 1024 ≤ (i 1 : Nat) ∧ (i 1 : Nat) < win0_7.index t 1 * 1024 + 1024
      rw [(index7 t).2]; omega

theorem index8 : ∀ t : Fin cfg0.N, win0_8.index t 0 = 0 ∧ win0_8.index t 1 = 0 := by decide +kernel

theorem first1 (t : Fin cfg0.N) (h : t.val = 0) (l : Fin 1024) :
    (outsAt0 m c t.val t.isLt).2 (ix2 0 l) = ∑ r : Fin 512, termAt (term1 m c l) (512 * t.val + r.val) := by
  rw [outsAt0_A m c t (by omega) (by omega), ← share1 m c t l]
  dsimp only
  exact congrFun (caseA1 ..) _

theorem later1 (t : Fin cfg0.N) (h : t.val ≠ 0) (l : Fin 1024) :
    (outsAt0 m c t.val t.isLt).2 (ix2 0 l) = (outsAt0 m c (t.val - 1) (Nat.lt_of_le_of_lt (Nat.sub_le _ _) t.isLt)).2 (ix2 0 l)
      + ∑ r : Fin 512, termAt (term1 m c l) (512 * t.val + r.val) := by
  have hN : cfg0.N = 16 := N_0
  have := t.isLt
  rw [outsAt0_B m c t (by omega) (by omega), ← share1 m c t l]
  dsimp only
  exact congrFun (caseB1 ..) _

theorem outs1 (l : Fin 1024) (n : ℕ) (h : n < cfg0.N) :
    (outsAt0 m c n h).2 (ix2 0 l) = ∑ t ∈ Finset.range (n + 1), ∑ r : Fin 512, termAt (term1 m c l) (512 * t + r.val) :=
  accumulate (fun n h => (outsAt0 m c n h).2 (ix2 0 l)) (fun t => ∑ r : Fin 512, termAt (term1 m c l) (512 * t + r.val))
    (fun h => first1 m c ⟨0, h⟩ rfl l) (fun n h => later1 m c ⟨n + 1, h⟩ (Nat.succ_ne_zero n) l) n h

theorem flushed1 (t : Fin cfg0.N) (hf : (cfg0.win 8).flush t = true) :
    (dats m 0 c).flushed 8 t = ((cfg0.win 8).blk t).view.read (Elt Ideal) (ker1 m c) := by
  have hN : cfg0.N = 16 := N_0
  have last : t.val = 15 := by have := (flush0_8 t).mp hf; have := t.isLt; omega
  rw [Cert.Kernel6Ideal.Value.flushed8]
  funext j
  obtain ⟨u, l, rfl⟩ : ∃ (u : Fin 1) (l : Fin 1024), j = ix2 u l := ⟨j 0, j 1, eq_ix2 j⟩
  obtain rfl : u = 0 := Subsingleton.elim _ _
  refine (outs1 m c l t.val t.isLt).trans ?_
  rw [last, sum_termAt (term1 m c l) 512 16 rfl, View.read_apply]
  show ker1 m c (ix2 0 l) = _
  congr 1
  funext a
  apply Fin.ext
  match a with
  | ⟨0, _⟩ => show 0 = win0_8.index t 0 * 1 + 1 * 0; rw [(index8 t).1]
  | ⟨1, _⟩ => show l.val = win0_8.index t 1 * 1024 + 1 * l.val; rw [(index8 t).2]; omega

theorem final1 : (dats m 0 c).arrAt 8 cfg0.N = ker1 m c :=
  (dats m 0 c).arrAt_eq_of_cover 8 (ker1 m c) (flushed1 m c) fun i => by
    have hN : cfg0.N = 16 := N_0
    have h0 : (i 0 : Nat) < 1 := (i 0).isLt
    have h1 : (i 1 : Nat) < 1024 := (i 1).isLt
    obtain ⟨t, ht⟩ : ∃ t : Fin cfg0.N, t.val = 15 := ⟨⟨15, by omega⟩, rfl⟩
    refine ⟨t, (flush0_8 t).mpr (by omega), ?_⟩
    show i ∈ ((View.whole main_v3_1).slice (win0_8.rect t)).set
    rw [View.set_slice_whole, Rect.mem_set_unit]
    intro a
    match a with
    | ⟨0, _⟩ =>
      show win0_8.index t 0 * 1 ≤ (i 0 : Nat) ∧ (i 0 : Nat) < win0_8.index t 0 * 1 + 1
      rw [(index8 t).1]; omega
    | ⟨1, _⟩ =>
      show win0_8.index t 1 * 1024 ≤ (i 1 : Nat) ∧ (i 1 : Nat) < win0_8.index t 1 * 1024 + 1024
      rw [(index8 t).2]; omega

/-- The whole run: the results in closed form, the arguments unchanged. -/
theorem kernel_run (ρ : Dev nD → PrngReg) :
    θ_run (defs (F := Ideal)) (onTc (τ := τ) (main (F := Ideal))) ⟨m, fun _ => 0, ρ⟩ fun r => ∀ c : Dev nD,
      r.2.mem ((c.tc : Thread nD τ).loc main_v3_0) = ker0 m c
      ∧ r.2.mem ((c.tc : Thread nD τ).loc main_v3_1) = ker1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (final0 m c), (h c).2.1.trans (final1 m c), (h c).2.2⟩)
    (Cert.Kernel6Ideal.Value.run_blocks m ρ)

end Kernel

section Reference

open Cert.Reference6Ideal Cert.Reference6Ideal.Gen Idealize.ShloMosaic.TcCoe Idealize.SL.Sem

variable (m : (ℓ : Loc nD τ sig) → Buf (Elt Ideal) ℓ)

/-- The reference's results on device `c`. -/
def ref0 (c : Dev nD) : Rows :=
  rowsGrad (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
def ref1 (c : Dev nD) : Gain :=
  gainGrad (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))

theorem reference_run (ρ : Dev nD → PrngReg) :
    θ_run (defs (F := Ideal)) (onTc (τ := τ) (main (F := Ideal))) ⟨m, fun _ => 0, ρ⟩ fun r => ∀ c : Dev nD,
      r.2.mem ((c.tc : Thread nD τ).loc main_v41) = ref0 m c
      ∧ r.2.mem ((c.tc : Thread nD τ).loc main_v24) = ref1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun _ h c => ⟨(h c).1.trans ?_, (h c).2.1.trans ?_, (h c).2.2⟩)
    (Cert.Reference6Ideal.Value.run m ρ)
  · unfold Cert.Reference6Ideal.Value.res_main_v41
    funext j
    obtain ⟨p, l, rfl⟩ : ∃ (p : Fin 8192) (l : Fin 1024), j = ix2 p l := ⟨j 0, j 1, eq_ix2 j⟩
    pointwise [ref0, rowsGrad, residual, back, normGrad, NormsProj.slope, scale, meanSq, Fin.sum_univ_one, add_assoc]
  · funext j
    obtain ⟨p, l, rfl⟩ : ∃ (p : Fin 1) (l : Fin 1024), j = ix2 p l := ⟨j 0, j 1, eq_ix2 j⟩
    pointwise [ref1, gainGrad, gainOf, gainShare, back, scale, meanSq]

end Reference

end Cert.InputBackA
-- ==== Proof.OutputBackA.lean ====
/-
  The backward step of the first mixer's output norm: the kernel's run and the reference's, both read down to the same row formulas.
-/
module

public import proofs.«01_k».proof.Proof.Gen.Kernel7Ideal.Value
public import proofs.«01_k».proof.Proof.Gen.Reference7Ideal.Run
public import proofs.«01_k».proof.Proof.RowFormula

@[expose] public section

noncomputable section

namespace Cert.OutputBackA

open Idealize.ShloMosaic Cert.NormsProj Cert.Weight Cert.RowFormula

/-- The gated rows' gradient along one row. -/
def backRow (y dx g : Fin 1024 → EReal) (w : Fin 1024 → Fin 1024 → EReal) (l : Fin 1024) : EReal :=
  timesT (normGrad y (fun k => dx k * g k)) w l

/-- What window 0 reads, computed before the call. -/
abbrev src0 (A0 : Arr 8192 1024) (A1 : Arr 8192 1024) (A2 : Arr 1 1024) (A3 : Arr 1024 1024) (p : Fin 8192) (k : Fin 1024) : EReal :=
  ∑ j : Fin 1024, A0 (ix2 p j) * A3 (ix2 j k)

/-- The gradient of the gated rows, row by row. -/
def rowsGrad (A0 : Arr 8192 1024) (A1 : Arr 8192 1024) (A2 : Arr 1 1024) (A3 : Arr 1024 1024) : Rows := fun i =>
  backRow (fun k => src0 A0 A1 A2 A3 (i 0) k) (fun k => A1 (ix2 (i 0) k)) (fun k => A2 (ix2 0 k)) (fun u k => A3 (ix2 u k)) (i 1)

/-- The gradient of the norm's gain, summed over the rows. -/
def gainGrad (A0 : Arr 8192 1024) (A1 : Arr 8192 1024) (A2 : Arr 1 1024) (A3 : Arr 1024 1024) : Gain := fun i =>
  ∑ p : Fin 8192, gainShare (fun k => src0 A0 A1 A2 A3 p k) (fun k => A1 (ix2 p k)) (i 1)

section Kernel

open Cert.Kernel7Ideal Cert.Kernel7Ideal.Gen Idealize.ShloMosaic.TcCoe Idealize.SL.Sem

/-- What a grid point gives output 1. -/
def blockOut0 (x0 : FVec Ideal S512x1024 .f32) (x1 : FVec Ideal S512x1024 .f32) (x2 : FVec Ideal S1x1024 .f32) (x3 : FVec Ideal S1024x1024 .bf16) : FVec Ideal S512x1024 .f32 :=
  (k0_pay7 (F := Ideal) x0 x1 x2 x3)

theorem blockOut0_apply (x0 : FVec Ideal S512x1024 .f32) (x1 : FVec Ideal S512x1024 .f32) (x2 : FVec Ideal S1x1024 .f32) (x3 : FVec Ideal S1024x1024 .bf16) (r : Fin 512) (l : Fin 1024) :
    blockOut0 x0 x1 x2 x3 (ix2 r l) = backRow (fun k => x0 (ix2 r k)) (fun k => x1 (ix2 r k)) (fun k => x2 (ix2 0 k)) (fun u k => x3 (ix2 u k)) l := by
  pointwise [blockOut0, zero_sub, k0_pay1, k0_pay2, k0_pay3, k0_pay4, k0_pay5, k0_pay6, k0_pay7, backRow, timesT, normGrad, NormsProj.slope, scale, meanSq, Fin.sum_univ_one, add_assoc]

/-- What a grid point gives output 2. -/
def blockOut1 (x0 : FVec Ideal S512x1024 .f32) (x1 : FVec Ideal S512x1024 .f32) (x2 : FVec Ideal S1x1024 .f32) : FVec Ideal S512x1024 .bf16 :=
  (k0_pay6 (F := Ideal) x0 x1 x2)

/-- What a grid point gives output 3. -/
def blockOut2 (x0 : FVec Ideal S512x1024 .f32) (x1 : FVec Ideal S512x1024 .f32) : FVec Ideal S1x1024 .f32 :=
  (k0_pay5 (F := Ideal) x0 x1)

theorem blockOut2_apply (x0 : FVec Ideal S512x1024 .f32) (x1 : FVec Ideal S512x1024 .f32) (l : Fin 1024) :
    blockOut2 x0 x1 (ix2 0 l) = ∑ r : Fin 512, gainShare (fun k => x0 (ix2 r k)) (fun k => x1 (ix2 r k)) l := by
  pointwise [blockOut2, zero_sub, k0_pay1, k0_pay2, k0_pay3, k0_pay4, k0_pay5, k0_pay6, k0_pay7, gainShare, scale, meanSq]

section Cases

variable (c : Dev nD) (i : grid0.Coords) (a1 : Memref sig .tc .vmem S512x1024 .f32) (h1 : a1.IsWhole) (a2 : Memref sig .tc .vmem S512x1024 .f32) (h2 : a2.IsWhole) (a3 : Memref sig .tc .vmem S1x1024 .f32) (h3 : a3.IsWhole) (a4 : Memref sig .tc .vmem S1024x1024 .bf16) (h4 : a4.IsWhole) (a5 : Memref sig .tc .vmem S512x1024 .f32) (h5 : a5.IsWhole) (a6 : Memref sig .tc .vmem S512x1024 .bf16) (h6 : a6.IsWhole) (a7 : Memref sig .tc .vmem S1x1024 .f32) (h7 : a7.IsWhole)
  (x0 : FVec Ideal S512x1024 .f32) (x1 : FVec Ideal S512x1024 .f32) (x2 : FVec Ideal S1x1024 .f32) (x3 : FVec Ideal S1024x1024 .bf16)

theorem caseA0 (e0 e1) :
    out0_A_4 (F := Ideal) c i a1 h1 a2 h2 a3 h3 a4 h4 a5 h5 a6 h6 a7 h7 e0 e1
      x0 x1 x2 x3 = blockOut0 x0 x1 x2 x3 := by
  unfold out0_A_4
  rw [View.read_writes_eq_canon _ _ _ (fun y => cover0_A_4 (y := y) ..)]
  unfold kernelRun0_A
  dsimp only
  sl_unfold_words
  rw [View.canon_unit_zero zeros]
  simp only [View.readAt_eq_ld, h1.read_unread, h2.read_unread, h3.read_unread, h4.read_unread, View.ld_unit_zero (S := S1024x1024) zeros, View.ld_unit_zero (S := S1x1024) zeros, View.ld_unit_zero (S := S512x1024) zeros]
  rfl

theorem caseB0 (e0 e1) (c2 : FVec Ideal S1x1024 .f32) :
    out0_B_4 (F := Ideal) c i a1 h1 a2 h2 a3 h3 a4 h4 a5 h5 a6 h6 a7 h7 e0 e1
      x0 x1 x2 x3 c2 = blockOut0 x0 x1 x2 x3 := by
  unfold out0_B_4
  rw [View.read_writes_eq_canon _ _ _ (fun y => cover0_B_4 (y := y) ..)]
  unfold kernelRun0_B
  dsimp only
  sl_unfold_words
  rw [View.canon_unit_zero zeros]
  simp only [View.readAt_eq_ld, h1.read_unread, h2.read_unread, h3.read_unread, h4.read_unread, View.ld_unit_zero (S := S1024x1024) zeros, View.ld_unit_zero (S := S1x1024) zeros, View.ld_unit_zero (S := S512x1024) zeros]
  rfl

theorem caseA2 (e0 e1) :
    out0_A_6 (F := Ideal) c i a1 h1 a2 h2 a3 h3 a4 h4 a5 h5 a6 h6 a7 h7 e0 e1
      x0 x1 x2 x3 = blockOut2 x0 x1 := by
  unfold out0_A_6
  rw [View.read_writes_eq_canon _ _ _ (fun y => cover0_A_6 (y := y) ..)]
  unfold kernelRun0_A
  dsimp only
  sl_unfold_words
  rw [View.canon_unit_zero zeros]
  simp only [View.readAt_eq_ld, h1.read_unread, h2.read_unread, View.ld_unit_zero (S := S512x1024) zeros]
  rfl

theorem caseB2 (e0 e1) (c2 : FVec Ideal S1x1024 .f32) :
    out0_B_6 (F := Ideal) c i a1 h1 a2 h2 a3 h3 a4 h4 a5 h5 a6 h6 a7 h7 e0 e1
      x0 x1 x2 x3 c2 = addf c2 (blockOut2 x0 x1) := by
  unfold out0_B_6
  rw [View.read_writes_eq_canon _ _ _ (fun y => cover0_B_6 (y := y) ..)]
  unfold kernelRun0_B
  dsimp only
  sl_unfold_words
  rw [View.canon_unit_zero zeros]
  unfold k0_pay1
  simp only [View.readAt_eq_ld, h1.read_unread, h2.read_unread, h7.read_unread, View.ld_unit_zero (S := S1x1024) zeros, View.ld_unit_zero (S := S512x1024) zeros, shapeCast_self]
  rfl

end Cases

variable (m : (ℓ : Loc nD τ sig) → Buf (Elt Ideal) ℓ) (c : Dev nD)

theorem index0 : ∀ t : Fin cfg0.N, win0_0.index t 0 = t.val ∧ win0_0.index t 1 = 0 := by decide +kernel

theorem blk0 (t : Fin cfg0.N) (r : Fin 512) (k : Fin 1024) (h : 512 * t.val + r.val < 8192) :
    (iblk m c 0 t : FVec Ideal S512x1024 .f32) (ix2 r k) = src0 (m ((c : Thread nD τ).loc main_arg0)) (m ((c : Thread nD τ).loc main_arg1)) (m ((c : Thread nD τ).loc main_arg2)) (m ((c : Thread nD τ).loc main_arg3)) ⟨512 * t.val + r.val, h⟩ k := by
  unfold iblk
  rw [View.read_apply]
  show V m c main_v2 _ = _
  refine (congrArg (V m c main_v2) (?_ : _ = (ix2 ⟨512 * t.val + r.val, h⟩ k : S8192x1024.Idx))).trans ?_
  · funext a
    apply Fin.ext
    match a with
    | ⟨0, _⟩ => show win0_0.index t 0 * 512 + 1 * r.val = 512 * t.val + r.val; rw [(index0 t).1]; omega
    | ⟨1, _⟩ => show win0_0.index t 1 * 1024 + 1 * k.val = k.val; rw [(index0 t).2]; omega
  · entry_read
    pointwise [src0]

theorem index1 : ∀ t : Fin cfg0.N, win0_1.index t 0 = t.val ∧ win0_1.index t 1 = 0 := by decide +kernel

theorem blk1 (t : Fin cfg0.N) (r : Fin 512) (k : Fin 1024) (h : 512 * t.val + r.val < 8192) :
    (iblk m c 1 t : FVec Ideal S512x1024 .f32) (ix2 r k) = m ((c : Thread nD τ).loc main_arg1) (ix2 ⟨512 * t.val + r.val, h⟩ k) := by
  unfold iblk
  rw [View.read_apply]
  show V m c main_arg1 _ = _
  refine (congrArg (V m c main_arg1) (?_ : _ = (ix2 ⟨512 * t.val + r.val, h⟩ k : S8192x1024.Idx))).trans ?_
  · funext a
    apply Fin.ext
    match a with
    | ⟨0, _⟩ => show win0_1.index t 0 * 512 + 1 * r.val = 512 * t.val + r.val; rw [(index1 t).1]; omega
    | ⟨1, _⟩ => show win0_1.index t 1 * 1024 + 1 * k.val = k.val; rw [(index1 t).2]; omega
  · rw [V_main_arg1]

theorem index2 : ∀ t : Fin cfg0.N, win0_2.index t 0 = 0 ∧ win0_2.index t 1 = 0 := by decide +kernel

theorem blk2 (t : Fin cfg0.N) (k : Fin 1024) :
    (iblk m c 2 t : FVec Ideal S1x1024 .f32) (ix2 0 k) = m ((c : Thread nD τ).loc main_arg2) (ix2 0 k) := by
  unfold iblk
  rw [View.read_apply]
  show V m c main_arg2 _ = _
  refine (congrArg (V m c main_arg2) (?_ : _ = (ix2 0 k : S1x1024.Idx))).trans ?_
  · funext a
    apply Fin.ext
    match a with
    | ⟨0, _⟩ => show win0_2.index t 0 * 1 + 1 * 0 = 0; rw [(index2 t).1]
    | ⟨1, _⟩ => show win0_2.index t 1 * 1024 + 1 * k.val = k.val; rw [(index2 t).2]; omega
  · rw [V_main_arg2]

theorem index3 : ∀ t : Fin cfg0.N, win0_3.index t 0 = 0 ∧ win0_3.index t 1 = 0 := by decide +kernel

theorem blk3 (t : Fin cfg0.N) (u : Fin 1024) (k : Fin 1024) :
    (iblk m c 3 t : FVec Ideal S1024x1024 .bf16) (ix2 u k) = (m ((c : Thread nD τ).loc main_arg3)) (ix2 u k) := by
  unfold iblk
  rw [View.read_apply]
  show V m c main_v0 _ = _
  refine (congrArg (V m c main_v0) (?_ : _ = (ix2 u k : S1024x1024.Idx))).trans ?_
  · funext a
    apply Fin.ext
    match a with
    | ⟨0, _⟩ => show win0_3.index t 0 * 1024 + 1 * u.val = u.val; rw [(index3 t).1]; omega
    | ⟨1, _⟩ => show win0_3.index t 1 * 1024 + 1 * k.val = k.val; rw [(index3 t).2]; omega
  · entry_read
    pointwise

theorem point_row (t : Fin cfg0.N) (r : Fin 512) : 512 * t.val + r.val < 8192 := by
  have := t.isLt; have : cfg0.N = 16 := N_0; omega

/-- The kernel's result 1 on device `c`, as a function of the arrays it starts from. -/
def ker0 : Rows :=
  rowsGrad (m ((c : Thread nD τ).loc main_arg0)) (m ((c : Thread nD τ).loc main_arg1)) (m ((c : Thread nD τ).loc main_arg2)) (m ((c : Thread nD τ).loc main_arg3))

theorem share0 (t : Fin cfg0.N) (r : Fin 512) (l : Fin 1024) :
    blockOut0 (iblk m c 0 t) (iblk m c 1 t) (iblk m c 2 t) (iblk m c 3 t) (ix2 r l) = ker0 m c (ix2 ⟨512 * t.val + r.val, point_row t r⟩ l) := by
  rw [blockOut0_apply]
  simp only [blk0 m c t r _ (point_row t r), blk1 m c t r _ (point_row t r), blk2, blk3]
  rfl

/-- The kernel's result 3 on device `c`, as a function of the arrays it starts from. -/
def ker2 : Gain :=
  gainGrad (m ((c : Thread nD τ).loc main_arg0)) (m ((c : Thread nD τ).loc main_arg1)) (m ((c : Thread nD τ).loc main_arg2)) (m ((c : Thread nD τ).loc main_arg3))

abbrev term2 (l : Fin 1024) : Fin 8192 → EReal := fun p =>
  gainShare (fun k => src0 (m ((c : Thread nD τ).loc main_arg0)) (m ((c : Thread nD τ).loc main_arg1)) (m ((c : Thread nD τ).loc main_arg2)) (m ((c : Thread nD τ).loc main_arg3)) p k) (fun k => (m ((c : Thread nD τ).loc main_arg1)) (ix2 p k)) l

theorem share2 (t : Fin cfg0.N) (l : Fin 1024) :
    blockOut2 (iblk m c 0 t) (iblk m c 1 t) (ix2 0 l) = ∑ r : Fin 512, termAt (term2 m c l) (512 * t.val + r.val) := by
  rw [blockOut2_apply]
  refine Finset.sum_congr rfl fun r _ => ?_
  rw [termAt, dif_pos (point_row t r)]
  simp only [blk0 m c t r _ (point_row t r), blk1 m c t r _ (point_row t r)]

theorem index4 : ∀ t : Fin cfg0.N, win0_4.index t 0 = t.val ∧ win0_4.index t 1 = 0 := by decide +kernel

theorem step0 (t : Fin cfg0.N) : (outsAt0 m c t.val t.isLt).1 = blockOut0 (iblk m c 0 t) (iblk m c 1 t) (iblk m c 2 t) (iblk m c 3 t) := by
  have hN : cfg0.N = 16 := N_0
  have := t.isLt
  by_cases h : t.val = 0
  · rw [outsAt0_A m c t (by omega) (by omega)]
    dsimp only
    exact caseA0 ..
  · rw [outsAt0_B m c t (by omega) (by omega)]
    dsimp only
    exact caseB0 ..

theorem flushed0 (t : Fin cfg0.N) : (dats m 0 c).flushed 4 t = ((cfg0.win 4).blk t).view.read (Elt Ideal) (ker0 m c) := by
  rw [Cert.Kernel7Ideal.Value.flushed4, step0]
  funext j
  obtain ⟨r, l, rfl⟩ : ∃ (r : Fin 512) (l : Fin 1024), j = ix2 r l := ⟨j 0, j 1, eq_ix2 j⟩
  refine (share0 m c t r l).trans ?_
  rw [View.read_apply]
  congr 1
  funext a
  apply Fin.ext
  match a with
  | ⟨0, _⟩ => show 512 * t.val + r.val = win0_4.index t 0 * 512 + 1 * r.val; rw [(index4 t).1]; omega
  | ⟨1, _⟩ => show l.val = win0_4.index t 1 * 1024 + 1 * l.val; rw [(index4 t).2]; omega

theorem final0 : (dats m 0 c).arrAt 4 cfg0.N = ker0 m c :=
  (dats m 0 c).arrAt_eq_of_cover 4 (ker0 m c) (fun t _ => flushed0 m c t) fun i => by
    have hN : cfg0.N = 16 := N_0
    have h0 : (i 0 : Nat) < 8192 := (i 0).isLt
    have h1 : (i 1 : Nat) < 1024 := (i 1).isLt
    obtain ⟨t, ht⟩ : ∃ t : Fin cfg0.N, t.val = (i 0 : Nat) / 512 := ⟨⟨(i 0 : Nat) / 512, by omega⟩, rfl⟩
    refine ⟨t, flush0_4 t, ?_⟩
    show i ∈ ((View.whole main_v3_0).slice (win0_4.rect t)).set
    rw [View.set_slice_whole, Rect.mem_set_unit]
    intro a
    match a with
    | ⟨0, _⟩ =>
      show win0_4.index t 0 * 512 ≤ (i 0 : Nat) ∧ (i 0 : Nat) < win0_4.index t 0 * 512 + 512
      rw [(index4 t).1]; omega
    | ⟨1, _⟩ =>
      show win0_4.index t 1 * 1024 ≤ (i 1 : Nat) ∧ (i 1 : Nat) < win0_4.index t 1 * 1024 + 1024
      rw [(index4 t).2]; omega

theorem index6 : ∀ t : Fin cfg0.N, win0_6.index t 0 = 0 ∧ win0_6.index t 1 = 0 := by decide +kernel

theorem first2 (t : Fin cfg0.N) (h : t.val = 0) (l : Fin 1024) :
    (outsAt0 m c t.val t.isLt).2.2 (ix2 0 l) = ∑ r : Fin 512, termAt (term2 m c l) (512 * t.val + r.val) := by
  rw [outsAt0_A m c t (by omega) (by omega), ← share2 m c t l]
  dsimp only
  exact congrFun (caseA2 ..) _

theorem later2 (t : Fin cfg0.N) (h : t.val ≠ 0) (l : Fin 1024) :
    (outsAt0 m c t.val t.isLt).2.2 (ix2 0 l) = (outsAt0 m c (t.val - 1) (Nat.lt_of_le_of_lt (Nat.sub_le _ _) t.isLt)).2.2 (ix2 0 l)
      + ∑ r : Fin 512, termAt (term2 m c l) (512 * t.val + r.val) := by
  have hN : cfg0.N = 16 := N_0
  have := t.isLt
  rw [outsAt0_B m c t (by omega) (by omega), ← share2 m c t l]
  dsimp only
  exact congrFun (caseB2 ..) _

theorem outs2 (l : Fin 1024) (n : ℕ) (h : n < cfg0.N) :
    (outsAt0 m c n h).2.2 (ix2 0 l) = ∑ t ∈ Finset.range (n + 1), ∑ r : Fin 512, termAt (term2 m c l) (512 * t + r.val) :=
  accumulate (fun n h => (outsAt0 m c n h).2.2 (ix2 0 l)) (fun t => ∑ r : Fin 512, termAt (term2 m c l) (512 * t + r.val))
    (fun h => first2 m c ⟨0, h⟩ rfl l) (fun n h => later2 m c ⟨n + 1, h⟩ (Nat.succ_ne_zero n) l) n h

theorem flushed2 (t : Fin cfg0.N) (hf : (cfg0.win 6).flush t = true) :
    (dats m 0 c).flushed 6 t = ((cfg0.win 6).blk t).view.read (Elt Ideal) (ker2 m c) := by
  have hN : cfg0.N = 16 := N_0
  have last : t.val = 15 := by have := (flush0_6 t).mp hf; have := t.isLt; omega
  rw [Cert.Kernel7Ideal.Value.flushed6]
  funext j
  obtain ⟨u, l, rfl⟩ : ∃ (u : Fin 1) (l : Fin 1024), j = ix2 u l := ⟨j 0, j 1, eq_ix2 j⟩
  obtain rfl : u = 0 := Subsingleton.elim _ _
  refine (outs2 m c l t.val t.isLt).trans ?_
  rw [last, sum_termAt (term2 m c l) 512 16 rfl, View.read_apply]
  show ker2 m c (ix2 0 l) = _
  congr 1
  funext a
  apply Fin.ext
  match a with
  | ⟨0, _⟩ => show 0 = win0_6.index t 0 * 1 + 1 * 0; rw [(index6 t).1]
  | ⟨1, _⟩ => show l.val = win0_6.index t 1 * 1024 + 1 * l.val; rw [(index6 t).2]; omega

theorem final2 : (dats m 0 c).arrAt 6 cfg0.N = ker2 m c :=
  (dats m 0 c).arrAt_eq_of_cover 6 (ker2 m c) (flushed2 m c) fun i => by
    have hN : cfg0.N = 16 := N_0
    have h0 : (i 0 : Nat) < 1 := (i 0).isLt
    have h1 : (i 1 : Nat) < 1024 := (i 1).isLt
    obtain ⟨t, ht⟩ : ∃ t : Fin cfg0.N, t.val = 15 := ⟨⟨15, by omega⟩, rfl⟩
    refine ⟨t, (flush0_6 t).mpr (by omega), ?_⟩
    show i ∈ ((View.whole main_v3_2).slice (win0_6.rect t)).set
    rw [View.set_slice_whole, Rect.mem_set_unit]
    intro a
    match a with
    | ⟨0, _⟩ =>
      show win0_6.index t 0 * 1 ≤ (i 0 : Nat) ∧ (i 0 : Nat) < win0_6.index t 0 * 1 + 1
      rw [(index6 t).1]; omega
    | ⟨1, _⟩ =>
      show win0_6.index t 1 * 1024 ≤ (i 1 : Nat) ∧ (i 1 : Nat) < win0_6.index t 1 * 1024 + 1024
      rw [(index6 t).2]; omega

/-- The whole run: the results in closed form, the arguments unchanged. -/
theorem kernel_run (ρ : Dev nD → PrngReg) :
    θ_run (defs (F := Ideal)) (onTc (τ := τ) (main (F := Ideal))) ⟨m, fun _ => 0, ρ⟩ fun r => ∀ c : Dev nD,
      r.2.mem ((c.tc : Thread nD τ).loc main_v3_0) = ker0 m c
      ∧ r.2.mem ((c.tc : Thread nD τ).loc main_v3_2) = ker2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (final0 m c), (h c).2.2.1.trans (final2 m c), (h c).2.2.2⟩)
    (Cert.Kernel7Ideal.Value.run_blocks m ρ)

end Kernel

section Reference

open Cert.Reference7Ideal Cert.Reference7Ideal.Gen Idealize.ShloMosaic.TcCoe Idealize.SL.Sem

variable (m : (ℓ : Loc nD τ sig) → Buf (Elt Ideal) ℓ)

/-- The reference's results on device `c`. -/
def ref0 (c : Dev nD) : Rows :=
  rowsGrad (m ((c.tc : Thread nD τ).loc main_arg0)) (m ((c.tc : Thread nD τ).loc main_arg1)) (m ((c.tc : Thread nD τ).loc main_arg2)) (m ((c.tc : Thread nD τ).loc main_arg3))
def ref2 (c : Dev nD) : Gain :=
  gainGrad (m ((c.tc : Thread nD τ).loc main_arg0)) (m ((c.tc : Thread nD τ).loc main_arg1)) (m ((c.tc : Thread nD τ).loc main_arg2)) (m ((c.tc : Thread nD τ).loc main_arg3))

theorem reference_run (ρ : Dev nD → PrngReg) :
    θ_run (defs (F := Ideal)) (onTc (τ := τ) (main (F := Ideal))) ⟨m, fun _ => 0, ρ⟩ fun r => ∀ c : Dev nD,
      r.2.mem ((c.tc : Thread nD τ).loc main_v35) = ref0 m c
      ∧ r.2.mem ((c.tc : Thread nD τ).loc main_v18) = ref2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ h c => ⟨(h c).1.trans ?_, (h c).2.1.trans ?_, (h c).2.2⟩)
    (Cert.Reference7Ideal.Value.run m ρ)
  · unfold Cert.Reference7Ideal.Value.res_main_v35
    funext j
    obtain ⟨p, l, rfl⟩ : ∃ (p : Fin 8192) (l : Fin 1024), j = ix2 p l := ⟨j 0, j 1, eq_ix2 j⟩
    pointwise [ref0, rowsGrad, backRow, timesT, normGrad, NormsProj.slope, scale, meanSq, Fin.sum_univ_one, add_assoc, src0]
  · funext j
    obtain ⟨p, l, rfl⟩ : ∃ (p : Fin 1) (l : Fin 1024), j = ix2 p l := ⟨j 0, j 1, eq_ix2 j⟩
    pointwise [ref2, gainGrad, gainShare, scale, meanSq, src0]

end Reference

end Cert.OutputBackA
-- ==== Proof.GateBack.lean ====
/-
  The backward step of the per-layer embedding's gate: the kernel's run and the reference's, both read down to the same row formulas.
-/
module

public import proofs.«01_k».proof.Proof.Gen.Kernel8Ideal.Value
public import proofs.«01_k».proof.Proof.Gen.Reference8Ideal.Run
public import proofs.«01_k».proof.Proof.RowFormula

@[expose] public section

noncomputable section

namespace Cert.GateBack

open Idealize.ShloMosaic Cert.NormsProj Cert.Weight Cert.RowFormula

/-- What window 1 reads, computed before the call. -/
abbrev src1 (A0 : Arr 8192 1024) (A1 : Arr 8192 256) (A2 : Arr 8192 1024) (A3 : Arr 1024 1024) (A4 : Arr 256 1024) (p : Fin 8192) (k : Fin 1024) : EReal :=
  ∑ j : Fin 1024, A0 (ix2 p j) * A3 (ix2 j k)

/-- What window 2 reads, computed before the call. -/
abbrev src2 (A0 : Arr 8192 1024) (A1 : Arr 8192 256) (A2 : Arr 8192 1024) (A3 : Arr 1024 1024) (A4 : Arr 256 1024) (p : Fin 8192) (k : Fin 1024) : EReal :=
  ∑ j : Fin 256, A1 (ix2 p j) * A4 (ix2 j k)

/-- The gradient of the gate's input, row by row. -/
def inputGrad (A0 : Arr 8192 1024) (A1 : Arr 8192 256) (A2 : Arr 8192 1024) (A3 : Arr 1024 1024) (A4 : Arr 256 1024) : Rows := fun i =>
  inputBack (fun k => A2 (ix2 (i 0) k)) (fun k => src1 A0 A1 A2 A3 A4 (i 0) k) (fun k => src2 A0 A1 A2 A3 A4 (i 0) k) (fun u k => A3 (ix2 u k)) (i 1)

/-- The gradient of the gate's argument, row by row. -/
def gateGrad (A0 : Arr 8192 1024) (A1 : Arr 8192 256) (A2 : Arr 8192 1024) (A3 : Arr 1024 1024) (A4 : Arr 256 1024) : Rows := fun i =>
  gateBack (fun k => A2 (ix2 (i 0) k)) (fun k => src1 A0 A1 A2 A3 A4 (i 0) k) (fun k => src2 A0 A1 A2 A3 A4 (i 0) k) (i 1)

/-- The gradient of the projection, row by row. -/
def projGrad (A0 : Arr 8192 1024) (A1 : Arr 8192 256) (A2 : Arr 8192 1024) (A3 : Arr 1024 1024) (A4 : Arr 256 1024) : Rows := fun i =>
  projBack (fun k => A2 (ix2 (i 0) k)) (fun k => src1 A0 A1 A2 A3 A4 (i 0) k) (i 1)

section Kernel

open Cert.Kernel8Ideal Cert.Kernel8Ideal.Gen Idealize.ShloMosaic.TcCoe Idealize.SL.Sem

/-- What a grid point gives output 1. -/
def blockOut0 (x0 : FVec Ideal S512x1024 .f32) (x1 : FVec Ideal S512x1024 .f32) (x2 : FVec Ideal S512x1024 .f32) (x3 : FVec Ideal S1024x1024 .bf16) : FVec Ideal S512x1024 .f32 :=
  (k0_pay3 (F := Ideal) x0 x1 x2 x3)

theorem blockOut0_apply (x0 : FVec Ideal S512x1024 .f32) (x1 : FVec Ideal S512x1024 .f32) (x2 : FVec Ideal S512x1024 .f32) (x3 : FVec Ideal S1024x1024 .bf16) (r : Fin 512) (l : Fin 1024) :
    blockOut0 x0 x1 x2 x3 (ix2 r l) = inputBack (fun k => x0 (ix2 r k)) (fun k => x1 (ix2 r k)) (fun k => x2 (ix2 r k)) (fun u k => x3 (ix2 u k)) l := by
  pointwise [blockOut0, zero_sub, k0_pay1, k0_pay2, k0_pay3, k0_pay4, inputBack, gateBack, sigmoid]

/-- What a grid point gives output 2. -/
def blockOut1 (x0 : FVec Ideal S512x1024 .f32) (x1 : FVec Ideal S512x1024 .f32) (x2 : FVec Ideal S512x1024 .f32) : FVec Ideal S512x1024 .bf16 :=
  (k0_pay2 (F := Ideal) x0 x1 x2)

theorem blockOut1_apply (x0 : FVec Ideal S512x1024 .f32) (x1 : FVec Ideal S512x1024 .f32) (x2 : FVec Ideal S512x1024 .f32) (r : Fin 512) (l : Fin 1024) :
    blockOut1 x0 x1 x2 (ix2 r l) = gateBack (fun k => x0 (ix2 r k)) (fun k => x1 (ix2 r k)) (fun k => x2 (ix2 r k)) l := by
  pointwise [blockOut1, zero_sub, k0_pay1, k0_pay2, k0_pay3, k0_pay4, gateBack, sigmoid]

/-- What a grid point gives output 3. -/
def blockOut2 (x0 : FVec Ideal S512x1024 .f32) (x1 : FVec Ideal S512x1024 .f32) : FVec Ideal S512x1024 .bf16 :=
  (k0_pay4 (F := Ideal) x0 x1)

theorem blockOut2_apply (x0 : FVec Ideal S512x1024 .f32) (x1 : FVec Ideal S512x1024 .f32) (r : Fin 512) (l : Fin 1024) :
    blockOut2 x0 x1 (ix2 r l) = projBack (fun k => x0 (ix2 r k)) (fun k => x1 (ix2 r k)) l := by
  pointwise [blockOut2, zero_sub, k0_pay1, k0_pay2, k0_pay3, k0_pay4, projBack, sigmoid]

theorem case0 (x0 : FVec Ideal S512x1024 .f32) (x1 : FVec Ideal S512x1024 .f32) (x2 : FVec Ideal S512x1024 .f32) (x3 : FVec Ideal S1024x1024 .bf16) :
    out0_4 (F := Ideal) x0 x1 x2 x3 = blockOut0 x0 x1 x2 x3 := by
  unfold out0_4 r0_0 r0_1
  rw [View.canon_unit_zero zeros]
  simp only [View.ld_unit_zero (S := S1024x1024) zeros, View.ld_unit_zero (S := S512x1024) zeros]
  rfl

theorem case1 (x0 : FVec Ideal S512x1024 .f32) (x1 : FVec Ideal S512x1024 .f32) (x2 : FVec Ideal S512x1024 .f32) (x3 : FVec Ideal S1024x1024 .bf16) :
    out0_5 (F := Ideal) x0 x1 x2 x3 = blockOut1 x0 x1 x2 := by
  unfold out0_5 r0_0
  rw [View.canon_unit_zero zeros]
  simp only [View.ld_unit_zero (S := S512x1024) zeros]
  rfl

theorem case2 (x0 : FVec Ideal S512x1024 .f32) (x1 : FVec Ideal S512x1024 .f32) (x2 : FVec Ideal S512x1024 .f32) (x3 : FVec Ideal S1024x1024 .bf16) :
    out0_6 (F := Ideal) x0 x1 x2 x3 = blockOut2 x0 x1 := by
  unfold out0_6 r0_0
  rw [View.canon_unit_zero zeros]
  simp only [View.ld_unit_zero (S := S512x1024) zeros]
  rfl

variable (m : (ℓ : Loc nD τ sig) → Buf (Elt Ideal) ℓ) (c : Dev nD)

theorem index0 : ∀ t : Fin cfg0.N, win0_0.index t 0 = t.val ∧ win0_0.index t 1 = 0 := by decide +kernel

theorem blk0 (t : Fin cfg0.N) (r : Fin 512) (k : Fin 1024) (h : 512 * t.val + r.val < 8192) :
    (iblk m c 0 t : FVec Ideal S512x1024 .f32) (ix2 r k) = m ((c : Thread nD τ).loc main_arg2) (ix2 ⟨512 * t.val + r.val, h⟩ k) := by
  unfold iblk
  rw [View.read_apply]
  show V m c main_arg2 _ = _
  refine (congrArg (V m c main_arg2) (?_ : _ = (ix2 ⟨512 * t.val + r.val, h⟩ k : S8192x1024.Idx))).trans ?_
  · funext a
    apply Fin.ext
    match a with
    | ⟨0, _⟩ => show win0_0.index t 0 * 512 + 1 * r.val = 512 * t.val + r.val; rw [(index0 t).1]; omega
    | ⟨1, _⟩ => show win0_0.index t 1 * 1024 + 1 * k.val = k.val; rw [(index0 t).2]; omega
  · rw [V_main_arg2]

theorem index1 : ∀ t : Fin cfg0.N, win0_1.index t 0 = t.val ∧ win0_1.index t 1 = 0 := by decide +kernel

theorem blk1 (t : Fin cfg0.N) (r : Fin 512) (k : Fin 1024) (h : 512 * t.val + r.val < 8192) :
    (iblk m c 1 t : FVec Ideal S512x1024 .f32) (ix2 r k) = src1 (m ((c : Thread nD τ).loc main_arg0)) (m ((c : Thread nD τ).loc main_arg1)) (m ((c : Thread nD τ).loc main_arg2)) (m ((c : Thread nD τ).loc main_arg3)) (m ((c : Thread nD τ).loc main_arg4)) ⟨512 * t.val + r.val, h⟩ k := by
  unfold iblk
  rw [View.read_apply]
  show V m c main_v3 _ = _
  refine (congrArg (V m c main_v3) (?_ : _ = (ix2 ⟨512 * t.val + r.val, h⟩ k : S8192x1024.Idx))).trans ?_
  · funext a
    apply Fin.ext
    match a with
    | ⟨0, _⟩ => show win0_1.index t 0 * 512 + 1 * r.val = 512 * t.val + r.val; rw [(index1 t).1]; omega
    | ⟨1, _⟩ => show win0_1.index t 1 * 1024 + 1 * k.val = k.val; rw [(index1 t).2]; omega
  · entry_read
    pointwise [src1]

theorem index2 : ∀ t : Fin cfg0.N, win0_2.index t 0 = t.val ∧ win0_2.index t 1 = 0 := by decide +kernel

theorem blk2 (t : Fin cfg0.N) (r : Fin 512) (k : Fin 1024) (h : 512 * t.val + r.val < 8192) :
    (iblk m c 2 t : FVec Ideal S512x1024 .f32) (ix2 r k) = src2 (m ((c : Thread nD τ).loc main_arg0)) (m ((c : Thread nD τ).loc main_arg1)) (m ((c : Thread nD τ).loc main_arg2)) (m ((c : Thread nD τ).loc main_arg3)) (m ((c : Thread nD τ).loc main_arg4)) ⟨512 * t.val + r.val, h⟩ k := by
  unfold iblk
  rw [View.read_apply]
  show V m c main_v5 _ = _
  refine (congrArg (V m c main_v5) (?_ : _ = (ix2 ⟨512 * t.val + r.val, h⟩ k : S8192x1024.Idx))).trans ?_
  · funext a
    apply Fin.ext
    match a with
    | ⟨0, _⟩ => show win0_2.index t 0 * 512 + 1 * r.val = 512 * t.val + r.val; rw [(index2 t).1]; omega
    | ⟨1, _⟩ => show win0_2.index t 1 * 1024 + 1 * k.val = k.val; rw [(index2 t).2]; omega
  · entry_read
    pointwise [src2]

theorem index3 : ∀ t : Fin cfg0.N, win0_3.index t 0 = 0 ∧ win0_3.index t 1 = 0 := by decide +kernel

theorem blk3 (t : Fin cfg0.N) (u : Fin 1024) (k : Fin 1024) :
    (iblk m c 3 t : FVec Ideal S1024x1024 .bf16) (ix2 u k) = (m ((c : Thread nD τ).loc main_arg3)) (ix2 u k) := by
  unfold iblk
  rw [View.read_apply]
  show V m c main_v0 _ = _
  refine (congrArg (V m c main_v0) (?_ : _ = (ix2 u k : S1024x1024.Idx))).trans ?_
  · funext a
    apply Fin.ext
    match a with
    | ⟨0, _⟩ => show win0_3.index t 0 * 1024 + 1 * u.val = u.val; rw [(index3 t).1]; omega
    | ⟨1, _⟩ => show win0_3.index t 1 * 1024 + 1 * k.val = k.val; rw [(index3 t).2]; omega
  · entry_read
    pointwise

theorem point_row (t : Fin cfg0.N) (r : Fin 512) : 512 * t.val + r.val < 8192 := by
  have := t.isLt; have : cfg0.N = 16 := N_0; omega

/-- The kernel's result 1 on device `c`, as a function of the arrays it starts from. -/
def ker0 : Rows :=
  inputGrad (m ((c : Thread nD τ).loc main_arg0)) (m ((c : Thread nD τ).loc main_arg1)) (m ((c : Thread nD τ).loc main_arg2)) (m ((c : Thread nD τ).loc main_arg3)) (m ((c : Thread nD τ).loc main_arg4))

theorem share0 (t : Fin cfg0.N) (r : Fin 512) (l : Fin 1024) :
    blockOut0 (iblk m c 0 t) (iblk m c 1 t) (iblk m c 2 t) (iblk m c 3 t) (ix2 r l) = ker0 m c (ix2 ⟨512 * t.val + r.val, point_row t r⟩ l) := by
  rw [blockOut0_apply]
  simp only [blk0 m c t r _ (point_row t r), blk1 m c t r _ (point_row t r), blk2 m c t r _ (point_row t r), blk3]
  rfl

/-- The kernel's result 2 on device `c`, as a function of the arrays it starts from. -/
def ker1 : Rows :=
  gateGrad (m ((c : Thread nD τ).loc main_arg0)) (m ((c : Thread nD τ).loc main_arg1)) (m ((c : Thread nD τ).loc main_arg2)) (m ((c : Thread nD τ).loc main_arg3)) (m ((c : Thread nD τ).loc main_arg4))

theorem share1 (t : Fin cfg0.N) (r : Fin 512) (l : Fin 1024) :
    blockOut1 (iblk m c 0 t) (iblk m c 1 t) (iblk m c 2 t) (ix2 r l) = ker1 m c (ix2 ⟨512 * t.val + r.val, point_row t r⟩ l) := by
  rw [blockOut1_apply]
  simp only [blk0 m c t r _ (point_row t r), blk1 m c t r _ (point_row t r), blk2 m c t r _ (point_row t r)]
  rfl

/-- The kernel's result 3 on device `c`, as a function of the arrays it starts from. -/
def ker2 : Rows :=
  projGrad (m ((c : Thread nD τ).loc main_arg0)) (m ((c : Thread nD τ).loc main_arg1)) (m ((c : Thread nD τ).loc main_arg2)) (m ((c : Thread nD τ).loc main_arg3)) (m ((c : Thread nD τ).loc main_arg4))

theorem share2 (t : Fin cfg0.N) (r : Fin 512) (l : Fin 1024) :
    blockOut2 (iblk m c 0 t) (iblk m c 1 t) (ix2 r l) = ker2 m c (ix2 ⟨512 * t.val + r.val, point_row t r⟩ l) := by
  rw [blockOut2_apply]
  simp only [blk0 m c t r _ (point_row t r), blk1 m c t r _ (point_row t r)]
  rfl

theorem index4 : ∀ t : Fin cfg0.N, win0_4.index t 0 = t.val ∧ win0_4.index t 1 = 0 := by decide +kernel

theorem flushed0 (t : Fin cfg0.N) : (dats m 0 c).flushed 4 t = ((cfg0.win 4).blk t).view.read (Elt Ideal) (ker0 m c) := by
  rw [Cert.Kernel8Ideal.Value.flushed4, case0]
  funext j
  obtain ⟨r, l, rfl⟩ : ∃ (r : Fin 512) (l : Fin 1024), j = ix2 r l := ⟨j 0, j 1, eq_ix2 j⟩
  refine (share0 m c t r l).trans ?_
  rw [View.read_apply]
  congr 1
  funext a
  apply Fin.ext
  match a with
  | ⟨0, _⟩ => show 512 * t.val + r.val = win0_4.index t 0 * 512 + 1 * r.val; rw [(index4 t).1]; omega
  | ⟨1, _⟩ => show l.val = win0_4.index t 1 * 1024 + 1 * l.val; rw [(index4 t).2]; omega

theorem final0 : (dats m 0 c).arrAt 4 cfg0.N = ker0 m c :=
  (dats m 0 c).arrAt_eq_of_cover 4 (ker0 m c) (fun t _ => flushed0 m c t) fun i => by
    have hN : cfg0.N = 16 := N_0
    have h0 : (i 0 : Nat) < 8192 := (i 0).isLt
    have h1 : (i 1 : Nat) < 1024 := (i 1).isLt
    obtain ⟨t, ht⟩ : ∃ t : Fin cfg0.N, t.val = (i 0 : Nat) / 512 := ⟨⟨(i 0 : Nat) / 512, by omega⟩, rfl⟩
    refine ⟨t, flush0_4 t, ?_⟩
    show i ∈ ((View.whole main_v6_0).slice (win0_4.rect t)).set
    rw [View.set_slice_whole, Rect.mem_set_unit]
    intro a
    match a with
    | ⟨0, _⟩ =>
      show win0_4.index t 0 * 512 ≤ (i 0 : Nat) ∧ (i 0 : Nat) < win0_4.index t 0 * 512 + 512
      rw [(index4 t).1]; omega
    | ⟨1, _⟩ =>
      show win0_4.index t 1 * 1024 ≤ (i 1 : Nat) ∧ (i 1 : Nat) < win0_4.index t 1 * 1024 + 1024
      rw [(index4 t).2]; omega

theorem index5 : ∀ t : Fin cfg0.N, win0_5.index t 0 = t.val ∧ win0_5.index t 1 = 0 := by decide +kernel

theorem flushed1 (t : Fin cfg0.N) : (dats m 0 c).flushed 5 t = ((cfg0.win 5).blk t).view.read (Elt Ideal) (ker1 m c) := by
  rw [Cert.Kernel8Ideal.Value.flushed5, case1]
  funext j
  obtain ⟨r, l, rfl⟩ : ∃ (r : Fin 512) (l : Fin 1024), j = ix2 r l := ⟨j 0, j 1, eq_ix2 j⟩
  refine (share1 m c t r l).trans ?_
  rw [View.read_apply]
  congr 1
  funext a
  apply Fin.ext
  match a with
  | ⟨0, _⟩ => show 512 * t.val + r.val = win0_5.index t 0 * 512 + 1 * r.val; rw [(index5 t).1]; omega
  | ⟨1, _⟩ => show l.val = win0_5.index t 1 * 1024 + 1 * l.val; rw [(index5 t).2]; omega

theorem final1 : (dats m 0 c).arrAt 5 cfg0.N = ker1 m c :=
  (dats m 0 c).arrAt_eq_of_cover 5 (ker1 m c) (fun t _ => flushed1 m c t) fun i => by
    have hN : cfg0.N = 16 := N_0
    have h0 : (i 0 : Nat) < 8192 := (i 0).isLt
    have h1 : (i 1 : Nat) < 1024 := (i 1).isLt
    obtain ⟨t, ht⟩ : ∃ t : Fin cfg0.N, t.val = (i 0 : Nat) / 512 := ⟨⟨(i 0 : Nat) / 512, by omega⟩, rfl⟩
    refine ⟨t, flush0_5 t, ?_⟩
    show i ∈ ((View.whole main_v6_1).slice (win0_5.rect t)).set
    rw [View.set_slice_whole, Rect.mem_set_unit]
    intro a
    match a with
    | ⟨0, _⟩ =>
      show win0_5.index t 0 * 512 ≤ (i 0 : Nat) ∧ (i 0 : Nat) < win0_5.index t 0 * 512 + 512
      rw [(index5 t).1]; omega
    | ⟨1, _⟩ =>
      show win0_5.index t 1 * 1024 ≤ (i 1 : Nat) ∧ (i 1 : Nat) < win0_5.index t 1 * 1024 + 1024
      rw [(index5 t).2]; omega

theorem index6 : ∀ t : Fin cfg0.N, win0_6.index t 0 = t.val ∧ win0_6.index t 1 = 0 := by decide +kernel

theorem flushed2 (t : Fin cfg0.N) : (dats m 0 c).flushed 6 t = ((cfg0.win 6).blk t).view.read (Elt Ideal) (ker2 m c) := by
  rw [Cert.Kernel8Ideal.Value.flushed6, case2]
  funext j
  obtain ⟨r, l, rfl⟩ : ∃ (r : Fin 512) (l : Fin 1024), j = ix2 r l := ⟨j 0, j 1, eq_ix2 j⟩
  refine (share2 m c t r l).trans ?_
  rw [View.read_apply]
  congr 1
  funext a
  apply Fin.ext
  match a with
  | ⟨0, _⟩ => show 512 * t.val + r.val = win0_6.index t 0 * 512 + 1 * r.val; rw [(index6 t).1]; omega
  | ⟨1, _⟩ => show l.val = win0_6.index t 1 * 1024 + 1 * l.val; rw [(index6 t).2]; omega

theorem final2 : (dats m 0 c).arrAt 6 cfg0.N = ker2 m c :=
  (dats m 0 c).arrAt_eq_of_cover 6 (ker2 m c) (fun t _ => flushed2 m c t) fun i => by
    have hN : cfg0.N = 16 := N_0
    have h0 : (i 0 : Nat) < 8192 := (i 0).isLt
    have h1 : (i 1 : Nat) < 1024 := (i 1).isLt
    obtain ⟨t, ht⟩ : ∃ t : Fin cfg0.N, t.val = (i 0 : Nat) / 512 := ⟨⟨(i 0 : Nat) / 512, by omega⟩, rfl⟩
    refine ⟨t, flush0_6 t, ?_⟩
    show i ∈ ((View.whole main_v6_2).slice (win0_6.rect t)).set
    rw [View.set_slice_whole, Rect.mem_set_unit]
    intro a
    match a with
    | ⟨0, _⟩ =>
      show win0_6.index t 0 * 512 ≤ (i 0 : Nat) ∧ (i 0 : Nat) < win0_6.index t 0 * 512 + 512
      rw [(index6 t).1]; omega
    | ⟨1, _⟩ =>
      show win0_6.index t 1 * 1024 ≤ (i 1 : Nat) ∧ (i 1 : Nat) < win0_6.index t 1 * 1024 + 1024
      rw [(index6 t).2]; omega

/-- The whole run: the results in closed form, the arguments unchanged. -/
theorem kernel_run (ρ : Dev nD → PrngReg) :
    θ_run (defs (F := Ideal)) (onTc (τ := τ) (main (F := Ideal))) ⟨m, fun _ => 0, ρ⟩ fun r => ∀ c : Dev nD,
      r.2.mem ((c.tc : Thread nD τ).loc main_v6_0) = ker0 m c
      ∧ r.2.mem ((c.tc : Thread nD τ).loc main_v6_1) = ker1 m c
      ∧ r.2.mem ((c.tc : Thread nD τ).loc main_v6_2) = ker2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (final0 m c), (h c).2.1.trans (final1 m c), (h c).2.2.1.trans (final2 m c), (h c).2.2.2⟩)
    (Cert.Kernel8Ideal.Value.run_blocks m ρ)

end Kernel

section Reference

open Cert.Reference8Ideal Cert.Reference8Ideal.Gen Idealize.ShloMosaic.TcCoe Idealize.SL.Sem

variable (m : (ℓ : Loc nD τ sig) → Buf (Elt Ideal) ℓ)

/-- The reference's results on device `c`. -/
def ref0 (c : Dev nD) : Rows :=
  inputGrad (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
def ref1 (c : Dev nD) : Rows :=
  gateGrad (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
def ref2 (c : Dev nD) : Rows :=
  projGrad (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

theorem reference_run (ρ : Dev nD → PrngReg) :
    θ_run (defs (F := Ideal)) (onTc (τ := τ) (main (F := Ideal))) ⟨m, fun _ => 0, ρ⟩ fun r => ∀ c : Dev nD,
      r.2.mem ((c.tc : Thread nD τ).loc main_v32) = ref0 m c
      ∧ r.2.mem ((c.tc : Thread nD τ).loc main_v33) = ref1 m c
      ∧ r.2.mem ((c.tc : Thread nD τ).loc main_v34) = ref2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun _ h c => ⟨(h c).1.trans ?_, (h c).2.1.trans ?_, (h c).2.2.1.trans ?_, (h c).2.2.2⟩)
    (Cert.Reference8Ideal.Value.run m ρ)
  · funext j
    obtain ⟨p, l, rfl⟩ : ∃ (p : Fin 8192) (l : Fin 1024), j = ix2 p l := ⟨j 0, j 1, eq_ix2 j⟩
    pointwise [ref0, inputGrad, inputBack, gateBack, sigmoid, src1, src2]
    all_goals simp only [mul_assoc]
  · funext j
    obtain ⟨p, l, rfl⟩ : ∃ (p : Fin 8192) (l : Fin 1024), j = ix2 p l := ⟨j 0, j 1, eq_ix2 j⟩
    pointwise [ref1, gateGrad, gateBack, sigmoid, src1, src2]
    all_goals simp only [mul_assoc]
  · funext j
    obtain ⟨p, l, rfl⟩ : ∃ (p : Fin 8192) (l : Fin 1024), j = ix2 p l := ⟨j 0, j 1, eq_ix2 j⟩
    pointwise [ref2, projGrad, projBack, sigmoid, src1]
    exact mul_comm _ _

end Reference

end Cert.GateBack
-- ==== Proof.OutputBackB.lean ====
/-
  The backward step of the second mixer's gate, output projection and norm: the kernel's run and the reference's, both read down to the same row formulas.
-/
module

public import proofs.«01_k».proof.Proof.Gen.Kernel9Ideal.Value
public import proofs.«01_k».proof.Proof.Gen.Reference9Ideal.Run
public import proofs.«01_k».proof.Proof.RowFormula

@[expose] public section

noncomputable section

namespace Cert.OutputBackB

open Idealize.ShloMosaic Cert.NormsProj Cert.Weight Cert.RowFormula

/-- The projected rows' gradient, the gated rows' gradient, and what the gate's two factors get of it, along one row. -/
def outRow (y dx g : Fin 1024 → EReal) (l : Fin 1024) : EReal := normGrad y (fun k => dx k * g k) l
def backRow (y dx g : Fin 1024 → EReal) (w : Fin 1024 → Fin 1024 → EReal) (l : Fin 1024) : EReal := timesT (outRow y dx g) w l
def firstRow (y dx ga g : Fin 1024 → EReal) (w : Fin 1024 → Fin 1024 → EReal) (l : Fin 1024) : EReal :=
  backRow y dx g w l * silu (ga l)
def gateRow (y dx o ga g : Fin 1024 → EReal) (w : Fin 1024 → Fin 1024 → EReal) (l : Fin 1024) : EReal :=
  siluBack (o l * backRow y dx g w l) (ga l)

/-- What window 0 reads, computed before the call. -/
abbrev src0 (A0 : Arr 8192 1024) (A1 : Arr 8192 1024) (A2 : Arr 8192 1024) (A3 : Arr 1 1024) (A4 : Arr 1024 1024) (p : Fin 8192) (k : Fin 1024) : EReal :=
  ∑ j : Fin 1024, gatedB (fun k => A0 (ix2 p k)) (fun k => A1 (ix2 p k)) j * A4 (ix2 j k)

/-- The gradient of the projected rows, row by row. -/
def outGrad (A0 : Arr 8192 1024) (A1 : Arr 8192 1024) (A2 : Arr 8192 1024) (A3 : Arr 1 1024) (A4 : Arr 1024 1024) : Rows := fun i =>
  outRow (fun k => src0 A0 A1 A2 A3 A4 (i 0) k) (fun k => A2 (ix2 (i 0) k)) (fun k => A3 (ix2 0 k)) (i 1)

/-- The gradient of the attention's rows, row by row. -/
def firstGrad (A0 : Arr 8192 1024) (A1 : Arr 8192 1024) (A2 : Arr 8192 1024) (A3 : Arr 1 1024) (A4 : Arr 1024 1024) : Rows := fun i =>
  firstRow (fun k => src0 A0 A1 A2 A3 A4 (i 0) k) (fun k => A2 (ix2 (i 0) k)) (fun k => A1 (ix2 (i 0) k)) (fun k => A3 (ix2 0 k)) (fun u k => A4 (ix2 u k)) (i 1)

/-- The gradient of the gate branch, row by row. -/
def gateGrad (A0 : Arr 8192 1024) (A1 : Arr 8192 1024) (A2 : Arr 8192 1024) (A3 : Arr 1 1024) (A4 : Arr 1024 1024) : Rows := fun i =>
  gateRow (fun k => src0 A0 A1 A2 A3 A4 (i 0) k) (fun k => A2 (ix2 (i 0) k)) (fun k => A0 (ix2 (i 0) k)) (fun k => A1 (ix2 (i 0) k)) (fun k => A3 (ix2 0 k)) (fun u k => A4 (ix2 u k)) (i 1)

/-- The gradient of the norm's gain, summed over the rows. -/
def gainGrad (A0 : Arr 8192 1024) (A1 : Arr 8192 1024) (A2 : Arr 8192 1024) (A3 : Arr 1 1024) (A4 : Arr 1024 1024) : Gain := fun i =>
  ∑ p : Fin 8192, gainShare (fun k => src0 A0 A1 A2 A3 A4 p k) (fun k => A2 (ix2 p k)) (i 1)

section Kernel

open Cert.Kernel9Ideal Cert.Kernel9Ideal.Gen Idealize.ShloMosaic.TcCoe Idealize.SL.Sem

/-- What a grid point gives output 1. -/
def blockOut0 (x0 : FVec Ideal S512x1024 .f32) (x1 : FVec Ideal S512x1024 .f32) (x4 : FVec Ideal S1x1024 .f32) : FVec Ideal S512x1024 .bf16 :=
  (k0_pay10 (F := Ideal) (k0_pay2 (F := Ideal) x0) (k0_pay8 (F := Ideal) x0 x1 x4) (k0_pay9 (F := Ideal) x0 x1 x4))

theorem blockOut0_apply (x0 : FVec Ideal S512x1024 .f32) (x1 : FVec Ideal S512x1024 .f32) (x4 : FVec Ideal S1x1024 .f32) (r : Fin 512) (l : Fin 1024) :
    blockOut0 x0 x1 x4 (ix2 r l) = outRow (fun k => x0 (ix2 r k)) (fun k => x1 (ix2 r k)) (fun k => x4 (ix2 0 k)) l := by
  pointwise [blockOut0, zero_sub, k0_pay1, k0_pay2, k0_pay3, k0_pay4, k0_pay5, k0_pay6, k0_pay7, k0_pay8, k0_pay9, k0_pay10, k0_pay11, k0_pay12, k0_pay13, k0_pay14, k0_pay15, k0_pay16, outRow, normGrad, NormsProj.slope, scale, meanSq, Fin.sum_univ_one, add_assoc]

/-- What a grid point gives output 2. -/
def blockOut1 (x0 : FVec Ideal S512x1024 .f32) (x1 : FVec Ideal S512x1024 .f32) (x3 : FVec Ideal S512x1024 .f32) (x4 : FVec Ideal S1x1024 .f32) (x5 : FVec Ideal S1024x1024 .bf16) : FVec Ideal S512x1024 .f32 :=
  (k0_pay15 (F := Ideal) (k0_pay2 (F := Ideal) x0) x3 (k0_pay3 (F := Ideal) x5) (k0_pay8 (F := Ideal) x0 x1 x4) (k0_pay9 (F := Ideal) x0 x1 x4))

theorem blockOut1_apply (x0 : FVec Ideal S512x1024 .f32) (x1 : FVec Ideal S512x1024 .f32) (x3 : FVec Ideal S512x1024 .f32) (x4 : FVec Ideal S1x1024 .f32) (x5 : FVec Ideal S1024x1024 .bf16) (r : Fin 512) (l : Fin 1024) :
    blockOut1 x0 x1 x3 x4 x5 (ix2 r l) = firstRow (fun k => x0 (ix2 r k)) (fun k => x1 (ix2 r k)) (fun k => x3 (ix2 r k)) (fun k => x4 (ix2 0 k)) (fun u k => x5 (ix2 u k)) l := by
  pointwise [blockOut1, zero_sub, k0_pay1, k0_pay2, k0_pay3, k0_pay4, k0_pay5, k0_pay6, k0_pay7, k0_pay8, k0_pay9, k0_pay10, k0_pay11, k0_pay12, k0_pay13, k0_pay14, k0_pay15, k0_pay16, firstRow, backRow, timesT, outRow, silu, sigmoid, normGrad, NormsProj.slope, scale, meanSq, Fin.sum_univ_one, add_assoc]

/-- What a grid point gives output 3. -/
def blockOut2 (x0 : FVec Ideal S512x1024 .f32) (x1 : FVec Ideal S512x1024 .f32) (x2 : FVec Ideal S512x1024 .f32) (x3 : FVec Ideal S512x1024 .f32) (x4 : FVec Ideal S1x1024 .f32) (x5 : FVec Ideal S1024x1024 .bf16) : FVec Ideal S512x1024 .bf16 :=
  (k0_pay16 (F := Ideal) (k0_pay2 (F := Ideal) x0) x2 x3 (k0_pay3 (F := Ideal) x5) (k0_pay8 (F := Ideal) x0 x1 x4) (k0_pay9 (F := Ideal) x0 x1 x4))

theorem blockOut2_apply (x0 : FVec Ideal S512x1024 .f32) (x1 : FVec Ideal S512x1024 .f32) (x2 : FVec Ideal S512x1024 .f32) (x3 : FVec Ideal S512x1024 .f32) (x4 : FVec Ideal S1x1024 .f32) (x5 : FVec Ideal S1024x1024 .bf16) (r : Fin 512) (l : Fin 1024) :
    blockOut2 x0 x1 x2 x3 x4 x5 (ix2 r l) = gateRow (fun k => x0 (ix2 r k)) (fun k => x1 (ix2 r k)) (fun k => x2 (ix2 r k)) (fun k => x3 (ix2 r k)) (fun k => x4 (ix2 0 k)) (fun u k => x5 (ix2 u k)) l := by
  pointwise [blockOut2, zero_sub, k0_pay1, k0_pay2, k0_pay3, k0_pay4, k0_pay5, k0_pay6, k0_pay7, k0_pay8, k0_pay9, k0_pay10, k0_pay11, k0_pay12, k0_pay13, k0_pay14, k0_pay15, k0_pay16, gateRow, siluBack, backRow, timesT, outRow, silu, sigmoid, normGrad, NormsProj.slope, scale, meanSq, Fin.sum_univ_one, add_assoc]

/-- What a grid point gives output 4. -/
def blockOut3 (x0 : FVec Ideal S512x1024 .f32) (x1 : FVec Ideal S512x1024 .f32) : FVec Ideal S1x1024 .f32 :=
  (k0_pay6 (F := Ideal) x0 x1)

theorem blockOut3_apply (x0 : FVec Ideal S512x1024 .f32) (x1 : FVec Ideal S512x1024 .f32) (l : Fin 1024) :
    blockOut3 x0 x1 (ix2 0 l) = ∑ r : Fin 512, gainShare (fun k => x0 (ix2 r k)) (fun k => x1 (ix2 r k)) l := by
  pointwise [blockOut3, zero_sub, k0_pay1, k0_pay2, k0_pay3, k0_pay4, k0_pay5, k0_pay6, k0_pay7, k0_pay8, k0_pay9, k0_pay10, k0_pay11, k0_pay12, k0_pay13, k0_pay14, k0_pay15, k0_pay16, gainShare, scale, meanSq]

section Cases

variable (c : Dev nD) (i : grid0.Coords) (a1 : Memref sig .tc .vmem S512x1024 .f32) (h1 : a1.IsWhole) (a2 : Memref sig .tc .vmem S512x1024 .f32) (h2 : a2.IsWhole) (a3 : Memref sig .tc .vmem S512x1024 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .bf16) (h6 : a6.IsWhole) (a7 : Memref sig .tc .vmem S512x1024 .bf16) (h7 : a7.IsWhole) (a8 : Memref sig .tc .vmem S512x1024 .f32) (h8 : a8.IsWhole) (a9 : Memref sig .tc .vmem S512x1024 .bf16) (h9 : a9.IsWhole) (a10 : Memref sig .tc .vmem S1x1024 .f32) (h10 : a10.IsWhole)
  (x0 : FVec Ideal S512x1024 .f32) (x1 : FVec Ideal S512x1024 .f32) (x2 : FVec Ideal S512x1024 .f32) (x3 : FVec Ideal S512x1024 .f32) (x4 : FVec Ideal S1x1024 .f32) (x5 : FVec Ideal S1024x1024 .bf16)

theorem caseA0 (e0 e1) :
    out0_A_6 (F := Ideal) c i a1 h1 a2 h2 a3 h3 a4 h4 a5 h5 a6 h6 a7 h7 a8 h8 a9 h9 a10 h10 e0 e1
      x0 x1 x2 x3 x4 x5 = blockOut0 x0 x1 x4 := by
  unfold out0_A_6
  rw [View.read_writes_eq_canon _ _ _ (fun y => cover0_A_6 (y := y) ..)]
  unfold kernelRun0_A
  dsimp only
  sl_unfold_words
  rw [View.canon_unit_zero zeros]
  simp only [View.readAt_eq_ld, h1.read_unread, h2.read_unread, h5.read_unread, View.ld_unit_zero (S := S1x1024) zeros, View.ld_unit_zero (S := S512x1024) zeros]
  rfl

theorem caseB0 (e0 e1) (c3 : FVec Ideal S1x1024 .f32) :
    out0_B_6 (F := Ideal) c i a1 h1 a2 h2 a3 h3 a4 h4 a5 h5 a6 h6 a7 h7 a8 h8 a9 h9 a10 h10 e0 e1
      x0 x1 x2 x3 x4 x5 c3 = blockOut0 x0 x1 x4 := by
  unfold out0_B_6
  rw [View.read_writes_eq_canon _ _ _ (fun y => cover0_B_6 (y := y) ..)]
  unfold kernelRun0_B
  dsimp only
  sl_unfold_words
  rw [View.canon_unit_zero zeros]
  simp only [View.readAt_eq_ld, h1.read_unread, h2.read_unread, h5.read_unread, View.ld_unit_zero (S := S1x1024) zeros, View.ld_unit_zero (S := S512x1024) zeros]
  rfl

theorem caseA1 (e0 e1) :
    out0_A_7 (F := Ideal) c i a1 h1 a2 h2 a3 h3 a4 h4 a5 h5 a6 h6 a7 h7 a8 h8 a9 h9 a10 h10 e0 e1
      x0 x1 x2 x3 x4 x5 = blockOut1 x0 x1 x3 x4 x5 := by
  unfold out0_A_7
  rw [View.read_writes_eq_canon _ _ _ (fun y => cover0_A_7 (y := y) ..)]
  unfold kernelRun0_A
  dsimp only
  sl_unfold_words
  rw [View.canon_unit_zero zeros]
  simp only [View.readAt_eq_ld, h1.read_unread, h2.read_unread, h4.read_unread, h5.read_unread, h6.read_unread, View.ld_unit_zero (S := S1024x1024) zeros, View.ld_unit_zero (S := S1x1024) zeros, View.ld_unit_zero (S := S512x1024) zeros]
  rfl

theorem caseB1 (e0 e1) (c3 : FVec Ideal S1x1024 .f32) :
    out0_B_7 (F := Ideal) c i a1 h1 a2 h2 a3 h3 a4 h4 a5 h5 a6 h6 a7 h7 a8 h8 a9 h9 a10 h10 e0 e1
      x0 x1 x2 x3 x4 x5 c3 = blockOut1 x0 x1 x3 x4 x5 := by
  unfold out0_B_7
  rw [View.read_writes_eq_canon _ _ _ (fun y => cover0_B_7 (y := y) ..)]
  unfold kernelRun0_B
  dsimp only
  sl_unfold_words
  rw [View.canon_unit_zero zeros]
  simp only [View.readAt_eq_ld, h1.read_unread, h2.read_unread, h4.read_unread, h5.read_unread, h6.read_unread, View.ld_unit_zero (S := S1024x1024) zeros, View.ld_unit_zero (S := S1x1024) zeros, View.ld_unit_zero (S := S512x1024) zeros]
  rfl

theorem caseA2 (e0 e1) :
    out0_A_8 (F := Ideal) c i a1 h1 a2 h2 a3 h3 a4 h4 a5 h5 a6 h6 a7 h7 a8 h8 a9 h9 a10 h10 e0 e1
      x0 x1 x2 x3 x4 x5 = blockOut2 x0 x1 x2 x3 x4 x5 := by
  unfold out0_A_8
  rw [View.read_writes_eq_canon _ _ _ (fun y => cover0_A_8 (y := y) ..)]
  unfold kernelRun0_A
  dsimp only
  sl_unfold_words
  rw [View.canon_unit_zero zeros]
  simp only [View.readAt_eq_ld, h1.read_unread, h2.read_unread, h3.read_unread, h4.read_unread, h5.read_unread, h6.read_unread, View.ld_unit_zero (S := S1024x1024) zeros, View.ld_unit_zero (S := S1x1024) zeros, View.ld_unit_zero (S := S512x1024) zeros]
  rfl

theorem caseB2 (e0 e1) (c3 : FVec Ideal S1x1024 .f32) :
    out0_B_8 (F := Ideal) c i a1 h1 a2 h2 a3 h3 a4 h4 a5 h5 a6 h6 a7 h7 a8 h8 a9 h9 a10 h10 e0 e1
      x0 x1 x2 x3 x4 x5 c3 = blockOut2 x0 x1 x2 x3 x4 x5 := by
  unfold out0_B_8
  rw [View.read_writes_eq_canon _ _ _ (fun y => cover0_B_8 (y := y) ..)]
  unfold kernelRun0_B
  dsimp only
  sl_unfold_words
  rw [View.canon_unit_zero zeros]
  simp only [View.readAt_eq_ld, h1.read_unread, h2.read_unread, h3.read_unread, h4.read_unread, h5.read_unread, h6.read_unread, View.ld_unit_zero (S := S1024x1024) zeros, View.ld_unit_zero (S := S1x1024) zeros, View.ld_unit_zero (S := S512x1024) zeros]
  rfl

theorem caseA3 (e0 e1) :
    out0_A_9 (F := Ideal) c i a1 h1 a2 h2 a3 h3 a4 h4 a5 h5 a6 h6 a7 h7 a8 h8 a9 h9 a10 h10 e0 e1
      x0 x1 x2 x3 x4 x5 = blockOut3 x0 x1 := by
  unfold out0_A_9
  rw [View.read_writes_eq_canon _ _ _ (fun y => cover0_A_9 (y := y) ..)]
  unfold kernelRun0_A
  dsimp only
  sl_unfold_words
  rw [View.canon_unit_zero zeros]
  simp only [View.readAt_eq_ld, h1.read_unread, h2.read_unread, View.ld_unit_zero (S := S512x1024) zeros]
  rfl

theorem caseB3 (e0 e1) (c3 : FVec Ideal S1x1024 .f32) :
    out0_B_9 (F := Ideal) c i a1 h1 a2 h2 a3 h3 a4 h4 a5 h5 a6 h6 a7 h7 a8 h8 a9 h9 a10 h10 e0 e1
      x0 x1 x2 x3 x4 x5 c3 = addf c3 (blockOut3 x0 x1) := by
  unfold out0_B_9
  rw [View.read_writes_eq_canon _ _ _ (fun y => cover0_B_9 (y := y) ..)]
  unfold kernelRun0_B
  dsimp only
  sl_unfold_words
  rw [View.canon_unit_zero zeros]
  unfold k0_pay1
  simp only [View.readAt_eq_ld, h1.read_unread, h2.read_unread, h10.read_unread, View.ld_unit_zero (S := S1x1024) zeros, View.ld_unit_zero (S := S512x1024) zeros, shapeCast_self]
  rfl

end Cases

variable (m : (ℓ : Loc nD τ sig) → Buf (Elt Ideal) ℓ) (c : Dev nD)

theorem index0 : ∀ t : Fin cfg0.N, win0_0.index t 0 = t.val ∧ win0_0.index t 1 = 0 := by decide +kernel

theorem blk0 (t : Fin cfg0.N) (r : Fin 512) (k : Fin 1024) (h : 512 * t.val + r.val < 8192) :
    (iblk m c 0 t : FVec Ideal S512x1024 .f32) (ix2 r k) = src0 (m ((c : Thread nD τ).loc main_arg0)) (m ((c : Thread nD τ).loc main_arg1)) (m ((c : Thread nD τ).loc main_arg2)) (m ((c : Thread nD τ).loc main_arg3)) (m ((c : Thread nD τ).loc main_arg4)) ⟨512 * t.val + r.val, h⟩ k := by
  unfold iblk
  rw [View.read_apply]
  show V m c main_v4 _ = _
  refine (congrArg (V m c main_v4) (?_ : _ = (ix2 ⟨512 * t.val + r.val, h⟩ k : S8192x1024.Idx))).trans ?_
  · funext a
    apply Fin.ext
    match a with
    | ⟨0, _⟩ => show win0_0.index t 0 * 512 + 1 * r.val = 512 * t.val + r.val; rw [(index0 t).1]; omega
    | ⟨1, _⟩ => show win0_0.index t 1 * 1024 + 1 * k.val = k.val; rw [(index0 t).2]; omega
  · unfold V
    simp only [hostOps0, hostOps0_1, hostOps0_2, List.flatten_cons, List.flatten_nil, List.append_nil, List.cons_append, List.nil_append]
    after_results_simp
    try simp only [StableHlo.TRef.ofBuf, StableHlo.TRef.toBuf, cast_cast, cast_eq]
    pointwise [src0, gatedB, silu, sigmoid]

theorem index1 : ∀ t : Fin cfg0.N, win0_1.index t 0 = t.val ∧ win0_1.index t 1 = 0 := by decide +kernel

theorem blk1 (t : Fin cfg0.N) (r : Fin 512) (k : Fin 1024) (h : 512 * t.val + r.val < 8192) :
    (iblk m c 1 t : FVec Ideal S512x1024 .f32) (ix2 r k) = m ((c : Thread nD τ).loc main_arg2) (ix2 ⟨512 * t.val + r.val, h⟩ k) := by
  unfold iblk
  rw [View.read_apply]
  show V m c main_arg2 _ = _
  refine (congrArg (V m c main_arg2) (?_ : _ = (ix2 ⟨512 * t.val + r.val, h⟩ k : S8192x1024.Idx))).trans ?_
  · funext a
    apply Fin.ext
    match a with
    | ⟨0, _⟩ => show win0_1.index t 0 * 512 + 1 * r.val = 512 * t.val + r.val; rw [(index1 t).1]; omega
    | ⟨1, _⟩ => show win0_1.index t 1 * 1024 + 1 * k.val = k.val; rw [(index1 t).2]; omega
  · rw [V_main_arg2]

theorem index2 : ∀ t : Fin cfg0.N, win0_2.index t 0 = t.val ∧ win0_2.index t 1 = 0 := by decide +kernel

theorem blk2 (t : Fin cfg0.N) (r : Fin 512) (k : Fin 1024) (h : 512 * t.val + r.val < 8192) :
    (iblk m c 2 t : FVec Ideal S512x1024 .f32) (ix2 r k) = m ((c : Thread nD τ).loc main_arg0) (ix2 ⟨512 * t.val + r.val, h⟩ k) := by
  unfold iblk
  rw [View.read_apply]
  show V m c main_arg0 _ = _
  refine (congrArg (V m c main_arg0) (?_ : _ = (ix2 ⟨512 * t.val + r.val, h⟩ k : S8192x1024.Idx))).trans ?_
  · funext a
    apply Fin.ext
    match a with
    | ⟨0, _⟩ => show win0_2.index t 0 * 512 + 1 * r.val = 512 * t.val + r.val; rw [(index2 t).1]; omega
    | ⟨1, _⟩ => show win0_2.index t 1 * 1024 + 1 * k.val = k.val; rw [(index2 t).2]; omega
  · rw [V_main_arg0]

theorem index3 : ∀ t : Fin cfg0.N, win0_3.index t 0 = t.val ∧ win0_3.index t 1 = 0 := by decide +kernel

theorem blk3 (t : Fin cfg0.N) (r : Fin 512) (k : Fin 1024) (h : 512 * t.val + r.val < 8192) :
    (iblk m c 3 t : FVec Ideal S512x1024 .f32) (ix2 r k) = m ((c : Thread nD τ).loc main_arg1) (ix2 ⟨512 * t.val + r.val, h⟩ k) := by
  unfold iblk
  rw [View.read_apply]
  show V m c main_arg1 _ = _
  refine (congrArg (V m c main_arg1) (?_ : _ = (ix2 ⟨512 * t.val + r.val, h⟩ k : S8192x1024.Idx))).trans ?_
  · funext a
    apply Fin.ext
    match a with
    | ⟨0, _⟩ => show win0_3.index t 0 * 512 + 1 * r.val = 512 * t.val + r.val; rw [(index3 t).1]; omega
    | ⟨1, _⟩ => show win0_3.index t 1 * 1024 + 1 * k.val = k.val; rw [(index3 t).2]; omega
  · rw [V_main_arg1]

theorem index4 : ∀ t : Fin cfg0.N, win0_4.index t 0 = 0 ∧ win0_4.index t 1 = 0 := by decide +kernel

theorem blk4 (t : Fin cfg0.N) (k : Fin 1024) :
    (iblk m c 4 t : FVec Ideal S1x1024 .f32) (ix2 0 k) = m ((c : Thread nD τ).loc main_arg3) (ix2 0 k) := by
  unfold iblk
  rw [View.read_apply]
  show V m c main_arg3 _ = _
  refine (congrArg (V m c main_arg3) (?_ : _ = (ix2 0 k : S1x1024.Idx))).trans ?_
  · funext a
    apply Fin.ext
    match a with
    | ⟨0, _⟩ => show win0_4.index t 0 * 1 + 1 * 0 = 0; rw [(index4 t).1]
    | ⟨1, _⟩ => show win0_4.index t 1 * 1024 + 1 * k.val = k.val; rw [(index4 t).2]; omega
  · rw [V_main_arg3]

theorem index5 : ∀ t : Fin cfg0.N, win0_5.index t 0 = 0 ∧ win0_5.index t 1 = 0 := by decide +kernel

theorem blk5 (t : Fin cfg0.N) (u : Fin 1024) (k : Fin 1024) :
    (iblk m c 5 t : FVec Ideal S1024x1024 .bf16) (ix2 u k) = (m ((c : Thread nD τ).loc main_arg4)) (ix2 u k) := by
  unfold iblk
  rw [View.read_apply]
  show V m c main_v0 _ = _
  refine (congrArg (V m c main_v0) (?_ : _ = (ix2 u k : S1024x1024.Idx))).trans ?_
  · funext a
    apply Fin.ext
    match a with
    | ⟨0, _⟩ => show win0_5.index t 0 * 1024 + 1 * u.val = u.val; rw [(index5 t).1]; omega
    | ⟨1, _⟩ => show win0_5.index t 1 * 1024 + 1 * k.val = k.val; rw [(index5 t).2]; omega
  · unfold V
    simp only [hostOps0, hostOps0_1, hostOps0_2, List.flatten_cons, List.flatten_nil, List.append_nil, List.cons_append, List.nil_append]
    after_results_simp
    try simp only [StableHlo.TRef.ofBuf, StableHlo.TRef.toBuf, cast_cast, cast_eq]
    pointwise

theorem point_row (t : Fin cfg0.N) (r : Fin 512) : 512 * t.val + r.val < 8192 := by
  have := t.isLt; have : cfg0.N = 16 := N_0; omega

/-- The kernel's result 1 on device `c`, as a function of the arrays it starts from. -/
def ker0 : Rows :=
  outGrad (m ((c : Thread nD τ).loc main_arg0)) (m ((c : Thread nD τ).loc main_arg1)) (m ((c : Thread nD τ).loc main_arg2)) (m ((c : Thread nD τ).loc main_arg3)) (m ((c : Thread nD τ).loc main_arg4))

theorem share0 (t : Fin cfg0.N) (r : Fin 512) (l : Fin 1024) :
    blockOut0 (iblk m c 0 t) (iblk m c 1 t) (iblk m c 4 t) (ix2 r l) = ker0 m c (ix2 ⟨512 * t.val + r.val, point_row t r⟩ l) := by
  rw [blockOut0_apply]
  simp only [blk0 m c t r _ (point_row t r), blk1 m c t r _ (point_row t r), blk4]
  rfl

/-- The kernel's result 2 on device `c`, as a function of the arrays it starts from. -/
def ker1 : Rows :=
  firstGrad (m ((c : Thread nD τ).loc main_arg0)) (m ((c : Thread nD τ).loc main_arg1)) (m ((c : Thread nD τ).loc main_arg2)) (m ((c : Thread nD τ).loc main_arg3)) (m ((c : Thread nD τ).loc main_arg4))

theorem share1 (t : Fin cfg0.N) (r : Fin 512) (l : Fin 1024) :
    blockOut1 (iblk m c 0 t) (iblk m c 1 t) (iblk m c 3 t) (iblk m c 4 t) (iblk m c 5 t) (ix2 r l) = ker1 m c (ix2 ⟨512 * t.val + r.val, point_row t r⟩ l) := by
  rw [blockOut1_apply]
  simp only [blk0 m c t r _ (point_row t r), blk1 m c t r _ (point_row t r), blk3 m c t r _ (point_row t r), blk4, blk5]
  rfl

/-- The kernel's result 3 on device `c`, as a function of the arrays it starts from. -/
def ker2 : Rows :=
  gateGrad (m ((c : Thread nD τ).loc main_arg0)) (m ((c : Thread nD τ).loc main_arg1)) (m ((c : Thread nD τ).loc main_arg2)) (m ((c : Thread nD τ).loc main_arg3)) (m ((c : Thread nD τ).loc main_arg4))

theorem share2 (t : Fin cfg0.N) (r : Fin 512) (l : Fin 1024) :
    blockOut2 (iblk m c 0 t) (iblk m c 1 t) (iblk m c 2 t) (iblk m c 3 t) (iblk m c 4 t) (iblk m c 5 t) (ix2 r l) = ker2 m c (ix2 ⟨512 * t.val + r.val, point_row t r⟩ l) := by
  rw [blockOut2_apply]
  simp only [blk0 m c t r _ (point_row t r), blk1 m c t r _ (point_row t r), blk2 m c t r _ (point_row t r), blk3 m c t r _ (point_row t r), blk4, blk5]
  rfl

/-- The kernel's result 4 on device `c`, as a function of the arrays it starts from. -/
def ker3 : Gain :=
  gainGrad (m ((c : Thread nD τ).loc main_arg0)) (m ((c : Thread nD τ).loc main_arg1)) (m ((c : Thread nD τ).loc main_arg2)) (m ((c : Thread nD τ).loc main_arg3)) (m ((c : Thread nD τ).loc main_arg4))

abbrev term3 (l : Fin 1024) : Fin 8192 → EReal := fun p =>
  gainShare (fun k => src0 (m ((c : Thread nD τ).loc main_arg0)) (m ((c : Thread nD τ).loc main_arg1)) (m ((c : Thread nD τ).loc main_arg2)) (m ((c : Thread nD τ).loc main_arg3)) (m ((c : Thread nD τ).loc main_arg4)) p k) (fun k => (m ((c : Thread nD τ).loc main_arg2)) (ix2 p k)) l

theorem share3 (t : Fin cfg0.N) (l : Fin 1024) :
    blockOut3 (iblk m c 0 t) (iblk m c 1 t) (ix2 0 l) = ∑ r : Fin 512, termAt (term3 m c l) (512 * t.val + r.val) := by
  rw [blockOut3_apply]
  refine Finset.sum_congr rfl fun r _ => ?_
  rw [termAt, dif_pos (point_row t r)]
  simp only [blk0 m c t r _ (point_row t r), blk1 m c t r _ (point_row t r)]

theorem index6 : ∀ t : Fin cfg0.N, win0_6.index t 0 = t.val ∧ win0_6.index t 1 = 0 := by decide +kernel

theorem step0 (t : Fin cfg0.N) : (outsAt0 m c t.val t.isLt).1 = blockOut0 (iblk m c 0 t) (iblk m c 1 t) (iblk m c 4 t) := by
  have hN : cfg0.N = 16 := N_0
  have := t.isLt
  by_cases h : t.val = 0
  · rw [outsAt0_A m c t (by omega) (by omega)]
    dsimp only
    exact caseA0 ..
  · rw [outsAt0_B m c t (by omega) (by omega)]
    dsimp only
    exact caseB0 ..

theorem flushed0 (t : Fin cfg0.N) : (dats m 0 c).flushed 6 t = ((cfg0.win 6).blk t).view.read (Elt Ideal) (ker0 m c) := by
  rw [Cert.Kernel9Ideal.Value.flushed6, step0]
  funext j
  obtain ⟨r, l, rfl⟩ : ∃ (r : Fin 512) (l : Fin 1024), j = ix2 r l := ⟨j 0, j 1, eq_ix2 j⟩
  refine (share0 m c t r l).trans ?_
  rw [View.read_apply]
  congr 1
  funext a
  apply Fin.ext
  match a with
  | ⟨0, _⟩ => show 512 * t.val + r.val = win0_6.index t 0 * 512 + 1 * r.val; rw [(index6 t).1]; omega
  | ⟨1, _⟩ => show l.val = win0_6.index t 1 * 1024 + 1 * l.val; rw [(index6 t).2]; omega

theorem final0 : (dats m 0 c).arrAt 6 cfg0.N = ker0 m c :=
  (dats m 0 c).arrAt_eq_of_cover 6 (ker0 m c) (fun t _ => flushed0 m c t) fun i => by
    have hN : cfg0.N = 16 := N_0
    have h0 : (i 0 : Nat) < 8192 := (i 0).isLt
    have h1 : (i 1 : Nat) < 1024 := (i 1).isLt
    obtain ⟨t, ht⟩ : ∃ t : Fin cfg0.N, t.val = (i 0 : Nat) / 512 := ⟨⟨(i 0 : Nat) / 512, by omega⟩, rfl⟩
    refine ⟨t, flush0_6 t, ?_⟩
    show i ∈ ((View.whole main_v5_0).slice (win0_6.rect t)).set
    rw [View.set_slice_whole, Rect.mem_set_unit]
    intro a
    match a with
    | ⟨0, _⟩ =>
      show win0_6.index t 0 * 512 ≤ (i 0 : Nat) ∧ (i 0 : Nat) < win0_6.index t 0 * 512 + 512
      rw [(index6 t).1]; omega
    | ⟨1, _⟩ =>
      show win0_6.index t 1 * 1024 ≤ (i 1 : Nat) ∧ (i 1 : Nat) < win0_6.index t 1 * 1024 + 1024
      rw [(index6 t).2]; omega

theorem index7 : ∀ t : Fin cfg0.N, win0_7.index t 0 = t.val ∧ win0_7.index t 1 = 0 := by decide +kernel

theorem step1 (t : Fin cfg0.N) : (outsAt0 m c t.val t.isLt).2.1 = blockOut1 (iblk m c 0 t) (iblk m c 1 t) (iblk m c 3 t) (iblk m c 4 t) (iblk m c 5 t) := by
  have hN : cfg0.N = 16 := N_0
  have := t.isLt
  by_cases h : t.val = 0
  · rw [outsAt0_A m c t (by omega) (by omega)]
    dsimp only
    exact caseA1 ..
  · rw [outsAt0_B m c t (by omega) (by omega)]
    dsimp only
    exact caseB1 ..

theorem flushed1 (t : Fin cfg0.N) : (dats m 0 c).flushed 7 t = ((cfg0.win 7).blk t).view.read (Elt Ideal) (ker1 m c) := by
  rw [Cert.Kernel9Ideal.Value.flushed7, step1]
  funext j
  obtain ⟨r, l, rfl⟩ : ∃ (r : Fin 512) (l : Fin 1024), j = ix2 r l := ⟨j 0, j 1, eq_ix2 j⟩
  refine (share1 m c t r l).trans ?_
  rw [View.read_apply]
  congr 1
  funext a
  apply Fin.ext
  match a with
  | ⟨0, _⟩ => show 512 * t.val + r.val = win0_7.index t 0 * 512 + 1 * r.val; rw [(index7 t).1]; omega
  | ⟨1, _⟩ => show l.val = win0_7.index t 1 * 1024 + 1 * l.val; rw [(index7 t).2]; omega

theorem final1 : (dats m 0 c).arrAt 7 cfg0.N = ker1 m c :=
  (dats m 0 c).arrAt_eq_of_cover 7 (ker1 m c) (fun t _ => flushed1 m c t) fun i => by
    have hN : cfg0.N = 16 := N_0
    have h0 : (i 0 : Nat) < 8192 := (i 0).isLt
    have h1 : (i 1 : Nat) < 1024 := (i 1).isLt
    obtain ⟨t, ht⟩ : ∃ t : Fin cfg0.N, t.val = (i 0 : Nat) / 512 := ⟨⟨(i 0 : Nat) / 512, by omega⟩, rfl⟩
    refine ⟨t, flush0_7 t, ?_⟩
    show i ∈ ((View.whole main_v5_1).slice (win0_7.rect t)).set
    rw [View.set_slice_whole, Rect.mem_set_unit]
    intro a
    match a with
    | ⟨0, _⟩ =>
      show win0_7.index t 0 * 512 ≤ (i 0 : Nat) ∧ (i 0 : Nat) < win0_7.index t 0 * 512 + 512
      rw [(index7 t).1]; omega
    | ⟨1, _⟩ =>
      show win0_7.index t 1 * 1024 ≤ (i 1 : Nat) ∧ (i 1 : Nat) < win0_7.index t 1 * 1024 + 1024
      rw [(index7 t).2]; omega

theorem index8 : ∀ t : Fin cfg0.N, win0_8.index t 0 = t.val ∧ win0_8.index t 1 = 0 := by decide +kernel

theorem step2 (t : Fin cfg0.N) : (outsAt0 m c t.val t.isLt).2.2.1 = blockOut2 (iblk m c 0 t) (iblk m c 1 t) (iblk m c 2 t) (iblk m c 3 t) (iblk m c 4 t) (iblk m c 5 t) := by
  have hN : cfg0.N = 16 := N_0
  have := t.isLt
  by_cases h : t.val = 0
  · rw [outsAt0_A m c t (by omega) (by omega)]
    dsimp only
    exact caseA2 ..
  · rw [outsAt0_B m c t (by omega) (by omega)]
    dsimp only
    exact caseB2 ..

theorem flushed2 (t : Fin cfg0.N) : (dats m 0 c).flushed 8 t = ((cfg0.win 8).blk t).view.read (Elt Ideal) (ker2 m c) := by
  rw [Cert.Kernel9Ideal.Value.flushed8, step2]
  funext j
  obtain ⟨r, l, rfl⟩ : ∃ (r : Fin 512) (l : Fin 1024), j = ix2 r l := ⟨j 0, j 1, eq_ix2 j⟩
  refine (share2 m c t r l).trans ?_
  rw [View.read_apply]
  congr 1
  funext a
  apply Fin.ext
  match a with
  | ⟨0, _⟩ => show 512 * t.val + r.val = win0_8.index t 0 * 512 + 1 * r.val; rw [(index8 t).1]; omega
  | ⟨1, _⟩ => show l.val = win0_8.index t 1 * 1024 + 1 * l.val; rw [(index8 t).2]; omega

theorem final2 : (dats m 0 c).arrAt 8 cfg0.N = ker2 m c :=
  (dats m 0 c).arrAt_eq_of_cover 8 (ker2 m c) (fun t _ => flushed2 m c t) fun i => by
    have hN : cfg0.N = 16 := N_0
    have h0 : (i 0 : Nat) < 8192 := (i 0).isLt
    have h1 : (i 1 : Nat) < 1024 := (i 1).isLt
    obtain ⟨t, ht⟩ : ∃ t : Fin cfg0.N, t.val = (i 0 : Nat) / 512 := ⟨⟨(i 0 : Nat) / 512, by omega⟩, rfl⟩
    refine ⟨t, flush0_8 t, ?_⟩
    show i ∈ ((View.whole main_v5_2).slice (win0_8.rect t)).set
    rw [View.set_slice_whole, Rect.mem_set_unit]
    intro a
    match a with
    | ⟨0, _⟩ =>
      show win0_8.index t 0 * 512 ≤ (i 0 : Nat) ∧ (i 0 : Nat) < win0_8.index t 0 * 512 + 512
      rw [(index8 t).1]; omega
    | ⟨1, _⟩ =>
      show win0_8.index t 1 * 1024 ≤ (i 1 : Nat) ∧ (i 1 : Nat) < win0_8.index t 1 * 1024 + 1024
      rw [(index8 t).2]; omega

theorem index9 : ∀ t : Fin cfg0.N, win0_9.index t 0 = 0 ∧ win0_9.index t 1 = 0 := by decide +kernel

theorem first3 (t : Fin cfg0.N) (h : t.val = 0) (l : Fin 1024) :
    (outsAt0 m c t.val t.isLt).2.2.2 (ix2 0 l) = ∑ r : Fin 512, termAt (term3 m c l) (512 * t.val + r.val) := by
  rw [outsAt0_A m c t (by omega) (by omega), ← share3 m c t l]
  dsimp only
  exact congrFun (caseA3 ..) _

theorem later3 (t : Fin cfg0.N) (h : t.val ≠ 0) (l : Fin 1024) :
    (outsAt0 m c t.val t.isLt).2.2.2 (ix2 0 l) = (outsAt0 m c (t.val - 1) (Nat.lt_of_le_of_lt (Nat.sub_le _ _) t.isLt)).2.2.2 (ix2 0 l)
      + ∑ r : Fin 512, termAt (term3 m c l) (512 * t.val + r.val) := by
  have hN : cfg0.N = 16 := N_0
  have := t.isLt
  rw [outsAt0_B m c t (by omega) (by omega), ← share3 m c t l]
  dsimp only
  exact congrFun (caseB3 ..) _

theorem outs3 (l : Fin 1024) (n : ℕ) (h : n < cfg0.N) :
    (outsAt0 m c n h).2.2.2 (ix2 0 l) = ∑ t ∈ Finset.range (n + 1), ∑ r : Fin 512, termAt (term3 m c l) (512 * t + r.val) :=
  accumulate (fun n h => (outsAt0 m c n h).2.2.2 (ix2 0 l)) (fun t => ∑ r : Fin 512, termAt (term3 m c l) (512 * t + r.val))
    (fun h => first3 m c ⟨0, h⟩ rfl l) (fun n h => later3 m c ⟨n + 1, h⟩ (Nat.succ_ne_zero n) l) n h

theorem flushed3 (t : Fin cfg0.N) (hf : (cfg0.win 9).flush t = true) :
    (dats m 0 c).flushed 9 t = ((cfg0.win 9).blk t).view.read (Elt Ideal) (ker3 m c) := by
  have hN : cfg0.N = 16 := N_0
  have last : t.val = 15 := by have := (flush0_9 t).mp hf; have := t.isLt; omega
  rw [Cert.Kernel9Ideal.Value.flushed9]
  funext j
  obtain ⟨u, l, rfl⟩ : ∃ (u : Fin 1) (l : Fin 1024), j = ix2 u l := ⟨j 0, j 1, eq_ix2 j⟩
  obtain rfl : u = 0 := Subsingleton.elim _ _
  refine (outs3 m c l t.val t.isLt).trans ?_
  rw [last, sum_termAt (term3 m c l) 512 16 rfl, View.read_apply]
  show ker3 m c (ix2 0 l) = _
  congr 1
  funext a
  apply Fin.ext
  match a with
  | ⟨0, _⟩ => show 0 = win0_9.index t 0 * 1 + 1 * 0; rw [(index9 t).1]
  | ⟨1, _⟩ => show l.val = win0_9.index t 1 * 1024 + 1 * l.val; rw [(index9 t).2]; omega

theorem final3 : (dats m 0 c).arrAt 9 cfg0.N = ker3 m c :=
  (dats m 0 c).arrAt_eq_of_cover 9 (ker3 m c) (flushed3 m c) fun i => by
    have hN : cfg0.N = 16 := N_0
    have h0 : (i 0 : Nat) < 1 := (i 0).isLt
    have h1 : (i 1 : Nat) < 1024 := (i 1).isLt
    obtain ⟨t, ht⟩ : ∃ t : Fin cfg0.N, t.val = 15 := ⟨⟨15, by omega⟩, rfl⟩
    refine ⟨t, (flush0_9 t).mpr (by omega), ?_⟩
    show i ∈ ((View.whole main_v5_3).slice (win0_9.rect t)).set
    rw [View.set_slice_whole, Rect.mem_set_unit]
    intro a
    match a with
    | ⟨0, _⟩ =>
      show win0_9.index t 0 * 1 ≤ (i 0 : Nat) ∧ (i 0 : Nat) < win0_9.index t 0 * 1 + 1
      rw [(index9 t).1]; omega
    | ⟨1, _⟩ =>
      show win0_9.index t 1 * 1024 ≤ (i 1 : Nat) ∧ (i 1 : Nat) < win0_9.index t 1 * 1024 + 1024
      rw [(index9 t).2]; omega

/-- The whole run: the results in closed form, the arguments unchanged. -/
theorem kernel_run (ρ : Dev nD → PrngReg) :
    θ_run (defs (F := Ideal)) (onTc (τ := τ) (main (F := Ideal))) ⟨m, fun _ => 0, ρ⟩ fun r => ∀ c : Dev nD,
      r.2.mem ((c.tc : Thread nD τ).loc main_v5_0) = ker0 m c
      ∧ r.2.mem ((c.tc : Thread nD τ).loc main_v5_1) = ker1 m c
      ∧ r.2.mem ((c.tc : Thread nD τ).loc main_v5_2) = ker2 m c
      ∧ r.2.mem ((c.tc : Thread nD τ).loc main_v5_3) = ker3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (final0 m c), (h c).2.1.trans (final1 m c), (h c).2.2.1.trans (final2 m c), (h c).2.2.2.1.trans (final3 m c), (h c).2.2.2.2⟩)
    (Cert.Kernel9Ideal.Value.run_blocks m ρ)

end Kernel

section Reference

open Cert.Reference9Ideal Cert.Reference9Ideal.Gen Idealize.ShloMosaic.TcCoe Idealize.SL.Sem

variable (m : (ℓ : Loc nD τ sig) → Buf (Elt Ideal) ℓ)

/-- The reference's results on device `c`. -/
def ref0 (c : Dev nD) : Rows :=
  outGrad (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
def ref1 (c : Dev nD) : Rows :=
  firstGrad (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
def ref2 (c : Dev nD) : Rows :=
  gateGrad (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
def ref3 (c : Dev nD) : Gain :=
  gainGrad (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

theorem reference_run (ρ : Dev nD → PrngReg) :
    θ_run (defs (F := Ideal)) (onTc (τ := τ) (main (F := Ideal))) ⟨m, fun _ => 0, ρ⟩ fun r => ∀ c : Dev nD,
      r.2.mem ((c.tc : Thread nD τ).loc main_v41) = ref0 m c
      ∧ r.2.mem ((c.tc : Thread nD τ).loc main_v39) = ref1 m c
      ∧ r.2.mem ((c.tc : Thread nD τ).loc main_v42) = ref2 m c
      ∧ r.2.mem ((c.tc : Thread nD τ).loc main_v20) = ref3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun _ h c => ⟨(h c).1.trans ?_, (h c).2.1.trans ?_, (h c).2.2.1.trans ?_, (h c).2.2.2.1.trans ?_, (h c).2.2.2.2⟩)
    (Cert.Reference9Ideal.Value.run m ρ)
  · unfold Cert.Reference9Ideal.Value.res_main_v41
    funext j
    obtain ⟨p, l, rfl⟩ : ∃ (p : Fin 8192) (l : Fin 1024), j = ix2 p l := ⟨j 0, j 1, eq_ix2 j⟩
    pointwise [ref0, outGrad, outRow, normGrad, NormsProj.slope, scale, meanSq, Fin.sum_univ_one, add_assoc, src0, gatedB, silu, sigmoid]
  · unfold Cert.Reference9Ideal.Value.res_main_v39
    funext j
    obtain ⟨p, l, rfl⟩ : ∃ (p : Fin 8192) (l : Fin 1024), j = ix2 p l := ⟨j 0, j 1, eq_ix2 j⟩
    pointwise [ref1, firstGrad, firstRow, backRow, timesT, outRow, silu, sigmoid, normGrad, NormsProj.slope, scale, meanSq, Fin.sum_univ_one, add_assoc, src0, gatedB, silu, sigmoid]
  · unfold Cert.Reference9Ideal.Value.res_main_v42
    funext j
    obtain ⟨p, l, rfl⟩ : ∃ (p : Fin 8192) (l : Fin 1024), j = ix2 p l := ⟨j 0, j 1, eq_ix2 j⟩
    pointwise [ref2, gateGrad, gateRow, backRow, timesT, outRow, silu, normGrad, NormsProj.slope, scale, meanSq, Fin.sum_univ_one, add_assoc, src0, gatedB, silu, sigmoid]
    simp only [siluBack_eq, sigmoid]
  · funext j
    obtain ⟨p, l, rfl⟩ : ∃ (p : Fin 1) (l : Fin 1024), j = ix2 p l := ⟨j 0, j 1, eq_ix2 j⟩
    pointwise [ref3, gainGrad, gainShare, scale, meanSq, src0, gatedB, silu, sigmoid]

end Reference

end Cert.OutputBackB
-- ==== Proof.GateFormula.lean ====
/-
  The scalars of the backward step through the first mixer's gelu and its two gates.
-/
module

public import proofs.«01_k».proof.Proof.RowFormula

@[expose] public section

noncomputable section

namespace Cert.RowFormula

open Idealize.ShloMosaic Cert.NormsProj

theorem ofBits_three : Ideal.ofBits .f32 0x40400000#32 = ((3 : ℝ) : EReal) := by
  simp [Ideal.ofBits, Ideal.ieee, -EReal.coe_mul]; norm_num

theorem three_mul_eq (x : EReal) : ((3 : ℝ) : EReal) * x = x + x + x := by
  have h : ((3 : ℝ) : EReal) = 1 + 1 + 1 := by
    rw [show (1 : EReal) = ((1 : ℝ) : EReal) from EReal.coe_one.symm, ← EReal.coe_add, ← EReal.coe_add]
    norm_num
  have one : (0 : EReal) ≤ 1 := zero_le_one
  rw [h, EReal.right_distrib_of_nonneg (add_nonneg one one) one, EReal.right_distrib_of_nonneg one one, one_mul]

/-- The tanh inside the gelu. -/
def bend (x : EReal) : EReal :=
  Ideal.tanh (Ideal.ofBits .f32 0x3F4C422A#32 * (x + Ideal.ofBits .f32 0x3D372713#32 * x * x * x))

/-- What the tanh's argument gets of a cotangent `t` of `gelu x`, and what `x` gets, as the kernel writes them. -/
def bendBack (x t : EReal) : EReal :=
  Ideal.ofBits .f32 0x3F4C422A#32 * (Ideal.ofBits .f32 0x3F000000#32 * x * t * ((1 + bend x) * (1 - bend x)))
def geluBack (x t : EReal) : EReal :=
  bendBack x t + Ideal.ofBits .f32 0x3D372713#32 * x * x * bendBack x t + Ideal.ofBits .f32 0x3D372713#32 * x * (bendBack x t * x)
    + Ideal.ofBits .f32 0x3D372713#32 * (bendBack x t * x * x) + Ideal.ofBits .f32 0x3F000000#32 * (t * (1 + bend x))

theorem cube_terms (a q x : EReal) : a * q * (((3 : ℝ) : EReal) * (x * x)) = a * x * x * q + a * x * (q * x) + a * (q * x * x) := by
  have h1 : a * x * x * q = a * q * (x * x) := by
    rw [mul_right_comm _ x q, mul_right_comm a x q, mul_assoc (a * q)]
  have h2 : a * x * (q * x) = a * q * (x * x) := by rw [mul_mul_mul_comm]
  have h3 : a * (q * x * x) = a * q * (x * x) := by rw [mul_assoc q, ← mul_assoc]
  rw [h1, h2, h3, mul_left_comm, three_mul_eq]

/-- The same gradient with the cube's derivative as one product by three. -/
theorem geluBack_eq (x t : EReal) :
    t * (Ideal.ofBits .f32 0x3F000000#32 * (1 + bend x))
      + Ideal.ofBits .f32 0x3F4C422A#32 * (Ideal.ofBits .f32 0x3F000000#32 * (x * t) * ((1 + bend x) * (1 - bend x)))
      + Ideal.ofBits .f32 0x3D372713#32 * (Ideal.ofBits .f32 0x3F4C422A#32 * (Ideal.ofBits .f32 0x3F000000#32 * (x * t) * ((1 + bend x) * (1 - bend x))))
        * (Ideal.ofBits .f32 0x40400000#32 * (x * x)) = geluBack x t := by
  rw [← mul_assoc _ x t]
  show t * (Ideal.ofBits .f32 0x3F000000#32 * (1 + bend x)) + bendBack x t
    + Ideal.ofBits .f32 0x3D372713#32 * bendBack x t * (Ideal.ofBits .f32 0x40400000#32 * (x * x)) = _
  rw [ofBits_three, cube_terms, geluBack, mul_left_comm t, add_assoc, add_comm (Ideal.ofBits .f32 0x3F000000#32 * _)]
  simp only [add_assoc]

/-- What the argument of the logistic function gets of a cotangent `g`, as the kernel writes it. -/
def sigBack (g x : EReal) : EReal :=
  -(-(g * Ideal.div 1 ((1 + Ideal.exp (-x)) * (1 + Ideal.exp (-x)))) * Ideal.exp (-x))

theorem sigBack_eq (g x : EReal) : sigBack g x = g * (sigmoid x * (1 - sigmoid x)) := by
  rw [sigBack, neg_mul, neg_neg, mul_assoc, sigmoid_slope]

/-- One row of the gradients: of the inner gate's argument, of the gate branch, of the activated rows, of what the
    gelu reads, of the input branch, and the row's share of the skip's factor. -/
def dsRow (ys u s ga dy d b : Fin 1024 → EReal) (l : Fin 1024) : EReal :=
  sigBack (activated ys u d l * (dy l * silu (ga l))) (s l + b l)
def dgaRow (ys u s ga dy d b : Fin 1024 → EReal) (l : Fin 1024) : EReal :=
  siluBack (activated ys u d l * sigmoid (s l + b l) * dy l) (ga l)
def totalRow (ys u s ga dy d b : Fin 1024 → EReal) (w : Fin 1024 → Fin 1024 → EReal) (l : Fin 1024) : EReal :=
  dy l * silu (ga l) * sigmoid (s l + b l) + timesT (dsRow ys u s ga dy d b) w l
def dysRow (ys u s ga dy d b : Fin 1024 → EReal) (w : Fin 1024 → Fin 1024 → EReal) (l : Fin 1024) : EReal :=
  geluBack (ys l + d l * u l) (totalRow ys u s ga dy d b w l)
def duRow (ys u s ga dy d b : Fin 1024 → EReal) (w : Fin 1024 → Fin 1024 → EReal) (l : Fin 1024) : EReal :=
  d l * dysRow ys u s ga dy d b w l
def ddRow (ys u s ga dy d b : Fin 1024 → EReal) (w : Fin 1024 → Fin 1024 → EReal) (l : Fin 1024) : EReal :=
  dysRow ys u s ga dy d b w l * u l

end Cert.RowFormula
-- ==== Proof.GateBackARun.lean ====
/-
  The gradient through the first mixer's gates as the reference computes it: its operations, its run in stages, and
  each stage read down to the row formulas.
-/
module

public import proofs.«01_k».proof.Proof.Gen.Reference10Ideal
public import proofs.«01_k».proof.Proof.GateFormula
public import Idealize.ShloMosaic.Lib.StableHlo.Run

@[expose] public section

noncomputable section

namespace Cert.GateBackARun

open Cert.Reference10Ideal Cert.Reference10Ideal.Gen Idealize.ShloMosaic Idealize.ShloMosaic.TcCoe Idealize.SL.Sem Idealize.ShloMosaic.StableHlo
open Cert.NormsProj Cert.Weight Cert.RowFormula

section Stages

variable {F : FTy → Type} [FloatOps F]

/-- A constant in every place. -/
def fill (w : BitVec 32) : FVec F S8192x1024 .f32 := broadcastInDim S8192x1024 ![] bcast_S_S8192x1024 (constant S_ .f32 w)
/-- A row of numbers in every row. -/
def spread (a : FVec F S1x1024 .f32) : FVec F S8192x1024 .f32 := broadcastInDim S8192x1024 ![0, 1] bcast_S1x1024_S8192x1024_0_1 a
/-- The gelu's argument, its tanh, its second factor and its value. -/
def input (a0 a1 : FVec F S8192x1024 .f32) (a4 : FVec F S1x1024 .f32) : FVec F S8192x1024 .f32 := addf a0 (mulf (spread a4) a1)
def curve (p : FVec F S8192x1024 .f32) : FVec F S8192x1024 .f32 :=
  Host.tanh (mulf (fill 0x3F4C422A#32) (addf p (mulf (fill 0x3D372713#32) (mulf (mulf p p) p))))
def halves (p : FVec F S8192x1024 .f32) : FVec F S8192x1024 .f32 := mulf (fill 0x3F000000#32) (addf (fill 0x3F800000#32) (curve p))
def act (p : FVec F S8192x1024 .f32) : FVec F S8192x1024 .f32 := mulf p (halves p)
/-- The logistic function, its slope, the silu. -/
def logistic (x : FVec F S8192x1024 .f32) : FVec F S8192x1024 .f32 := Host.divf (fill 0x3F800000#32) (addf (fill 0x3F800000#32) (Host.exp (Host.negf x)))
def slopes (x : FVec F S8192x1024 .f32) : FVec F S8192x1024 .f32 := mulf (logistic x) (subf (fill 0x3F800000#32) (logistic x))
def swish (x : FVec F S8192x1024 .f32) : FVec F S8192x1024 .f32 := mulf x (logistic x)
/-- The inner gate's argument. -/
def gateIn (p : FVec F S8192x1024 .f32) (a5 : FVec F S1x1024 .f32) (a6 : FVec F S1024x1024 .f32) : FVec F S8192x1024 .f32 :=
  addf (Host.dotGeneral dot_S8192x1024_S1024x1024_S8192x1024_1_0_0_1_n_n none (act p) a6) (spread a5)
/-- The gradients, from `p` and the inner gate's argument `s`. -/
def argBack (p s a2 a3 : FVec F S8192x1024 .f32) : FVec F S8192x1024 .f32 := mulf (mulf (act p) (mulf a3 (swish a2))) (slopes s)
def branchBack (p s a2 a3 : FVec F S8192x1024 .f32) : FVec F S8192x1024 .f32 :=
  addf (mulf (mulf (mulf (act p) (logistic s)) a3) (logistic a2))
    (mulf (mulf a2 (mulf (mulf (act p) (logistic s)) a3)) (slopes a2))
def total (p s a2 a3 : FVec F S8192x1024 .f32) (a6 : FVec F S1024x1024 .f32) : FVec F S8192x1024 .f32 :=
  addf (mulf (mulf a3 (swish a2)) (logistic s))
    (Host.dotGeneral dot_S8192x1024_S1024x1024_S8192x1024_1_1_0_0_n_n none (argBack p s a2 a3) a6)
def curveBack (p t : FVec F S8192x1024 .f32) : FVec F S8192x1024 .f32 :=
  mulf (fill 0x3F4C422A#32) (mulf (mulf (fill 0x3F000000#32) (mulf p t))
    (mulf (addf (fill 0x3F800000#32) (curve p)) (subf (fill 0x3F800000#32) (curve p))))
def actBack (p t : FVec F S8192x1024 .f32) : FVec F S8192x1024 .f32 :=
  addf (addf (mulf t (halves p)) (curveBack p t))
    (mulf (mulf (fill 0x3D372713#32) (curveBack p t)) (mulf (fill 0x40400000#32) (mulf p p)))
/-- A column sum. -/
def columns (x : FVec F S8192x1024 .f32) : FVec F S1x1024 .f32 :=
  shapeCast _ (Host.reduceAdd x (constant S_ .f32 0x00000000#32) reducesTo_S8192x1024_S1024_d0 h_S_) shapeCasts_S1024_S1x1024

/-- The results, from the arguments. -/
def argOut (a0 a1 a2 a3 : FVec F S8192x1024 .f32) (a4 a5 : FVec F S1x1024 .f32) (a6 : FVec F S1024x1024 .f32) : FVec F S8192x1024 .bf16 :=
  truncf .bf16 (argBack (input a0 a1 a4) (gateIn (input a0 a1 a4) a5 a6) a2 a3) bitsLt_bf16_f32
def branchOut (a0 a1 a2 a3 : FVec F S8192x1024 .f32) (a4 a5 : FVec F S1x1024 .f32) (a6 : FVec F S1024x1024 .f32) : FVec F S8192x1024 .bf16 :=
  truncf .bf16 (branchBack (input a0 a1 a4) (gateIn (input a0 a1 a4) a5 a6) a2 a3) bitsLt_bf16_f32
def rowsOut (a0 a1 a2 a3 : FVec F S8192x1024 .f32) (a4 a5 : FVec F S1x1024 .f32) (a6 : FVec F S1024x1024 .f32) : FVec F S8192x1024 .f32 :=
  actBack (input a0 a1 a4) (total (input a0 a1 a4) (gateIn (input a0 a1 a4) a5 a6) a2 a3 a6)
def inputOut (a0 a1 a2 a3 : FVec F S8192x1024 .f32) (a4 a5 : FVec F S1x1024 .f32) (a6 : FVec F S1024x1024 .f32) : FVec F S8192x1024 .f32 := mulf (spread a4) (rowsOut a0 a1 a2 a3 a4 a5 a6)
def biasOut (a0 a1 a2 a3 : FVec F S8192x1024 .f32) (a4 a5 : FVec F S1x1024 .f32) (a6 : FVec F S1024x1024 .f32) : FVec F S1x1024 .f32 :=
  columns (argBack (input a0 a1 a4) (gateIn (input a0 a1 a4) a5 a6) a2 a3)
def skipOut (a0 a1 a2 a3 : FVec F S8192x1024 .f32) (a4 a5 : FVec F S1x1024 .f32) (a6 : FVec F S1024x1024 .f32) : FVec F S1x1024 .f32 := columns (mulf (rowsOut a0 a1 a2 a3 a4 a5 a6) a1)

end Stages

variable {F : FTy → Type} [FloatOps F]

/-- @main's 98 operations, in order. -/
abbrev ops : List (HloOp τ sig (Elt F)) :=
  [ unary main_arg4 main_v0 (broadcastInDim S8192x1024 ![0, 1] bcast_S1x1024_S8192x1024_0_1 : (⟨S1x1024, .f32⟩ : BufTy).Contents (Elt F) → (⟨S8192x1024, .f32⟩ : BufTy).Contents (Elt F)),
    binary main_v0 main_arg1 main_v1 (mulf : (⟨S8192x1024, .f32⟩ : BufTy).Contents (Elt F) → (⟨S8192x1024, .f32⟩ : BufTy).Contents (Elt F) → (⟨S8192x1024, .f32⟩ : BufTy).Contents (Elt F)),
    binary main_arg0 main_v1 main_v2 (addf : (⟨S8192x1024, .f32⟩ : BufTy).Contents (Elt F) → (⟨S8192x1024, .f32⟩ : BufTy).Contents (Elt F) → (⟨S8192x1024, .f32⟩ : BufTy).Contents (Elt F)),
    binary main_v2 main_v2 main_v3 (mulf : (⟨S8192x1024, .f32⟩ : BufTy).Contents (Elt F) → (⟨S8192x1024, .f32⟩ : BufTy).Contents (Elt F) → (⟨S8192x1024, .f32⟩ : BufTy).Contents (Elt F)),
    binary main_v3 main_v2 main_v4 (mulf : (⟨S8192x1024, .f32⟩ : BufTy).Contents (Elt F) → (⟨S8192x1024, .f32⟩ : BufTy).Contents (Elt F) → (⟨S8192x1024, .f32⟩ : BufTy).Contents (Elt F)),
    binary main_v2 main_v2 main_v5 (mulf : (⟨S8192x1024, .f32⟩ : BufTy).Contents (Elt F) → (⟨S8192x1024, .f32⟩ : BufTy).Contents (Elt F) → (⟨S8192x1024, .f32⟩ : BufTy).Contents (Elt F)),
    nullary main_cst (constant S_ .f32 0x40400000#32),
    unary main_cst main_v6 (broadcastInDim S8192x1024 ![] bcast_S_S8192x1024 : (⟨S_, .f32⟩ : BufTy).Contents (Elt F) → (⟨S8192x1024, .f32⟩ : BufTy).Contents (Elt F)),
    binary main_v6 main_v5 main_v7 (mulf : (⟨S8192x1024, .f32⟩ : BufTy).Contents (Elt F) → (⟨S8192x1024, .f32⟩ : BufTy).Contents (Elt F) → (⟨S8192x1024, .f32⟩ : BufTy).Contents (Elt F)),
    nullary main_cst_0 (constant S_ .f32 0x3D372713#32),
    unary main_cst_0 main_v8 (broadcastInDim S8192x1024 ![] bcast_S_S8192x1024 : (⟨S_, .f32⟩ : BufTy).Contents (Elt F) → (⟨S8192x1024, .f32⟩ : BufTy).Contents (Elt F)),
    binary main_v8 main_v4 main_v9 (mulf : (⟨S8192x1024, .f32⟩ : BufTy).Contents (Elt F) → (⟨S8192x1024, .f32⟩ : BufTy).Contents (Elt F) → (⟨S8192x1024, .f32⟩ : BufTy).Contents (Elt F)),
    binary main_v2 main_v9 main_v10 (addf : (⟨S8192x1024, .f32⟩ : BufTy).Contents (Elt F) → (⟨S8192x1024, .f32⟩ : BufTy).Contents (Elt F) → (⟨S8192x1024, .f32⟩ : BufTy).Contents (Elt F)),
    nullary main_cst_1 (constant S_ .f32 0x3F4C422A#32),
    unary main_cst_1 main_v11 (broadcastInDim S8192x1024 ![] bcast_S_S8192x1024 : (⟨S_, .f32⟩ : BufTy).Contents (Elt F) → (⟨S8192x1024, .f32⟩ : BufTy).Contents (Elt F)),
    binary main_v11 main_v10 main_v12 (mulf : (⟨S8192x1024, .f32⟩ : BufTy).Contents (Elt F) → (⟨S8192x1024, .f32⟩ : BufTy).Contents (Elt F) → (⟨S8192x1024, .f32⟩ : BufTy).Contents (Elt F)),
    unary main_v12 main_v13 (Host.tanh : (⟨S8192x1024, .f32⟩ : BufTy).Contents (Elt F) → (⟨S8192x1024, .f32⟩ : BufTy).Contents (Elt F)),
    nullary main_cst_2 (constant S_ .f32 0x3F800000#32),
    unary main_cst_2 main_v14 (broadcastInDim S8192x1024 ![] bcast_S_S8192x1024 : (⟨S_, .f32⟩ : BufTy).Contents (Elt F) → (⟨S8192x1024, .f32⟩ : BufTy).Contents (Elt F)),
    binary main_v14 main_v13 main_v15 (addf : (⟨S8192x1024, .f32⟩ : BufTy).Contents (Elt F) → (⟨S8192x1024, .f32⟩ : BufTy).Contents (Elt F) → (⟨S8192x1024, .f32⟩ : BufTy).Contents (Elt F)),
    nullary main_cst_3 (constant S_ .f32 0x3F800000#32),
    unary main_cst_3 main_v16 (broadcastInDim S8192x1024 ![] bcast_S_S8192x1024 : (⟨S_, .f32⟩ : BufTy).Contents (Elt F) → (⟨S8192x1024, .f32⟩ : BufTy).Contents (Elt F)),
    binary main_v16 main_v13 main_v17 (subf : (⟨S8192x1024, .f32⟩ : BufTy).Contents (Elt F) → (⟨S8192x1024, .f32⟩ : BufTy).Contents (Elt F) → (⟨S8192x1024, .f32⟩ : BufTy).Contents (Elt F)),
    binary main_v15 main_v17 main_v18 (mulf : (⟨S8192x1024, .f32⟩ : BufTy).Contents (Elt F) → (⟨S8192x1024, .f32⟩ : BufTy).Contents (Elt F) → (⟨S8192x1024, .f32⟩ : BufTy).Contents (Elt F)),
    nullary main_cst_4 (constant S_ .f32 0x3F800000#32),
    unary main_cst_4 main_v19 (broadcastInDim S8192x1024 ![] bcast_S_S8192x1024 : (⟨S_, .f32⟩ : BufTy).Contents (Elt F) → (⟨S8192x1024, .f32⟩ : BufTy).Contents (Elt F)),
    binary main_v19 main_v13 main_v20 (addf : (⟨S8192x1024, .f32⟩ : BufTy).Contents (Elt F) → (⟨S8192x1024, .f32⟩ : BufTy).Contents (Elt F) → (⟨S8192x1024, .f32⟩ : BufTy).Contents (Elt F)),
    nullary main_cst_5 (constant S_ .f32 0x3F000000#32),
    unary main_cst_5 main_v21 (broadcastInDim S8192x1024 ![] bcast_S_S8192x1024 : (⟨S_, .f32⟩ : BufTy).Contents (Elt F) → (⟨S8192x1024, .f32⟩ : BufTy).Contents (Elt F)),
    binary main_v21 main_v20 main_v22 (mulf : (⟨S8192x1024, .f32⟩ : BufTy).Contents (Elt F) → (⟨S8192x1024, .f32⟩ : BufTy).Contents (Elt F) → (⟨S8192x1024, .f32⟩ : BufTy).Contents (Elt F)),
    binary main_v2 main_v22 main_v23 (mulf : (⟨S8192x1024, .f32⟩ : BufTy).Contents (Elt F) → (⟨S8192x1024, .f32⟩ : BufTy).Contents (Elt F) → (⟨S8192x1024, .f32⟩ : BufTy).Contents (Elt F)),
    binary main_v23 main_arg6 main_v24 ((fun l r => Host.dotGeneral dot_S8192x1024_S1024x1024_S8192x1024_1_0_0_1_n_n none l r) : (⟨S8192x1024, .f32⟩ : BufTy).Contents (Elt F) → (⟨S1024x1024, .f32⟩ : BufTy).Contents (Elt F) → (⟨S8192x1024, .f32⟩ : BufTy).Contents (Elt F)),
    unary main_arg5 main_v25 (broadcastInDim S8192x1024 ![0, 1] bcast_S1x1024_S8192x1024_0_1 : (⟨S1x1024, .f32⟩ : BufTy).Contents (Elt F) → (⟨S8192x1024, .f32⟩ : BufTy).Contents (Elt F)),
    binary main_v24 main_v25 main_v26 (addf : (⟨S8192x1024, .f32⟩ : BufTy).Contents (Elt F) → (⟨S8192x1024, .f32⟩ : BufTy).Contents (Elt F) → (⟨S8192x1024, .f32⟩ : BufTy).Contents (Elt F)),
    unary main_v26 main_v27 (Host.negf : (⟨S8192x1024, .f32⟩ : BufTy).Contents (Elt F) → (⟨S8192x1024, .f32⟩ : BufTy).Contents (Elt F)),
    unary main_v27 main_v28 (Host.exp : (⟨S8192x1024, .f32⟩ : BufTy).Contents (Elt F) → (⟨S8192x1024, .f32⟩ : BufTy).Contents (Elt F)),
    nullary main_cst_6 (constant S_ .f32 0x3F800000#32),
    unary main_cst_6 main_v29 (broadcastInDim S8192x1024 ![] bcast_S_S8192x1024 : (⟨S_, .f32⟩ : BufTy).Contents (Elt F) → (⟨S8192x1024, .f32⟩ : BufTy).Contents (Elt F)),
    binary main_v29 main_v28 main_v30 (addf : (⟨S8192x1024, .f32⟩ : BufTy).Contents (Elt F) → (⟨S8192x1024, .f32⟩ : BufTy).Contents (Elt F) → (⟨S8192x1024, .f32⟩ : BufTy).Contents (Elt F)),
    nullary main_cst_7 (constant S_ .f32 0x3F800000#32),
    unary main_cst_7 main_v31 (broadcastInDim S8192x1024 ![] bcast_S_S8192x1024 : (⟨S_, .f32⟩ : BufTy).Contents (Elt F) → (⟨S8192x1024, .f32⟩ : BufTy).Contents (Elt F)),
    binary main_v31 main_v30 main_v32 (Host.divf : (⟨S8192x1024, .f32⟩ : BufTy).Contents (Elt F) → (⟨S8192x1024, .f32⟩ : BufTy).Contents (Elt F) → (⟨S8192x1024, .f32⟩ : BufTy).Contents (Elt F)),
    nullary main_cst_8 (constant S_ .f32 0x3F800000#32),
    unary main_cst_8 main_v33 (broadcastInDim S8192x1024 ![] bcast_S_S8192x1024 : (⟨S_, .f32⟩ : BufTy).Contents (Elt F) → (⟨S8192x1024, .f32⟩ : BufTy).Contents (Elt F)),
    binary main_v33 main_v32 main_v34 (subf : (⟨S8192x1024, .f32⟩ : BufTy).Contents (Elt F) → (⟨S8192x1024, .f32⟩ : BufTy).Contents (Elt F) → (⟨S8192x1024, .f32⟩ : BufTy).Contents (Elt F)),
    binary main_v32 main_v34 main_v35 (mulf : (⟨S8192x1024, .f32⟩ : BufTy).Contents (Elt F) → (⟨S8192x1024, .f32⟩ : BufTy).Contents (Elt F) → (⟨S8192x1024, .f32⟩ : BufTy).Contents (Elt F)),
    binary main_v23 main_v32 main_v36 (mulf : (⟨S8192x1024, .f32⟩ : BufTy).Contents (Elt F) → (⟨S8192x1024, .f32⟩ : BufTy).Contents (Elt F) → (⟨S8192x1024, .f32⟩ : BufTy).Contents (Elt F)),
    TRef.unary (TRef.of (T := ⟨S8192x1024, .f32⟩) main_arg2) (TRef.of (T := ⟨S8192x1024, .f32⟩) main_call0_v0) Host.negf,
    TRef.unary (TRef.of (T := ⟨S8192x1024, .f32⟩) main_call0_v0) (TRef.of (T := ⟨S8192x1024, .f32⟩) main_call0_v1) Host.exp,
    TRef.nullary (TRef.of (T := ⟨S_, .f32⟩) main_call0_cst) (constant S_ .f32 0x3F800000#32),
    TRef.unary (TRef.of (T := ⟨S_, .f32⟩) main_call0_cst) (TRef.of (T := ⟨S8192x1024, .f32⟩) main_call0_v2) (broadcastInDim S8192x1024 ![] bcast_S_S8192x1024),
    TRef.binary (TRef.of (T := ⟨S8192x1024, .f32⟩) main_call0_v2) (TRef.of (T := ⟨S8192x1024, .f32⟩) main_call0_v1) (TRef.of (T := ⟨S8192x1024, .f32⟩) main_call0_v3) addf,
    TRef.nullary (TRef.of (T := ⟨S_, .f32⟩) main_call0_cst_0) (constant S_ .f32 0x3F800000#32),
    TRef.unary (TRef.of (T := ⟨S_, .f32⟩) main_call0_cst_0) (TRef.of (T := ⟨S8192x1024, .f32⟩) main_call0_v4) (broadcastInDim S8192x1024 ![] bcast_S_S8192x1024),
    TRef.binary (TRef.of (T := ⟨S8192x1024, .f32⟩) main_call0_v4) (TRef.of (T := ⟨S8192x1024, .f32⟩) main_call0_v3) (TRef.of (T := ⟨S8192x1024, .f32⟩) main_v37_2) Host.divf,
    TRef.nullary (TRef.of (T := ⟨S_, .f32⟩) main_call0_cst_1) (constant S_ .f32 0x3F800000#32),
    TRef.unary (TRef.of (T := ⟨S_, .f32⟩) main_call0_cst_1) (TRef.of (T := ⟨S8192x1024, .f32⟩) main_call0_v6) (broadcastInDim S8192x1024 ![] bcast_S_S8192x1024),
    TRef.binary (TRef.of (T := ⟨S8192x1024, .f32⟩) main_call0_v6) (TRef.of (T := ⟨S8192x1024, .f32⟩) main_v37_2) (TRef.of (T := ⟨S8192x1024, .f32⟩) main_call0_v7) subf,
    TRef.binary (TRef.of (T := ⟨S8192x1024, .f32⟩) main_v37_2) (TRef.of (T := ⟨S8192x1024, .f32⟩) main_call0_v7) (TRef.of (T := ⟨S8192x1024, .f32⟩) main_v37_1) mulf,
    TRef.binary (TRef.of (T := ⟨S8192x1024, .f32⟩) main_arg2) (TRef.of (T := ⟨S8192x1024, .f32⟩) main_v37_2) (TRef.of (T := ⟨S8192x1024, .f32⟩) main_v37_0) mulf,
    binary main_v36 main_v37_0 main_v38 (mulf : (⟨S8192x1024, .f32⟩ : BufTy).Contents (Elt F) → (⟨S8192x1024, .f32⟩ : BufTy).Contents (Elt F) → (⟨S8192x1024, .f32⟩ : BufTy).Contents (Elt F)),
    binary main_v36 main_arg3 main_v39 (mulf : (⟨S8192x1024, .f32⟩ : BufTy).Contents (Elt F) → (⟨S8192x1024, .f32⟩ : BufTy).Contents (Elt F) → (⟨S8192x1024, .f32⟩ : BufTy).Contents (Elt F)),
    binary main_arg3 main_v37_0 main_v40 (mulf : (⟨S8192x1024, .f32⟩ : BufTy).Contents (Elt F) → (⟨S8192x1024, .f32⟩ : BufTy).Contents (Elt F) → (⟨S8192x1024, .f32⟩ : BufTy).Contents (Elt F)),
    TRef.binary (TRef.of (T := ⟨S8192x1024, .f32⟩) main_arg2) (TRef.of (T := ⟨S8192x1024, .f32⟩) main_v39) (TRef.of (T := ⟨S8192x1024, .f32⟩) main_call1_v0) mulf,
    TRef.binary (TRef.of (T := ⟨S8192x1024, .f32⟩) main_v39) (TRef.of (T := ⟨S8192x1024, .f32⟩) main_v37_2) (TRef.of (T := ⟨S8192x1024, .f32⟩) main_call1_v1) mulf,
    TRef.binary (TRef.of (T := ⟨S8192x1024, .f32⟩) main_call1_v0) (TRef.of (T := ⟨S8192x1024, .f32⟩) main_v37_1) (TRef.of (T := ⟨S8192x1024, .f32⟩) main_call1_v2) mulf,
    TRef.binary (TRef.of (T := ⟨S8192x1024, .f32⟩) main_call1_v1) (TRef.of (T := ⟨S8192x1024, .f32⟩) main_call1_v2) (TRef.of (T := ⟨S8192x1024, .f32⟩) main_v41) addf,
    binary main_v23 main_v40 main_v42 (mulf : (⟨S8192x1024, .f32⟩ : BufTy).Contents (Elt F) → (⟨S8192x1024, .f32⟩ : BufTy).Contents (Elt F) → (⟨S8192x1024, .f32⟩ : BufTy).Contents (Elt F)),
    binary main_v40 main_v32 main_v43 (mulf : (⟨S8192x1024, .f32⟩ : BufTy).Contents (Elt F) → (⟨S8192x1024, .f32⟩ : BufTy).Contents (Elt F) → (⟨S8192x1024, .f32⟩ : BufTy).Contents (Elt F)),
    binary main_v42 main_v35 main_v44 (mulf : (⟨S8192x1024, .f32⟩ : BufTy).Contents (Elt F) → (⟨S8192x1024, .f32⟩ : BufTy).Contents (Elt F) → (⟨S8192x1024, .f32⟩ : BufTy).Contents (Elt F)),
    nullary main_cst_9 (constant S_ .f32 0x00000000#32),
    binary main_v44 main_cst_9 main_v45 ((fun x v => Host.reduceAdd x v reducesTo_S8192x1024_S1024_d0 h_S_) : (⟨S8192x1024, .f32⟩ : BufTy).Contents (Elt F) → (⟨S_, .f32⟩ : BufTy).Contents (Elt F) → (⟨S1024, .f32⟩ : BufTy).Contents (Elt F)),
    reshape main_v45 main_v46 (rfl : (.f32 : EltTy) = .f32) shapeCasts_S1024_S1x1024,
    binary main_v44 main_arg6 main_v47 ((fun l r => Host.dotGeneral dot_S8192x1024_S1024x1024_S8192x1024_1_1_0_0_n_n none l r) : (⟨S8192x1024, .f32⟩ : BufTy).Contents (Elt F) → (⟨S1024x1024, .f32⟩ : BufTy).Contents (Elt F) → (⟨S8192x1024, .f32⟩ : BufTy).Contents (Elt F)),
    binary main_v43 main_v47 main_v48 (addf : (⟨S8192x1024, .f32⟩ : BufTy).Contents (Elt F) → (⟨S8192x1024, .f32⟩ : BufTy).Contents (Elt F) → (⟨S8192x1024, .f32⟩ : BufTy).Contents (Elt F)),
    binary main_v2 main_v48 main_v49 (mulf : (⟨S8192x1024, .f32⟩ : BufTy).Contents (Elt F) → (⟨S8192x1024, .f32⟩ : BufTy).Contents (Elt F) → (⟨S8192x1024, .f32⟩ : BufTy).Contents (Elt F)),
    binary main_v48 main_v22 main_v50 (mulf : (⟨S8192x1024, .f32⟩ : BufTy).Contents (Elt F) → (⟨S8192x1024, .f32⟩ : BufTy).Contents (Elt F) → (⟨S8192x1024, .f32⟩ : BufTy).Contents (Elt F)),
    nullary main_cst_10 (constant S_ .f32 0x3F000000#32),
    unary main_cst_10 main_v51 (broadcastInDim S8192x1024 ![] bcast_S_S8192x1024 : (⟨S_, .f32⟩ : BufTy).Contents (Elt F) → (⟨S8192x1024, .f32⟩ : BufTy).Contents (Elt F)),
    binary main_v51 main_v49 main_v52 (mulf : (⟨S8192x1024, .f32⟩ : BufTy).Contents (Elt F) → (⟨S8192x1024, .f32⟩ : BufTy).Contents (Elt F) → (⟨S8192x1024, .f32⟩ : BufTy).Contents (Elt F)),
    binary main_v52 main_v18 main_v53 (mulf : (⟨S8192x1024, .f32⟩ : BufTy).Contents (Elt F) → (⟨S8192x1024, .f32⟩ : BufTy).Contents (Elt F) → (⟨S8192x1024, .f32⟩ : BufTy).Contents (Elt F)),
    nullary main_cst_11 (constant S_ .f32 0x3F4C422A#32),
    unary main_cst_11 main_v54 (broadcastInDim S8192x1024 ![] bcast_S_S8192x1024 : (⟨S_, .f32⟩ : BufTy).Contents (Elt F) → (⟨S8192x1024, .f32⟩ : BufTy).Contents (Elt F)),
    binary main_v54 main_v53 main_v55 (mulf : (⟨S8192x1024, .f32⟩ : BufTy).Contents (Elt F) → (⟨S8192x1024, .f32⟩ : BufTy).Contents (Elt F) → (⟨S8192x1024, .f32⟩ : BufTy).Contents (Elt F)),
    binary main_v50 main_v55 main_v56 (addf : (⟨S8192x1024, .f32⟩ : BufTy).Contents (Elt F) → (⟨S8192x1024, .f32⟩ : BufTy).Contents (Elt F) → (⟨S8192x1024, .f32⟩ : BufTy).Contents (Elt F)),
    nullary main_cst_12 (constant S_ .f32 0x3D372713#32),
    unary main_cst_12 main_v57 (broadcastInDim S8192x1024 ![] bcast_S_S8192x1024 : (⟨S_, .f32⟩ : BufTy).Contents (Elt F) → (⟨S8192x1024, .f32⟩ : BufTy).Contents (Elt F)),
    binary main_v57 main_v55 main_v58 (mulf : (⟨S8192x1024, .f32⟩ : BufTy).Contents (Elt F) → (⟨S8192x1024, .f32⟩ : BufTy).Contents (Elt F) → (⟨S8192x1024, .f32⟩ : BufTy).Contents (Elt F)),
    binary main_v58 main_v7 main_v59 (mulf : (⟨S8192x1024, .f32⟩ : BufTy).Contents (Elt F) → (⟨S8192x1024, .f32⟩ : BufTy).Contents (Elt F) → (⟨S8192x1024, .f32⟩ : BufTy).Contents (Elt F)),
    binary main_v56 main_v59 main_v60 (addf : (⟨S8192x1024, .f32⟩ : BufTy).Contents (Elt F) → (⟨S8192x1024, .f32⟩ : BufTy).Contents (Elt F) → (⟨S8192x1024, .f32⟩ : BufTy).Contents (Elt F)),
    unary main_arg4 main_v61 (broadcastInDim S8192x1024 ![0, 1] bcast_S1x1024_S8192x1024_0_1 : (⟨S1x1024, .f32⟩ : BufTy).Contents (Elt F) → (⟨S8192x1024, .f32⟩ : BufTy).Contents (Elt F)),
    binary main_v61 main_v60 main_v62 (mulf : (⟨S8192x1024, .f32⟩ : BufTy).Contents (Elt F) → (⟨S8192x1024, .f32⟩ : BufTy).Contents (Elt F) → (⟨S8192x1024, .f32⟩ : BufTy).Contents (Elt F)),
    binary main_v60 main_arg1 main_v63 (mulf : (⟨S8192x1024, .f32⟩ : BufTy).Contents (Elt F) → (⟨S8192x1024, .f32⟩ : BufTy).Contents (Elt F) → (⟨S8192x1024, .f32⟩ : BufTy).Contents (Elt F)),
    nullary main_cst_13 (constant S_ .f32 0x00000000#32),
    binary main_v63 main_cst_13 main_v64 ((fun x v => Host.reduceAdd x v reducesTo_S8192x1024_S1024_d0 h_S_) : (⟨S8192x1024, .f32⟩ : BufTy).Contents (Elt F) → (⟨S_, .f32⟩ : BufTy).Contents (Elt F) → (⟨S1024, .f32⟩ : BufTy).Contents (Elt F)),
    reshape main_v64 main_v65 (rfl : (.f32 : EltTy) = .f32) shapeCasts_S1024_S1x1024,
    unary main_v44 main_v66 ((truncf .bf16 · bitsLt_bf16_f32) : (⟨S8192x1024, .f32⟩ : BufTy).Contents (Elt F) → (⟨S8192x1024, .bf16⟩ : BufTy).Contents (Elt F)),
    unary main_v41 main_v67 ((truncf .bf16 · bitsLt_bf16_f32) : (⟨S8192x1024, .f32⟩ : BufTy).Contents (Elt F) → (⟨S8192x1024, .bf16⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., binary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., binary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., nullary_bufs_sub .., binary_bufs_sub .., reshape_bufs_sub .., binary_bufs_sub .., binary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., binary_bufs_sub .., unary_bufs_sub .., binary_bufs_sub .., binary_bufs_sub .., nullary_bufs_sub .., binary_bufs_sub .., reshape_bufs_sub .., unary_bufs_sub .., unary_bufs_sub ..⟩

set_option maxRecDepth 8192 in
set_option maxHeartbeats 40000000 in
/-- Every execution of the reference ends with its results at the stages' composition, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v66) = argOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v67) = branchOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v60) = rowsOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v62) = inputOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v46) = biasOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v65) = skipOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v66).trans (by simp only [ops, TRef.binary, TRef.nullary, TRef.unary, TRef.toBuf, TRef.ofBuf, cast_eq]; after_results_simp <;> rfl),
      (h c main_v67).trans (by simp only [ops, TRef.binary, TRef.nullary, TRef.unary, TRef.toBuf, TRef.ofBuf, cast_eq]; after_results_simp <;> rfl),
      (h c main_v60).trans (by simp only [ops, TRef.binary, TRef.nullary, TRef.unary, TRef.toBuf, TRef.ofBuf, cast_eq]; after_results_simp <;> rfl),
      (h c main_v62).trans (by simp only [ops, TRef.binary, TRef.nullary, TRef.unary, TRef.toBuf, TRef.ofBuf, cast_eq]; after_results_simp <;> rfl),
      (h c main_v46).trans (by simp only [ops, TRef.binary, TRef.nullary, TRef.unary, TRef.toBuf, TRef.ofBuf, cast_eq]; after_results_simp <;> rfl),
      (h c main_v65).trans (by simp only [ops, TRef.binary, TRef.nullary, TRef.unary, TRef.toBuf, TRef.ofBuf, cast_eq]; after_results_simp <;> rfl),
      (h c main_arg0).trans (by simp only [ops, TRef.binary, TRef.nullary, TRef.unary, TRef.toBuf, TRef.ofBuf, cast_eq]; after_results_simp <;> rfl),
      (h c main_arg1).trans (by simp only [ops, TRef.binary, TRef.nullary, TRef.unary, TRef.toBuf, TRef.ofBuf, cast_eq]; after_results_simp <;> rfl),
      (h c main_arg2).trans (by simp only [ops, TRef.binary, TRef.nullary, TRef.unary, TRef.toBuf, TRef.ofBuf, cast_eq]; after_results_simp <;> rfl),
      (h c main_arg3).trans (by simp only [ops, TRef.binary, TRef.nullary, TRef.unary, TRef.toBuf, TRef.ofBuf, cast_eq]; after_results_simp <;> rfl),
      (h c main_arg4).trans (by simp only [ops, TRef.binary, TRef.nullary, TRef.unary, TRef.toBuf, TRef.ofBuf, cast_eq]; after_results_simp <;> rfl),
      (h c main_arg5).trans (by simp only [ops, TRef.binary, TRef.nullary, TRef.unary, TRef.toBuf, TRef.ofBuf, cast_eq]; after_results_simp <;> rfl),
      (h c main_arg6).trans (by simp only [ops, TRef.binary, TRef.nullary, TRef.unary, TRef.toBuf, TRef.ofBuf, cast_eq]; after_results_simp <;> rfl)⟩)
    (run_seq scopedRefs_eq scopedSems_eq defs main (fun _ => ops) main_eq (fun _ => ops_sub) m ρ)

end Cert.GateBackARun

end
-- ==== Proof.GateBackARead.lean ====
/-
  The staged run of the reference read down to the row formulas.
-/
module

public import proofs.«01_k».proof.Proof.GateBackARun

@[expose] public section

noncomputable section

namespace Cert.GateBackARun

open Cert.Reference10Ideal Cert.Reference10Ideal.Gen Idealize.ShloMosaic Idealize.ShloMosaic.TcCoe Idealize.SL.Sem Idealize.ShloMosaic.StableHlo
open Cert.NormsProj Cert.Weight Cert.RowFormula

section Reading

variable (a0 a1 a2 a3 : FVec Ideal S8192x1024 .f32) (a4 a5 : FVec Ideal S1x1024 .f32) (a6 : FVec Ideal S1024x1024 .f32)
  (q t s : FVec Ideal S8192x1024 .f32) (p : Fin 8192) (l : Fin 1024)

theorem input_read : input a0 a1 a4 (ix2 p l) = a0 (ix2 p l) + a4 (ix2 0 l) * a1 (ix2 p l) := by
  pointwise [input, spread]

theorem curve_read : curve q (ix2 p l) = bend (q (ix2 p l)) := by
  pointwise [curve, fill, bend]
  all_goals simp only [mul_assoc]

theorem halves_read : halves q (ix2 p l) = Ideal.ofBits .f32 0x3F000000#32 * (1 + bend (q (ix2 p l))) := by
  pointwise [halves, fill, curve_read]

theorem act_read : act q (ix2 p l) = gelu (q (ix2 p l)) := by
  pointwise [act, halves_read, bend]
  all_goals simp only [gelu, mul_assoc]
  all_goals exact mul_left_comm _ _ _

theorem logistic_read : logistic q (ix2 p l) = sigmoid (q (ix2 p l)) := by
  pointwise [logistic, fill, sigmoid]

theorem slopes_read : slopes q (ix2 p l) = sigmoid (q (ix2 p l)) * (1 - sigmoid (q (ix2 p l))) := by
  pointwise [slopes, fill, logistic_read]

theorem swish_read : swish q (ix2 p l) = silu (q (ix2 p l)) := by
  pointwise [swish, logistic_read, silu]

theorem gateIn_read : gateIn q a5 a6 (ix2 p l) = (∑ j : Fin 1024, gelu (q (ix2 p j)) * a6 (ix2 j l)) + a5 (ix2 0 l) := by
  pointwise [gateIn, spread, act_read]

theorem argBack_read : argBack q s a2 a3 (ix2 p l)
    = sigBack (gelu (q (ix2 p l)) * (a3 (ix2 p l) * silu (a2 (ix2 p l)))) (s (ix2 p l)) := by
  rw [sigBack_eq]
  pointwise [argBack, act_read, swish_read, slopes_read]

theorem branchBack_read : branchBack q s a2 a3 (ix2 p l)
    = siluBack (gelu (q (ix2 p l)) * sigmoid (s (ix2 p l)) * a3 (ix2 p l)) (a2 (ix2 p l)) := by
  rw [siluBack_eq]
  pointwise [branchBack, act_read, logistic_read, slopes_read]

theorem total_read : total q s a2 a3 a6 (ix2 p l) = a3 (ix2 p l) * silu (a2 (ix2 p l)) * sigmoid (s (ix2 p l))
    + ∑ k : Fin 1024, sigBack (gelu (q (ix2 p k)) * (a3 (ix2 p k) * silu (a2 (ix2 p k)))) (s (ix2 p k)) * a6 (ix2 l k) := by
  pointwise [total, swish_read, logistic_read, argBack_read]

theorem actBack_read : actBack q t (ix2 p l) = geluBack (q (ix2 p l)) (t (ix2 p l)) := by
  rw [← geluBack_eq]
  pointwise [actBack, curveBack, fill, halves_read, curve_read]

theorem columns_read (z : Fin 1) : columns q (ix2 z l) = ∑ p : Fin 8192, q (ix2 p l) := by
  pointwise [columns]

theorem rowsOut_read : rowsOut a0 a1 a2 a3 a4 a5 a6 (ix2 p l)
    = dysRow (fun k => a0 (ix2 p k)) (fun k => a1 (ix2 p k)) (fun k => ∑ j : Fin 1024, activated (fun k => a0 (ix2 p k)) (fun k => a1 (ix2 p k)) (fun k => a4 (ix2 0 k)) j * a6 (ix2 j k))
      (fun k => a2 (ix2 p k)) (fun k => a3 (ix2 p k)) (fun k => a4 (ix2 0 k)) (fun k => a5 (ix2 0 k)) (fun u k => a6 (ix2 u k)) l := by
  simp only [rowsOut, actBack_read, total_read, gateIn_read, input_read]
  rfl

theorem arg_read : argOut a0 a1 a2 a3 a4 a5 a6 (ix2 p l)
    = dsRow (fun k => a0 (ix2 p k)) (fun k => a1 (ix2 p k)) (fun k => ∑ j : Fin 1024, activated (fun k => a0 (ix2 p k)) (fun k => a1 (ix2 p k)) (fun k => a4 (ix2 0 k)) j * a6 (ix2 j k))
      (fun k => a2 (ix2 p k)) (fun k => a3 (ix2 p k)) (fun k => a4 (ix2 0 k)) (fun k => a5 (ix2 0 k)) l := by
  show argBack (F := Ideal) _ _ _ _ (ix2 p l) = _
  simp only [argBack_read, gateIn_read, input_read]
  rfl

theorem gate_read : branchOut a0 a1 a2 a3 a4 a5 a6 (ix2 p l)
    = dgaRow (fun k => a0 (ix2 p k)) (fun k => a1 (ix2 p k)) (fun k => ∑ j : Fin 1024, activated (fun k => a0 (ix2 p k)) (fun k => a1 (ix2 p k)) (fun k => a4 (ix2 0 k)) j * a6 (ix2 j k))
      (fun k => a2 (ix2 p k)) (fun k => a3 (ix2 p k)) (fun k => a4 (ix2 0 k)) (fun k => a5 (ix2 0 k)) l := by
  show branchBack (F := Ideal) _ _ _ _ (ix2 p l) = _
  simp only [branchBack_read, gateIn_read, input_read]
  rfl

theorem rows_read : rowsOut a0 a1 a2 a3 a4 a5 a6 (ix2 p l)
    = dysRow (fun k => a0 (ix2 p k)) (fun k => a1 (ix2 p k)) (fun k => ∑ j : Fin 1024, activated (fun k => a0 (ix2 p k)) (fun k => a1 (ix2 p k)) (fun k => a4 (ix2 0 k)) j * a6 (ix2 j k))
      (fun k => a2 (ix2 p k)) (fun k => a3 (ix2 p k)) (fun k => a4 (ix2 0 k)) (fun k => a5 (ix2 0 k)) (fun u k => a6 (ix2 u k)) l :=
  rowsOut_read a0 a1 a2 a3 a4 a5 a6 p l

theorem branch_read : inputOut a0 a1 a2 a3 a4 a5 a6 (ix2 p l)
    = duRow (fun k => a0 (ix2 p k)) (fun k => a1 (ix2 p k)) (fun k => ∑ j : Fin 1024, activated (fun k => a0 (ix2 p k)) (fun k => a1 (ix2 p k)) (fun k => a4 (ix2 0 k)) j * a6 (ix2 j k))
      (fun k => a2 (ix2 p k)) (fun k => a3 (ix2 p k)) (fun k => a4 (ix2 0 k)) (fun k => a5 (ix2 0 k)) (fun u k => a6 (ix2 u k)) l := by
  pointwise [inputOut, spread, rowsOut_read, duRow]

theorem bias_read (z : Fin 1) : biasOut a0 a1 a2 a3 a4 a5 a6 (ix2 z l)
    = ∑ p : Fin 8192, dsRow (fun k => a0 (ix2 p k)) (fun k => a1 (ix2 p k)) (fun k => ∑ j : Fin 1024, activated (fun k => a0 (ix2 p k)) (fun k => a1 (ix2 p k)) (fun k => a4 (ix2 0 k)) j * a6 (ix2 j k))
      (fun k => a2 (ix2 p k)) (fun k => a3 (ix2 p k)) (fun k => a4 (ix2 0 k)) (fun k => a5 (ix2 0 k)) l := by
  simp only [biasOut, columns_read]
  exact Finset.sum_congr rfl fun p _ => arg_read a0 a1 a2 a3 a4 a5 a6 p l

theorem skip_read (z : Fin 1) : skipOut a0 a1 a2 a3 a4 a5 a6 (ix2 z l)
    = ∑ p : Fin 8192, ddRow (fun k => a0 (ix2 p k)) (fun k => a1 (ix2 p k)) (fun k => ∑ j : Fin 1024, activated (fun k => a0 (ix2 p k)) (fun k => a1 (ix2 p k)) (fun k => a4 (ix2 0 k)) j * a6 (ix2 j k))
      (fun k => a2 (ix2 p k)) (fun k => a3 (ix2 p k)) (fun k => a4 (ix2 0 k)) (fun k => a5 (ix2 0 k)) (fun u k => a6 (ix2 u k)) l := by
  simp only [skipOut, columns_read]
  refine Finset.sum_congr rfl fun p _ => ?_
  pointwise [rowsOut_read, ddRow]

end Reading

end Cert.GateBackARun

end
-- ==== Proof.GateBackA.lean ====
/-
  The backward step of the first mixer's gates: the kernel's run and the reference's, both read down to the same row formulas.
-/
module

public import proofs.«01_k».proof.Proof.Gen.Kernel10Ideal.Value
public import proofs.«01_k».proof.Proof.GateBackARead
public import proofs.«01_k».proof.Proof.RowFormula

@[expose] public section

noncomputable section

namespace Cert.GateBackA

open Idealize.ShloMosaic Cert.NormsProj Cert.Weight Cert.RowFormula

/-- What window 2 reads, computed before the call. -/
abbrev src2 (A0 : Arr 8192 1024) (A1 : Arr 8192 1024) (A2 : Arr 8192 1024) (A3 : Arr 8192 1024) (A4 : Arr 1 1024) (A5 : Arr 1 1024) (A6 : Arr 1024 1024) (p : Fin 8192) (k : Fin 1024) : EReal :=
  ∑ j : Fin 1024, activated (fun k => A0 (ix2 p k)) (fun k => A1 (ix2 p k)) (fun k => A4 (ix2 0 k)) j * A6 (ix2 j k)

/-- The gradient of the inner gate's argument, row by row. -/
def argGrad (A0 : Arr 8192 1024) (A1 : Arr 8192 1024) (A2 : Arr 8192 1024) (A3 : Arr 8192 1024) (A4 : Arr 1 1024) (A5 : Arr 1 1024) (A6 : Arr 1024 1024) : Rows := fun i =>
  dsRow (fun k => A0 (ix2 (i 0) k)) (fun k => A1 (ix2 (i 0) k)) (fun k => src2 A0 A1 A2 A3 A4 A5 A6 (i 0) k) (fun k => A2 (ix2 (i 0) k)) (fun k => A3 (ix2 (i 0) k)) (fun k => A4 (ix2 0 k)) (fun k => A5 (ix2 0 k)) (i 1)

/-- The gradient of the gate branch, row by row. -/
def gateGrad (A0 : Arr 8192 1024) (A1 : Arr 8192 1024) (A2 : Arr 8192 1024) (A3 : Arr 8192 1024) (A4 : Arr 1 1024) (A5 : Arr 1 1024) (A6 : Arr 1024 1024) : Rows := fun i =>
  dgaRow (fun k => A0 (ix2 (i 0) k)) (fun k => A1 (ix2 (i 0) k)) (fun k => src2 A0 A1 A2 A3 A4 A5 A6 (i 0) k) (fun k => A2 (ix2 (i 0) k)) (fun k => A3 (ix2 (i 0) k)) (fun k => A4 (ix2 0 k)) (fun k => A5 (ix2 0 k)) (i 1)

/-- The gradient of the recurrence's rows, row by row. -/
def rowsGrad (A0 : Arr 8192 1024) (A1 : Arr 8192 1024) (A2 : Arr 8192 1024) (A3 : Arr 8192 1024) (A4 : Arr 1 1024) (A5 : Arr 1 1024) (A6 : Arr 1024 1024) : Rows := fun i =>
  dysRow (fun k => A0 (ix2 (i 0) k)) (fun k => A1 (ix2 (i 0) k)) (fun k => src2 A0 A1 A2 A3 A4 A5 A6 (i 0) k) (fun k => A2 (ix2 (i 0) k)) (fun k => A3 (ix2 (i 0) k)) (fun k => A4 (ix2 0 k)) (fun k => A5 (ix2 0 k)) (fun u k => A6 (ix2 u k)) (i 1)

/-- The gradient of the input branch, row by row. -/
def branchGrad (A0 : Arr 8192 1024) (A1 : Arr 8192 1024) (A2 : Arr 8192 1024) (A3 : Arr 8192 1024) (A4 : Arr 1 1024) (A5 : Arr 1 1024) (A6 : Arr 1024 1024) : Rows := fun i =>
  duRow (fun k => A0 (ix2 (i 0) k)) (fun k => A1 (ix2 (i 0) k)) (fun k => src2 A0 A1 A2 A3 A4 A5 A6 (i 0) k) (fun k => A2 (ix2 (i 0) k)) (fun k => A3 (ix2 (i 0) k)) (fun k => A4 (ix2 0 k)) (fun k => A5 (ix2 0 k)) (fun u k => A6 (ix2 u k)) (i 1)

/-- The gradient of the inner gate's bias, summed over the rows. -/
def biasGrad (A0 : Arr 8192 1024) (A1 : Arr 8192 1024) (A2 : Arr 8192 1024) (A3 : Arr 8192 1024) (A4 : Arr 1 1024) (A5 : Arr 1 1024) (A6 : Arr 1024 1024) : Gain := fun i =>
  ∑ p : Fin 8192, dsRow (fun k => A0 (ix2 p k)) (fun k => A1 (ix2 p k)) (fun k => src2 A0 A1 A2 A3 A4 A5 A6 p k) (fun k => A2 (ix2 p k)) (fun k => A3 (ix2 p k)) (fun k => A4 (ix2 0 k)) (fun k => A5 (ix2 0 k)) (i 1)

/-- The gradient of the skip's factor, summed over the rows. -/
def skipGrad (A0 : Arr 8192 1024) (A1 : Arr 8192 1024) (A2 : Arr 8192 1024) (A3 : Arr 8192 1024) (A4 : Arr 1 1024) (A5 : Arr 1 1024) (A6 : Arr 1024 1024) : Gain := fun i =>
  ∑ p : Fin 8192, ddRow (fun k => A0 (ix2 p k)) (fun k => A1 (ix2 p k)) (fun k => src2 A0 A1 A2 A3 A4 A5 A6 p k) (fun k => A2 (ix2 p k)) (fun k => A3 (ix2 p k)) (fun k => A4 (ix2 0 k)) (fun k => A5 (ix2 0 k)) (fun u k => A6 (ix2 u k)) (i 1)

section Kernel

open Cert.Kernel10Ideal Cert.Kernel10Ideal.Gen Idealize.ShloMosaic.TcCoe Idealize.SL.Sem

/-- What a grid point gives output 1. -/
def blockOut0 (x0 : FVec Ideal S256x1024 .f32) (x1 : FVec Ideal S256x1024 .f32) (x2 : FVec Ideal S256x1024 .f32) (x3 : FVec Ideal S256x1024 .f32) (x4 : FVec Ideal S256x1024 .f32) (x5 : FVec Ideal S1x1024 .f32) (x6 : FVec Ideal S1x1024 .f32) : FVec Ideal S256x1024 .bf16 :=
  (k0_pay22 (F := Ideal) x3 x4 (k0_pay10 (F := Ideal) x0 x1 x5) (k0_pay11 (F := Ideal) x2 x6))

theorem blockOut0_apply (x0 : FVec Ideal S256x1024 .f32) (x1 : FVec Ideal S256x1024 .f32) (x2 : FVec Ideal S256x1024 .f32) (x3 : FVec Ideal S256x1024 .f32) (x4 : FVec Ideal S256x1024 .f32) (x5 : FVec Ideal S1x1024 .f32) (x6 : FVec Ideal S1x1024 .f32) (r : Fin 256) (l : Fin 1024) :
    blockOut0 x0 x1 x2 x3 x4 x5 x6 (ix2 r l) = dsRow (fun k => x0 (ix2 r k)) (fun k => x1 (ix2 r k)) (fun k => x2 (ix2 r k)) (fun k => x3 (ix2 r k)) (fun k => x4 (ix2 r k)) (fun k => x5 (ix2 0 k)) (fun k => x6 (ix2 0 k)) l := by
  pointwise [blockOut0, zero_sub, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, dsRow, sigBack, activated, gelu, silu, sigmoid]

/-- What a grid point gives output 2. -/
def blockOut1 (x0 : FVec Ideal S256x1024 .f32) (x1 : FVec Ideal S256x1024 .f32) (x2 : FVec Ideal S256x1024 .f32) (x3 : FVec Ideal S256x1024 .f32) (x4 : FVec Ideal S256x1024 .f32) (x5 : FVec Ideal S1x1024 .f32) (x6 : FVec Ideal S1x1024 .f32) : FVec Ideal S256x1024 .bf16 :=
  (k0_pay26 (F := Ideal) (k0_pay18 (F := Ideal) x3 x4 (k0_pay10 (F := Ideal) x0 x1 x5) (k0_pay11 (F := Ideal) x2 x6)))

theorem blockOut1_apply (x0 : FVec Ideal S256x1024 .f32) (x1 : FVec Ideal S256x1024 .f32) (x2 : FVec Ideal S256x1024 .f32) (x3 : FVec Ideal S256x1024 .f32) (x4 : FVec Ideal S256x1024 .f32) (x5 : FVec Ideal S1x1024 .f32) (x6 : FVec Ideal S1x1024 .f32) (r : Fin 256) (l : Fin 1024) :
    blockOut1 x0 x1 x2 x3 x4 x5 x6 (ix2 r l) = dgaRow (fun k => x0 (ix2 r k)) (fun k => x1 (ix2 r k)) (fun k => x2 (ix2 r k)) (fun k => x3 (ix2 r k)) (fun k => x4 (ix2 r k)) (fun k => x5 (ix2 0 k)) (fun k => x6 (ix2 0 k)) l := by
  pointwise [blockOut1, zero_sub, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, dgaRow, siluBack, activated, gelu, silu, sigmoid]

/-- What a grid point gives output 3. -/
def blockOut2 (x0 : FVec Ideal S256x1024 .f32) (x1 : FVec Ideal S256x1024 .f32) (x2 : FVec Ideal S256x1024 .f32) (x3 : FVec Ideal S256x1024 .f32) (x4 : FVec Ideal S256x1024 .f32) (x5 : FVec Ideal S1x1024 .f32) (x6 : FVec Ideal S1x1024 .f32) (x7 : FVec Ideal S1024x1024 .bf16) : FVec Ideal S256x1024 .f32 :=
  (k0_pay23 (F := Ideal) (k0_pay2 (F := Ideal) x7) (k0_pay3 (F := Ideal) x0 x1 x5) (k0_pay4 (F := Ideal) x0 x1 x5) (k0_pay5 (F := Ideal) x0 x1 x5) (k0_pay6 (F := Ideal) x0 x1 x5) (k0_pay8 (F := Ideal) x0 x1 x5) (k0_pay9 (F := Ideal) x0 x1 x5) (k0_pay19 (F := Ideal) x3 x4 (k0_pay11 (F := Ideal) x2 x6)) (k0_pay22 (F := Ideal) x3 x4 (k0_pay10 (F := Ideal) x0 x1 x5) (k0_pay11 (F := Ideal) x2 x6)) (constant S256x1024 .f32 0x00000000#32))

theorem blockOut2_apply (x0 : FVec Ideal S256x1024 .f32) (x1 : FVec Ideal S256x1024 .f32) (x2 : FVec Ideal S256x1024 .f32) (x3 : FVec Ideal S256x1024 .f32) (x4 : FVec Ideal S256x1024 .f32) (x5 : FVec Ideal S1x1024 .f32) (x6 : FVec Ideal S1x1024 .f32) (x7 : FVec Ideal S1024x1024 .bf16) (r : Fin 256) (l : Fin 1024) :
    blockOut2 x0 x1 x2 x3 x4 x5 x6 x7 (ix2 r l) = dysRow (fun k => x0 (ix2 r k)) (fun k => x1 (ix2 r k)) (fun k => x2 (ix2 r k)) (fun k => x3 (ix2 r k)) (fun k => x4 (ix2 r k)) (fun k => x5 (ix2 0 k)) (fun k => x6 (ix2 0 k)) (fun u k => x7 (ix2 u k)) l := by
  pointwise [blockOut2, zero_sub, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, bendBack, sigBack, dsRow, dgaRow, totalRow, geluBack, bend, dysRow, timesT, activated, gelu, silu, sigmoid]

/-- What a grid point gives output 4. -/
def blockOut3 (x0 : FVec Ideal S256x1024 .f32) (x1 : FVec Ideal S256x1024 .f32) (x2 : FVec Ideal S256x1024 .f32) (x3 : FVec Ideal S256x1024 .f32) (x4 : FVec Ideal S256x1024 .f32) (x5 : FVec Ideal S1x1024 .f32) (x6 : FVec Ideal S1x1024 .f32) (x7 : FVec Ideal S1024x1024 .bf16) : FVec Ideal S256x1024 .f32 :=
  (k0_pay24 (F := Ideal) x5 (k0_pay2 (F := Ideal) x7) (k0_pay3 (F := Ideal) x0 x1 x5) (k0_pay4 (F := Ideal) x0 x1 x5) (k0_pay5 (F := Ideal) x0 x1 x5) (k0_pay6 (F := Ideal) x0 x1 x5) (k0_pay8 (F := Ideal) x0 x1 x5) (k0_pay9 (F := Ideal) x0 x1 x5) (k0_pay19 (F := Ideal) x3 x4 (k0_pay11 (F := Ideal) x2 x6)) (k0_pay22 (F := Ideal) x3 x4 (k0_pay10 (F := Ideal) x0 x1 x5) (k0_pay11 (F := Ideal) x2 x6)) (constant S256x1024 .f32 0x00000000#32))

theorem blockOut3_apply (x0 : FVec Ideal S256x1024 .f32) (x1 : FVec Ideal S256x1024 .f32) (x2 : FVec Ideal S256x1024 .f32) (x3 : FVec Ideal S256x1024 .f32) (x4 : FVec Ideal S256x1024 .f32) (x5 : FVec Ideal S1x1024 .f32) (x6 : FVec Ideal S1x1024 .f32) (x7 : FVec Ideal S1024x1024 .bf16) (r : Fin 256) (l : Fin 1024) :
    blockOut3 x0 x1 x2 x3 x4 x5 x6 x7 (ix2 r l) = duRow (fun k => x0 (ix2 r k)) (fun k => x1 (ix2 r k)) (fun k => x2 (ix2 r k)) (fun k => x3 (ix2 r k)) (fun k => x4 (ix2 r k)) (fun k => x5 (ix2 0 k)) (fun k => x6 (ix2 0 k)) (fun u k => x7 (ix2 u k)) l := by
  pointwise [blockOut3, zero_sub, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, duRow, bendBack, sigBack, dsRow, dgaRow, totalRow, geluBack, bend, dysRow, timesT, activated, gelu, silu, sigmoid]

/-- What a grid point gives output 5. -/
def blockOut4 (x0 : FVec Ideal S256x1024 .f32) (x1 : FVec Ideal S256x1024 .f32) (x2 : FVec Ideal S256x1024 .f32) (x3 : FVec Ideal S256x1024 .f32) (x4 : FVec Ideal S256x1024 .f32) (x5 : FVec Ideal S1x1024 .f32) (x6 : FVec Ideal S1x1024 .f32) : FVec Ideal S1x1024 .f32 :=
  (k0_pay21 (F := Ideal) x3 x4 (k0_pay10 (F := Ideal) x0 x1 x5) (k0_pay11 (F := Ideal) x2 x6))

theorem blockOut4_apply (x0 : FVec Ideal S256x1024 .f32) (x1 : FVec Ideal S256x1024 .f32) (x2 : FVec Ideal S256x1024 .f32) (x3 : FVec Ideal S256x1024 .f32) (x4 : FVec Ideal S256x1024 .f32) (x5 : FVec Ideal S1x1024 .f32) (x6 : FVec Ideal S1x1024 .f32) (l : Fin 1024) :
    blockOut4 x0 x1 x2 x3 x4 x5 x6 (ix2 0 l) = ∑ r : Fin 256, dsRow (fun k => x0 (ix2 r k)) (fun k => x1 (ix2 r k)) (fun k => x2 (ix2 r k)) (fun k => x3 (ix2 r k)) (fun k => x4 (ix2 r k)) (fun k => x5 (ix2 0 k)) (fun k => x6 (ix2 0 k)) l := by
  pointwise [blockOut4, zero_sub, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, dsRow, sigBack, activated, gelu, silu, sigmoid]

/-- What a grid point gives output 6. -/
def blockOut5 (x0 : FVec Ideal S256x1024 .f32) (x1 : FVec Ideal S256x1024 .f32) (x2 : FVec Ideal S256x1024 .f32) (x3 : FVec Ideal S256x1024 .f32) (x4 : FVec Ideal S256x1024 .f32) (x5 : FVec Ideal S1x1024 .f32) (x6 : FVec Ideal S1x1024 .f32) (x7 : FVec Ideal S1024x1024 .bf16) : FVec Ideal S1x1024 .f32 :=
  (k0_pay25 (F := Ideal) x1 (k0_pay2 (F := Ideal) x7) (k0_pay3 (F := Ideal) x0 x1 x5) (k0_pay4 (F := Ideal) x0 x1 x5) (k0_pay5 (F := Ideal) x0 x1 x5) (k0_pay6 (F := Ideal) x0 x1 x5) (k0_pay8 (F := Ideal) x0 x1 x5) (k0_pay9 (F := Ideal) x0 x1 x5) (k0_pay19 (F := Ideal) x3 x4 (k0_pay11 (F := Ideal) x2 x6)) (k0_pay22 (F := Ideal) x3 x4 (k0_pay10 (F := Ideal) x0 x1 x5) (k0_pay11 (F := Ideal) x2 x6)) (constant S256x1024 .f32 0x00000000#32))

theorem blockOut5_apply (x0 : FVec Ideal S256x1024 .f32) (x1 : FVec Ideal S256x1024 .f32) (x2 : FVec Ideal S256x1024 .f32) (x3 : FVec Ideal S256x1024 .f32) (x4 : FVec Ideal S256x1024 .f32) (x5 : FVec Ideal S1x1024 .f32) (x6 : FVec Ideal S1x1024 .f32) (x7 : FVec Ideal S1024x1024 .bf16) (l : Fin 1024) :
    blockOut5 x0 x1 x2 x3 x4 x5 x6 x7 (ix2 0 l) = ∑ r : Fin 256, ddRow (fun k => x0 (ix2 r k)) (fun k => x1 (ix2 r k)) (fun k => x2 (ix2 r k)) (fun k => x3 (ix2 r k)) (fun k => x4 (ix2 r k)) (fun k => x5 (ix2 0 k)) (fun k => x6 (ix2 0 k)) (fun u k => x7 (ix2 u k)) l := by
  pointwise [blockOut5, zero_sub, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, ddRow, bendBack, sigBack, dsRow, dgaRow, totalRow, geluBack, bend, dysRow, timesT, activated, gelu, silu, sigmoid]

section Cases

variable (c : Dev nD) (i : grid0.Coords) (a1 : Memref sig .tc .vmem S256x1024 .f32) (h1 : a1.IsWhole) (a2 : Memref sig .tc .vmem S256x1024 .f32) (h2 : a2.IsWhole) (a3 : Memref sig .tc .vmem S256x1024 .f32) (h3 : a3.IsWhole) (a4 : Memref sig .tc .vmem S256x1024 .f32) (h4 : a4.IsWhole) (a5 : Memref sig .tc .vmem S256x1024 .f32) (h5 : a5.IsWhole) (a6 : Memref sig .tc .vmem S1x1024 .f32) (h6 : a6.IsWhole) (a7 : Memref sig .tc .vmem S1x1024 .f32) (h7 : a7.IsWhole) (a8 : Memref sig .tc .vmem S1024x1024 .bf16) (h8 : a8.IsWhole) (a9 : Memref sig .tc .vmem S256x1024 .bf16) (h9 : a9.IsWhole) (a10 : Memref sig .tc .vmem S256x1024 .bf16) (h10 : a10.IsWhole) (a11 : Memref sig .tc .vmem S256x1024 .f32) (h11 : a11.IsWhole) (a12 : Memref sig .tc .vmem S256x1024 .f32) (h12 : a12.IsWhole) (a13 : Memref sig .tc .vmem S1x1024 .f32) (h13 : a13.IsWhole) (a14 : Memref sig .tc .vmem S1x1024 .f32) (h14 : a14.IsWhole)
  (x0 : FVec Ideal S256x1024 .f32) (x1 : FVec Ideal S256x1024 .f32) (x2 : FVec Ideal S256x1024 .f32) (x3 : FVec Ideal S256x1024 .f32) (x4 : FVec Ideal S256x1024 .f32) (x5 : FVec Ideal S1x1024 .f32) (x6 : FVec Ideal S1x1024 .f32) (x7 : FVec Ideal S1024x1024 .bf16)

theorem caseA0 (e0 e1 e2 e3) :
    out0_A_8 (F := Ideal) c i a1 h1 a2 h2 a3 h3 a4 h4 a5 h5 a6 h6 a7 h7 a8 h8 a9 h9 a10 h10 a11 h11 a12 h12 a13 h13 a14 h14 e0 e1 e2 e3
      x0 x1 x2 x3 x4 x5 x6 x7 = blockOut0 x0 x1 x2 x3 x4 x5 x6 := by
  unfold out0_A_8
  rw [View.read_writes_eq_canon _ _ _ (fun y => cover0_A_8 (y := y) ..)]
  unfold kernelRun0_A
  dsimp only
  sl_unfold_words
  rw [View.canon_unit_zero zeros]
  simp only [View.readAt_eq_ld, h1.read_unread, h2.read_unread, h3.read_unread, h4.read_unread, h5.read_unread, h6.read_unread, h7.read_unread, View.ld_unit_zero (S := S1x1024) zeros, View.ld_unit_zero (S := S256x1024) zeros]
  rfl

theorem caseB0 (e0 e1 e2 e3) (c4 : FVec Ideal S1x1024 .f32) (c5 : FVec Ideal S1x1024 .f32) :
    out0_B_8 (F := Ideal) c i a1 h1 a2 h2 a3 h3 a4 h4 a5 h5 a6 h6 a7 h7 a8 h8 a9 h9 a10 h10 a11 h11 a12 h12 a13 h13 a14 h14 e0 e1 e2 e3
      x0 x1 x2 x3 x4 x5 x6 x7 c4 c5 = blockOut0 x0 x1 x2 x3 x4 x5 x6 := by
  unfold out0_B_8
  rw [View.read_writes_eq_canon _ _ _ (fun y => cover0_B_8 (y := y) ..)]
  unfold kernelRun0_B
  dsimp only
  sl_unfold_words
  rw [View.canon_unit_zero zeros]
  simp only [View.readAt_eq_ld, h1.read_unread, h2.read_unread, h3.read_unread, h4.read_unread, h5.read_unread, h6.read_unread, h7.read_unread, View.ld_unit_zero (S := S1x1024) zeros, View.ld_unit_zero (S := S256x1024) zeros]
  rfl

theorem caseA1 (e0 e1 e2 e3) :
    out0_A_9 (F := Ideal) c i a1 h1 a2 h2 a3 h3 a4 h4 a5 h5 a6 h6 a7 h7 a8 h8 a9 h9 a10 h10 a11 h11 a12 h12 a13 h13 a14 h14 e0 e1 e2 e3
      x0 x1 x2 x3 x4 x5 x6 x7 = blockOut1 x0 x1 x2 x3 x4 x5 x6 := by
  unfold out0_A_9
  rw [View.read_writes_eq_canon _ _ _ (fun y => cover0_A_9 (y := y) ..)]
  unfold kernelRun0_A
  dsimp only
  sl_unfold_words
  rw [View.canon_unit_zero zeros]
  simp only [View.readAt_eq_ld, h1.read_unread, h2.read_unread, h3.read_unread, h4.read_unread, h5.read_unread, h6.read_unread, h7.read_unread, View.ld_unit_zero (S := S1x1024) zeros, View.ld_unit_zero (S := S256x1024) zeros]
  rfl

theorem caseB1 (e0 e1 e2 e3) (c4 : FVec Ideal S1x1024 .f32) (c5 : FVec Ideal S1x1024 .f32) :
    out0_B_9 (F := Ideal) c i a1 h1 a2 h2 a3 h3 a4 h4 a5 h5 a6 h6 a7 h7 a8 h8 a9 h9 a10 h10 a11 h11 a12 h12 a13 h13 a14 h14 e0 e1 e2 e3
      x0 x1 x2 x3 x4 x5 x6 x7 c4 c5 = blockOut1 x0 x1 x2 x3 x4 x5 x6 := by
  unfold out0_B_9
  rw [View.read_writes_eq_canon _ _ _ (fun y => cover0_B_9 (y := y) ..)]
  unfold kernelRun0_B
  dsimp only
  sl_unfold_words
  rw [View.canon_unit_zero zeros]
  simp only [View.readAt_eq_ld, h1.read_unread, h2.read_unread, h3.read_unread, h4.read_unread, h5.read_unread, h6.read_unread, h7.read_unread, View.ld_unit_zero (S := S1x1024) zeros, View.ld_unit_zero (S := S256x1024) zeros]
  rfl

theorem caseA2 (e0 e1 e2 e3) :
    out0_A_10 (F := Ideal) c i a1 h1 a2 h2 a3 h3 a4 h4 a5 h5 a6 h6 a7 h7 a8 h8 a9 h9 a10 h10 a11 h11 a12 h12 a13 h13 a14 h14 e0 e1 e2 e3
      x0 x1 x2 x3 x4 x5 x6 x7 = blockOut2 x0 x1 x2 x3 x4 x5 x6 x7 := by
  unfold out0_A_10
  rw [View.read_writes_eq_canon _ _ _ (fun y => cover0_A_10 (y := y) ..)]
  unfold kernelRun0_A
  dsimp only
  sl_unfold_words
  rw [View.canon_unit_zero zeros]
  simp only [View.readAt_eq_ld, h1.read_unread, h2.read_unread, h3.read_unread, h4.read_unread, h5.read_unread, h6.read_unread, h7.read_unread, h8.read_unread, View.ld_unit_zero (S := S1024x1024) zeros, View.ld_unit_zero (S := S1x1024) zeros, View.ld_unit_zero (S := S256x1024) zeros]
  rfl

theorem caseB2 (e0 e1 e2 e3) (c4 : FVec Ideal S1x1024 .f32) (c5 : FVec Ideal S1x1024 .f32) :
    out0_B_10 (F := Ideal) c i a1 h1 a2 h2 a3 h3 a4 h4 a5 h5 a6 h6 a7 h7 a8 h8 a9 h9 a10 h10 a11 h11 a12 h12 a13 h13 a14 h14 e0 e1 e2 e3
      x0 x1 x2 x3 x4 x5 x6 x7 c4 c5 = blockOut2 x0 x1 x2 x3 x4 x5 x6 x7 := by
  unfold out0_B_10
  rw [View.read_writes_eq_canon _ _ _ (fun y => cover0_B_10 (y := y) ..)]
  unfold kernelRun0_B
  dsimp only
  sl_unfold_words
  rw [View.canon_unit_zero zeros]
  simp only [View.readAt_eq_ld, h1.read_unread, h2.read_unread, h3.read_unread, h4.read_unread, h5.read_unread, h6.read_unread, h7.read_unread, h8.read_unread, View.ld_unit_zero (S := S1024x1024) zeros, View.ld_unit_zero (S := S1x1024) zeros, View.ld_unit_zero (S := S256x1024) zeros]
  rfl

theorem caseA3 (e0 e1 e2 e3) :
    out0_A_11 (F := Ideal) c i a1 h1 a2 h2 a3 h3 a4 h4 a5 h5 a6 h6 a7 h7 a8 h8 a9 h9 a10 h10 a11 h11 a12 h12 a13 h13 a14 h14 e0 e1 e2 e3
      x0 x1 x2 x3 x4 x5 x6 x7 = blockOut3 x0 x1 x2 x3 x4 x5 x6 x7 := by
  unfold out0_A_11
  rw [View.read_writes_eq_canon _ _ _ (fun y => cover0_A_11 (y := y) ..)]
  unfold kernelRun0_A
  dsimp only
  sl_unfold_words
  rw [View.canon_unit_zero zeros]
  simp only [View.readAt_eq_ld, h1.read_unread, h2.read_unread, h3.read_unread, h4.read_unread, h5.read_unread, h6.read_unread, h7.read_unread, h8.read_unread, View.ld_unit_zero (S := S1024x1024) zeros, View.ld_unit_zero (S := S1x1024) zeros, View.ld_unit_zero (S := S256x1024) zeros]
  rfl

theorem caseB3 (e0 e1 e2 e3) (c4 : FVec Ideal S1x1024 .f32) (c5 : FVec Ideal S1x1024 .f32) :
    out0_B_11 (F := Ideal) c i a1 h1 a2 h2 a3 h3 a4 h4 a5 h5 a6 h6 a7 h7 a8 h8 a9 h9 a10 h10 a11 h11 a12 h12 a13 h13 a14 h14 e0 e1 e2 e3
      x0 x1 x2 x3 x4 x5 x6 x7 c4 c5 = blockOut3 x0 x1 x2 x3 x4 x5 x6 x7 := by
  unfold out0_B_11
  rw [View.read_writes_eq_canon _ _ _ (fun y => cover0_B_11 (y := y) ..)]
  unfold kernelRun0_B
  dsimp only
  sl_unfold_words
  rw [View.canon_unit_zero zeros]
  simp only [View.readAt_eq_ld, h1.read_unread, h2.read_unread, h3.read_unread, h4.read_unread, h5.read_unread, h6.read_unread, h7.read_unread, h8.read_unread, View.ld_unit_zero (S := S1024x1024) zeros, View.ld_unit_zero (S := S1x1024) zeros, View.ld_unit_zero (S := S256x1024) zeros]
  rfl

theorem caseA4 (e0 e1 e2 e3) :
    out0_A_12 (F := Ideal) c i a1 h1 a2 h2 a3 h3 a4 h4 a5 h5 a6 h6 a7 h7 a8 h8 a9 h9 a10 h10 a11 h11 a12 h12 a13 h13 a14 h14 e0 e1 e2 e3
      x0 x1 x2 x3 x4 x5 x6 x7 = blockOut4 x0 x1 x2 x3 x4 x5 x6 := by
  unfold out0_A_12
  rw [View.read_writes_eq_canon _ _ _ (fun y => cover0_A_12 (y := y) ..)]
  unfold kernelRun0_A
  dsimp only
  sl_unfold_words
  rw [View.canon_unit_zero zeros]
  simp only [View.readAt_eq_ld, h1.read_unread, h2.read_unread, h3.read_unread, h4.read_unread, h5.read_unread, h6.read_unread, h7.read_unread, View.ld_unit_zero (S := S1x1024) zeros, View.ld_unit_zero (S := S256x1024) zeros]
  rfl

theorem caseB4 (e0 e1 e2 e3) (c4 : FVec Ideal S1x1024 .f32) (c5 : FVec Ideal S1x1024 .f32) :
    out0_B_12 (F := Ideal) c i a1 h1 a2 h2 a3 h3 a4 h4 a5 h5 a6 h6 a7 h7 a8 h8 a9 h9 a10 h10 a11 h11 a12 h12 a13 h13 a14 h14 e0 e1 e2 e3
      x0 x1 x2 x3 x4 x5 x6 x7 c4 c5 = addf c4 (blockOut4 x0 x1 x2 x3 x4 x5 x6) := by
  unfold out0_B_12
  rw [View.read_writes_eq_canon _ _ _ (fun y => cover0_B_12 (y := y) ..)]
  unfold kernelRun0_B
  dsimp only
  sl_unfold_words
  rw [View.canon_unit_zero zeros]
  unfold k0_pay27
  simp only [View.readAt_eq_ld, h1.read_unread, h2.read_unread, h3.read_unread, h4.read_unread, h5.read_unread, h6.read_unread, h7.read_unread, h13.read_unread, View.ld_unit_zero (S := S1x1024) zeros, View.ld_unit_zero (S := S256x1024) zeros, shapeCast_self]
  rfl

theorem caseA5 (e0 e1 e2 e3) :
    out0_A_13 (F := Ideal) c i a1 h1 a2 h2 a3 h3 a4 h4 a5 h5 a6 h6 a7 h7 a8 h8 a9 h9 a10 h10 a11 h11 a12 h12 a13 h13 a14 h14 e0 e1 e2 e3
      x0 x1 x2 x3 x4 x5 x6 x7 = blockOut5 x0 x1 x2 x3 x4 x5 x6 x7 := by
  unfold out0_A_13
  rw [View.read_writes_eq_canon _ _ _ (fun y => cover0_A_13 (y := y) ..)]
  unfold kernelRun0_A
  dsimp only
  sl_unfold_words
  rw [View.canon_unit_zero zeros]
  simp only [View.readAt_eq_ld, h1.read_unread, h2.read_unread, h3.read_unread, h4.read_unread, h5.read_unread, h6.read_unread, h7.read_unread, h8.read_unread, View.ld_unit_zero (S := S1024x1024) zeros, View.ld_unit_zero (S := S1x1024) zeros, View.ld_unit_zero (S := S256x1024) zeros]
  rfl

theorem caseB5 (e0 e1 e2 e3) (c4 : FVec Ideal S1x1024 .f32) (c5 : FVec Ideal S1x1024 .f32) :
    out0_B_13 (F := Ideal) c i a1 h1 a2 h2 a3 h3 a4 h4 a5 h5 a6 h6 a7 h7 a8 h8 a9 h9 a10 h10 a11 h11 a12 h12 a13 h13 a14 h14 e0 e1 e2 e3
      x0 x1 x2 x3 x4 x5 x6 x7 c4 c5 = addf c5 (blockOut5 x0 x1 x2 x3 x4 x5 x6 x7) := by
  unfold out0_B_13
  rw [View.read_writes_eq_canon _ _ _ (fun y => cover0_B_13 (y := y) ..)]
  unfold kernelRun0_B
  dsimp only
  sl_unfold_words
  rw [View.canon_unit_zero zeros]
  unfold k0_pay1
  simp only [View.readAt_eq_ld, h1.read_unread, h2.read_unread, h3.read_unread, h4.read_unread, h5.read_unread, h6.read_unread, h7.read_unread, h8.read_unread, h14.read_unread, View.ld_unit_zero (S := S1024x1024) zeros, View.ld_unit_zero (S := S1x1024) zeros, View.ld_unit_zero (S := S256x1024) zeros, shapeCast_self]
  rfl

end Cases

variable (m : (ℓ : Loc nD τ sig) → Buf (Elt Ideal) ℓ) (c : Dev nD)

theorem index0 : ∀ t : Fin cfg0.N, win0_0.index t 0 = t.val ∧ win0_0.index t 1 = 0 := by decide +kernel

theorem blk0 (t : Fin cfg0.N) (r : Fin 256) (k : Fin 1024) (h : 256 * t.val + r.val < 8192) :
    (iblk m c 0 t : FVec Ideal S256x1024 .f32) (ix2 r k) = m ((c : Thread nD τ).loc main_arg0) (ix2 ⟨256 * t.val + r.val, h⟩ k) := by
  unfold iblk
  rw [View.read_apply]
  show V m c main_arg0 _ = _
  refine (congrArg (V m c main_arg0) (?_ : _ = (ix2 ⟨256 * t.val + r.val, h⟩ k : S8192x1024.Idx))).trans ?_
  · funext a
    apply Fin.ext
    match a with
    | ⟨0, _⟩ => show win0_0.index t 0 * 256 + 1 * r.val = 256 * t.val + r.val; rw [(index0 t).1]; omega
    | ⟨1, _⟩ => show win0_0.index t 1 * 1024 + 1 * k.val = k.val; rw [(index0 t).2]; omega
  · rw [V_main_arg0]

theorem index1 : ∀ t : Fin cfg0.N, win0_1.index t 0 = t.val ∧ win0_1.index t 1 = 0 := by decide +kernel

theorem blk1 (t : Fin cfg0.N) (r : Fin 256) (k : Fin 1024) (h : 256 * t.val + r.val < 8192) :
    (iblk m c 1 t : FVec Ideal S256x1024 .f32) (ix2 r k) = m ((c : Thread nD τ).loc main_arg1) (ix2 ⟨256 * t.val + r.val, h⟩ k) := by
  unfold iblk
  rw [View.read_apply]
  show V m c main_arg1 _ = _
  refine (congrArg (V m c main_arg1) (?_ : _ = (ix2 ⟨256 * t.val + r.val, h⟩ k : S8192x1024.Idx))).trans ?_
  · funext a
    apply Fin.ext
    match a with
    | ⟨0, _⟩ => show win0_1.index t 0 * 256 + 1 * r.val = 256 * t.val + r.val; rw [(index1 t).1]; omega
    | ⟨1, _⟩ => show win0_1.index t 1 * 1024 + 1 * k.val = k.val; rw [(index1 t).2]; omega
  · rw [V_main_arg1]

theorem index2 : ∀ t : Fin cfg0.N, win0_2.index t 0 = t.val ∧ win0_2.index t 1 = 0 := by decide +kernel

theorem blk2 (t : Fin cfg0.N) (r : Fin 256) (k : Fin 1024) (h : 256 * t.val + r.val < 8192) :
    (iblk m c 2 t : FVec Ideal S256x1024 .f32) (ix2 r k) = src2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) ⟨256 * t.val + r.val, h⟩ k := by
  unfold iblk
  rw [View.read_apply]
  show V m c main_v18 _ = _
  refine (congrArg (V m c main_v18) (?_ : _ = (ix2 ⟨256 * t.val + r.val, h⟩ k : S8192x1024.Idx))).trans ?_
  · funext a
    apply Fin.ext
    match a with
    | ⟨0, _⟩ => show win0_2.index t 0 * 256 + 1 * r.val = 256 * t.val + r.val; rw [(index2 t).1]; omega
    | ⟨1, _⟩ => show win0_2.index t 1 * 1024 + 1 * k.val = k.val; rw [(index2 t).2]; omega
  · entry_read
    pointwise [src2, activated]
    all_goals simp only [gelu_eq]

theorem index3 : ∀ t : Fin cfg0.N, win0_3.index t 0 = t.val ∧ win0_3.index t 1 = 0 := by decide +kernel

theorem blk3 (t : Fin cfg0.N) (r : Fin 256) (k : Fin 1024) (h : 256 * t.val + r.val < 8192) :
    (iblk m c 3 t : FVec Ideal S256x1024 .f32) (ix2 r k) = m ((c : Thread nD τ).loc main_arg2) (ix2 ⟨256 * t.val + r.val, h⟩ k) := by
  unfold iblk
  rw [View.read_apply]
  show V m c main_arg2 _ = _
  refine (congrArg (V m c main_arg2) (?_ : _ = (ix2 ⟨256 * t.val + r.val, h⟩ k : S8192x1024.Idx))).trans ?_
  · funext a
    apply Fin.ext
    match a with
    | ⟨0, _⟩ => show win0_3.index t 0 * 256 + 1 * r.val = 256 * t.val + r.val; rw [(index3 t).1]; omega
    | ⟨1, _⟩ => show win0_3.index t 1 * 1024 + 1 * k.val = k.val; rw [(index3 t).2]; omega
  · rw [V_main_arg2]

theorem index4 : ∀ t : Fin cfg0.N, win0_4.index t 0 = t.val ∧ win0_4.index t 1 = 0 := by decide +kernel

theorem blk4 (t : Fin cfg0.N) (r : Fin 256) (k : Fin 1024) (h : 256 * t.val + r.val < 8192) :
    (iblk m c 4 t : FVec Ideal S256x1024 .f32) (ix2 r k) = m ((c : Thread nD τ).loc main_arg3) (ix2 ⟨256 * t.val + r.val, h⟩ k) := by
  unfold iblk
  rw [View.read_apply]
  show V m c main_arg3 _ = _
  refine (congrArg (V m c main_arg3) (?_ : _ = (ix2 ⟨256 * t.val + r.val, h⟩ k : S8192x1024.Idx))).trans ?_
  · funext a
    apply Fin.ext
    match a with
    | ⟨0, _⟩ => show win0_4.index t 0 * 256 + 1 * r.val = 256 * t.val + r.val; rw [(index4 t).1]; omega
    | ⟨1, _⟩ => show win0_4.index t 1 * 1024 + 1 * k.val = k.val; rw [(index4 t).2]; omega
  · rw [V_main_arg3]

theorem index5 : ∀ t : Fin cfg0.N, win0_5.index t 0 = 0 ∧ win0_5.index t 1 = 0 := by decide +kernel

theorem blk5 (t : Fin cfg0.N) (k : Fin 1024) :
    (iblk m c 5 t : FVec Ideal S1x1024 .f32) (ix2 0 k) = m ((c : Thread nD τ).loc main_arg4) (ix2 0 k) := by
  unfold iblk
  rw [View.read_apply]
  show V m c main_arg4 _ = _
  refine (congrArg (V m c main_arg4) (?_ : _ = (ix2 0 k : S1x1024.Idx))).trans ?_
  · funext a
    apply Fin.ext
    match a with
    | ⟨0, _⟩ => show win0_5.index t 0 * 1 + 1 * 0 = 0; rw [(index5 t).1]
    | ⟨1, _⟩ => show win0_5.index t 1 * 1024 + 1 * k.val = k.val; rw [(index5 t).2]; omega
  · rw [V_main_arg4]

theorem index6 : ∀ t : Fin cfg0.N, win0_6.index t 0 = 0 ∧ win0_6.index t 1 = 0 := by decide +kernel

theorem blk6 (t : Fin cfg0.N) (k : Fin 1024) :
    (iblk m c 6 t : FVec Ideal S1x1024 .f32) (ix2 0 k) = m ((c : Thread nD τ).loc main_arg5) (ix2 0 k) := by
  unfold iblk
  rw [View.read_apply]
  show V m c main_arg5 _ = _
  refine (congrArg (V m c main_arg5) (?_ : _ = (ix2 0 k : S1x1024.Idx))).trans ?_
  · funext a
    apply Fin.ext
    match a with
    | ⟨0, _⟩ => show win0_6.index t 0 * 1 + 1 * 0 = 0; rw [(index6 t).1]
    | ⟨1, _⟩ => show win0_6.index t 1 * 1024 + 1 * k.val = k.val; rw [(index6 t).2]; omega
  · rw [V_main_arg5]

theorem index7 : ∀ t : Fin cfg0.N, win0_7.index t 0 = 0 ∧ win0_7.index t 1 = 0 := by decide +kernel

theorem blk7 (t : Fin cfg0.N) (u : Fin 1024) (k : Fin 1024) :
    (iblk m c 7 t : FVec Ideal S1024x1024 .bf16) (ix2 u k) = (m ((c : Thread nD τ).loc main_arg6)) (ix2 u k) := by
  unfold iblk
  rw [View.read_apply]
  show V m c main_v0 _ = _
  refine (congrArg (V m c main_v0) (?_ : _ = (ix2 u k : S1024x1024.Idx))).trans ?_
  · funext a
    apply Fin.ext
    match a with
    | ⟨0, _⟩ => show win0_7.index t 0 * 1024 + 1 * u.val = u.val; rw [(index7 t).1]; omega
    | ⟨1, _⟩ => show win0_7.index t 1 * 1024 + 1 * k.val = k.val; rw [(index7 t).2]; omega
  · entry_read
    pointwise

theorem point_row (t : Fin cfg0.N) (r : Fin 256) : 256 * t.val + r.val < 8192 := by
  have := t.isLt; have : cfg0.N = 32 := N_0; omega

/-- The kernel's result 1 on device `c`, as a function of the arrays it starts from. -/
def ker0 : Rows :=
  argGrad (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

theorem share0 (t : Fin cfg0.N) (r : Fin 256) (l : Fin 1024) :
    blockOut0 (iblk m c 0 t) (iblk m c 1 t) (iblk m c 2 t) (iblk m c 3 t) (iblk m c 4 t) (iblk m c 5 t) (iblk m c 6 t) (ix2 r l) = ker0 m c (ix2 ⟨256 * t.val + r.val, point_row t r⟩ l) := by
  rw [blockOut0_apply]
  simp only [blk0 m c t r _ (point_row t r), blk1 m c t r _ (point_row t r), blk2 m c t r _ (point_row t r), blk3 m c t r _ (point_row t r), blk4 m c t r _ (point_row t r), blk5, blk6]
  rfl

/-- The kernel's result 2 on device `c`, as a function of the arrays it starts from. -/
def ker1 : Rows :=
  gateGrad (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

theorem share1 (t : Fin cfg0.N) (r : Fin 256) (l : Fin 1024) :
    blockOut1 (iblk m c 0 t) (iblk m c 1 t) (iblk m c 2 t) (iblk m c 3 t) (iblk m c 4 t) (iblk m c 5 t) (iblk m c 6 t) (ix2 r l) = ker1 m c (ix2 ⟨256 * t.val + r.val, point_row t r⟩ l) := by
  rw [blockOut1_apply]
  simp only [blk0 m c t r _ (point_row t r), blk1 m c t r _ (point_row t r), blk2 m c t r _ (point_row t r), blk3 m c t r _ (point_row t r), blk4 m c t r _ (point_row t r), blk5, blk6]
  rfl

/-- The kernel's result 3 on device `c`, as a function of the arrays it starts from. -/
def ker2 : Rows :=
  rowsGrad (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

theorem share2 (t : Fin cfg0.N) (r : Fin 256) (l : Fin 1024) :
    blockOut2 (iblk m c 0 t) (iblk m c 1 t) (iblk m c 2 t) (iblk m c 3 t) (iblk m c 4 t) (iblk m c 5 t) (iblk m c 6 t) (iblk m c 7 t) (ix2 r l) = ker2 m c (ix2 ⟨256 * t.val + r.val, point_row t r⟩ l) := by
  rw [blockOut2_apply]
  simp only [blk0 m c t r _ (point_row t r), blk1 m c t r _ (point_row t r), blk2 m c t r _ (point_row t r), blk3 m c t r _ (point_row t r), blk4 m c t r _ (point_row t r), blk5, blk6, blk7]
  rfl

/-- The kernel's result 4 on device `c`, as a function of the arrays it starts from. -/
def ker3 : Rows :=
  branchGrad (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

theorem share3 (t : Fin cfg0.N) (r : Fin 256) (l : Fin 1024) :
    blockOut3 (iblk m c 0 t) (iblk m c 1 t) (iblk m c 2 t) (iblk m c 3 t) (iblk m c 4 t) (iblk m c 5 t) (iblk m c 6 t) (iblk m c 7 t) (ix2 r l) = ker3 m c (ix2 ⟨256 * t.val + r.val, point_row t r⟩ l) := by
  rw [blockOut3_apply]
  simp only [blk0 m c t r _ (point_row t r), blk1 m c t r _ (point_row t r), blk2 m c t r _ (point_row t r), blk3 m c t r _ (point_row t r), blk4 m c t r _ (point_row t r), blk5, blk6, blk7]
  rfl

/-- The kernel's result 5 on device `c`, as a function of the arrays it starts from. -/
def ker4 : Gain :=
  biasGrad (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

abbrev term4 (l : Fin 1024) : Fin 8192 → EReal := fun p =>
  dsRow (fun k => (m ((c : Thread nD τ).loc main_arg0)) (ix2 p k)) (fun k => (m ((c : Thread nD τ).loc main_arg1)) (ix2 p k)) (fun k => src2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) p k) (fun k => (m ((c : Thread nD τ).loc main_arg2)) (ix2 p k)) (fun k => (m ((c : Thread nD τ).loc main_arg3)) (ix2 p k)) (fun k => (m ((c : Thread nD τ).loc main_arg4)) (ix2 0 k)) (fun k => (m ((c : Thread nD τ).loc main_arg5)) (ix2 0 k)) l

theorem share4 (t : Fin cfg0.N) (l : Fin 1024) :
    blockOut4 (iblk m c 0 t) (iblk m c 1 t) (iblk m c 2 t) (iblk m c 3 t) (iblk m c 4 t) (iblk m c 5 t) (iblk m c 6 t) (ix2 0 l) = ∑ r : Fin 256, termAt (term4 m c l) (256 * t.val + r.val) := by
  rw [blockOut4_apply]
  refine Finset.sum_congr rfl fun r _ => ?_
  rw [termAt, dif_pos (point_row t r)]
  simp only [blk0 m c t r _ (point_row t r), blk1 m c t r _ (point_row t r), blk2 m c t r _ (point_row t r), blk3 m c t r _ (point_row t r), blk4 m c t r _ (point_row t r), blk5, blk6]

/-- The kernel's result 6 on device `c`, as a function of the arrays it starts from. -/
def ker5 : Gain :=
  skipGrad (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

abbrev term5 (l : Fin 1024) : Fin 8192 → EReal := fun p =>
  ddRow (fun k => (m ((c : Thread nD τ).loc main_arg0)) (ix2 p k)) (fun k => (m ((c : Thread nD τ).loc main_arg1)) (ix2 p k)) (fun k => src2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) p k) (fun k => (m ((c : Thread nD τ).loc main_arg2)) (ix2 p k)) (fun k => (m ((c : Thread nD τ).loc main_arg3)) (ix2 p k)) (fun k => (m ((c : Thread nD τ).loc main_arg4)) (ix2 0 k)) (fun k => (m ((c : Thread nD τ).loc main_arg5)) (ix2 0 k)) (fun u k => (m ((c : Thread nD τ).loc main_arg6)) (ix2 u k)) l

theorem share5 (t : Fin cfg0.N) (l : Fin 1024) :
    blockOut5 (iblk m c 0 t) (iblk m c 1 t) (iblk m c 2 t) (iblk m c 3 t) (iblk m c 4 t) (iblk m c 5 t) (iblk m c 6 t) (iblk m c 7 t) (ix2 0 l) = ∑ r : Fin 256, termAt (term5 m c l) (256 * t.val + r.val) := by
  rw [blockOut5_apply]
  refine Finset.sum_congr rfl fun r _ => ?_
  rw [termAt, dif_pos (point_row t r)]
  simp only [blk0 m c t r _ (point_row t r), blk1 m c t r _ (point_row t r), blk2 m c t r _ (point_row t r), blk3 m c t r _ (point_row t r), blk4 m c t r _ (point_row t r), blk5, blk6, blk7]

theorem index8 : ∀ t : Fin cfg0.N, win0_8.index t 0 = t.val ∧ win0_8.index t 1 = 0 := by decide +kernel

theorem step0 (t : Fin cfg0.N) : (outsAt0 m c t.val t.isLt).1 = blockOut0 (iblk m c 0 t) (iblk m c 1 t) (iblk m c 2 t) (iblk m c 3 t) (iblk m c 4 t) (iblk m c 5 t) (iblk m c 6 t) := by
  have hN : cfg0.N = 32 := N_0
  have := t.isLt
  by_cases h : t.val = 0
  · rw [outsAt0_A m c t (by omega) (by omega) (by omega) (by omega)]
    dsimp only
    exact caseA0 ..
  · rw [outsAt0_B m c t (by omega) (by omega) (by omega) (by omega)]
    dsimp only
    exact caseB0 ..

theorem flushed0 (t : Fin cfg0.N) : (dats m 0 c).flushed 8 t = ((cfg0.win 8).blk t).view.read (Elt Ideal) (ker0 m c) := by
  rw [Cert.Kernel10Ideal.Value.flushed8, step0]
  funext j
  obtain ⟨r, l, rfl⟩ : ∃ (r : Fin 256) (l : Fin 1024), j = ix2 r l := ⟨j 0, j 1, eq_ix2 j⟩
  refine (share0 m c t r l).trans ?_
  rw [View.read_apply]
  congr 1
  funext a
  apply Fin.ext
  match a with
  | ⟨0, _⟩ => show 256 * t.val + r.val = win0_8.index t 0 * 256 + 1 * r.val; rw [(index8 t).1]; omega
  | ⟨1, _⟩ => show l.val = win0_8.index t 1 * 1024 + 1 * l.val; rw [(index8 t).2]; omega

theorem final0 : (dats m 0 c).arrAt 8 cfg0.N = ker0 m c :=
  (dats m 0 c).arrAt_eq_of_cover 8 (ker0 m c) (fun t _ => flushed0 m c t) fun i => by
    have hN : cfg0.N = 32 := N_0
    have h0 : (i 0 : Nat) < 8192 := (i 0).isLt
    have h1 : (i 1 : Nat) < 1024 := (i 1).isLt
    obtain ⟨t, ht⟩ : ∃ t : Fin cfg0.N, t.val = (i 0 : Nat) / 256 := ⟨⟨(i 0 : Nat) / 256, by omega⟩, rfl⟩
    refine ⟨t, flush0_8 t, ?_⟩
    show i ∈ ((View.whole main_v19_0).slice (win0_8.rect t)).set
    rw [View.set_slice_whole, Rect.mem_set_unit]
    intro a
    match a with
    | ⟨0, _⟩ =>
      show win0_8.index t 0 * 256 ≤ (i 0 : Nat) ∧ (i 0 : Nat) < win0_8.index t 0 * 256 + 256
      rw [(index8 t).1]; omega
    | ⟨1, _⟩ =>
      show win0_8.index t 1 * 1024 ≤ (i 1 : Nat) ∧ (i 1 : Nat) < win0_8.index t 1 * 1024 + 1024
      rw [(index8 t).2]; omega

theorem index9 : ∀ t : Fin cfg0.N, win0_9.index t 0 = t.val ∧ win0_9.index t 1 = 0 := by decide +kernel

theorem step1 (t : Fin cfg0.N) : (outsAt0 m c t.val t.isLt).2.1 = blockOut1 (iblk m c 0 t) (iblk m c 1 t) (iblk m c 2 t) (iblk m c 3 t) (iblk m c 4 t) (iblk m c 5 t) (iblk m c 6 t) := by
  have hN : cfg0.N = 32 := N_0
  have := t.isLt
  by_cases h : t.val = 0
  · rw [outsAt0_A m c t (by omega) (by omega) (by omega) (by omega)]
    dsimp only
    exact caseA1 ..
  · rw [outsAt0_B m c t (by omega) (by omega) (by omega) (by omega)]
    dsimp only
    exact caseB1 ..

theorem flushed1 (t : Fin cfg0.N) : (dats m 0 c).flushed 9 t = ((cfg0.win 9).blk t).view.read (Elt Ideal) (ker1 m c) := by
  rw [Cert.Kernel10Ideal.Value.flushed9, step1]
  funext j
  obtain ⟨r, l, rfl⟩ : ∃ (r : Fin 256) (l : Fin 1024), j = ix2 r l := ⟨j 0, j 1, eq_ix2 j⟩
  refine (share1 m c t r l).trans ?_
  rw [View.read_apply]
  congr 1
  funext a
  apply Fin.ext
  match a with
  | ⟨0, _⟩ => show 256 * t.val + r.val = win0_9.index t 0 * 256 + 1 * r.val; rw [(index9 t).1]; omega
  | ⟨1, _⟩ => show l.val = win0_9.index t 1 * 1024 + 1 * l.val; rw [(index9 t).2]; omega

theorem final1 : (dats m 0 c).arrAt 9 cfg0.N = ker1 m c :=
  (dats m 0 c).arrAt_eq_of_cover 9 (ker1 m c) (fun t _ => flushed1 m c t) fun i => by
    have hN : cfg0.N = 32 := N_0
    have h0 : (i 0 : Nat) < 8192 := (i 0).isLt
    have h1 : (i 1 : Nat) < 1024 := (i 1).isLt
    obtain ⟨t, ht⟩ : ∃ t : Fin cfg0.N, t.val = (i 0 : Nat) / 256 := ⟨⟨(i 0 : Nat) / 256, by omega⟩, rfl⟩
    refine ⟨t, flush0_9 t, ?_⟩
    show i ∈ ((View.whole main_v19_1).slice (win0_9.rect t)).set
    rw [View.set_slice_whole, Rect.mem_set_unit]
    intro a
    match a with
    | ⟨0, _⟩ =>
      show win0_9.index t 0 * 256 ≤ (i 0 : Nat) ∧ (i 0 : Nat) < win0_9.index t 0 * 256 + 256
      rw [(index9 t).1]; omega
    | ⟨1, _⟩ =>
      show win0_9.index t 1 * 1024 ≤ (i 1 : Nat) ∧ (i 1 : Nat) < win0_9.index t 1 * 1024 + 1024
      rw [(index9 t).2]; omega

theorem index10 : ∀ t : Fin cfg0.N, win0_10.index t 0 = t.val ∧ win0_10.index t 1 = 0 := by decide +kernel

theorem step2 (t : Fin cfg0.N) : (outsAt0 m c t.val t.isLt).2.2.1 = blockOut2 (iblk m c 0 t) (iblk m c 1 t) (iblk m c 2 t) (iblk m c 3 t) (iblk m c 4 t) (iblk m c 5 t) (iblk m c 6 t) (iblk m c 7 t) := by
  have hN : cfg0.N = 32 := N_0
  have := t.isLt
  by_cases h : t.val = 0
  · rw [outsAt0_A m c t (by omega) (by omega) (by omega) (by omega)]
    dsimp only
    exact caseA2 ..
  · rw [outsAt0_B m c t (by omega) (by omega) (by omega) (by omega)]
    dsimp only
    exact caseB2 ..

theorem flushed2 (t : Fin cfg0.N) : (dats m 0 c).flushed 10 t = ((cfg0.win 10).blk t).view.read (Elt Ideal) (ker2 m c) := by
  rw [Cert.Kernel10Ideal.Value.flushed10, step2]
  funext j
  obtain ⟨r, l, rfl⟩ : ∃ (r : Fin 256) (l : Fin 1024), j = ix2 r l := ⟨j 0, j 1, eq_ix2 j⟩
  refine (share2 m c t r l).trans ?_
  rw [View.read_apply]
  congr 1
  funext a
  apply Fin.ext
  match a with
  | ⟨0, _⟩ => show 256 * t.val + r.val = win0_10.index t 0 * 256 + 1 * r.val; rw [(index10 t).1]; omega
  | ⟨1, _⟩ => show l.val = win0_10.index t 1 * 1024 + 1 * l.val; rw [(index10 t).2]; omega

theorem final2 : (dats m 0 c).arrAt 10 cfg0.N = ker2 m c :=
  (dats m 0 c).arrAt_eq_of_cover 10 (ker2 m c) (fun t _ => flushed2 m c t) fun i => by
    have hN : cfg0.N = 32 := N_0
    have h0 : (i 0 : Nat) < 8192 := (i 0).isLt
    have h1 : (i 1 : Nat) < 1024 := (i 1).isLt
    obtain ⟨t, ht⟩ : ∃ t : Fin cfg0.N, t.val = (i 0 : Nat) / 256 := ⟨⟨(i 0 : Nat) / 256, by omega⟩, rfl⟩
    refine ⟨t, flush0_10 t, ?_⟩
    show i ∈ ((View.whole main_v19_2).slice (win0_10.rect t)).set
    rw [View.set_slice_whole, Rect.mem_set_unit]
    intro a
    match a with
    | ⟨0, _⟩ =>
      show win0_10.index t 0 * 256 ≤ (i 0 : Nat) ∧ (i 0 : Nat) < win0_10.index t 0 * 256 + 256
      rw [(index10 t).1]; omega
    | ⟨1, _⟩ =>
      show win0_10.index t 1 * 1024 ≤ (i 1 : Nat) ∧ (i 1 : Nat) < win0_10.index t 1 * 1024 + 1024
      rw [(index10 t).2]; omega

theorem index11 : ∀ t : Fin cfg0.N, win0_11.index t 0 = t.val ∧ win0_11.index t 1 = 0 := by decide +kernel

theorem step3 (t : Fin cfg0.N) : (outsAt0 m c t.val t.isLt).2.2.2.1 = blockOut3 (iblk m c 0 t) (iblk m c 1 t) (iblk m c 2 t) (iblk m c 3 t) (iblk m c 4 t) (iblk m c 5 t) (iblk m c 6 t) (iblk m c 7 t) := by
  have hN : cfg0.N = 32 := N_0
  have := t.isLt
  by_cases h : t.val = 0
  · rw [outsAt0_A m c t (by omega) (by omega) (by omega) (by omega)]
    dsimp only
    exact caseA3 ..
  · rw [outsAt0_B m c t (by omega) (by omega) (by omega) (by omega)]
    dsimp only
    exact caseB3 ..

theorem flushed3 (t : Fin cfg0.N) : (dats m 0 c).flushed 11 t = ((cfg0.win 11).blk t).view.read (Elt Ideal) (ker3 m c) := by
  rw [Cert.Kernel10Ideal.Value.flushed11, step3]
  funext j
  obtain ⟨r, l, rfl⟩ : ∃ (r : Fin 256) (l : Fin 1024), j = ix2 r l := ⟨j 0, j 1, eq_ix2 j⟩
  refine (share3 m c t r l).trans ?_
  rw [View.read_apply]
  congr 1
  funext a
  apply Fin.ext
  match a with
  | ⟨0, _⟩ => show 256 * t.val + r.val = win0_11.index t 0 * 256 + 1 * r.val; rw [(index11 t).1]; omega
  | ⟨1, _⟩ => show l.val = win0_11.index t 1 * 1024 + 1 * l.val; rw [(index11 t).2]; omega

theorem final3 : (dats m 0 c).arrAt 11 cfg0.N = ker3 m c :=
  (dats m 0 c).arrAt_eq_of_cover 11 (ker3 m c) (fun t _ => flushed3 m c t) fun i => by
    have hN : cfg0.N = 32 := N_0
    have h0 : (i 0 : Nat) < 8192 := (i 0).isLt
    have h1 : (i 1 : Nat) < 1024 := (i 1).isLt
    obtain ⟨t, ht⟩ : ∃ t : Fin cfg0.N, t.val = (i 0 : Nat) / 256 := ⟨⟨(i 0 : Nat) / 256, by omega⟩, rfl⟩
    refine ⟨t, flush0_11 t, ?_⟩
    show i ∈ ((View.whole main_v19_3).slice (win0_11.rect t)).set
    rw [View.set_slice_whole, Rect.mem_set_unit]
    intro a
    match a with
    | ⟨0, _⟩ =>
      show win0_11.index t 0 * 256 ≤ (i 0 : Nat) ∧ (i 0 : Nat) < win0_11.index t 0 * 256 + 256
      rw [(index11 t).1]; omega
    | ⟨1, _⟩ =>
      show win0_11.index t 1 * 1024 ≤ (i 1 : Nat) ∧ (i 1 : Nat) < win0_11.index t 1 * 1024 + 1024
      rw [(index11 t).2]; omega

theorem index12 : ∀ t : Fin cfg0.N, win0_12.index t 0 = 0 ∧ win0_12.index t 1 = 0 := by decide +kernel

theorem first4 (t : Fin cfg0.N) (h : t.val = 0) (l : Fin 1024) :
    (outsAt0 m c t.val t.isLt).2.2.2.2.1 (ix2 0 l) = ∑ r : Fin 256, termAt (term4 m c l) (256 * t.val + r.val) := by
  rw [outsAt0_A m c t (by omega) (by omega) (by omega) (by omega), ← share4 m c t l]
  dsimp only
  exact congrFun (caseA4 ..) _

theorem later4 (t : Fin cfg0.N) (h : t.val ≠ 0) (l : Fin 1024) :
    (outsAt0 m c t.val t.isLt).2.2.2.2.1 (ix2 0 l) = (outsAt0 m c (t.val - 1) (Nat.lt_of_le_of_lt (Nat.sub_le _ _) t.isLt)).2.2.2.2.1 (ix2 0 l)
      + ∑ r : Fin 256, termAt (term4 m c l) (256 * t.val + r.val) := by
  have hN : cfg0.N = 32 := N_0
  have := t.isLt
  rw [outsAt0_B m c t (by omega) (by omega) (by omega) (by omega), ← share4 m c t l]
  dsimp only
  exact congrFun (caseB4 ..) _

theorem outs4 (l : Fin 1024) (n : ℕ) (h : n < cfg0.N) :
    (outsAt0 m c n h).2.2.2.2.1 (ix2 0 l) = ∑ t ∈ Finset.range (n + 1), ∑ r : Fin 256, termAt (term4 m c l) (256 * t + r.val) :=
  accumulate (fun n h => (outsAt0 m c n h).2.2.2.2.1 (ix2 0 l)) (fun t => ∑ r : Fin 256, termAt (term4 m c l) (256 * t + r.val))
    (fun h => first4 m c ⟨0, h⟩ rfl l) (fun n h => later4 m c ⟨n + 1, h⟩ (Nat.succ_ne_zero n) l) n h

theorem flushed4 (t : Fin cfg0.N) (hf : (cfg0.win 12).flush t = true) :
    (dats m 0 c).flushed 12 t = ((cfg0.win 12).blk t).view.read (Elt Ideal) (ker4 m c) := by
  have hN : cfg0.N = 32 := N_0
  have last : t.val = 31 := by have := (flush0_12 t).mp hf; have := t.isLt; omega
  rw [Cert.Kernel10Ideal.Value.flushed12]
  funext j
  obtain ⟨u, l, rfl⟩ : ∃ (u : Fin 1) (l : Fin 1024), j = ix2 u l := ⟨j 0, j 1, eq_ix2 j⟩
  obtain rfl : u = 0 := Subsingleton.elim _ _
  refine (outs4 m c l t.val t.isLt).trans ?_
  rw [last, sum_termAt (term4 m c l) 256 32 rfl, View.read_apply]
  show ker4 m c (ix2 0 l) = _
  congr 1
  funext a
  apply Fin.ext
  match a with
  | ⟨0, _⟩ => show 0 = win0_12.index t 0 * 1 + 1 * 0; rw [(index12 t).1]
  | ⟨1, _⟩ => show l.val = win0_12.index t 1 * 1024 + 1 * l.val; rw [(index12 t).2]; omega

theorem final4 : (dats m 0 c).arrAt 12 cfg0.N = ker4 m c :=
  (dats m 0 c).arrAt_eq_of_cover 12 (ker4 m c) (flushed4 m c) fun i => by
    have hN : cfg0.N = 32 := N_0
    have h0 : (i 0 : Nat) < 1 := (i 0).isLt
    have h1 : (i 1 : Nat) < 1024 := (i 1).isLt
    obtain ⟨t, ht⟩ : ∃ t : Fin cfg0.N, t.val = 31 := ⟨⟨31, by omega⟩, rfl⟩
    refine ⟨t, (flush0_12 t).mpr (by omega), ?_⟩
    show i ∈ ((View.whole main_v19_4).slice (win0_12.rect t)).set
    rw [View.set_slice_whole, Rect.mem_set_unit]
    intro a
    match a with
    | ⟨0, _⟩ =>
      show win0_12.index t 0 * 1 ≤ (i 0 : Nat) ∧ (i 0 : Nat) < win0_12.index t 0 * 1 + 1
      rw [(index12 t).1]; omega
    | ⟨1, _⟩ =>
      show win0_12.index t 1 * 1024 ≤ (i 1 : Nat) ∧ (i 1 : Nat) < win0_12.index t 1 * 1024 + 1024
      rw [(index12 t).2]; omega

theorem index13 : ∀ t : Fin cfg0.N, win0_13.index t 0 = 0 ∧ win0_13.index t 1 = 0 := by decide +kernel

theorem first5 (t : Fin cfg0.N) (h : t.val = 0) (l : Fin 1024) :
    (outsAt0 m c t.val t.isLt).2.2.2.2.2 (ix2 0 l) = ∑ r : Fin 256, termAt (term5 m c l) (256 * t.val + r.val) := by
  rw [outsAt0_A m c t (by omega) (by omega) (by omega) (by omega), ← share5 m c t l]
  dsimp only
  exact congrFun (caseA5 ..) _

theorem later5 (t : Fin cfg0.N) (h : t.val ≠ 0) (l : Fin 1024) :
    (outsAt0 m c t.val t.isLt).2.2.2.2.2 (ix2 0 l) = (outsAt0 m c (t.val - 1) (Nat.lt_of_le_of_lt (Nat.sub_le _ _) t.isLt)).2.2.2.2.2 (ix2 0 l)
      + ∑ r : Fin 256, termAt (term5 m c l) (256 * t.val + r.val) := by
  have hN : cfg0.N = 32 := N_0
  have := t.isLt
  rw [outsAt0_B m c t (by omega) (by omega) (by omega) (by omega), ← share5 m c t l]
  dsimp only
  exact congrFun (caseB5 ..) _

theorem outs5 (l : Fin 1024) (n : ℕ) (h : n < cfg0.N) :
    (outsAt0 m c n h).2.2.2.2.2 (ix2 0 l) = ∑ t ∈ Finset.range (n + 1), ∑ r : Fin 256, termAt (term5 m c l) (256 * t + r.val) :=
  accumulate (fun n h => (outsAt0 m c n h).2.2.2.2.2 (ix2 0 l)) (fun t => ∑ r : Fin 256, termAt (term5 m c l) (256 * t + r.val))
    (fun h => first5 m c ⟨0, h⟩ rfl l) (fun n h => later5 m c ⟨n + 1, h⟩ (Nat.succ_ne_zero n) l) n h

theorem flushed5 (t : Fin cfg0.N) (hf : (cfg0.win 13).flush t = true) :
    (dats m 0 c).flushed 13 t = ((cfg0.win 13).blk t).view.read (Elt Ideal) (ker5 m c) := by
  have hN : cfg0.N = 32 := N_0
  have last : t.val = 31 := by have := (flush0_13 t).mp hf; have := t.isLt; omega
  rw [Cert.Kernel10Ideal.Value.flushed13]
  funext j
  obtain ⟨u, l, rfl⟩ : ∃ (u : Fin 1) (l : Fin 1024), j = ix2 u l := ⟨j 0, j 1, eq_ix2 j⟩
  obtain rfl : u = 0 := Subsingleton.elim _ _
  refine (outs5 m c l t.val t.isLt).trans ?_
  rw [last, sum_termAt (term5 m c l) 256 32 rfl, View.read_apply]
  show ker5 m c (ix2 0 l) = _
  congr 1
  funext a
  apply Fin.ext
  match a with
  | ⟨0, _⟩ => show 0 = win0_13.index t 0 * 1 + 1 * 0; rw [(index13 t).1]
  | ⟨1, _⟩ => show l.val = win0_13.index t 1 * 1024 + 1 * l.val; rw [(index13 t).2]; omega

theorem final5 : (dats m 0 c).arrAt 13 cfg0.N = ker5 m c :=
  (dats m 0 c).arrAt_eq_of_cover 13 (ker5 m c) (flushed5 m c) fun i => by
    have hN : cfg0.N = 32 := N_0
    have h0 : (i 0 : Nat) < 1 := (i 0).isLt
    have h1 : (i 1 : Nat) < 1024 := (i 1).isLt
    obtain ⟨t, ht⟩ : ∃ t : Fin cfg0.N, t.val = 31 := ⟨⟨31, by omega⟩, rfl⟩
    refine ⟨t, (flush0_13 t).mpr (by omega), ?_⟩
    show i ∈ ((View.whole main_v19_5).slice (win0_13.rect t)).set
    rw [View.set_slice_whole, Rect.mem_set_unit]
    intro a
    match a with
    | ⟨0, _⟩ =>
      show win0_13.index t 0 * 1 ≤ (i 0 : Nat) ∧ (i 0 : Nat) < win0_13.index t 0 * 1 + 1
      rw [(index13 t).1]; omega
    | ⟨1, _⟩ =>
      show win0_13.index t 1 * 1024 ≤ (i 1 : Nat) ∧ (i 1 : Nat) < win0_13.index t 1 * 1024 + 1024
      rw [(index13 t).2]; omega

/-- The whole run: the results in closed form, the arguments unchanged. -/
theorem kernel_run (ρ : Dev nD → PrngReg) :
    θ_run (defs (F := Ideal)) (onTc (τ := τ) (main (F := Ideal))) ⟨m, fun _ => 0, ρ⟩ fun r => ∀ c : Dev nD,
      r.2.mem ((c.tc : Thread nD τ).loc main_v19_0) = ker0 m c
      ∧ r.2.mem ((c.tc : Thread nD τ).loc main_v19_1) = ker1 m c
      ∧ r.2.mem ((c.tc : Thread nD τ).loc main_v19_2) = ker2 m c
      ∧ r.2.mem ((c.tc : Thread nD τ).loc main_v19_3) = ker3 m c
      ∧ r.2.mem ((c.tc : Thread nD τ).loc main_v19_4) = ker4 m c
      ∧ r.2.mem ((c.tc : Thread nD τ).loc main_v19_5) = ker5 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (final0 m c), (h c).2.1.trans (final1 m c), (h c).2.2.1.trans (final2 m c), (h c).2.2.2.1.trans (final3 m c), (h c).2.2.2.2.1.trans (final4 m c), (h c).2.2.2.2.2.1.trans (final5 m c), (h c).2.2.2.2.2.2⟩)
    (Cert.Kernel10Ideal.Value.run_blocks m ρ)

end Kernel

section Reference

open Cert.Reference10Ideal Cert.Reference10Ideal.Gen Idealize.ShloMosaic.TcCoe Idealize.SL.Sem

variable (m : (ℓ : Loc nD τ sig) → Buf (Elt Ideal) ℓ)

/-- The reference's results on device `c`. -/
def ref0 (c : Dev nD) : Rows :=
  argGrad (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
def ref1 (c : Dev nD) : Rows :=
  gateGrad (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
def ref2 (c : Dev nD) : Rows :=
  rowsGrad (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
def ref3 (c : Dev nD) : Rows :=
  branchGrad (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
def ref4 (c : Dev nD) : Gain :=
  biasGrad (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
def ref5 (c : Dev nD) : Gain :=
  skipGrad (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))

theorem reference_run (ρ : Dev nD → PrngReg) :
    θ_run (defs (F := Ideal)) (onTc (τ := τ) (main (F := Ideal))) ⟨m, fun _ => 0, ρ⟩ fun r => ∀ c : Dev nD,
      r.2.mem ((c.tc : Thread nD τ).loc main_v66) = ref0 m c
      ∧ r.2.mem ((c.tc : Thread nD τ).loc main_v67) = ref1 m c
      ∧ r.2.mem ((c.tc : Thread nD τ).loc main_v60) = ref2 m c
      ∧ r.2.mem ((c.tc : Thread nD τ).loc main_v62) = ref3 m c
      ∧ r.2.mem ((c.tc : Thread nD τ).loc main_v46) = ref4 m c
      ∧ r.2.mem ((c.tc : Thread nD τ).loc main_v65) = ref5 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2⟩)
    (Cert.GateBackARun.run m ρ)
  · funext j
    obtain ⟨p, l, rfl⟩ : ∃ (p : Fin 8192) (l : Fin 1024), j = ix2 p l := ⟨j 0, j 1, eq_ix2 j⟩
    exact Cert.GateBackARun.arg_read _ _ _ _ _ _ _ p l
  · funext j
    obtain ⟨p, l, rfl⟩ : ∃ (p : Fin 8192) (l : Fin 1024), j = ix2 p l := ⟨j 0, j 1, eq_ix2 j⟩
    exact Cert.GateBackARun.gate_read _ _ _ _ _ _ _ p l
  · funext j
    obtain ⟨p, l, rfl⟩ : ∃ (p : Fin 8192) (l : Fin 1024), j = ix2 p l := ⟨j 0, j 1, eq_ix2 j⟩
    exact Cert.GateBackARun.rows_read _ _ _ _ _ _ _ p l
  · funext j
    obtain ⟨p, l, rfl⟩ : ∃ (p : Fin 8192) (l : Fin 1024), j = ix2 p l := ⟨j 0, j 1, eq_ix2 j⟩
    exact Cert.GateBackARun.branch_read _ _ _ _ _ _ _ p l
  · funext j
    obtain ⟨p, l, rfl⟩ : ∃ (p : Fin 1) (l : Fin 1024), j = ix2 p l := ⟨j 0, j 1, eq_ix2 j⟩
    exact Cert.GateBackARun.bias_read _ _ _ _ _ _ _ l p
  · funext j
    obtain ⟨p, l, rfl⟩ : ∃ (p : Fin 1) (l : Fin 1024), j = ix2 p l := ⟨j 0, j 1, eq_ix2 j⟩
    exact Cert.GateBackARun.skip_read _ _ _ _ _ _ _ l p

end Reference

end Cert.GateBackA
-- ==== Proof.InputA.lean ====
/-
  The first mixer's norm and projections: the kernel's run and the reference's, both read down to the same row formulas.
-/
module

public import proofs.«01_k».proof.Proof.Gen.Kernel11Ideal.Value
public import proofs.«01_k».proof.Proof.Gen.Reference11Ideal.Run
public import proofs.«01_k».proof.Proof.RowFormula

@[expose] public section

noncomputable section

namespace Cert.InputA

open Idealize.ShloMosaic Cert.NormsProj Cert.Weight Cert.RowFormula

/-- The normalised rows, row by row. -/
def normRows (A0 : Arr 8192 1024) (A1 : Arr 1 1024) (A2 : Arr 1024 2048) : Rows := fun i =>
  normed (fun k => A0 (ix2 (i 0) k)) (fun k => A1 (ix2 0 k)) (i 1)

/-- The input branch, row by row. -/
def branchRows (A0 : Arr 8192 1024) (A1 : Arr 1 1024) (A2 : Arr 1024 2048) : Rows := fun i =>
  times (normed (fun k => A0 (ix2 (i 0) k)) (fun k => A1 (ix2 0 k))) (fun u k => A2 (ix2 u ⟨k.val, by omega⟩)) (i 1)

/-- The gate branch, row by row. -/
def gateRows (A0 : Arr 8192 1024) (A1 : Arr 1 1024) (A2 : Arr 1024 2048) : Rows := fun i =>
  times (normed (fun k => A0 (ix2 (i 0) k)) (fun k => A1 (ix2 0 k))) (fun u k => A2 (ix2 u ⟨1024 + k.val, by omega⟩)) (i 1)

section Kernel

open Cert.Kernel11Ideal Cert.Kernel11Ideal.Gen Idealize.ShloMosaic.TcCoe Idealize.SL.Sem

/-- What a grid point gives output 1. -/
def blockOut0 (x0 : FVec Ideal S512x1024 .f32) (x1 : FVec Ideal S1x1024 .f32) : FVec Ideal S512x1024 .bf16 :=
  (k0_pay1 (F := Ideal) x0 x1)

theorem blockOut0_apply (x0 : FVec Ideal S512x1024 .f32) (x1 : FVec Ideal S1x1024 .f32) (r : Fin 512) (l : Fin 1024) :
    blockOut0 x0 x1 (ix2 r l) = normed (fun k => x0 (ix2 r k)) (fun k => x1 (ix2 0 k)) l := by
  pointwise [blockOut0, k0_pay1, k0_pay2, k0_pay3, normed, scale, meanSq]

/-- What a grid point gives output 2. -/
def blockOut1 (x0 : FVec Ideal S512x1024 .f32) (x1 : FVec Ideal S1x1024 .f32) (x2 : FVec Ideal S1024x1024 .bf16) : FVec Ideal S512x1024 .f32 :=
  (k0_pay2 (F := Ideal) x0 x1 x2)

theorem blockOut1_apply (x0 : FVec Ideal S512x1024 .f32) (x1 : FVec Ideal S1x1024 .f32) (x2 : FVec Ideal S1024x1024 .bf16) (r : Fin 512) (l : Fin 1024) :
    blockOut1 x0 x1 x2 (ix2 r l) = times (normed (fun k => x0 (ix2 r k)) (fun k => x1 (ix2 0 k))) (fun u k => x2 (ix2 u k)) l := by
  pointwise [blockOut1, k0_pay1, k0_pay2, k0_pay3, times, normed, scale, meanSq]

/-- What a grid point gives output 3. -/
def blockOut2 (x0 : FVec Ideal S512x1024 .f32) (x1 : FVec Ideal S1x1024 .f32) (x3 : FVec Ideal S1024x1024 .bf16) : FVec Ideal S512x1024 .f32 :=
  (k0_pay3 (F := Ideal) x0 x1 x3)

theorem blockOut2_apply (x0 : FVec Ideal S512x1024 .f32) (x1 : FVec Ideal S1x1024 .f32) (x3 : FVec Ideal S1024x1024 .bf16) (r : Fin 512) (l : Fin 1024) :
    blockOut2 x0 x1 x3 (ix2 r l) = times (normed (fun k => x0 (ix2 r k)) (fun k => x1 (ix2 0 k))) (fun u k => x3 (ix2 u k)) l := by
  pointwise [blockOut2, k0_pay1, k0_pay2, k0_pay3, times, normed, scale, meanSq]

theorem case0 (x0 : FVec Ideal S512x1024 .f32) (x1 : FVec Ideal S1x1024 .f32) (x2 : FVec Ideal S1024x1024 .bf16) (x3 : FVec Ideal S1024x1024 .bf16) :
    out0_4 (F := Ideal) x0 x1 x2 x3 = blockOut0 x0 x1 := by
  unfold out0_4 r0_0 r0_1
  rw [View.canon_unit_zero zeros]
  simp only [View.ld_unit_zero (S := S1x1024) zeros, View.ld_unit_zero (S := S512x1024) zeros]
  rfl

theorem case1 (x0 : FVec Ideal S512x1024 .f32) (x1 : FVec Ideal S1x1024 .f32) (x2 : FVec Ideal S1024x1024 .bf16) (x3 : FVec Ideal S1024x1024 .bf16) :
    out0_5 (F := Ideal) x0 x1 x2 x3 = blockOut1 x0 x1 x2 := by
  unfold out0_5 r0_0 r0_1 r0_2
  rw [View.canon_unit_zero zeros]
  simp only [View.ld_unit_zero (S := S1024x1024) zeros, View.ld_unit_zero (S := S1x1024) zeros, View.ld_unit_zero (S := S512x1024) zeros]
  rfl

theorem case2 (x0 : FVec Ideal S512x1024 .f32) (x1 : FVec Ideal S1x1024 .f32) (x2 : FVec Ideal S1024x1024 .bf16) (x3 : FVec Ideal S1024x1024 .bf16) :
    out0_6 (F := Ideal) x0 x1 x2 x3 = blockOut2 x0 x1 x3 := by
  unfold out0_6 r0_0 r0_1 r0_2
  rw [View.canon_unit_zero zeros]
  simp only [View.ld_unit_zero (S := S1024x1024) zeros, View.ld_unit_zero (S := S1x1024) zeros, View.ld_unit_zero (S := S512x1024) zeros]
  rfl

variable (m : (ℓ : Loc nD τ sig) → Buf (Elt Ideal) ℓ) (c : Dev nD)

theorem index0 : ∀ t : Fin cfg0.N, win0_0.index t 0 = t.val ∧ win0_0.index t 1 = 0 := by decide +kernel

theorem blk0 (t : Fin cfg0.N) (r : Fin 512) (k : Fin 1024) (h : 512 * t.val + r.val < 8192) :
    (iblk m c 0 t : FVec Ideal S512x1024 .f32) (ix2 r k) = m ((c : Thread nD τ).loc main_arg0) (ix2 ⟨512 * t.val + r.val, h⟩ k) := by
  unfold iblk
  rw [View.read_apply]
  show V m c main_arg0 _ = _
  refine (congrArg (V m c main_arg0) (?_ : _ = (ix2 ⟨512 * t.val + r.val, h⟩ k : S8192x1024.Idx))).trans ?_
  · funext a
    apply Fin.ext
    match a with
    | ⟨0, _⟩ => show win0_0.index t 0 * 512 + 1 * r.val = 512 * t.val + r.val; rw [(index0 t).1]; omega
    | ⟨1, _⟩ => show win0_0.index t 1 * 1024 + 1 * k.val = k.val; rw [(index0 t).2]; omega
  · rw [V_main_arg0]

theorem index1 : ∀ t : Fin cfg0.N, win0_1.index t 0 = 0 ∧ win0_1.index t 1 = 0 := by decide +kernel

theorem blk1 (t : Fin cfg0.N) (k : Fin 1024) :
    (iblk m c 1 t : FVec Ideal S1x1024 .f32) (ix2 0 k) = m ((c : Thread nD τ).loc main_arg1) (ix2 0 k) := by
  unfold iblk
  rw [View.read_apply]
  show V m c main_arg1 _ = _
  refine (congrArg (V m c main_arg1) (?_ : _ = (ix2 0 k : S1x1024.Idx))).trans ?_
  · funext a
    apply Fin.ext
    match a with
    | ⟨0, _⟩ => show win0_1.index t 0 * 1 + 1 * 0 = 0; rw [(index1 t).1]
    | ⟨1, _⟩ => show win0_1.index t 1 * 1024 + 1 * k.val = k.val; rw [(index1 t).2]; omega
  · rw [V_main_arg1]

theorem index2 : ∀ t : Fin cfg0.N, win0_2.index t 0 = 0 ∧ win0_2.index t 1 = 0 := by decide +kernel

theorem blk2 (t : Fin cfg0.N) (u : Fin 1024) (k : Fin 1024) :
    (iblk m c 2 t : FVec Ideal S1024x1024 .bf16) (ix2 u k) = m ((c : Thread nD τ).loc main_arg2) (ix2 u ⟨k.val, by omega⟩) := by
  unfold iblk
  rw [View.read_apply]
  show V m c main_v1 _ = _
  refine (congrArg (V m c main_v1) (?_ : _ = (ix2 u k : S1024x1024.Idx))).trans ?_
  · funext a
    apply Fin.ext
    match a with
    | ⟨0, _⟩ => show win0_2.index t 0 * 1024 + 1 * u.val = u.val; rw [(index2 t).1]; omega
    | ⟨1, _⟩ => show win0_2.index t 1 * 1024 + 1 * k.val = k.val; rw [(index2 t).2]; omega
  · entry_read
    pointwise

theorem index3 : ∀ t : Fin cfg0.N, win0_3.index t 0 = 0 ∧ win0_3.index t 1 = 0 := by decide +kernel

theorem blk3 (t : Fin cfg0.N) (u : Fin 1024) (k : Fin 1024) :
    (iblk m c 3 t : FVec Ideal S1024x1024 .bf16) (ix2 u k) = m ((c : Thread nD τ).loc main_arg2) (ix2 u ⟨1024 + k.val, by omega⟩) := by
  unfold iblk
  rw [View.read_apply]
  show V m c main_v2 _ = _
  refine (congrArg (V m c main_v2) (?_ : _ = (ix2 u k : S1024x1024.Idx))).trans ?_
  · funext a
    apply Fin.ext
    match a with
    | ⟨0, _⟩ => show win0_3.index t 0 * 1024 + 1 * u.val = u.val; rw [(index3 t).1]; omega
    | ⟨1, _⟩ => show win0_3.index t 1 * 1024 + 1 * k.val = k.val; rw [(index3 t).2]; omega
  · entry_read
    pointwise

theorem point_row (t : Fin cfg0.N) (r : Fin 512) : 512 * t.val + r.val < 8192 := by
  have := t.isLt; have : cfg0.N = 16 := N_0; omega

/-- The kernel's result 1 on device `c`, as a function of the arrays it starts from. -/
def ker0 : Rows :=
  normRows (m ((c : Thread nD τ).loc main_arg0)) (m ((c : Thread nD τ).loc main_arg1)) (m ((c : Thread nD τ).loc main_arg2))

theorem share0 (t : Fin cfg0.N) (r : Fin 512) (l : Fin 1024) :
    blockOut0 (iblk m c 0 t) (iblk m c 1 t) (ix2 r l) = ker0 m c (ix2 ⟨512 * t.val + r.val, point_row t r⟩ l) := by
  rw [blockOut0_apply]
  simp only [blk0 m c t r _ (point_row t r), blk1]
  rfl

/-- The kernel's result 2 on device `c`, as a function of the arrays it starts from. -/
def ker1 : Rows :=
  branchRows (m ((c : Thread nD τ).loc main_arg0)) (m ((c : Thread nD τ).loc main_arg1)) (m ((c : Thread nD τ).loc main_arg2))

theorem share1 (t : Fin cfg0.N) (r : Fin 512) (l : Fin 1024) :
    blockOut1 (iblk m c 0 t) (iblk m c 1 t) (iblk m c 2 t) (ix2 r l) = ker1 m c (ix2 ⟨512 * t.val + r.val, point_row t r⟩ l) := by
  rw [blockOut1_apply]
  simp only [blk0 m c t r _ (point_row t r), blk1, blk2]
  rfl

/-- The kernel's result 3 on device `c`, as a function of the arrays it starts from. -/
def ker2 : Rows :=
  gateRows (m ((c : Thread nD τ).loc main_arg0)) (m ((c : Thread nD τ).loc main_arg1)) (m ((c : Thread nD τ).loc main_arg2))

theorem share2 (t : Fin cfg0.N) (r : Fin 512) (l : Fin 1024) :
    blockOut2 (iblk m c 0 t) (iblk m c 1 t) (iblk m c 3 t) (ix2 r l) = ker2 m c (ix2 ⟨512 * t.val + r.val, point_row t r⟩ l) := by
  rw [blockOut2_apply]
  simp only [blk0 m c t r _ (point_row t r), blk1, blk3]
  rfl

theorem index4 : ∀ t : Fin cfg0.N, win0_4.index t 0 = t.val ∧ win0_4.index t 1 = 0 := by decide +kernel

theorem flushed0 (t : Fin cfg0.N) : (dats m 0 c).flushed 4 t = ((cfg0.win 4).blk t).view.read (Elt Ideal) (ker0 m c) := by
  rw [Cert.Kernel11Ideal.Value.flushed4, case0]
  funext j
  obtain ⟨r, l, rfl⟩ : ∃ (r : Fin 512) (l : Fin 1024), j = ix2 r l := ⟨j 0, j 1, eq_ix2 j⟩
  refine (share0 m c t r l).trans ?_
  rw [View.read_apply]
  congr 1
  funext a
  apply Fin.ext
  match a with
  | ⟨0, _⟩ => show 512 * t.val + r.val = win0_4.index t 0 * 512 + 1 * r.val; rw [(index4 t).1]; omega
  | ⟨1, _⟩ => show l.val = win0_4.index t 1 * 1024 + 1 * l.val; rw [(index4 t).2]; omega

theorem final0 : (dats m 0 c).arrAt 4 cfg0.N = ker0 m c :=
  (dats m 0 c).arrAt_eq_of_cover 4 (ker0 m c) (fun t _ => flushed0 m c t) fun i => by
    have hN : cfg0.N = 16 := N_0
    have h0 : (i 0 : Nat) < 8192 := (i 0).isLt
    have h1 : (i 1 : Nat) < 1024 := (i 1).isLt
    obtain ⟨t, ht⟩ : ∃ t : Fin cfg0.N, t.val = (i 0 : Nat) / 512 := ⟨⟨(i 0 : Nat) / 512, by omega⟩, rfl⟩
    refine ⟨t, flush0_4 t, ?_⟩
    show i ∈ ((View.whole main_v3_0).slice (win0_4.rect t)).set
    rw [View.set_slice_whole, Rect.mem_set_unit]
    intro a
    match a with
    | ⟨0, _⟩ =>
      show win0_4.index t 0 * 512 ≤ (i 0 : Nat) ∧ (i 0 : Nat) < win0_4.index t 0 * 512 + 512
      rw [(index4 t).1]; omega
    | ⟨1, _⟩ =>
      show win0_4.index t 1 * 1024 ≤ (i 1 : Nat) ∧ (i 1 : Nat) < win0_4.index t 1 * 1024 + 1024
      rw [(index4 t).2]; omega

theorem index5 : ∀ t : Fin cfg0.N, win0_5.index t 0 = t.val ∧ win0_5.index t 1 = 0 := by decide +kernel

theorem flushed1 (t : Fin cfg0.N) : (dats m 0 c).flushed 5 t = ((cfg0.win 5).blk t).view.read (Elt Ideal) (ker1 m c) := by
  rw [Cert.Kernel11Ideal.Value.flushed5, case1]
  funext j
  obtain ⟨r, l, rfl⟩ : ∃ (r : Fin 512) (l : Fin 1024), j = ix2 r l := ⟨j 0, j 1, eq_ix2 j⟩
  refine (share1 m c t r l).trans ?_
  rw [View.read_apply]
  congr 1
  funext a
  apply Fin.ext
  match a with
  | ⟨0, _⟩ => show 512 * t.val + r.val = win0_5.index t 0 * 512 + 1 * r.val; rw [(index5 t).1]; omega
  | ⟨1, _⟩ => show l.val = win0_5.index t 1 * 1024 + 1 * l.val; rw [(index5 t).2]; omega

theorem final1 : (dats m 0 c).arrAt 5 cfg0.N = ker1 m c :=
  (dats m 0 c).arrAt_eq_of_cover 5 (ker1 m c) (fun t _ => flushed1 m c t) fun i => by
    have hN : cfg0.N = 16 := N_0
    have h0 : (i 0 : Nat) < 8192 := (i 0).isLt
    have h1 : (i 1 : Nat) < 1024 := (i 1).isLt
    obtain ⟨t, ht⟩ : ∃ t : Fin cfg0.N, t.val = (i 0 : Nat) / 512 := ⟨⟨(i 0 : Nat) / 512, by omega⟩, rfl⟩
    refine ⟨t, flush0_5 t, ?_⟩
    show i ∈ ((View.whole main_v3_1).slice (win0_5.rect t)).set
    rw [View.set_slice_whole, Rect.mem_set_unit]
    intro a
    match a with
    | ⟨0, _⟩ =>
      show win0_5.index t 0 * 512 ≤ (i 0 : Nat) ∧ (i 0 : Nat) < win0_5.index t 0 * 512 + 512
      rw [(index5 t).1]; omega
    | ⟨1, _⟩ =>
      show win0_5.index t 1 * 1024 ≤ (i 1 : Nat) ∧ (i 1 : Nat) < win0_5.index t 1 * 1024 + 1024
      rw [(index5 t).2]; omega

theorem index6 : ∀ t : Fin cfg0.N, win0_6.index t 0 = t.val ∧ win0_6.index t 1 = 0 := by decide +kernel

theorem flushed2 (t : Fin cfg0.N) : (dats m 0 c).flushed 6 t = ((cfg0.win 6).blk t).view.read (Elt Ideal) (ker2 m c) := by
  rw [Cert.Kernel11Ideal.Value.flushed6, case2]
  funext j
  obtain ⟨r, l, rfl⟩ : ∃ (r : Fin 512) (l : Fin 1024), j = ix2 r l := ⟨j 0, j 1, eq_ix2 j⟩
  refine (share2 m c t r l).trans ?_
  rw [View.read_apply]
  congr 1
  funext a
  apply Fin.ext
  match a with
  | ⟨0, _⟩ => show 512 * t.val + r.val = win0_6.index t 0 * 512 + 1 * r.val; rw [(index6 t).1]; omega
  | ⟨1, _⟩ => show l.val = win0_6.index t 1 * 1024 + 1 * l.val; rw [(index6 t).2]; omega

theorem final2 : (dats m 0 c).arrAt 6 cfg0.N = ker2 m c :=
  (dats m 0 c).arrAt_eq_of_cover 6 (ker2 m c) (fun t _ => flushed2 m c t) fun i => by
    have hN : cfg0.N = 16 := N_0
    have h0 : (i 0 : Nat) < 8192 := (i 0).isLt
    have h1 : (i 1 : Nat) < 1024 := (i 1).isLt
    obtain ⟨t, ht⟩ : ∃ t : Fin cfg0.N, t.val = (i 0 : Nat) / 512 := ⟨⟨(i 0 : Nat) / 512, by omega⟩, rfl⟩
    refine ⟨t, flush0_6 t, ?_⟩
    show i ∈ ((View.whole main_v3_2).slice (win0_6.rect t)).set
    rw [View.set_slice_whole, Rect.mem_set_unit]
    intro a
    match a with
    | ⟨0, _⟩ =>
      show win0_6.index t 0 * 512 ≤ (i 0 : Nat) ∧ (i 0 : Nat) < win0_6.index t 0 * 512 + 512
      rw [(index6 t).1]; omega
    | ⟨1, _⟩ =>
      show win0_6.index t 1 * 1024 ≤ (i 1 : Nat) ∧ (i 1 : Nat) < win0_6.index t 1 * 1024 + 1024
      rw [(index6 t).2]; omega

/-- The whole run: the results in closed form, the arguments unchanged. -/
theorem kernel_run (ρ : Dev nD → PrngReg) :
    θ_run (defs (F := Ideal)) (onTc (τ := τ) (main (F := Ideal))) ⟨m, fun _ => 0, ρ⟩ fun r => ∀ c : Dev nD,
      r.2.mem ((c.tc : Thread nD τ).loc main_v3_0) = ker0 m c
      ∧ r.2.mem ((c.tc : Thread nD τ).loc main_v3_1) = ker1 m c
      ∧ r.2.mem ((c.tc : Thread nD τ).loc main_v3_2) = ker2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (final0 m c), (h c).2.1.trans (final1 m c), (h c).2.2.1.trans (final2 m c), (h c).2.2.2⟩)
    (Cert.Kernel11Ideal.Value.run_blocks m ρ)

end Kernel

section Reference

open Cert.Reference11Ideal Cert.Reference11Ideal.Gen Idealize.ShloMosaic.TcCoe Idealize.SL.Sem

variable (m : (ℓ : Loc nD τ sig) → Buf (Elt Ideal) ℓ)

/-- The reference's results on device `c`. -/
def ref0 (c : Dev nD) : Rows :=
  normRows (m ((c.tc : Thread nD τ).loc main_arg0)) (m ((c.tc : Thread nD τ).loc main_arg1)) (m ((c.tc : Thread nD τ).loc main_arg2))
def ref1 (c : Dev nD) : Rows :=
  branchRows (m ((c.tc : Thread nD τ).loc main_arg0)) (m ((c.tc : Thread nD τ).loc main_arg1)) (m ((c.tc : Thread nD τ).loc main_arg2))
def ref2 (c : Dev nD) : Rows :=
  gateRows (m ((c.tc : Thread nD τ).loc main_arg0)) (m ((c.tc : Thread nD τ).loc main_arg1)) (m ((c.tc : Thread nD τ).loc main_arg2))

theorem reference_run (ρ : Dev nD → PrngReg) :
    θ_run (defs (F := Ideal)) (onTc (τ := τ) (main (F := Ideal))) ⟨m, fun _ => 0, ρ⟩ fun r => ∀ c : Dev nD,
      r.2.mem ((c.tc : Thread nD τ).loc main_v15) = ref0 m c
      ∧ r.2.mem ((c.tc : Thread nD τ).loc main_v13) = ref1 m c
      ∧ r.2.mem ((c.tc : Thread nD τ).loc main_v14) = ref2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun _ h c => ⟨(h c).1.trans ?_, (h c).2.1.trans ?_, (h c).2.2.1.trans ?_, (h c).2.2.2⟩)
    (Cert.Reference11Ideal.Value.run m ρ)
  · funext j
    obtain ⟨p, l, rfl⟩ : ∃ (p : Fin 8192) (l : Fin 1024), j = ix2 p l := ⟨j 0, j 1, eq_ix2 j⟩
    pointwise [ref0, normRows, normed, scale, meanSq]
  · funext j
    obtain ⟨p, l, rfl⟩ : ∃ (p : Fin 8192) (l : Fin 1024), j = ix2 p l := ⟨j 0, j 1, eq_ix2 j⟩
    pointwise [ref1, branchRows, times, normed, scale, meanSq]
  · funext j
    obtain ⟨p, l, rfl⟩ : ∃ (p : Fin 8192) (l : Fin 1024), j = ix2 p l := ⟨j 0, j 1, eq_ix2 j⟩
    pointwise [ref2, gateRows, times, normed, scale, meanSq]

end Reference

end Cert.InputA
-- ==== Proof.GluA.lean ====
/-
  The first mixer's gelu and its projection: the kernel's run and the reference's, both read down to the same row formulas.
-/
module

public import proofs.«01_k».proof.Proof.Gen.Kernel12Ideal.Value
public import proofs.«01_k».proof.Proof.Gen.Reference12Ideal.Run
public import proofs.«01_k».proof.Proof.RowFormula

@[expose] public section

noncomputable section

namespace Cert.GluA

open Idealize.ShloMosaic Cert.NormsProj Cert.Weight Cert.RowFormula

/-- The activated rows, row by row. -/
def activeRows (A0 : Arr 8192 1024) (A1 : Arr 8192 1024) (A2 : Arr 1 1024) (A3 : Arr 1024 1024) : Rows := fun i =>
  activated (fun k => A0 (ix2 (i 0) k)) (fun k => A1 (ix2 (i 0) k)) (fun k => A2 (ix2 0 k)) (i 1)

/-- Their projection, row by row. -/
def gluRows (A0 : Arr 8192 1024) (A1 : Arr 8192 1024) (A2 : Arr 1 1024) (A3 : Arr 1024 1024) : Rows := fun i =>
  times (activated (fun k => A0 (ix2 (i 0) k)) (fun k => A1 (ix2 (i 0) k)) (fun k => A2 (ix2 0 k))) (fun u k => A3 (ix2 u k)) (i 1)

section Kernel

open Cert.Kernel12Ideal Cert.Kernel12Ideal.Gen Idealize.ShloMosaic.TcCoe Idealize.SL.Sem

/-- What a grid point gives output 1. -/
def blockOut0 (x0 : FVec Ideal S512x1024 .f32) (x1 : FVec Ideal S512x1024 .f32) (x2 : FVec Ideal S1x1024 .f32) : FVec Ideal S512x1024 .bf16 :=
  (k0_pay1 (F := Ideal) x0 x1 x2)

theorem blockOut0_apply (x0 : FVec Ideal S512x1024 .f32) (x1 : FVec Ideal S512x1024 .f32) (x2 : FVec Ideal S1x1024 .f32) (r : Fin 512) (l : Fin 1024) :
    blockOut0 x0 x1 x2 (ix2 r l) = activated (fun k => x0 (ix2 r k)) (fun k => x1 (ix2 r k)) (fun k => x2 (ix2 0 k)) l := by
  pointwise [blockOut0, zero_sub, k0_pay1, k0_pay2, activated, gelu]

/-- What a grid point gives output 2. -/
def blockOut1 (x0 : FVec Ideal S512x1024 .f32) (x1 : FVec Ideal S512x1024 .f32) (x2 : FVec Ideal S1x1024 .f32) (x3 : FVec Ideal S1024x1024 .bf16) : FVec Ideal S512x1024 .f32 :=
  (k0_pay2 (F := Ideal) x0 x1 x2 x3)

theorem blockOut1_apply (x0 : FVec Ideal S512x1024 .f32) (x1 : FVec Ideal S512x1024 .f32) (x2 : FVec Ideal S1x1024 .f32) (x3 : FVec Ideal S1024x1024 .bf16) (r : Fin 512) (l : Fin 1024) :
    blockOut1 x0 x1 x2 x3 (ix2 r l) = times (activated (fun k => x0 (ix2 r k)) (fun k => x1 (ix2 r k)) (fun k => x2 (ix2 0 k))) (fun u k => x3 (ix2 u k)) l := by
  pointwise [blockOut1, zero_sub, k0_pay1, k0_pay2, times, activated, gelu]

theorem case0 (x0 : FVec Ideal S512x1024 .f32) (x1 : FVec Ideal S512x1024 .f32) (x2 : FVec Ideal S1x1024 .f32) (x3 : FVec Ideal S1024x1024 .bf16) :
    out0_4 (F := Ideal) x0 x1 x2 x3 = blockOut0 x0 x1 x2 := by
  unfold out0_4 r0_0 r0_1
  rw [View.canon_unit_zero zeros]
  simp only [View.ld_unit_zero (S := S1x1024) zeros, View.ld_unit_zero (S := S512x1024) zeros]
  rfl

theorem case1 (x0 : FVec Ideal S512x1024 .f32) (x1 : FVec Ideal S512x1024 .f32) (x2 : FVec Ideal S1x1024 .f32) (x3 : FVec Ideal S1024x1024 .bf16) :
    out0_5 (F := Ideal) x0 x1 x2 x3 = blockOut1 x0 x1 x2 x3 := by
  unfold out0_5 r0_0 r0_1 r0_2
  rw [View.canon_unit_zero zeros]
  simp only [View.ld_unit_zero (S := S1024x1024) zeros, View.ld_unit_zero (S := S1x1024) zeros, View.ld_unit_zero (S := S512x1024) zeros]
  rfl

variable (m : (ℓ : Loc nD τ sig) → Buf (Elt Ideal) ℓ) (c : Dev nD)

theorem index0 : ∀ t : Fin cfg0.N, win0_0.index t 0 = t.val ∧ win0_0.index t 1 = 0 := by decide +kernel

theorem blk0 (t : Fin cfg0.N) (r : Fin 512) (k : Fin 1024) (h : 512 * t.val + r.val < 8192) :
    (iblk m c 0 t : FVec Ideal S512x1024 .f32) (ix2 r k) = m ((c : Thread nD τ).loc main_arg0) (ix2 ⟨512 * t.val + r.val, h⟩ k) := by
  unfold iblk
  rw [View.read_apply]
  show V m c main_arg0 _ = _
  refine (congrArg (V m c main_arg0) (?_ : _ = (ix2 ⟨512 * t.val + r.val, h⟩ k : S8192x1024.Idx))).trans ?_
  · funext a
    apply Fin.ext
    match a with
    | ⟨0, _⟩ => show win0_0.index t 0 * 512 + 1 * r.val = 512 * t.val + r.val; rw [(index0 t).1]; omega
    | ⟨1, _⟩ => show win0_0.index t 1 * 1024 + 1 * k.val = k.val; rw [(index0 t).2]; omega
  · rw [V_main_arg0]

theorem index1 : ∀ t : Fin cfg0.N, win0_1.index t 0 = t.val ∧ win0_1.index t 1 = 0 := by decide +kernel

theorem blk1 (t : Fin cfg0.N) (r : Fin 512) (k : Fin 1024) (h : 512 * t.val + r.val < 8192) :
    (iblk m c 1 t : FVec Ideal S512x1024 .f32) (ix2 r k) = m ((c : Thread nD τ).loc main_arg1) (ix2 ⟨512 * t.val + r.val, h⟩ k) := by
  unfold iblk
  rw [View.read_apply]
  show V m c main_arg1 _ = _
  refine (congrArg (V m c main_arg1) (?_ : _ = (ix2 ⟨512 * t.val + r.val, h⟩ k : S8192x1024.Idx))).trans ?_
  · funext a
    apply Fin.ext
    match a with
    | ⟨0, _⟩ => show win0_1.index t 0 * 512 + 1 * r.val = 512 * t.val + r.val; rw [(index1 t).1]; omega
    | ⟨1, _⟩ => show win0_1.index t 1 * 1024 + 1 * k.val = k.val; rw [(index1 t).2]; omega
  · rw [V_main_arg1]

theorem index2 : ∀ t : Fin cfg0.N, win0_2.index t 0 = 0 ∧ win0_2.index t 1 = 0 := by decide +kernel

theorem blk2 (t : Fin cfg0.N) (k : Fin 1024) :
    (iblk m c 2 t : FVec Ideal S1x1024 .f32) (ix2 0 k) = m ((c : Thread nD τ).loc main_arg2) (ix2 0 k) := by
  unfold iblk
  rw [View.read_apply]
  show V m c main_arg2 _ = _
  refine (congrArg (V m c main_arg2) (?_ : _ = (ix2 0 k : S1x1024.Idx))).trans ?_
  · funext a
    apply Fin.ext
    match a with
    | ⟨0, _⟩ => show win0_2.index t 0 * 1 + 1 * 0 = 0; rw [(index2 t).1]
    | ⟨1, _⟩ => show win0_2.index t 1 * 1024 + 1 * k.val = k.val; rw [(index2 t).2]; omega
  · rw [V_main_arg2]

theorem index3 : ∀ t : Fin cfg0.N, win0_3.index t 0 = 0 ∧ win0_3.index t 1 = 0 := by decide +kernel

theorem blk3 (t : Fin cfg0.N) (u : Fin 1024) (k : Fin 1024) :
    (iblk m c 3 t : FVec Ideal S1024x1024 .bf16) (ix2 u k) = (m ((c : Thread nD τ).loc main_arg3)) (ix2 u k) := by
  unfold iblk
  rw [View.read_apply]
  show V m c main_v0 _ = _
  refine (congrArg (V m c main_v0) (?_ : _ = (ix2 u k : S1024x1024.Idx))).trans ?_
  · funext a
    apply Fin.ext
    match a with
    | ⟨0, _⟩ => show win0_3.index t 0 * 1024 + 1 * u.val = u.val; rw [(index3 t).1]; omega
    | ⟨1, _⟩ => show win0_3.index t 1 * 1024 + 1 * k.val = k.val; rw [(index3 t).2]; omega
  · entry_read
    pointwise

theorem point_row (t : Fin cfg0.N) (r : Fin 512) : 512 * t.val + r.val < 8192 := by
  have := t.isLt; have : cfg0.N = 16 := N_0; omega

/-- The kernel's result 1 on device `c`, as a function of the arrays it starts from. -/
def ker0 : Rows :=
  activeRows (m ((c : Thread nD τ).loc main_arg0)) (m ((c : Thread nD τ).loc main_arg1)) (m ((c : Thread nD τ).loc main_arg2)) (m ((c : Thread nD τ).loc main_arg3))

theorem share0 (t : Fin cfg0.N) (r : Fin 512) (l : Fin 1024) :
    blockOut0 (iblk m c 0 t) (iblk m c 1 t) (iblk m c 2 t) (ix2 r l) = ker0 m c (ix2 ⟨512 * t.val + r.val, point_row t r⟩ l) := by
  rw [blockOut0_apply]
  simp only [blk0 m c t r _ (point_row t r), blk1 m c t r _ (point_row t r), blk2]
  rfl

/-- The kernel's result 2 on device `c`, as a function of the arrays it starts from. -/
def ker1 : Rows :=
  gluRows (m ((c : Thread nD τ).loc main_arg0)) (m ((c : Thread nD τ).loc main_arg1)) (m ((c : Thread nD τ).loc main_arg2)) (m ((c : Thread nD τ).loc main_arg3))

theorem share1 (t : Fin cfg0.N) (r : Fin 512) (l : Fin 1024) :
    blockOut1 (iblk m c 0 t) (iblk m c 1 t) (iblk m c 2 t) (iblk m c 3 t) (ix2 r l) = ker1 m c (ix2 ⟨512 * t.val + r.val, point_row t r⟩ l) := by
  rw [blockOut1_apply]
  simp only [blk0 m c t r _ (point_row t r), blk1 m c t r _ (point_row t r), blk2, blk3]
  rfl

theorem index4 : ∀ t : Fin cfg0.N, win0_4.index t 0 = t.val ∧ win0_4.index t 1 = 0 := by decide +kernel

theorem flushed0 (t : Fin cfg0.N) : (dats m 0 c).flushed 4 t = ((cfg0.win 4).blk t).view.read (Elt Ideal) (ker0 m c) := by
  rw [Cert.Kernel12Ideal.Value.flushed4, case0]
  funext j
  obtain ⟨r, l, rfl⟩ : ∃ (r : Fin 512) (l : Fin 1024), j = ix2 r l := ⟨j 0, j 1, eq_ix2 j⟩
  refine (share0 m c t r l).trans ?_
  rw [View.read_apply]
  congr 1
  funext a
  apply Fin.ext
  match a with
  | ⟨0, _⟩ => show 512 * t.val + r.val = win0_4.index t 0 * 512 + 1 * r.val; rw [(index4 t).1]; omega
  | ⟨1, _⟩ => show l.val = win0_4.index t 1 * 1024 + 1 * l.val; rw [(index4 t).2]; omega

theorem final0 : (dats m 0 c).arrAt 4 cfg0.N = ker0 m c :=
  (dats m 0 c).arrAt_eq_of_cover 4 (ker0 m c) (fun t _ => flushed0 m c t) fun i => by
    have hN : cfg0.N = 16 := N_0
    have h0 : (i 0 : Nat) < 8192 := (i 0).isLt
    have h1 : (i 1 : Nat) < 1024 := (i 1).isLt
    obtain ⟨t, ht⟩ : ∃ t : Fin cfg0.N, t.val = (i 0 : Nat) / 512 := ⟨⟨(i 0 : Nat) / 512, by omega⟩, rfl⟩
    refine ⟨t, flush0_4 t, ?_⟩
    show i ∈ ((View.whole main_v1_0).slice (win0_4.rect t)).set
    rw [View.set_slice_whole, Rect.mem_set_unit]
    intro a
    match a with
    | ⟨0, _⟩ =>
      show win0_4.index t 0 * 512 ≤ (i 0 : Nat) ∧ (i 0 : Nat) < win0_4.index t 0 * 512 + 512
      rw [(index4 t).1]; omega
    | ⟨1, _⟩ =>
      show win0_4.index t 1 * 1024 ≤ (i 1 : Nat) ∧ (i 1 : Nat) < win0_4.index t 1 * 1024 + 1024
      rw [(index4 t).2]; omega

theorem index5 : ∀ t : Fin cfg0.N, win0_5.index t 0 = t.val ∧ win0_5.index t 1 = 0 := by decide +kernel

theorem flushed1 (t : Fin cfg0.N) : (dats m 0 c).flushed 5 t = ((cfg0.win 5).blk t).view.read (Elt Ideal) (ker1 m c) := by
  rw [Cert.Kernel12Ideal.Value.flushed5, case1]
  funext j
  obtain ⟨r, l, rfl⟩ : ∃ (r : Fin 512) (l : Fin 1024), j = ix2 r l := ⟨j 0, j 1, eq_ix2 j⟩
  refine (share1 m c t r l).trans ?_
  rw [View.read_apply]
  congr 1
  funext a
  apply Fin.ext
  match a with
  | ⟨0, _⟩ => show 512 * t.val + r.val = win0_5.index t 0 * 512 + 1 * r.val; rw [(index5 t).1]; omega
  | ⟨1, _⟩ => show l.val = win0_5.index t 1 * 1024 + 1 * l.val; rw [(index5 t).2]; omega

theorem final1 : (dats m 0 c).arrAt 5 cfg0.N = ker1 m c :=
  (dats m 0 c).arrAt_eq_of_cover 5 (ker1 m c) (fun t _ => flushed1 m c t) fun i => by
    have hN : cfg0.N = 16 := N_0
    have h0 : (i 0 : Nat) < 8192 := (i 0).isLt
    have h1 : (i 1 : Nat) < 1024 := (i 1).isLt
    obtain ⟨t, ht⟩ : ∃ t : Fin cfg0.N, t.val = (i 0 : Nat) / 512 := ⟨⟨(i 0 : Nat) / 512, by omega⟩, rfl⟩
    refine ⟨t, flush0_5 t, ?_⟩
    show i ∈ ((View.whole main_v1_1).slice (win0_5.rect t)).set
    rw [View.set_slice_whole, Rect.mem_set_unit]
    intro a
    match a with
    | ⟨0, _⟩ =>
      show win0_5.index t 0 * 512 ≤ (i 0 : Nat) ∧ (i 0 : Nat) < win0_5.index t 0 * 512 + 512
      rw [(index5 t).1]; omega
    | ⟨1, _⟩ =>
      show win0_5.index t 1 * 1024 ≤ (i 1 : Nat) ∧ (i 1 : Nat) < win0_5.index t 1 * 1024 + 1024
      rw [(index5 t).2]; omega

/-- The whole run: the results in closed form, the arguments unchanged. -/
theorem kernel_run (ρ : Dev nD → PrngReg) :
    θ_run (defs (F := Ideal)) (onTc (τ := τ) (main (F := Ideal))) ⟨m, fun _ => 0, ρ⟩ fun r => ∀ c : Dev nD,
      r.2.mem ((c.tc : Thread nD τ).loc main_v1_0) = ker0 m c
      ∧ r.2.mem ((c.tc : Thread nD τ).loc main_v1_1) = ker1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (final0 m c), (h c).2.1.trans (final1 m c), (h c).2.2⟩)
    (Cert.Kernel12Ideal.Value.run_blocks m ρ)

end Kernel

section Reference

open Cert.Reference12Ideal Cert.Reference12Ideal.Gen Idealize.ShloMosaic.TcCoe Idealize.SL.Sem

variable (m : (ℓ : Loc nD τ sig) → Buf (Elt Ideal) ℓ)

/-- The reference's results on device `c`. -/
def ref0 (c : Dev nD) : Rows :=
  activeRows (m ((c.tc : Thread nD τ).loc main_arg0)) (m ((c.tc : Thread nD τ).loc main_arg1)) (m ((c.tc : Thread nD τ).loc main_arg2)) (m ((c.tc : Thread nD τ).loc main_arg3))
def ref1 (c : Dev nD) : Rows :=
  gluRows (m ((c.tc : Thread nD τ).loc main_arg0)) (m ((c.tc : Thread nD τ).loc main_arg1)) (m ((c.tc : Thread nD τ).loc main_arg2)) (m ((c.tc : Thread nD τ).loc main_arg3))

theorem reference_run (ρ : Dev nD → PrngReg) :
    θ_run (defs (F := Ideal)) (onTc (τ := τ) (main (F := Ideal))) ⟨m, fun _ => 0, ρ⟩ fun r => ∀ c : Dev nD,
      r.2.mem ((c.tc : Thread nD τ).loc main_v16) = ref0 m c
      ∧ r.2.mem ((c.tc : Thread nD τ).loc main_v17) = ref1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ h c => ⟨(h c).1.trans ?_, (h c).2.1.trans ?_, (h c).2.2⟩)
    (Cert.Reference12Ideal.Value.run m ρ)
  · funext j
    obtain ⟨p, l, rfl⟩ : ∃ (p : Fin 8192) (l : Fin 1024), j = ix2 p l := ⟨j 0, j 1, eq_ix2 j⟩
    pointwise [ref0, activeRows, activated]
    all_goals simp only [gelu_eq]
  · funext j
    obtain ⟨p, l, rfl⟩ : ∃ (p : Fin 8192) (l : Fin 1024), j = ix2 p l := ⟨j 0, j 1, eq_ix2 j⟩
    pointwise [ref1, gluRows, times, activated]
    all_goals simp only [gelu_eq]

end Reference

end Cert.GluA
-- ==== Proof.OutputA.lean ====
/-
  The first mixer's gates, output projection and norm: the kernel's run and the reference's, both read down to the same row formulas.
-/
module

public import proofs.«01_k».proof.Proof.Gen.Kernel13Ideal.Value
public import proofs.«01_k».proof.Proof.Gen.Reference13Ideal.Run
public import proofs.«01_k».proof.Proof.RowFormula

@[expose] public section

noncomputable section

namespace Cert.OutputA

open Idealize.ShloMosaic Cert.NormsProj Cert.Weight Cert.RowFormula

/-- The gated rows, row by row. -/
def gatedRows (A0 : Arr 8192 1024) (A1 : Arr 8192 1024) (A2 : Arr 8192 1024) (A3 : Arr 8192 1024) (A4 : Arr 8192 1024) (A5 : Arr 1 1024) (A6 : Arr 1 1024) (A7 : Arr 1 1024) (A8 : Arr 1024 1024) : Rows := fun i =>
  gatedA (fun k => A0 (ix2 (i 0) k)) (fun k => A1 (ix2 (i 0) k)) (fun k => A2 (ix2 (i 0) k)) (fun k => A3 (ix2 (i 0) k)) (fun k => A5 (ix2 0 k)) (fun k => A6 (ix2 0 k)) (i 1)

/-- Their projection, row by row. -/
def outRows (A0 : Arr 8192 1024) (A1 : Arr 8192 1024) (A2 : Arr 8192 1024) (A3 : Arr 8192 1024) (A4 : Arr 8192 1024) (A5 : Arr 1 1024) (A6 : Arr 1 1024) (A7 : Arr 1 1024) (A8 : Arr 1024 1024) : Rows := fun i =>
  times (gatedA (fun k => A0 (ix2 (i 0) k)) (fun k => A1 (ix2 (i 0) k)) (fun k => A2 (ix2 (i 0) k)) (fun k => A3 (ix2 (i 0) k)) (fun k => A5 (ix2 0 k)) (fun k => A6 (ix2 0 k))) (fun u k => A8 (ix2 u k)) (i 1)

/-- The next residual, row by row. -/
def nextRows (A0 : Arr 8192 1024) (A1 : Arr 8192 1024) (A2 : Arr 8192 1024) (A3 : Arr 8192 1024) (A4 : Arr 8192 1024) (A5 : Arr 1 1024) (A6 : Arr 1 1024) (A7 : Arr 1 1024) (A8 : Arr 1024 1024) : Rows := fun i =>
  residualNorm (fun k => A4 (ix2 (i 0) k)) (times (gatedA (fun k => A0 (ix2 (i 0) k)) (fun k => A1 (ix2 (i 0) k)) (fun k => A2 (ix2 (i 0) k)) (fun k => A3 (ix2 (i 0) k)) (fun k => A5 (ix2 0 k)) (fun k => A6 (ix2 0 k))) (fun u k => A8 (ix2 u k))) (fun k => A7 (ix2 0 k)) (i 1)

section Kernel

open Cert.Kernel13Ideal Cert.Kernel13Ideal.Gen Idealize.ShloMosaic.TcCoe Idealize.SL.Sem

/-- What a grid point gives output 1. -/
def blockOut0 (x0 : FVec Ideal S256x1024 .f32) (x1 : FVec Ideal S256x1024 .f32) (x2 : FVec Ideal S256x1024 .f32) (x3 : FVec Ideal S256x1024 .f32) (x5 : FVec Ideal S1x1024 .f32) (x6 : FVec Ideal S1x1024 .f32) : FVec Ideal S256x1024 .bf16 :=
  (k0_pay1 (F := Ideal) x3 (k0_pay5 (F := Ideal) x0 x1 x5) (k0_pay6 (F := Ideal) x2 x6) (k0_pay7 (F := Ideal) ))

theorem blockOut0_apply (x0 : FVec Ideal S256x1024 .f32) (x1 : FVec Ideal S256x1024 .f32) (x2 : FVec Ideal S256x1024 .f32) (x3 : FVec Ideal S256x1024 .f32) (x5 : FVec Ideal S1x1024 .f32) (x6 : FVec Ideal S1x1024 .f32) (r : Fin 256) (l : Fin 1024) :
    blockOut0 x0 x1 x2 x3 x5 x6 (ix2 r l) = gatedA (fun k => x0 (ix2 r k)) (fun k => x1 (ix2 r k)) (fun k => x2 (ix2 r k)) (fun k => x3 (ix2 r k)) (fun k => x5 (ix2 0 k)) (fun k => x6 (ix2 0 k)) l := by
  pointwise [blockOut0, zero_sub, k0_pay1, k0_pay2, k0_pay3, k0_pay4, k0_pay5, k0_pay6, k0_pay7, gatedA, silu, sigmoid, activated, gelu]

/-- What a grid point gives output 2. -/
def blockOut1 (x0 : FVec Ideal S256x1024 .f32) (x1 : FVec Ideal S256x1024 .f32) (x2 : FVec Ideal S256x1024 .f32) (x3 : FVec Ideal S256x1024 .f32) (x5 : FVec Ideal S1x1024 .f32) (x6 : FVec Ideal S1x1024 .f32) (x8 : FVec Ideal S1024x1024 .bf16) : FVec Ideal S256x1024 .f32 :=
  (k0_pay2 (F := Ideal) x3 (k0_pay4 (F := Ideal) x8) (k0_pay5 (F := Ideal) x0 x1 x5) (k0_pay6 (F := Ideal) x2 x6) (k0_pay7 (F := Ideal) ))

theorem blockOut1_apply (x0 : FVec Ideal S256x1024 .f32) (x1 : FVec Ideal S256x1024 .f32) (x2 : FVec Ideal S256x1024 .f32) (x3 : FVec Ideal S256x1024 .f32) (x5 : FVec Ideal S1x1024 .f32) (x6 : FVec Ideal S1x1024 .f32) (x8 : FVec Ideal S1024x1024 .bf16) (r : Fin 256) (l : Fin 1024) :
    blockOut1 x0 x1 x2 x3 x5 x6 x8 (ix2 r l) = times (gatedA (fun k => x0 (ix2 r k)) (fun k => x1 (ix2 r k)) (fun k => x2 (ix2 r k)) (fun k => x3 (ix2 r k)) (fun k => x5 (ix2 0 k)) (fun k => x6 (ix2 0 k))) (fun u k => x8 (ix2 u k)) l := by
  pointwise [blockOut1, zero_sub, k0_pay1, k0_pay2, k0_pay3, k0_pay4, k0_pay5, k0_pay6, k0_pay7, times, gatedA, silu, sigmoid, activated, gelu]

/-- What a grid point gives output 3. -/
def blockOut2 (x0 : FVec Ideal S256x1024 .f32) (x1 : FVec Ideal S256x1024 .f32) (x2 : FVec Ideal S256x1024 .f32) (x3 : FVec Ideal S256x1024 .f32) (x4 : FVec Ideal S256x1024 .f32) (x5 : FVec Ideal S1x1024 .f32) (x6 : FVec Ideal S1x1024 .f32) (x7 : FVec Ideal S1x1024 .f32) (x8 : FVec Ideal S1024x1024 .bf16) : FVec Ideal S256x1024 .f32 :=
  (k0_pay3 (F := Ideal) x3 x4 x7 (k0_pay4 (F := Ideal) x8) (k0_pay5 (F := Ideal) x0 x1 x5) (k0_pay6 (F := Ideal) x2 x6) (k0_pay7 (F := Ideal) ))

theorem blockOut2_apply (x0 : FVec Ideal S256x1024 .f32) (x1 : FVec Ideal S256x1024 .f32) (x2 : FVec Ideal S256x1024 .f32) (x3 : FVec Ideal S256x1024 .f32) (x4 : FVec Ideal S256x1024 .f32) (x5 : FVec Ideal S1x1024 .f32) (x6 : FVec Ideal S1x1024 .f32) (x7 : FVec Ideal S1x1024 .f32) (x8 : FVec Ideal S1024x1024 .bf16) (r : Fin 256) (l : Fin 1024) :
    blockOut2 x0 x1 x2 x3 x4 x5 x6 x7 x8 (ix2 r l) = residualNorm (fun k => x4 (ix2 r k)) (times (gatedA (fun k => x0 (ix2 r k)) (fun k => x1 (ix2 r k)) (fun k => x2 (ix2 r k)) (fun k => x3 (ix2 r k)) (fun k => x5 (ix2 0 k)) (fun k => x6 (ix2 0 k))) (fun u k => x8 (ix2 u k))) (fun k => x7 (ix2 0 k)) l := by
  pointwise [blockOut2, zero_sub, k0_pay1, k0_pay2, k0_pay3, k0_pay4, k0_pay5, k0_pay6, k0_pay7, residualNorm, times, gatedA, silu, sigmoid, activated, gelu, normed, scale, meanSq]

theorem case0 (x0 : FVec Ideal S256x1024 .f32) (x1 : FVec Ideal S256x1024 .f32) (x2 : FVec Ideal S256x1024 .f32) (x3 : FVec Ideal S256x1024 .f32) (x4 : FVec Ideal S256x1024 .f32) (x5 : FVec Ideal S1x1024 .f32) (x6 : FVec Ideal S1x1024 .f32) (x7 : FVec Ideal S1x1024 .f32) (x8 : FVec Ideal S1024x1024 .bf16) :
    out0_9 (F := Ideal) x0 x1 x2 x3 x4 x5 x6 x7 x8 = blockOut0 x0 x1 x2 x3 x5 x6 := by
  unfold out0_9 k0_pay11 k0_pay10 k0_pay9 r0_0 r0_1
  rw [View.canon_unit_zero zeros]
  simp only [View.ld_unit_zero (S := S1x1024) zeros, View.ld_unit_zero (S := S256x1024) zeros]
  rfl

theorem case1 (x0 : FVec Ideal S256x1024 .f32) (x1 : FVec Ideal S256x1024 .f32) (x2 : FVec Ideal S256x1024 .f32) (x3 : FVec Ideal S256x1024 .f32) (x4 : FVec Ideal S256x1024 .f32) (x5 : FVec Ideal S1x1024 .f32) (x6 : FVec Ideal S1x1024 .f32) (x7 : FVec Ideal S1x1024 .f32) (x8 : FVec Ideal S1024x1024 .bf16) :
    out0_10 (F := Ideal) x0 x1 x2 x3 x4 x5 x6 x7 x8 = blockOut1 x0 x1 x2 x3 x5 x6 x8 := by
  unfold out0_10 k0_pay11 k0_pay10 k0_pay9 k0_pay8 r0_0 r0_1 r0_2
  rw [View.canon_unit_zero zeros]
  simp only [View.ld_unit_zero (S := S1024x1024) zeros, View.ld_unit_zero (S := S1x1024) zeros, View.ld_unit_zero (S := S256x1024) zeros]
  rfl

theorem case2 (x0 : FVec Ideal S256x1024 .f32) (x1 : FVec Ideal S256x1024 .f32) (x2 : FVec Ideal S256x1024 .f32) (x3 : FVec Ideal S256x1024 .f32) (x4 : FVec Ideal S256x1024 .f32) (x5 : FVec Ideal S1x1024 .f32) (x6 : FVec Ideal S1x1024 .f32) (x7 : FVec Ideal S1x1024 .f32) (x8 : FVec Ideal S1024x1024 .bf16) :
    out0_11 (F := Ideal) x0 x1 x2 x3 x4 x5 x6 x7 x8 = blockOut2 x0 x1 x2 x3 x4 x5 x6 x7 x8 := by
  unfold out0_11 k0_pay11 k0_pay10 k0_pay9 k0_pay8 r0_0 r0_1 r0_2
  rw [View.canon_unit_zero zeros]
  simp only [View.ld_unit_zero (S := S1024x1024) zeros, View.ld_unit_zero (S := S1x1024) zeros, View.ld_unit_zero (S := S256x1024) zeros]
  rfl

variable (m : (ℓ : Loc nD τ sig) → Buf (Elt Ideal) ℓ) (c : Dev nD)

theorem index0 : ∀ t : Fin cfg0.N, win0_0.index t 0 = t.val ∧ win0_0.index t 1 = 0 := by decide +kernel

theorem blk0 (t : Fin cfg0.N) (r : Fin 256) (k : Fin 1024) (h : 256 * t.val + r.val < 8192) :
    (iblk m c 0 t : FVec Ideal S256x1024 .f32) (ix2 r k) = m ((c : Thread nD τ).loc main_arg0) (ix2 ⟨256 * t.val + r.val, h⟩ k) := by
  unfold iblk
  rw [View.read_apply]
  show V m c main_arg0 _ = _
  refine (congrArg (V m c main_arg0) (?_ : _ = (ix2 ⟨256 * t.val + r.val, h⟩ k : S8192x1024.Idx))).trans ?_
  · funext a
    apply Fin.ext
    match a with
    | ⟨0, _⟩ => show win0_0.index t 0 * 256 + 1 * r.val = 256 * t.val + r.val; rw [(index0 t).1]; omega
    | ⟨1, _⟩ => show win0_0.index t 1 * 1024 + 1 * k.val = k.val; rw [(index0 t).2]; omega
  · rw [V_main_arg0]

theorem index1 : ∀ t : Fin cfg0.N, win0_1.index t 0 = t.val ∧ win0_1.index t 1 = 0 := by decide +kernel

theorem blk1 (t : Fin cfg0.N) (r : Fin 256) (k : Fin 1024) (h : 256 * t.val + r.val < 8192) :
    (iblk m c 1 t : FVec Ideal S256x1024 .f32) (ix2 r k) = m ((c : Thread nD τ).loc main_arg1) (ix2 ⟨256 * t.val + r.val, h⟩ k) := by
  unfold iblk
  rw [View.read_apply]
  show V m c main_arg1 _ = _
  refine (congrArg (V m c main_arg1) (?_ : _ = (ix2 ⟨256 * t.val + r.val, h⟩ k : S8192x1024.Idx))).trans ?_
  · funext a
    apply Fin.ext
    match a with
    | ⟨0, _⟩ => show win0_1.index t 0 * 256 + 1 * r.val = 256 * t.val + r.val; rw [(index1 t).1]; omega
    | ⟨1, _⟩ => show win0_1.index t 1 * 1024 + 1 * k.val = k.val; rw [(index1 t).2]; omega
  · rw [V_main_arg1]

theorem index2 : ∀ t : Fin cfg0.N, win0_2.index t 0 = t.val ∧ win0_2.index t 1 = 0 := by decide +kernel

theorem blk2 (t : Fin cfg0.N) (r : Fin 256) (k : Fin 1024) (h : 256 * t.val + r.val < 8192) :
    (iblk m c 2 t : FVec Ideal S256x1024 .f32) (ix2 r k) = m ((c : Thread nD τ).loc main_arg2) (ix2 ⟨256 * t.val + r.val, h⟩ k) := by
  unfold iblk
  rw [View.read_apply]
  show V m c main_arg2 _ = _
  refine (congrArg (V m c main_arg2) (?_ : _ = (ix2 ⟨256 * t.val + r.val, h⟩ k : S8192x1024.Idx))).trans ?_
  · funext a
    apply Fin.ext
    match a with
    | ⟨0, _⟩ => show win0_2.index t 0 * 256 + 1 * r.val = 256 * t.val + r.val; rw [(index2 t).1]; omega
    | ⟨1, _⟩ => show win0_2.index t 1 * 1024 + 1 * k.val = k.val; rw [(index2 t).2]; omega
  · rw [V_main_arg2]

theorem index3 : ∀ t : Fin cfg0.N, win0_3.index t 0 = t.val ∧ win0_3.index t 1 = 0 := by decide +kernel

theorem blk3 (t : Fin cfg0.N) (r : Fin 256) (k : Fin 1024) (h : 256 * t.val + r.val < 8192) :
    (iblk m c 3 t : FVec Ideal S256x1024 .f32) (ix2 r k) = m ((c : Thread nD τ).loc main_arg3) (ix2 ⟨256 * t.val + r.val, h⟩ k) := by
  unfold iblk
  rw [View.read_apply]
  show V m c main_arg3 _ = _
  refine (congrArg (V m c main_arg3) (?_ : _ = (ix2 ⟨256 * t.val + r.val, h⟩ k : S8192x1024.Idx))).trans ?_
  · funext a
    apply Fin.ext
    match a with
    | ⟨0, _⟩ => show win0_3.index t 0 * 256 + 1 * r.val = 256 * t.val + r.val; rw [(index3 t).1]; omega
    | ⟨1, _⟩ => show win0_3.index t 1 * 1024 + 1 * k.val = k.val; rw [(index3 t).2]; omega
  · rw [V_main_arg3]

theorem index4 : ∀ t : Fin cfg0.N, win0_4.index t 0 = t.val ∧ win0_4.index t 1 = 0 := by decide +kernel

theorem blk4 (t : Fin cfg0.N) (r : Fin 256) (k : Fin 1024) (h : 256 * t.val + r.val < 8192) :
    (iblk m c 4 t : FVec Ideal S256x1024 .f32) (ix2 r k) = m ((c : Thread nD τ).loc main_arg4) (ix2 ⟨256 * t.val + r.val, h⟩ k) := by
  unfold iblk
  rw [View.read_apply]
  show V m c main_arg4 _ = _
  refine (congrArg (V m c main_arg4) (?_ : _ = (ix2 ⟨256 * t.val + r.val, h⟩ k : S8192x1024.Idx))).trans ?_
  · funext a
    apply Fin.ext
    match a with
    | ⟨0, _⟩ => show win0_4.index t 0 * 256 + 1 * r.val = 256 * t.val + r.val; rw [(index4 t).1]; omega
    | ⟨1, _⟩ => show win0_4.index t 1 * 1024 + 1 * k.val = k.val; rw [(index4 t).2]; omega
  · rw [V_main_arg4]

theorem index5 : ∀ t : Fin cfg0.N, win0_5.index t 0 = 0 ∧ win0_5.index t 1 = 0 := by decide +kernel

theorem blk5 (t : Fin cfg0.N) (k : Fin 1024) :
    (iblk m c 5 t : FVec Ideal S1x1024 .f32) (ix2 0 k) = m ((c : Thread nD τ).loc main_arg5) (ix2 0 k) := by
  unfold iblk
  rw [View.read_apply]
  show V m c main_arg5 _ = _
  refine (congrArg (V m c main_arg5) (?_ : _ = (ix2 0 k : S1x1024.Idx))).trans ?_
  · funext a
    apply Fin.ext
    match a with
    | ⟨0, _⟩ => show win0_5.index t 0 * 1 + 1 * 0 = 0; rw [(index5 t).1]
    | ⟨1, _⟩ => show win0_5.index t 1 * 1024 + 1 * k.val = k.val; rw [(index5 t).2]; omega
  · rw [V_main_arg5]

theorem index6 : ∀ t : Fin cfg0.N, win0_6.index t 0 = 0 ∧ win0_6.index t 1 = 0 := by decide +kernel

theorem blk6 (t : Fin cfg0.N) (k : Fin 1024) :
    (iblk m c 6 t : FVec Ideal S1x1024 .f32) (ix2 0 k) = m ((c : Thread nD τ).loc main_arg6) (ix2 0 k) := by
  unfold iblk
  rw [View.read_apply]
  show V m c main_arg6 _ = _
  refine (congrArg (V m c main_arg6) (?_ : _ = (ix2 0 k : S1x1024.Idx))).trans ?_
  · funext a
    apply Fin.ext
    match a with
    | ⟨0, _⟩ => show win0_6.index t 0 * 1 + 1 * 0 = 0; rw [(index6 t).1]
    | ⟨1, _⟩ => show win0_6.index t 1 * 1024 + 1 * k.val = k.val; rw [(index6 t).2]; omega
  · rw [V_main_arg6]

theorem index7 : ∀ t : Fin cfg0.N, win0_7.index t 0 = 0 ∧ win0_7.index t 1 = 0 := by decide +kernel

theorem blk7 (t : Fin cfg0.N) (k : Fin 1024) :
    (iblk m c 7 t : FVec Ideal S1x1024 .f32) (ix2 0 k) = m ((c : Thread nD τ).loc main_arg7) (ix2 0 k) := by
  unfold iblk
  rw [View.read_apply]
  show V m c main_arg7 _ = _
  refine (congrArg (V m c main_arg7) (?_ : _ = (ix2 0 k : S1x1024.Idx))).trans ?_
  · funext a
    apply Fin.ext
    match a with
    | ⟨0, _⟩ => show win0_7.index t 0 * 1 + 1 * 0 = 0; rw [(index7 t).1]
    | ⟨1, _⟩ => show win0_7.index t 1 * 1024 + 1 * k.val = k.val; rw [(index7 t).2]; omega
  · rw [V_main_arg7]

theorem index8 : ∀ t : Fin cfg0.N, win0_8.index t 0 = 0 ∧ win0_8.index t 1 = 0 := by decide +kernel

theorem blk8 (t : Fin cfg0.N) (u : Fin 1024) (k : Fin 1024) :
    (iblk m c 8 t : FVec Ideal S1024x1024 .bf16) (ix2 u k) = (m ((c : Thread nD τ).loc main_arg8)) (ix2 u k) := by
  unfold iblk
  rw [View.read_apply]
  show V m c main_v0 _ = _
  refine (congrArg (V m c main_v0) (?_ : _ = (ix2 u k : S1024x1024.Idx))).trans ?_
  · funext a
    apply Fin.ext
    match a with
    | ⟨0, _⟩ => show win0_8.index t 0 * 1024 + 1 * u.val = u.val; rw [(index8 t).1]; omega
    | ⟨1, _⟩ => show win0_8.index t 1 * 1024 + 1 * k.val = k.val; rw [(index8 t).2]; omega
  · entry_read
    pointwise

theorem point_row (t : Fin cfg0.N) (r : Fin 256) : 256 * t.val + r.val < 8192 := by
  have := t.isLt; have : cfg0.N = 32 := N_0; omega

/-- The kernel's result 1 on device `c`, as a function of the arrays it starts from. -/
def ker0 : Rows :=
  gatedRows (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

theorem share0 (t : Fin cfg0.N) (r : Fin 256) (l : Fin 1024) :
    blockOut0 (iblk m c 0 t) (iblk m c 1 t) (iblk m c 2 t) (iblk m c 3 t) (iblk m c 5 t) (iblk m c 6 t) (ix2 r l) = ker0 m c (ix2 ⟨256 * t.val + r.val, point_row t r⟩ l) := by
  rw [blockOut0_apply]
  simp only [blk0 m c t r _ (point_row t r), blk1 m c t r _ (point_row t r), blk2 m c t r _ (point_row t r), blk3 m c t r _ (point_row t r), blk5, blk6]
  rfl

/-- The kernel's result 2 on device `c`, as a function of the arrays it starts from. -/
def ker1 : Rows :=
  outRows (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

theorem share1 (t : Fin cfg0.N) (r : Fin 256) (l : Fin 1024) :
    blockOut1 (iblk m c 0 t) (iblk m c 1 t) (iblk m c 2 t) (iblk m c 3 t) (iblk m c 5 t) (iblk m c 6 t) (iblk m c 8 t) (ix2 r l) = ker1 m c (ix2 ⟨256 * t.val + r.val, point_row t r⟩ l) := by
  rw [blockOut1_apply]
  simp only [blk0 m c t r _ (point_row t r), blk1 m c t r _ (point_row t r), blk2 m c t r _ (point_row t r), blk3 m c t r _ (point_row t r), blk5, blk6, blk8]
  rfl

/-- The kernel's result 3 on device `c`, as a function of the arrays it starts from. -/
def ker2 : Rows :=
  nextRows (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

theorem share2 (t : Fin cfg0.N) (r : Fin 256) (l : Fin 1024) :
    blockOut2 (iblk m c 0 t) (iblk m c 1 t) (iblk m c 2 t) (iblk m c 3 t) (iblk m c 4 t) (iblk m c 5 t) (iblk m c 6 t) (iblk m c 7 t) (iblk m c 8 t) (ix2 r l) = ker2 m c (ix2 ⟨256 * t.val + r.val, point_row t r⟩ l) := by
  rw [blockOut2_apply]
  simp only [blk0 m c t r _ (point_row t r), blk1 m c t r _ (point_row t r), blk2 m c t r _ (point_row t r), blk3 m c t r _ (point_row t r), blk4 m c t r _ (point_row t r), blk5, blk6, blk7, blk8]
  rfl

theorem index9 : ∀ t : Fin cfg0.N, win0_9.index t 0 = t.val ∧ win0_9.index t 1 = 0 := by decide +kernel

theorem flushed0 (t : Fin cfg0.N) : (dats m 0 c).flushed 9 t = ((cfg0.win 9).blk t).view.read (Elt Ideal) (ker0 m c) := by
  rw [Cert.Kernel13Ideal.Value.flushed9, case0]
  funext j
  obtain ⟨r, l, rfl⟩ : ∃ (r : Fin 256) (l : Fin 1024), j = ix2 r l := ⟨j 0, j 1, eq_ix2 j⟩
  refine (share0 m c t r l).trans ?_
  rw [View.read_apply]
  congr 1
  funext a
  apply Fin.ext
  match a with
  | ⟨0, _⟩ => show 256 * t.val + r.val = win0_9.index t 0 * 256 + 1 * r.val; rw [(index9 t).1]; omega
  | ⟨1, _⟩ => show l.val = win0_9.index t 1 * 1024 + 1 * l.val; rw [(index9 t).2]; omega

theorem final0 : (dats m 0 c).arrAt 9 cfg0.N = ker0 m c :=
  (dats m 0 c).arrAt_eq_of_cover 9 (ker0 m c) (fun t _ => flushed0 m c t) fun i => by
    have hN : cfg0.N = 32 := N_0
    have h0 : (i 0 : Nat) < 8192 := (i 0).isLt
    have h1 : (i 1 : Nat) < 1024 := (i 1).isLt
    obtain ⟨t, ht⟩ : ∃ t : Fin cfg0.N, t.val = (i 0 : Nat) / 256 := ⟨⟨(i 0 : Nat) / 256, by omega⟩, rfl⟩
    refine ⟨t, flush0_9 t, ?_⟩
    show i ∈ ((View.whole main_v1_0).slice (win0_9.rect t)).set
    rw [View.set_slice_whole, Rect.mem_set_unit]
    intro a
    match a with
    | ⟨0, _⟩ =>
      show win0_9.index t 0 * 256 ≤ (i 0 : Nat) ∧ (i 0 : Nat) < win0_9.index t 0 * 256 + 256
      rw [(index9 t).1]; omega
    | ⟨1, _⟩ =>
      show win0_9.index t 1 * 1024 ≤ (i 1 : Nat) ∧ (i 1 : Nat) < win0_9.index t 1 * 1024 + 1024
      rw [(index9 t).2]; omega

theorem index10 : ∀ t : Fin cfg0.N, win0_10.index t 0 = t.val ∧ win0_10.index t 1 = 0 := by decide +kernel

theorem flushed1 (t : Fin cfg0.N) : (dats m 0 c).flushed 10 t = ((cfg0.win 10).blk t).view.read (Elt Ideal) (ker1 m c) := by
  rw [Cert.Kernel13Ideal.Value.flushed10, case1]
  funext j
  obtain ⟨r, l, rfl⟩ : ∃ (r : Fin 256) (l : Fin 1024), j = ix2 r l := ⟨j 0, j 1, eq_ix2 j⟩
  refine (share1 m c t r l).trans ?_
  rw [View.read_apply]
  congr 1
  funext a
  apply Fin.ext
  match a with
  | ⟨0, _⟩ => show 256 * t.val + r.val = win0_10.index t 0 * 256 + 1 * r.val; rw [(index10 t).1]; omega
  | ⟨1, _⟩ => show l.val = win0_10.index t 1 * 1024 + 1 * l.val; rw [(index10 t).2]; omega

theorem final1 : (dats m 0 c).arrAt 10 cfg0.N = ker1 m c :=
  (dats m 0 c).arrAt_eq_of_cover 10 (ker1 m c) (fun t _ => flushed1 m c t) fun i => by
    have hN : cfg0.N = 32 := N_0
    have h0 : (i 0 : Nat) < 8192 := (i 0).isLt
    have h1 : (i 1 : Nat) < 1024 := (i 1).isLt
    obtain ⟨t, ht⟩ : ∃ t : Fin cfg0.N, t.val = (i 0 : Nat) / 256 := ⟨⟨(i 0 : Nat) / 256, by omega⟩, rfl⟩
    refine ⟨t, flush0_10 t, ?_⟩
    show i ∈ ((View.whole main_v1_1).slice (win0_10.rect t)).set
    rw [View.set_slice_whole, Rect.mem_set_unit]
    intro a
    match a with
    | ⟨0, _⟩ =>
      show win0_10.index t 0 * 256 ≤ (i 0 : Nat) ∧ (i 0 : Nat) < win0_10.index t 0 * 256 + 256
      rw [(index10 t).1]; omega
    | ⟨1, _⟩ =>
      show win0_10.index t 1 * 1024 ≤ (i 1 : Nat) ∧ (i 1 : Nat) < win0_10.index t 1 * 1024 + 1024
      rw [(index10 t).2]; omega

theorem index11 : ∀ t : Fin cfg0.N, win0_11.index t 0 = t.val ∧ win0_11.index t 1 = 0 := by decide +kernel

theorem flushed2 (t : Fin cfg0.N) : (dats m 0 c).flushed 11 t = ((cfg0.win 11).blk t).view.read (Elt Ideal) (ker2 m c) := by
  rw [Cert.Kernel13Ideal.Value.flushed11, case2]
  funext j
  obtain ⟨r, l, rfl⟩ : ∃ (r : Fin 256) (l : Fin 1024), j = ix2 r l := ⟨j 0, j 1, eq_ix2 j⟩
  refine (share2 m c t r l).trans ?_
  rw [View.read_apply]
  congr 1
  funext a
  apply Fin.ext
  match a with
  | ⟨0, _⟩ => show 256 * t.val + r.val = win0_11.index t 0 * 256 + 1 * r.val; rw [(index11 t).1]; omega
  | ⟨1, _⟩ => show l.val = win0_11.index t 1 * 1024 + 1 * l.val; rw [(index11 t).2]; omega

theorem final2 : (dats m 0 c).arrAt 11 cfg0.N = ker2 m c :=
  (dats m 0 c).arrAt_eq_of_cover 11 (ker2 m c) (fun t _ => flushed2 m c t) fun i => by
    have hN : cfg0.N = 32 := N_0
    have h0 : (i 0 : Nat) < 8192 := (i 0).isLt
    have h1 : (i 1 : Nat) < 1024 := (i 1).isLt
    obtain ⟨t, ht⟩ : ∃ t : Fin cfg0.N, t.val = (i 0 : Nat) / 256 := ⟨⟨(i 0 : Nat) / 256, by omega⟩, rfl⟩
    refine ⟨t, flush0_11 t, ?_⟩
    show i ∈ ((View.whole main_v1_2).slice (win0_11.rect t)).set
    rw [View.set_slice_whole, Rect.mem_set_unit]
    intro a
    match a with
    | ⟨0, _⟩ =>
      show win0_11.index t 0 * 256 ≤ (i 0 : Nat) ∧ (i 0 : Nat) < win0_11.index t 0 * 256 + 256
      rw [(index11 t).1]; omega
    | ⟨1, _⟩ =>
      show win0_11.index t 1 * 1024 ≤ (i 1 : Nat) ∧ (i 1 : Nat) < win0_11.index t 1 * 1024 + 1024
      rw [(index11 t).2]; omega

/-- The whole run: the results in closed form, the arguments unchanged. -/
theorem kernel_run (ρ : Dev nD → PrngReg) :
    θ_run (defs (F := Ideal)) (onTc (τ := τ) (main (F := Ideal))) ⟨m, fun _ => 0, ρ⟩ fun r => ∀ c : Dev nD,
      r.2.mem ((c.tc : Thread nD τ).loc main_v1_0) = ker0 m c
      ∧ r.2.mem ((c.tc : Thread nD τ).loc main_v1_1) = ker1 m c
      ∧ r.2.mem ((c.tc : Thread nD τ).loc main_v1_2) = ker2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c).1.trans (final0 m c), (h c).2.1.trans (final1 m c), (h c).2.2.1.trans (final2 m c), (h c).2.2.2⟩)
    (Cert.Kernel13Ideal.Value.run_blocks m ρ)

end Kernel

section Reference

open Cert.Reference13Ideal Cert.Reference13Ideal.Gen Idealize.ShloMosaic.TcCoe Idealize.SL.Sem

variable (m : (ℓ : Loc nD τ sig) → Buf (Elt Ideal) ℓ)

/-- The reference's results on device `c`. -/
def ref0 (c : Dev nD) : Rows :=
  gatedRows (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
def ref1 (c : Dev nD) : Rows :=
  outRows (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
def ref2 (c : Dev nD) : Rows :=
  nextRows (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))

theorem reference_run (ρ : Dev nD → PrngReg) :
    θ_run (defs (F := Ideal)) (onTc (τ := τ) (main (F := Ideal))) ⟨m, fun _ => 0, ρ⟩ fun r => ∀ c : Dev nD,
      r.2.mem ((c.tc : Thread nD τ).loc main_v28) = ref0 m c
      ∧ r.2.mem ((c.tc : Thread nD τ).loc main_v27) = ref1 m c
      ∧ r.2.mem ((c.tc : Thread nD τ).loc main_v41) = ref2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run defs _ _).mono (fun _ h c => ⟨(h c).1.trans ?_, (h c).2.1.trans ?_, (h c).2.2.1.trans ?_, (h c).2.2.2⟩)
    (Cert.Reference13Ideal.Value.run m ρ)
  · funext j
    obtain ⟨p, l, rfl⟩ : ∃ (p : Fin 8192) (l : Fin 1024), j = ix2 p l := ⟨j 0, j 1, eq_ix2 j⟩
    pointwise [ref0, gatedRows, gatedA, silu, sigmoid, activated]
    all_goals simp only [gelu_eq]
  · funext j
    obtain ⟨p, l, rfl⟩ : ∃ (p : Fin 8192) (l : Fin 1024), j = ix2 p l := ⟨j 0, j 1, eq_ix2 j⟩
    pointwise [ref1, outRows, times, gatedA, silu, sigmoid, activated]
    all_goals simp only [gelu_eq]
  · unfold Cert.Reference13Ideal.Value.res_main_v41
    funext j
    obtain ⟨p, l, rfl⟩ : ∃ (p : Fin 8192) (l : Fin 1024), j = ix2 p l := ⟨j 0, j 1, eq_ix2 j⟩
    pointwise [ref2, nextRows, residualNorm, times, gatedA, silu, sigmoid, activated, normed, scale, meanSq]
    all_goals simp only [gelu_eq]

end Reference

end Cert.OutputA
-- ==== Proof.Gate.lean ====
/-
  The per-layer embedding's gate: the kernel's run and the reference's, both read down to the same row formulas.
-/
module

public import proofs.«01_k».proof.Proof.Gen.Kernel14Ideal.Value
public import proofs.«01_k».proof.Proof.Gen.Reference14Ideal.Run
public import proofs.«01_k».proof.Proof.RowFormula

@[expose] public section

noncomputable section

namespace Cert.Gate

open Idealize.ShloMosaic Cert.NormsProj Cert.Weight Cert.RowFormula

/-- The gated residual of one row. -/
def gated (x g p : Fin 1024 → EReal) (l : Fin 1024) : EReal := x l + sigmoid (g l) * p l

/-- The next residual, row by row. -/
def nextRows (A0 : Arr 8192 1024) (A1 : Arr 8192 256) (A2 : Arr 1024 1024) (A3 : Arr 256 1024) : Rows := fun i =>
  gated (fun k => A0 (ix2 (i 0) k)) (times (fun k => A0 (ix2 (i 0) k)) (fun u k => A2 (ix2 u k))) (times (fun k => A1 (ix2 (i 0) k)) (fun u k => A3 (ix2 u k))) (i 1)

/-- The gate's argument, row by row. -/
def gateRows (A0 : Arr 8192 1024) (A1 : Arr 8192 256) (A2 : Arr 1024 1024) (A3 : Arr 256 1024) : Rows := fun i =>
  times (fun k => A0 (ix2 (i 0) k)) (fun u k => A2 (ix2 u k)) (i 1)

/-- The projection, row by row. -/
def projRows (A0 : Arr 8192 1024) (A1 : Arr 8192 256) (A2 : Arr 1024 1024) (A3 : Arr 256 1024) : Rows := fun i =>
  times (fun k => A1 (ix2 (i 0) k)) (fun u k => A3 (ix2 u k)) (i 1)

section Kernel

open Cert.Kernel14Ideal Cert.Kernel14Ideal.Gen Idealize.ShloMosaic.TcCoe Idealize.SL.Sem

/-- What a grid point gives output 1. -/
def blockOut0 (x0 : FVec Ideal S512x1024 .f32) (x1 : FVec Ideal S512x256 .f32) (x2 : FVec Ideal S1024x1024 .bf16) (x3 : FVec Ideal S256x1024 .bf16) : FVec Ideal S512x1024 .f32 :=
  (k0_pay3 (F := Ideal) x0 x1 x2 x3)

theorem blockOut0_apply (x0 : FVec Ideal S512x1024 .f32) (x1 : FVec Ideal S512x256 .f32) (x2 : FVec Ideal S1024x1024 .bf16) (x3 : FVec Ideal S256x1024 .bf16) (r : Fin 512) (l : Fin 1024) :
    blockOut0 x0 x1 x2 x3 (ix2 r l) = gated (fun k => x0 (ix2 r k)) (times (fun k => x0 (ix2 r k)) (fun u k => x2 (ix2 u k))) (times (fun k => x1 (ix2 r k)) (fun u k => x3 (ix2 u k))) l := by
  pointwise [blockOut0, zero_sub, k0_pay1, k0_pay2, k0_pay3, gated, times, sigmoid]

/-- What a grid point gives output 2. -/
def blockOut1 (x0 : FVec Ideal S512x1024 .f32) (x2 : FVec Ideal S1024x1024 .bf16) : FVec Ideal S512x1024 .f32 :=
  (k0_pay1 (F := Ideal) x0 x2)

theorem blockOut1_apply (x0 : FVec Ideal S512x1024 .f32) (x2 : FVec Ideal S1024x1024 .bf16) (r : Fin 512) (l : Fin 1024) :
    blockOut1 x0 x2 (ix2 r l) = times (fun k => x0 (ix2 r k)) (fun u k => x2 (ix2 u k)) l := by
  pointwise [blockOut1, zero_sub, k0_pay1, k0_pay2, k0_pay3, times]

/-- What a grid point gives output 3. -/
def blockOut2 (x1 : FVec Ideal S512x256 .f32) (x3 : FVec Ideal S256x1024 .bf16) : FVec Ideal S512x1024 .f32 :=
  (k0_pay2 (F := Ideal) x1 x3)

theorem blockOut2_apply (x1 : FVec Ideal S512x256 .f32) (x3 : FVec Ideal S256x1024 .bf16) (r : Fin 512) (l : Fin 1024) :
    blockOut2 x1 x3 (ix2 r l) = times (fun k => x1 (ix2 r k)) (fun u k => x3 (ix2 u k)) l := by
  pointwise [blockOut2, zero_sub, k0_pay1, k0_pay2, k0_pay3, times]

theorem case0 (x0 : FVec Ideal S512x1024 .f32) (x1 : FVec Ideal S512x256 .f32) (x2 : FVec Ideal S1024x1024 .bf16) (x3 : FVec Ideal S256x1024 .bf16) :
    out0_4 (F := Ideal) x0 x1 x2 x3 = blockOut0 x0 x1 x2 x3 := by
  unfold out0_4 r0_0 r0_1 r0_2 r0_3
  rw [View.canon_unit_zero zeros]
  simp only [View.ld_unit_zero (S := S1024x1024) zeros, View.ld_unit_zero (S := S256x1024) zeros, View.ld_unit_zero (S := S512x1024) zeros, View.ld_unit_zero (S := S512x256) zeros]
  rfl

theorem case1 (x0 : FVec Ideal S512x1024 .f32) (x1 : FVec Ideal S512x256 .f32) (x2 : FVec Ideal S1024x1024 .bf16) (x3 : FVec Ideal S256x1024 .bf16) :
    out0_5 (F := Ideal) x0 x1 x2 x3 = blockOut1 x0 x2 := by
  unfold out0_5 r0_0 r0_2
  rw [View.canon_unit_zero zeros]
  simp only [View.ld_unit_zero (S := S1024x1024) zeros, View.ld_unit_zero (S := S512x1024) zeros]
  rfl

theorem case2 (x0 : FVec Ideal S512x1024 .f32) (x1 : FVec Ideal S512x256 .f32) (x2 : FVec Ideal S1024x1024 .bf16) (x3 : FVec Ideal S256x1024 .bf16) :
    out0_6 (F := Ideal) x0 x1 x2 x3 = blockOut2 x1 x3 := by
  unfold out0_6 r0_0 r0_1 r0_3
  rw [View.canon_unit_zero zeros]
  simp only [View.ld_unit_zero (S := S256x1024) zeros, View.ld_unit_zero (S := S512x256) zeros]
  rfl

variable (m : (ℓ : Loc nD τ sig) → Buf (Elt Ideal) ℓ) (c : Dev nD)

theorem index0 : ∀ t : Fin cfg0.N, win0_0.index t 0 = t.val ∧ win0_0.index t 1 = 0 := by decide +kernel

theorem blk0 (t : Fin cfg0.N) (r : Fin 512) (k : Fin 1024) (h : 512 * t.val + r.val < 8192) :
    (iblk m c 0 t : FVec Ideal S512x1024 .f32) (ix2 r k) = m ((c : Thread nD τ).loc main_arg0) (ix2 ⟨512 * t.val + r.val, h⟩ k) := by
  unfold iblk
  rw [View.read_apply]
  show V m c main_arg0 _ = _
  refine (congrArg (V m c main_arg0) (?_ : _ = (ix2 ⟨512 * t.val + r.val, h⟩ k : S8192x1024.Idx))).trans ?_
  · funext a
    apply Fin.ext
    match a with
    | ⟨0, _⟩ => show win0_0.index t 0 * 512 + 1 * r.val = 512 * t.val + r.val; rw [(index0 t).1]; omega
    | ⟨1, _⟩ => show win0_0.index t 1 * 1024 + 1 * k.val = k.val; rw [(index0 t).2]; omega
  · rw [V_main_arg0]

theorem index1 : ∀ t : Fin cfg0.N, win0_1.index t 0 = t.val ∧ win0_1.index t 1 = 0 := by decide +kernel

theorem blk1 (t : Fin cfg0.N) (r : Fin 512) (k : Fin 256) (h : 512 * t.val + r.val < 8192) :
    (iblk m c 1 t : FVec Ideal S512x256 .f32) (ix2 r k) = m ((c : Thread nD τ).loc main_arg1) (ix2 ⟨512 * t.val + r.val, h⟩ k) := by
  unfold iblk
  rw [View.read_apply]
  show V m c main_arg1 _ = _
  refine (congrArg (V m c main_arg1) (?_ : _ = (ix2 ⟨512 * t.val + r.val, h⟩ k : S8192x256.Idx))).trans ?_
  · funext a
    apply Fin.ext
    match a with
    | ⟨0, _⟩ => show win0_1.index t 0 * 512 + 1 * r.val = 512 * t.val + r.val; rw [(index1 t).1]; omega
    | ⟨1, _⟩ => show win0_1.index t 1 * 256 + 1 * k.val = k.val; rw [(index1 t).2]; omega
  · rw [V_main_arg1]

theorem index2 : ∀ t : Fin cfg0.N, win0_2.index t 0 = 0 ∧ win0_2.index t 1 = 0 := by decide +kernel

theorem blk2 (t : Fin cfg0.N) (u : Fin 1024) (k : Fin 1024) :
    (iblk m c 2 t : FVec Ideal S1024x1024 .bf16) (ix2 u k) = (m ((c : Thread nD τ).loc main_arg2) : Arr 1024 1024) (ix2 u k) := by
  unfold iblk
  rw [View.read_apply]
  show V m c main_v0 _ = _
  refine (congrArg (V m c main_v0) (?_ : _ = (ix2 u k : S1024x1024.Idx))).trans ?_
  · funext a
    apply Fin.ext
    match a with
    | ⟨0, _⟩ => show win0_2.index t 0 * 1024 + 1 * u.val = u.val; rw [(index2 t).1]; omega
    | ⟨1, _⟩ => show win0_2.index t 1 * 1024 + 1 * k.val = k.val; rw [(index2 t).2]; omega
  · entry_read
    pointwise

theorem index3 : ∀ t : Fin cfg0.N, win0_3.index t 0 = 0 ∧ win0_3.index t 1 = 0 := by decide +kernel

theorem blk3 (t : Fin cfg0.N) (u : Fin 256) (k : Fin 1024) :
    (iblk m c 3 t : FVec Ideal S256x1024 .bf16) (ix2 u k) = (m ((c : Thread nD τ).loc main_arg3) : Arr 256 1024) (ix2 u k) := by
  unfold iblk
  rw [View.read_apply]
  show V m c main_v1 _ = _
  refine (congrArg (V m c main_v1) (?_ : _ = (ix2 u k : S256x1024.Idx))).trans ?_
  · funext a
    apply Fin.ext
    match a with
    | ⟨0, _⟩ => show win0_3.index t 0 * 256 + 1 * u.val = u.val; rw [(index3 t).1]; omega
    | ⟨1, _⟩ => show win0_3.index t 1 * 1024 + 1 * k.val = k.val; rw [(index3 t).2]; omega
  · entry_read
    pointwise

theorem point_row (t : Fin cfg0.N) (r : Fin 512) : 512 * t.val + r.val < 8192 := by
  have := t.isLt; have : cfg0.N = 16 := N_0; omega

/-- The kernel's result 1 on device `c`, as a function of the arrays it starts from. -/
def ker0 : Rows :=
  nextRows (m ((c : Thread nD τ).loc main_arg0)) (m ((c : Thread nD τ).loc main_arg1)) (m ((c : Thread nD τ).loc main_arg2)) (m ((c : Thread nD τ).loc main_arg3))

theorem share0 (t : Fin cfg0.N) (r : Fin 512) (l : Fin 1024) :
    blockOut0 (iblk m c 0 t) (iblk m c 1 t) (iblk m c 2 t) (iblk m c 3 t) (ix2 r l) = ker0 m c (ix2 ⟨512 * t.val + r.val, point_row t r⟩ l) := by
  rw [blockOut0_apply]
  simp only [blk0 m c t r _ (point_row t r), blk1 m c t r _ (point_row t r), blk2, blk3]
  rfl

/-- The kernel's result 2 on device `c`, as a function of the arrays it starts from. -/
def ker1 : Rows :=
  gateRows (m ((c : Thread nD τ).loc main_arg0)) (m ((c : Thread nD τ).loc main_arg1)) (m ((c : Thread nD τ).loc main_arg2)) (m ((c : Thread nD τ).loc main_arg3))

theorem share1 (t : Fin cfg0.N) (r : Fin 512) (l : Fin 1024) :
    blockOut1 (iblk m c 0 t) (iblk m c 2 t) (ix2 r l) = ker1 m c (ix2 ⟨512 * t.val + r.val, point_row t r⟩ l) := by
  rw [blockOut1_apply]
  simp only [blk0 m c t r _ (point_row t r), blk2]
  rfl

/-- The kernel's result 3 on device `c`, as a function of the arrays it starts from. -/
def ker2 : Rows :=
  projRows (m ((c : Thread nD τ).loc main_arg0)) (m ((c : Thread nD τ).loc main_arg1)) (m ((c : Thread nD τ).loc main_arg2)) (m ((c : Thread nD τ).loc main_arg3))

theorem share2 (t : Fin cfg0.N) (r : Fin 512) (l : Fin 1024) :
    blockOut2 (iblk m c 1 t) (iblk m c 3 t) (ix2 r l) = ker2 m c (ix2 ⟨512 * t.val + r.val, point_row t r⟩ l) := by
  rw [blockOut2_apply]
  simp only [blk1 m c t r _ (point_row t r), blk3]
  rfl

theorem index4 : ∀ t : Fin cfg0.N, win0_4.index t 0 = t.val ∧ win0_4.index t 1 = 0 := by decide +kernel

theorem flushed0 (t : Fin cfg0.N) : (dats m 0 c).flushed 4 t = ((cfg0.win 4).blk t).view.read (Elt Ideal) (ker0 m c) := by
  rw [Cert.Kernel14Ideal.Value.flushed4, case0]
  funext j
  obtain ⟨r, l, rfl⟩ : ∃ (r : Fin 512) (l : Fin 1024), j = ix2 r l := ⟨j 0, j 1, eq_ix2 j⟩
  refine (share0 m c t r l).trans ?_
  rw [View.read_apply]
  congr 1
  funext a
  apply Fin.ext
  match a with
  | ⟨0, _⟩ => show 512 * t.val + r.val = win0_4.index t 0 * 512 + 1 * r.val; rw [(index4 t).1]; omega
  | ⟨1, _⟩ => show l.val = win0_4.index t 1 * 1024 + 1 * l.val; rw [(index4 t).2]; omega

theorem final0 : (dats m 0 c).arrAt 4 cfg0.N = ker0 m c :=
  (dats m 0 c).arrAt_eq_of_cover 4 (ker0 m c) (fun t _ => flushed0 m c t) fun i => by
    have hN : cfg0.N = 16 := N_0
    have h0 : (i 0 : Nat) < 8192 := (i 0).isLt
    have h1 : (i 1 : Nat) < 1024 := (i 1).isLt
    obtain ⟨t, ht⟩ : ∃ t : Fin cfg0.N, t.val = (i 0 : Nat) / 512 := ⟨⟨(i 0 : Nat) / 512, by omega⟩, rfl⟩
    refine ⟨t, flush0_4 t, ?_⟩
    show i ∈ ((View.whole main_v2_0).slice (win0_4.rect t)).set
    rw [View.set_slice_whole, Rect.mem_set_unit]
    intro a
    match a with
    | ⟨0, _⟩ =>
      show win0_4.index t 0 * 512 ≤ (i 0 : Nat) ∧ (i 0 : Nat) < win0_4.index t 0 * 512 + 512
      rw [(index4 t).1]; omega
    | ⟨1, _⟩ =>
      show win0_4.index t 1 * 1024 ≤ (i 1 : Nat) ∧ (i 1 : Nat) < win0_4.index t 1 * 1024 + 1024
      rw [(index4 t).2]; omega

theorem index5 : ∀ t : Fin cfg0.N, win0_5.index t 0 = t.val ∧ win0_5.index t 1 = 0 := by decide +kernel

theorem flushed1 (t : Fin cfg0.N) : (dats m 0 c).flushed 5 t = ((cfg0.win 5).blk t).view.read (Elt Ideal) (ker1 m c) := by
  rw [Cert.Kernel14Ideal.Value.flushed5, case1]
  funext j
  obtain ⟨r, l, rfl⟩ : ∃ (r : Fin 512) (l : Fin 1024), j = ix2 r l := ⟨j 0, j 1, eq_ix2 j⟩
  refine (share1 m c t r l).trans ?_
  rw [View.read_apply]
  congr 1
  funext a
  apply Fin.ext
  match a with
  | ⟨0, _⟩ => show 512 * t.val + r.val = win0_5.index t 0 * 512 + 1 * r.val; rw [(index5 t).1]; omega
  | ⟨1, _⟩ => show l.val = win0_5.index t 1 * 1024 + 1 * l.val; rw [(index5 t).2]; omega

theorem final1 : (dats m 0 c).arrAt 5 cfg0.N = ker1 m c :=
  (dats m 0 c).arrAt_eq_of_cover 5 (ker1 m c) (fun t _ => flushed1 m c t) fun i => by
    have hN : cfg0.N = 16 := N_0
    have h0 : (i 0 : Nat) < 8192 := (i 0).isLt
    have h1 : (i 1 : Nat) < 1024 := (i 1).isLt
    obtain ⟨t, ht⟩ : ∃ t : Fin cfg0.N, t.val = (i 0 : Nat) / 512 := ⟨⟨(i 0 : Nat) / 512, by omega⟩, rfl⟩
    refine ⟨t, flush0_5 t, ?_⟩
    show i ∈ ((View.whole main_v2_1).slice (win0_5.rect t)).set
    rw [View.set_slice_whole, Rect.mem_set_unit]
    intro a
    match a with
    | ⟨0, _⟩ =>
      show win0_5.index t 0 * 512 ≤ (i 0 : Nat) ∧ (i 0 : Nat) < win0_5.index t 0 * 512 + 512
      rw [(index5 t).1]; omega
    | ⟨1, _⟩ =>
      show win0_5.index t 1 * 1024 ≤ (i 1 : Nat) ∧ (i 1 : Nat) < win0_5.index t 1 * 1024 + 1024
      rw [(index5 t).2]; omega

theorem index6 : ∀ t : Fin cfg0.N, win0_6.index t 0 = t.val ∧ win0_6.index t 1 = 0 := by decide +kernel

theorem flushed2 (t : Fin cfg0.N) : (dats m 0 c).flushed 6 t = ((cfg0.win 6).blk t).view.read (Elt Ideal) (ker2 m c) := by
  rw [Cert.Kernel14Ideal.Value.flushed6, case2]
  funext j
  obtain ⟨r, l, rfl⟩ : ∃ (r : Fin 512) (l : Fin 1024), j = ix2 r l := ⟨j 0, j 1, eq_ix2 j⟩
  refine (share2 m c t r l).trans ?_
  rw [View.read_apply]
  congr 1
  funext a
  apply Fin.ext
  match a with
  | ⟨0, _⟩ => show 512 * t.val + r.val = win0_6.index t 0 * 512 + 1 * r.val; rw [(index6 t).1]; omega
  | ⟨1, _⟩ => show l.val = win0_6.index t 1 * 1024 + 1 * l.val; rw [(index6 t).2]; omega

theorem final2 : (dats m 0 c).arrAt 6 cfg0.N = ker2 m c :=
  (dats m 0 c).arrAt_eq_of_cover 6 (ker2 m c) (fun t _ => flushed2 m c t) fun i => by
    have hN : cfg0.N = 16 := N_0
    have h0 : (i 0 : Nat) < 8192 := (i 0).isLt
    have h1 : (i 1 : Nat) < 1024 := (i 1).isLt
    obtain ⟨t, ht⟩ : ∃ t : Fin cfg0.N, t.val = (i 0 : Nat) / 512 := ⟨⟨(i 0 : Nat) / 512, by omega⟩, rfl⟩
    refine ⟨t, flush0_6 t, ?_⟩
    show i ∈ ((View.whole main_v2_2).slice (win0_6.rect t)).set
    rw [View.set_slice_whole, Rect.mem_set_unit]
    intro a
    match a with
    | ⟨0, _⟩ =>
      show win0_6.index t 0 * 512 ≤ (i 0 : Nat) ∧ (i 0 : Nat) < win0_6.index t 0 * 512 + 512
      rw [(index6 t).1]; omega
    | ⟨1, _⟩ =>
      show win0_6.index t 1 * 1024 ≤ (i 1 : Nat) ∧ (i 1 : Nat) < win0_6.index t 1 * 1024 + 1024
      rw [(index6 t).2]; omega

/-- The whole run: the results in closed form, the arguments unchanged. -/
theorem kernel_run (ρ : Dev nD → PrngReg) :
    θ_run (defs (F := Ideal)) (onTc (τ := τ) (main (F := Ideal))) ⟨m, fun _ => 0, ρ⟩ fun r => ∀ c : Dev nD,
      r.2.mem ((c.tc : Thread nD τ).loc main_v2_0) = ker0 m c
      ∧ r.2.mem ((c.tc : Thread nD τ).loc main_v2_1) = ker1 m c
      ∧ r.2.mem ((c.tc : Thread nD τ).loc main_v2_2) = ker2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (final0 m c), (h c).2.1.trans (final1 m c), (h c).2.2.1.trans (final2 m c), (h c).2.2.2⟩)
    (Cert.Kernel14Ideal.Value.run_blocks m ρ)

end Kernel

section Reference

open Cert.Reference14Ideal Cert.Reference14Ideal.Gen Idealize.ShloMosaic.TcCoe Idealize.SL.Sem

variable (m : (ℓ : Loc nD τ sig) → Buf (Elt Ideal) ℓ)

/-- The reference's results on device `c`. -/
def ref0 (c : Dev nD) : Rows :=
  nextRows (m ((c.tc : Thread nD τ).loc main_arg0)) (m ((c.tc : Thread nD τ).loc main_arg1)) (m ((c.tc : Thread nD τ).loc main_arg2)) (m ((c.tc : Thread nD τ).loc main_arg3))
def ref1 (c : Dev nD) : Rows :=
  gateRows (m ((c.tc : Thread nD τ).loc main_arg0)) (m ((c.tc : Thread nD τ).loc main_arg1)) (m ((c.tc : Thread nD τ).loc main_arg2)) (m ((c.tc : Thread nD τ).loc main_arg3))
def ref2 (c : Dev nD) : Rows :=
  projRows (m ((c.tc : Thread nD τ).loc main_arg0)) (m ((c.tc : Thread nD τ).loc main_arg1)) (m ((c.tc : Thread nD τ).loc main_arg2)) (m ((c.tc : Thread nD τ).loc main_arg3))

theorem reference_run (ρ : Dev nD → PrngReg) :
    θ_run (defs (F := Ideal)) (onTc (τ := τ) (main (F := Ideal))) ⟨m, fun _ => 0, ρ⟩ fun r => ∀ c : Dev nD,
      r.2.mem ((c.tc : Thread nD τ).loc main_v9) = ref0 m c
      ∧ r.2.mem ((c.tc : Thread nD τ).loc main_v0) = ref1 m c
      ∧ r.2.mem ((c.tc : Thread nD τ).loc main_v1) = ref2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ h c => ⟨(h c).1.trans ?_, (h c).2.1.trans ?_, (h c).2.2.1.trans ?_, (h c).2.2.2⟩)
    (Cert.Reference14Ideal.Value.run m ρ)
  · funext j
    obtain ⟨p, l, rfl⟩ : ∃ (p : Fin 8192) (l : Fin 1024), j = ix2 p l := ⟨j 0, j 1, eq_ix2 j⟩
    pointwise [ref0, nextRows, gated, times, sigmoid]
  · funext j
    obtain ⟨p, l, rfl⟩ : ∃ (p : Fin 8192) (l : Fin 1024), j = ix2 p l := ⟨j 0, j 1, eq_ix2 j⟩
    pointwise [ref1, gateRows, times]
  · funext j
    obtain ⟨p, l, rfl⟩ : ∃ (p : Fin 8192) (l : Fin 1024), j = ix2 p l := ⟨j 0, j 1, eq_ix2 j⟩
    pointwise [ref2, projRows, times]

end Reference

end Cert.Gate
-- ==== Proof.InputB.lean ====
/-
  The second mixer's two norms and four projections: the kernel's run and the reference's, both read down to the same row formulas.
-/
module

public import proofs.«01_k».proof.Proof.Gen.Kernel15Ideal.Value
public import proofs.«01_k».proof.Proof.Gen.Reference15Ideal.Run
public import proofs.«01_k».proof.Proof.RowFormula

@[expose] public section

noncomputable section

namespace Cert.InputB

open Idealize.ShloMosaic Cert.NormsProj Cert.Weight Cert.RowFormula

/-- The rows of the shared norm, row by row. -/
def sharedRows (A0 : Arr 8192 1024) (A1 : Arr 1 1024) (A2 : Arr 1 1024) (A3 : Arr 1024 2048) (A4 : Arr 1024 2048) : Rows := fun i =>
  normed (fun k => A0 (ix2 (i 0) k)) (fun k => A1 (ix2 0 k)) (i 1)

/-- The rows of the mixer's norm, row by row. -/
def queryNorm (A0 : Arr 8192 1024) (A1 : Arr 1 1024) (A2 : Arr 1 1024) (A3 : Arr 1024 2048) (A4 : Arr 1024 2048) : Rows := fun i =>
  normed (fun k => A0 (ix2 (i 0) k)) (fun k => A2 (ix2 0 k)) (i 1)

/-- The keys, row by row. -/
def keyRows (A0 : Arr 8192 1024) (A1 : Arr 1 1024) (A2 : Arr 1 1024) (A3 : Arr 1024 2048) (A4 : Arr 1024 2048) : Rows := fun i =>
  times (normed (fun k => A0 (ix2 (i 0) k)) (fun k => A1 (ix2 0 k))) (fun u k => A3 (ix2 u ⟨k.val, by omega⟩)) (i 1)

/-- The values, row by row. -/
def valueRows (A0 : Arr 8192 1024) (A1 : Arr 1 1024) (A2 : Arr 1 1024) (A3 : Arr 1024 2048) (A4 : Arr 1024 2048) : Rows := fun i =>
  times (normed (fun k => A0 (ix2 (i 0) k)) (fun k => A1 (ix2 0 k))) (fun u k => A3 (ix2 u ⟨1024 + k.val, by omega⟩)) (i 1)

/-- The queries, row by row. -/
def queryRows (A0 : Arr 8192 1024) (A1 : Arr 1 1024) (A2 : Arr 1 1024) (A3 : Arr 1024 2048) (A4 : Arr 1024 2048) : Rows := fun i =>
  times (normed (fun k => A0 (ix2 (i 0) k)) (fun k => A2 (ix2 0 k))) (fun u k => A4 (ix2 u ⟨k.val, by omega⟩)) (i 1)

/-- The gate branch, row by row. -/
def gateRows (A0 : Arr 8192 1024) (A1 : Arr 1 1024) (A2 : Arr 1 1024) (A3 : Arr 1024 2048) (A4 : Arr 1024 2048) : Rows := fun i =>
  times (normed (fun k => A0 (ix2 (i 0) k)) (fun k => A2 (ix2 0 k))) (fun u k => A4 (ix2 u ⟨1024 + k.val, by omega⟩)) (i 1)

section Kernel

open Cert.Kernel15Ideal Cert.Kernel15Ideal.Gen Idealize.ShloMosaic.TcCoe Idealize.SL.Sem

/-- What a grid point gives output 1. -/
def blockOut0 (x0 : FVec Ideal S512x1024 .f32) (x1 : FVec Ideal S1x1024 .f32) : FVec Ideal S512x1024 .bf16 :=
  (k0_pay8 (F := Ideal) x0 x1)

theorem blockOut0_apply (x0 : FVec Ideal S512x1024 .f32) (x1 : FVec Ideal S1x1024 .f32) (r : Fin 512) (l : Fin 1024) :
    blockOut0 x0 x1 (ix2 r l) = normed (fun k => x0 (ix2 r k)) (fun k => x1 (ix2 0 k)) l := by
  pointwise [blockOut0, zero_sub, k0_pay1, k0_pay2, k0_pay3, k0_pay4, k0_pay5, k0_pay6, k0_pay7, k0_pay8, k0_pay9, k0_pay10, normed, scale, meanSq]

/-- What a grid point gives output 2. -/
def blockOut1 (x0 : FVec Ideal S512x1024 .f32) (x2 : FVec Ideal S1x1024 .f32) : FVec Ideal S512x1024 .bf16 :=
  (k0_pay9 (F := Ideal) x0 x2)

theorem blockOut1_apply (x0 : FVec Ideal S512x1024 .f32) (x2 : FVec Ideal S1x1024 .f32) (r : Fin 512) (l : Fin 1024) :
    blockOut1 x0 x2 (ix2 r l) = normed (fun k => x0 (ix2 r k)) (fun k => x2 (ix2 0 k)) l := by
  pointwise [blockOut1, zero_sub, k0_pay1, k0_pay2, k0_pay3, k0_pay4, k0_pay5, k0_pay6, k0_pay7, k0_pay8, k0_pay9, k0_pay10, normed, scale, meanSq]

/-- What a grid point gives output 3. -/
def blockOut2 (x0 : FVec Ideal S512x1024 .f32) (x1 : FVec Ideal S1x1024 .f32) (x3 : FVec Ideal S1024x1024 .bf16) : FVec Ideal S512x1024 .bf16 :=
  (k0_pay2 (F := Ideal) (k0_pay10 (F := Ideal) x0 x1 x3))

theorem blockOut2_apply (x0 : FVec Ideal S512x1024 .f32) (x1 : FVec Ideal S1x1024 .f32) (x3 : FVec Ideal S1024x1024 .bf16) (r : Fin 512) (l : Fin 1024) :
    blockOut2 x0 x1 x3 (ix2 r l) = times (normed (fun k => x0 (ix2 r k)) (fun k => x1 (ix2 0 k))) (fun u k => x3 (ix2 u k)) l := by
  pointwise [blockOut2, zero_sub, k0_pay1, k0_pay2, k0_pay3, k0_pay4, k0_pay5, k0_pay6, k0_pay7, k0_pay8, k0_pay9, k0_pay10, times, normed, scale, meanSq]

/-- What a grid point gives output 4. -/
def blockOut3 (x0 : FVec Ideal S512x1024 .f32) (x1 : FVec Ideal S1x1024 .f32) (x4 : FVec Ideal S1024x1024 .bf16) : FVec Ideal S512x1024 .bf16 :=
  (k0_pay3 (F := Ideal) (k0_pay5 (F := Ideal) x4) (k0_pay8 (F := Ideal) x0 x1))

theorem blockOut3_apply (x0 : FVec Ideal S512x1024 .f32) (x1 : FVec Ideal S1x1024 .f32) (x4 : FVec Ideal S1024x1024 .bf16) (r : Fin 512) (l : Fin 1024) :
    blockOut3 x0 x1 x4 (ix2 r l) = times (normed (fun k => x0 (ix2 r k)) (fun k => x1 (ix2 0 k))) (fun u k => x4 (ix2 u k)) l := by
  pointwise [blockOut3, zero_sub, k0_pay1, k0_pay2, k0_pay3, k0_pay4, k0_pay5, k0_pay6, k0_pay7, k0_pay8, k0_pay9, k0_pay10, times, normed, scale, meanSq]

/-- What a grid point gives output 5. -/
def blockOut4 (x0 : FVec Ideal S512x1024 .f32) (x2 : FVec Ideal S1x1024 .f32) (x5 : FVec Ideal S1024x1024 .bf16) : FVec Ideal S512x1024 .bf16 :=
  (k0_pay4 (F := Ideal) (k0_pay6 (F := Ideal) x5) (k0_pay9 (F := Ideal) x0 x2))

theorem blockOut4_apply (x0 : FVec Ideal S512x1024 .f32) (x2 : FVec Ideal S1x1024 .f32) (x5 : FVec Ideal S1024x1024 .bf16) (r : Fin 512) (l : Fin 1024) :
    blockOut4 x0 x2 x5 (ix2 r l) = times (normed (fun k => x0 (ix2 r k)) (fun k => x2 (ix2 0 k))) (fun u k => x5 (ix2 u k)) l := by
  pointwise [blockOut4, zero_sub, k0_pay1, k0_pay2, k0_pay3, k0_pay4, k0_pay5, k0_pay6, k0_pay7, k0_pay8, k0_pay9, k0_pay10, times, normed, scale, meanSq]

/-- What a grid point gives output 6. -/
def blockOut5 (x0 : FVec Ideal S512x1024 .f32) (x2 : FVec Ideal S1x1024 .f32) (x6 : FVec Ideal S1024x1024 .bf16) : FVec Ideal S512x1024 .f32 :=
  (k0_pay1 (F := Ideal) (k0_pay7 (F := Ideal) x6) (k0_pay9 (F := Ideal) x0 x2))

theorem blockOut5_apply (x0 : FVec Ideal S512x1024 .f32) (x2 : FVec Ideal S1x1024 .f32) (x6 : FVec Ideal S1024x1024 .bf16) (r : Fin 512) (l : Fin 1024) :
    blockOut5 x0 x2 x6 (ix2 r l) = times (normed (fun k => x0 (ix2 r k)) (fun k => x2 (ix2 0 k))) (fun u k => x6 (ix2 u k)) l := by
  pointwise [blockOut5, zero_sub, k0_pay1, k0_pay2, k0_pay3, k0_pay4, k0_pay5, k0_pay6, k0_pay7, k0_pay8, k0_pay9, k0_pay10, times, normed, scale, meanSq]

theorem case0 (x0 : FVec Ideal S512x1024 .f32) (x1 : FVec Ideal S1x1024 .f32) (x2 : FVec Ideal S1x1024 .f32) (x3 : FVec Ideal S1024x1024 .bf16) (x4 : FVec Ideal S1024x1024 .bf16) (x5 : FVec Ideal S1024x1024 .bf16) (x6 : FVec Ideal S1024x1024 .bf16) :
    out0_7 (F := Ideal) x0 x1 x2 x3 x4 x5 x6 = blockOut0 x0 x1 := by
  unfold out0_7 k0_pay11 r0_0 r0_1
  rw [View.canon_unit_zero zeros]
  simp only [View.ld_unit_zero (S := S1x1024) zeros, View.ld_unit_zero (S := S512x1024) zeros]
  rfl

theorem case1 (x0 : FVec Ideal S512x1024 .f32) (x1 : FVec Ideal S1x1024 .f32) (x2 : FVec Ideal S1x1024 .f32) (x3 : FVec Ideal S1024x1024 .bf16) (x4 : FVec Ideal S1024x1024 .bf16) (x5 : FVec Ideal S1024x1024 .bf16) (x6 : FVec Ideal S1024x1024 .bf16) :
    out0_8 (F := Ideal) x0 x1 x2 x3 x4 x5 x6 = blockOut1 x0 x2 := by
  unfold out0_8 k0_pay12 r0_0 r0_1
  rw [View.canon_unit_zero zeros]
  simp only [View.ld_unit_zero (S := S1x1024) zeros, View.ld_unit_zero (S := S512x1024) zeros]
  rfl

theorem case2 (x0 : FVec Ideal S512x1024 .f32) (x1 : FVec Ideal S1x1024 .f32) (x2 : FVec Ideal S1x1024 .f32) (x3 : FVec Ideal S1024x1024 .bf16) (x4 : FVec Ideal S1024x1024 .bf16) (x5 : FVec Ideal S1024x1024 .bf16) (x6 : FVec Ideal S1024x1024 .bf16) :
    out0_9 (F := Ideal) x0 x1 x2 x3 x4 x5 x6 = blockOut2 x0 x1 x3 := by
  unfold out0_9 r0_0 r0_1 r0_2
  rw [View.canon_unit_zero zeros]
  simp only [View.ld_unit_zero (S := S1024x1024) zeros, View.ld_unit_zero (S := S1x1024) zeros, View.ld_unit_zero (S := S512x1024) zeros]
  rfl

theorem case3 (x0 : FVec Ideal S512x1024 .f32) (x1 : FVec Ideal S1x1024 .f32) (x2 : FVec Ideal S1x1024 .f32) (x3 : FVec Ideal S1024x1024 .bf16) (x4 : FVec Ideal S1024x1024 .bf16) (x5 : FVec Ideal S1024x1024 .bf16) (x6 : FVec Ideal S1024x1024 .bf16) :
    out0_10 (F := Ideal) x0 x1 x2 x3 x4 x5 x6 = blockOut3 x0 x1 x4 := by
  unfold out0_10 k0_pay11 r0_0 r0_1 r0_2
  rw [View.canon_unit_zero zeros]
  simp only [View.ld_unit_zero (S := S1024x1024) zeros, View.ld_unit_zero (S := S1x1024) zeros, View.ld_unit_zero (S := S512x1024) zeros]
  rfl

theorem case4 (x0 : FVec Ideal S512x1024 .f32) (x1 : FVec Ideal S1x1024 .f32) (x2 : FVec Ideal S1x1024 .f32) (x3 : FVec Ideal S1024x1024 .bf16) (x4 : FVec Ideal S1024x1024 .bf16) (x5 : FVec Ideal S1024x1024 .bf16) (x6 : FVec Ideal S1024x1024 .bf16) :
    out0_11 (F := Ideal) x0 x1 x2 x3 x4 x5 x6 = blockOut4 x0 x2 x5 := by
  unfold out0_11 k0_pay12 r0_0 r0_1 r0_2
  rw [View.canon_unit_zero zeros]
  simp only [View.ld_unit_zero (S := S1024x1024) zeros, View.ld_unit_zero (S := S1x1024) zeros, View.ld_unit_zero (S := S512x1024) zeros]
  rfl

theorem case5 (x0 : FVec Ideal S512x1024 .f32) (x1 : FVec Ideal S1x1024 .f32) (x2 : FVec Ideal S1x1024 .f32) (x3 : FVec Ideal S1024x1024 .bf16) (x4 : FVec Ideal S1024x1024 .bf16) (x5 : FVec Ideal S1024x1024 .bf16) (x6 : FVec Ideal S1024x1024 .bf16) :
    out0_12 (F := Ideal) x0 x1 x2 x3 x4 x5 x6 = blockOut5 x0 x2 x6 := by
  unfold out0_12 k0_pay12 r0_0 r0_1 r0_2
  rw [View.canon_unit_zero zeros]
  simp only [View.ld_unit_zero (S := S1024x1024) zeros, View.ld_unit_zero (S := S1x1024) zeros, View.ld_unit_zero (S := S512x1024) zeros]
  rfl

variable (m : (ℓ : Loc nD τ sig) → Buf (Elt Ideal) ℓ) (c : Dev nD)

theorem index0 : ∀ t : Fin cfg0.N, win0_0.index t 0 = t.val ∧ win0_0.index t 1 = 0 := by decide +kernel

theorem blk0 (t : Fin cfg0.N) (r : Fin 512) (k : Fin 1024) (h : 512 * t.val + r.val < 8192) :
    (iblk m c 0 t : FVec Ideal S512x1024 .f32) (ix2 r k) = m ((c : Thread nD τ).loc main_arg0) (ix2 ⟨512 * t.val + r.val, h⟩ k) := by
  unfold iblk
  rw [View.read_apply]
  show V m c main_arg0 _ = _
  refine (congrArg (V m c main_arg0) (?_ : _ = (ix2 ⟨512 * t.val + r.val, h⟩ k : S8192x1024.Idx))).trans ?_
  · funext a
    apply Fin.ext
    match a with
    | ⟨0, _⟩ => show win0_0.index t 0 * 512 + 1 * r.val = 512 * t.val + r.val; rw [(index0 t).1]; omega
    | ⟨1, _⟩ => show win0_0.index t 1 * 1024 + 1 * k.val = k.val; rw [(index0 t).2]; omega
  · rw [V_main_arg0]

theorem index1 : ∀ t : Fin cfg0.N, win0_1.index t 0 = 0 ∧ win0_1.index t 1 = 0 := by decide +kernel

theorem blk1 (t : Fin cfg0.N) (k : Fin 1024) :
    (iblk m c 1 t : FVec Ideal S1x1024 .f32) (ix2 0 k) = m ((c : Thread nD τ).loc main_arg1) (ix2 0 k) := by
  unfold iblk
  rw [View.read_apply]
  show V m c main_arg1 _ = _
  refine (congrArg (V m c main_arg1) (?_ : _ = (ix2 0 k : S1x1024.Idx))).trans ?_
  · funext a
    apply Fin.ext
    match a with
    | ⟨0, _⟩ => show win0_1.index t 0 * 1 + 1 * 0 = 0; rw [(index1 t).1]
    | ⟨1, _⟩ => show win0_1.index t 1 * 1024 + 1 * k.val = k.val; rw [(index1 t).2]; omega
  · rw [V_main_arg1]

theorem index2 : ∀ t : Fin cfg0.N, win0_2.index t 0 = 0 ∧ win0_2.index t 1 = 0 := by decide +kernel

theorem blk2 (t : Fin cfg0.N) (k : Fin 1024) :
    (iblk m c 2 t : FVec Ideal S1x1024 .f32) (ix2 0 k) = m ((c : Thread nD τ).loc main_arg2) (ix2 0 k) := by
  unfold iblk
  rw [View.read_apply]
  show V m c main_arg2 _ = _
  refine (congrArg (V m c main_arg2) (?_ : _ = (ix2 0 k : S1x1024.Idx))).trans ?_
  · funext a
    apply Fin.ext
    match a with
    | ⟨0, _⟩ => show win0_2.index t 0 * 1 + 1 * 0 = 0; rw [(index2 t).1]
    | ⟨1, _⟩ => show win0_2.index t 1 * 1024 + 1 * k.val = k.val; rw [(index2 t).2]; omega
  · rw [V_main_arg2]

theorem index3 : ∀ t : Fin cfg0.N, win0_3.index t 0 = 0 ∧ win0_3.index t 1 = 0 := by decide +kernel

theorem blk3 (t : Fin cfg0.N) (u : Fin 1024) (k : Fin 1024) :
    (iblk m c 3 t : FVec Ideal S1024x1024 .bf16) (ix2 u k) = (m ((c : Thread nD τ).loc main_arg3) : Arr 1024 2048) (ix2 u ⟨k.val, by omega⟩) := by
  unfold iblk
  rw [View.read_apply]
  show V m c main_v1 _ = _
  refine (congrArg (V m c main_v1) (?_ : _ = (ix2 u k : S1024x1024.Idx))).trans ?_
  · funext a
    apply Fin.ext
    match a with
    | ⟨0, _⟩ => show win0_3.index t 0 * 1024 + 1 * u.val = u.val; rw [(index3 t).1]; omega
    | ⟨1, _⟩ => show win0_3.index t 1 * 1024 + 1 * k.val = k.val; rw [(index3 t).2]; omega
  · entry_read
    pointwise

theorem index4 : ∀ t : Fin cfg0.N, win0_4.index t 0 = 0 ∧ win0_4.index t 1 = 0 := by decide +kernel

theorem blk4 (t : Fin cfg0.N) (u : Fin 1024) (k : Fin 1024) :
    (iblk m c 4 t : FVec Ideal S1024x1024 .bf16) (ix2 u k) = (m ((c : Thread nD τ).loc main_arg3) : Arr 1024 2048) (ix2 u ⟨1024 + k.val, by omega⟩) := by
  unfold iblk
  rw [View.read_apply]
  show V m c main_v2 _ = _
  refine (congrArg (V m c main_v2) (?_ : _ = (ix2 u k : S1024x1024.Idx))).trans ?_
  · funext a
    apply Fin.ext
    match a with
    | ⟨0, _⟩ => show win0_4.index t 0 * 1024 + 1 * u.val = u.val; rw [(index4 t).1]; omega
    | ⟨1, _⟩ => show win0_4.index t 1 * 1024 + 1 * k.val = k.val; rw [(index4 t).2]; omega
  · entry_read
    pointwise

theorem index5 : ∀ t : Fin cfg0.N, win0_5.index t 0 = 0 ∧ win0_5.index t 1 = 0 := by decide +kernel

theorem blk5 (t : Fin cfg0.N) (u : Fin 1024) (k : Fin 1024) :
    (iblk m c 5 t : FVec Ideal S1024x1024 .bf16) (ix2 u k) = (m ((c : Thread nD τ).loc main_arg4) : Arr 1024 2048) (ix2 u ⟨k.val, by omega⟩) := by
  unfold iblk
  rw [View.read_apply]
  show V m c main_v4 _ = _
  refine (congrArg (V m c main_v4) (?_ : _ = (ix2 u k : S1024x1024.Idx))).trans ?_
  · funext a
    apply Fin.ext
    match a with
    | ⟨0, _⟩ => show win0_5.index t 0 * 1024 + 1 * u.val = u.val; rw [(index5 t).1]; omega
    | ⟨1, _⟩ => show win0_5.index t 1 * 1024 + 1 * k.val = k.val; rw [(index5 t).2]; omega
  · entry_read
    pointwise

theorem index6 : ∀ t : Fin cfg0.N, win0_6.index t 0 = 0 ∧ win0_6.index t 1 = 0 := by decide +kernel

theorem blk6 (t : Fin cfg0.N) (u : Fin 1024) (k : Fin 1024) :
    (iblk m c 6 t : FVec Ideal S1024x1024 .bf16) (ix2 u k) = (m ((c : Thread nD τ).loc main_arg4) : Arr 1024 2048) (ix2 u ⟨1024 + k.val, by omega⟩) := by
  unfold iblk
  rw [View.read_apply]
  show V m c main_v5 _ = _
  refine (congrArg (V m c main_v5) (?_ : _ = (ix2 u k : S1024x1024.Idx))).trans ?_
  · funext a
    apply Fin.ext
    match a with
    | ⟨0, _⟩ => show win0_6.index t 0 * 1024 + 1 * u.val = u.val; rw [(index6 t).1]; omega
    | ⟨1, _⟩ => show win0_6.index t 1 * 1024 + 1 * k.val = k.val; rw [(index6 t).2]; omega
  · entry_read
    pointwise

theorem point_row (t : Fin cfg0.N) (r : Fin 512) : 512 * t.val + r.val < 8192 := by
  have := t.isLt; have : cfg0.N = 16 := N_0; omega

/-- The kernel's result 1 on device `c`, as a function of the arrays it starts from. -/
def ker0 : Rows :=
  sharedRows (m ((c : Thread nD τ).loc main_arg0)) (m ((c : Thread nD τ).loc main_arg1)) (m ((c : Thread nD τ).loc main_arg2)) (m ((c : Thread nD τ).loc main_arg3)) (m ((c : Thread nD τ).loc main_arg4))

theorem share0 (t : Fin cfg0.N) (r : Fin 512) (l : Fin 1024) :
    blockOut0 (iblk m c 0 t) (iblk m c 1 t) (ix2 r l) = ker0 m c (ix2 ⟨512 * t.val + r.val, point_row t r⟩ l) := by
  rw [blockOut0_apply]
  simp only [blk0 m c t r _ (point_row t r), blk1]
  rfl

/-- The kernel's result 2 on device `c`, as a function of the arrays it starts from. -/
def ker1 : Rows :=
  queryNorm (m ((c : Thread nD τ).loc main_arg0)) (m ((c : Thread nD τ).loc main_arg1)) (m ((c : Thread nD τ).loc main_arg2)) (m ((c : Thread nD τ).loc main_arg3)) (m ((c : Thread nD τ).loc main_arg4))

theorem share1 (t : Fin cfg0.N) (r : Fin 512) (l : Fin 1024) :
    blockOut1 (iblk m c 0 t) (iblk m c 2 t) (ix2 r l) = ker1 m c (ix2 ⟨512 * t.val + r.val, point_row t r⟩ l) := by
  rw [blockOut1_apply]
  simp only [blk0 m c t r _ (point_row t r), blk2]
  rfl

/-- The kernel's result 3 on device `c`, as a function of the arrays it starts from. -/
def ker2 : Rows :=
  keyRows (m ((c : Thread nD τ).loc main_arg0)) (m ((c : Thread nD τ).loc main_arg1)) (m ((c : Thread nD τ).loc main_arg2)) (m ((c : Thread nD τ).loc main_arg3)) (m ((c : Thread nD τ).loc main_arg4))

theorem share2 (t : Fin cfg0.N) (r : Fin 512) (l : Fin 1024) :
    blockOut2 (iblk m c 0 t) (iblk m c 1 t) (iblk m c 3 t) (ix2 r l) = ker2 m c (ix2 ⟨512 * t.val + r.val, point_row t r⟩ l) := by
  rw [blockOut2_apply]
  simp only [blk0 m c t r _ (point_row t r), blk1, blk3]
  rfl

/-- The kernel's result 4 on device `c`, as a function of the arrays it starts from. -/
def ker3 : Rows :=
  valueRows (m ((c : Thread nD τ).loc main_arg0)) (m ((c : Thread nD τ).loc main_arg1)) (m ((c : Thread nD τ).loc main_arg2)) (m ((c : Thread nD τ).loc main_arg3)) (m ((c : Thread nD τ).loc main_arg4))

theorem share3 (t : Fin cfg0.N) (r : Fin 512) (l : Fin 1024) :
    blockOut3 (iblk m c 0 t) (iblk m c 1 t) (iblk m c 4 t) (ix2 r l) = ker3 m c (ix2 ⟨512 * t.val + r.val, point_row t r⟩ l) := by
  rw [blockOut3_apply]
  simp only [blk0 m c t r _ (point_row t r), blk1, blk4]
  rfl

/-- The kernel's result 5 on device `c`, as a function of the arrays it starts from. -/
def ker4 : Rows :=
  queryRows (m ((c : Thread nD τ).loc main_arg0)) (m ((c : Thread nD τ).loc main_arg1)) (m ((c : Thread nD τ).loc main_arg2)) (m ((c : Thread nD τ).loc main_arg3)) (m ((c : Thread nD τ).loc main_arg4))

theorem share4 (t : Fin cfg0.N) (r : Fin 512) (l : Fin 1024) :
    blockOut4 (iblk m c 0 t) (iblk m c 2 t) (iblk m c 5 t) (ix2 r l) = ker4 m c (ix2 ⟨512 * t.val + r.val, point_row t r⟩ l) := by
  rw [blockOut4_apply]
  simp only [blk0 m c t r _ (point_row t r), blk2, blk5]
  rfl

/-- The kernel's result 6 on device `c`, as a function of the arrays it starts from. -/
def ker5 : Rows :=
  gateRows (m ((c : Thread nD τ).loc main_arg0)) (m ((c : Thread nD τ).loc main_arg1)) (m ((c : Thread nD τ).loc main_arg2)) (m ((c : Thread nD τ).loc main_arg3)) (m ((c : Thread nD τ).loc main_arg4))

theorem share5 (t : Fin cfg0.N) (r : Fin 512) (l : Fin 1024) :
    blockOut5 (iblk m c 0 t) (iblk m c 2 t) (iblk m c 6 t) (ix2 r l) = ker5 m c (ix2 ⟨512 * t.val + r.val, point_row t r⟩ l) := by
  rw [blockOut5_apply]
  simp only [blk0 m c t r _ (point_row t r), blk2, blk6]
  rfl

theorem index7 : ∀ t : Fin cfg0.N, win0_7.index t 0 = t.val ∧ win0_7.index t 1 = 0 := by decide +kernel

theorem flushed0 (t : Fin cfg0.N) : (dats m 0 c).flushed 7 t = ((cfg0.win 7).blk t).view.read (Elt Ideal) (ker0 m c) := by
  rw [Cert.Kernel15Ideal.Value.flushed7, case0]
  funext j
  obtain ⟨r, l, rfl⟩ : ∃ (r : Fin 512) (l : Fin 1024), j = ix2 r l := ⟨j 0, j 1, eq_ix2 j⟩
  refine (share0 m c t r l).trans ?_
  rw [View.read_apply]
  congr 1
  funext a
  apply Fin.ext
  match a with
  | ⟨0, _⟩ => show 512 * t.val + r.val = win0_7.index t 0 * 512 + 1 * r.val; rw [(index7 t).1]; omega
  | ⟨1, _⟩ => show l.val = win0_7.index t 1 * 1024 + 1 * l.val; rw [(index7 t).2]; omega

theorem final0 : (dats m 0 c).arrAt 7 cfg0.N = ker0 m c :=
  (dats m 0 c).arrAt_eq_of_cover 7 (ker0 m c) (fun t _ => flushed0 m c t) fun i => by
    have hN : cfg0.N = 16 := N_0
    have h0 : (i 0 : Nat) < 8192 := (i 0).isLt
    have h1 : (i 1 : Nat) < 1024 := (i 1).isLt
    obtain ⟨t, ht⟩ : ∃ t : Fin cfg0.N, t.val = (i 0 : Nat) / 512 := ⟨⟨(i 0 : Nat) / 512, by omega⟩, rfl⟩
    refine ⟨t, flush0_7 t, ?_⟩
    show i ∈ ((View.whole main_v6_0).slice (win0_7.rect t)).set
    rw [View.set_slice_whole, Rect.mem_set_unit]
    intro a
    match a with
    | ⟨0, _⟩ =>
      show win0_7.index t 0 * 512 ≤ (i 0 : Nat) ∧ (i 0 : Nat) < win0_7.index t 0 * 512 + 512
      rw [(index7 t).1]; omega
    | ⟨1, _⟩ =>
      show win0_7.index t 1 * 1024 ≤ (i 1 : Nat) ∧ (i 1 : Nat) < win0_7.index t 1 * 1024 + 1024
      rw [(index7 t).2]; omega

theorem index8 : ∀ t : Fin cfg0.N, win0_8.index t 0 = t.val ∧ win0_8.index t 1 = 0 := by decide +kernel

theorem flushed1 (t : Fin cfg0.N) : (dats m 0 c).flushed 8 t = ((cfg0.win 8).blk t).view.read (Elt Ideal) (ker1 m c) := by
  rw [Cert.Kernel15Ideal.Value.flushed8, case1]
  funext j
  obtain ⟨r, l, rfl⟩ : ∃ (r : Fin 512) (l : Fin 1024), j = ix2 r l := ⟨j 0, j 1, eq_ix2 j⟩
  refine (share1 m c t r l).trans ?_
  rw [View.read_apply]
  congr 1
  funext a
  apply Fin.ext
  match a with
  | ⟨0, _⟩ => show 512 * t.val + r.val = win0_8.index t 0 * 512 + 1 * r.val; rw [(index8 t).1]; omega
  | ⟨1, _⟩ => show l.val = win0_8.index t 1 * 1024 + 1 * l.val; rw [(index8 t).2]; omega

theorem final1 : (dats m 0 c).arrAt 8 cfg0.N = ker1 m c :=
  (dats m 0 c).arrAt_eq_of_cover 8 (ker1 m c) (fun t _ => flushed1 m c t) fun i => by
    have hN : cfg0.N = 16 := N_0
    have h0 : (i 0 : Nat) < 8192 := (i 0).isLt
    have h1 : (i 1 : Nat) < 1024 := (i 1).isLt
    obtain ⟨t, ht⟩ : ∃ t : Fin cfg0.N, t.val = (i 0 : Nat) / 512 := ⟨⟨(i 0 : Nat) / 512, by omega⟩, rfl⟩
    refine ⟨t, flush0_8 t, ?_⟩
    show i ∈ ((View.whole main_v6_1).slice (win0_8.rect t)).set
    rw [View.set_slice_whole, Rect.mem_set_unit]
    intro a
    match a with
    | ⟨0, _⟩ =>
      show win0_8.index t 0 * 512 ≤ (i 0 : Nat) ∧ (i 0 : Nat) < win0_8.index t 0 * 512 + 512
      rw [(index8 t).1]; omega
    | ⟨1, _⟩ =>
      show win0_8.index t 1 * 1024 ≤ (i 1 : Nat) ∧ (i 1 : Nat) < win0_8.index t 1 * 1024 + 1024
      rw [(index8 t).2]; omega

theorem index9 : ∀ t : Fin cfg0.N, win0_9.index t 0 = t.val ∧ win0_9.index t 1 = 0 := by decide +kernel

theorem flushed2 (t : Fin cfg0.N) : (dats m 0 c).flushed 9 t = ((cfg0.win 9).blk t).view.read (Elt Ideal) (ker2 m c) := by
  rw [Cert.Kernel15Ideal.Value.flushed9, case2]
  funext j
  obtain ⟨r, l, rfl⟩ : ∃ (r : Fin 512) (l : Fin 1024), j = ix2 r l := ⟨j 0, j 1, eq_ix2 j⟩
  refine (share2 m c t r l).trans ?_
  rw [View.read_apply]
  congr 1
  funext a
  apply Fin.ext
  match a with
  | ⟨0, _⟩ => show 512 * t.val + r.val = win0_9.index t 0 * 512 + 1 * r.val; rw [(index9 t).1]; omega
  | ⟨1, _⟩ => show l.val = win0_9.index t 1 * 1024 + 1 * l.val; rw [(index9 t).2]; omega

theorem final2 : (dats m 0 c).arrAt 9 cfg0.N = ker2 m c :=
  (dats m 0 c).arrAt_eq_of_cover 9 (ker2 m c) (fun t _ => flushed2 m c t) fun i => by
    have hN : cfg0.N = 16 := N_0
    have h0 : (i 0 : Nat) < 8192 := (i 0).isLt
    have h1 : (i 1 : Nat) < 1024 := (i 1).isLt
    obtain ⟨t, ht⟩ : ∃ t : Fin cfg0.N, t.val = (i 0 : Nat) / 512 := ⟨⟨(i 0 : Nat) / 512, by omega⟩, rfl⟩
    refine ⟨t, flush0_9 t, ?_⟩
    show i ∈ ((View.whole main_v6_2).slice (win0_9.rect t)).set
    rw [View.set_slice_whole, Rect.mem_set_unit]
    intro a
    match a with
    | ⟨0, _⟩ =>
      show win0_9.index t 0 * 512 ≤ (i 0 : Nat) ∧ (i 0 : Nat) < win0_9.index t 0 * 512 + 512
      rw [(index9 t).1]; omega
    | ⟨1, _⟩ =>
      show win0_9.index t 1 * 1024 ≤ (i 1 : Nat) ∧ (i 1 : Nat) < win0_9.index t 1 * 1024 + 1024
      rw [(index9 t).2]; omega

theorem index10 : ∀ t : Fin cfg0.N, win0_10.index t 0 = t.val ∧ win0_10.index t 1 = 0 := by decide +kernel

theorem flushed3 (t : Fin cfg0.N) : (dats m 0 c).flushed 10 t = ((cfg0.win 10).blk t).view.read (Elt Ideal) (ker3 m c) := by
  rw [Cert.Kernel15Ideal.Value.flushed10, case3]
  funext j
  obtain ⟨r, l, rfl⟩ : ∃ (r : Fin 512) (l : Fin 1024), j = ix2 r l := ⟨j 0, j 1, eq_ix2 j⟩
  refine (share3 m c t r l).trans ?_
  rw [View.read_apply]
  congr 1
  funext a
  apply Fin.ext
  match a with
  | ⟨0, _⟩ => show 512 * t.val + r.val = win0_10.index t 0 * 512 + 1 * r.val; rw [(index10 t).1]; omega
  | ⟨1, _⟩ => show l.val = win0_10.index t 1 * 1024 + 1 * l.val; rw [(index10 t).2]; omega

theorem final3 : (dats m 0 c).arrAt 10 cfg0.N = ker3 m c :=
  (dats m 0 c).arrAt_eq_of_cover 10 (ker3 m c) (fun t _ => flushed3 m c t) fun i => by
    have hN : cfg0.N = 16 := N_0
    have h0 : (i 0 : Nat) < 8192 := (i 0).isLt
    have h1 : (i 1 : Nat) < 1024 := (i 1).isLt
    obtain ⟨t, ht⟩ : ∃ t : Fin cfg0.N, t.val = (i 0 : Nat) / 512 := ⟨⟨(i 0 : Nat) / 512, by omega⟩, rfl⟩
    refine ⟨t, flush0_10 t, ?_⟩
    show i ∈ ((View.whole main_v6_3).slice (win0_10.rect t)).set
    rw [View.set_slice_whole, Rect.mem_set_unit]
    intro a
    match a with
    | ⟨0, _⟩ =>
      show win0_10.index t 0 * 512 ≤ (i 0 : Nat) ∧ (i 0 : Nat) < win0_10.index t 0 * 512 + 512
      rw [(index10 t).1]; omega
    | ⟨1, _⟩ =>
      show win0_10.index t 1 * 1024 ≤ (i 1 : Nat) ∧ (i 1 : Nat) < win0_10.index t 1 * 1024 + 1024
      rw [(index10 t).2]; omega

theorem index11 : ∀ t : Fin cfg0.N, win0_11.index t 0 = t.val ∧ win0_11.index t 1 = 0 := by decide +kernel

theorem flushed4 (t : Fin cfg0.N) : (dats m 0 c).flushed 11 t = ((cfg0.win 11).blk t).view.read (Elt Ideal) (ker4 m c) := by
  rw [Cert.Kernel15Ideal.Value.flushed11, case4]
  funext j
  obtain ⟨r, l, rfl⟩ : ∃ (r : Fin 512) (l : Fin 1024), j = ix2 r l := ⟨j 0, j 1, eq_ix2 j⟩
  refine (share4 m c t r l).trans ?_
  rw [View.read_apply]
  congr 1
  funext a
  apply Fin.ext
  match a with
  | ⟨0, _⟩ => show 512 * t.val + r.val = win0_11.index t 0 * 512 + 1 * r.val; rw [(index11 t).1]; omega
  | ⟨1, _⟩ => show l.val = win0_11.index t 1 * 1024 + 1 * l.val; rw [(index11 t).2]; omega

theorem final4 : (dats m 0 c).arrAt 11 cfg0.N = ker4 m c :=
  (dats m 0 c).arrAt_eq_of_cover 11 (ker4 m c) (fun t _ => flushed4 m c t) fun i => by
    have hN : cfg0.N = 16 := N_0
    have h0 : (i 0 : Nat) < 8192 := (i 0).isLt
    have h1 : (i 1 : Nat) < 1024 := (i 1).isLt
    obtain ⟨t, ht⟩ : ∃ t : Fin cfg0.N, t.val = (i 0 : Nat) / 512 := ⟨⟨(i 0 : Nat) / 512, by omega⟩, rfl⟩
    refine ⟨t, flush0_11 t, ?_⟩
    show i ∈ ((View.whole main_v6_4).slice (win0_11.rect t)).set
    rw [View.set_slice_whole, Rect.mem_set_unit]
    intro a
    match a with
    | ⟨0, _⟩ =>
      show win0_11.index t 0 * 512 ≤ (i 0 : Nat) ∧ (i 0 : Nat) < win0_11.index t 0 * 512 + 512
      rw [(index11 t).1]; omega
    | ⟨1, _⟩ =>
      show win0_11.index t 1 * 1024 ≤ (i 1 : Nat) ∧ (i 1 : Nat) < win0_11.index t 1 * 1024 + 1024
      rw [(index11 t).2]; omega

theorem index12 : ∀ t : Fin cfg0.N, win0_12.index t 0 = t.val ∧ win0_12.index t 1 = 0 := by decide +kernel

theorem flushed5 (t : Fin cfg0.N) : (dats m 0 c).flushed 12 t = ((cfg0.win 12).blk t).view.read (Elt Ideal) (ker5 m c) := by
  rw [Cert.Kernel15Ideal.Value.flushed12, case5]
  funext j
  obtain ⟨r, l, rfl⟩ : ∃ (r : Fin 512) (l : Fin 1024), j = ix2 r l := ⟨j 0, j 1, eq_ix2 j⟩
  refine (share5 m c t r l).trans ?_
  rw [View.read_apply]
  congr 1
  funext a
  apply Fin.ext
  match a with
  | ⟨0, _⟩ => show 512 * t.val + r.val = win0_12.index t 0 * 512 + 1 * r.val; rw [(index12 t).1]; omega
  | ⟨1, _⟩ => show l.val = win0_12.index t 1 * 1024 + 1 * l.val; rw [(index12 t).2]; omega

theorem final5 : (dats m 0 c).arrAt 12 cfg0.N = ker5 m c :=
  (dats m 0 c).arrAt_eq_of_cover 12 (ker5 m c) (fun t _ => flushed5 m c t) fun i => by
    have hN : cfg0.N = 16 := N_0
    have h0 : (i 0 : Nat) < 8192 := (i 0).isLt
    have h1 : (i 1 : Nat) < 1024 := (i 1).isLt
    obtain ⟨t, ht⟩ : ∃ t : Fin cfg0.N, t.val = (i 0 : Nat) / 512 := ⟨⟨(i 0 : Nat) / 512, by omega⟩, rfl⟩
    refine ⟨t, flush0_12 t, ?_⟩
    show i ∈ ((View.whole main_v6_5).slice (win0_12.rect t)).set
    rw [View.set_slice_whole, Rect.mem_set_unit]
    intro a
    match a with
    | ⟨0, _⟩ =>
      show win0_12.index t 0 * 512 ≤ (i 0 : Nat) ∧ (i 0 : Nat) < win0_12.index t 0 * 512 + 512
      rw [(index12 t).1]; omega
    | ⟨1, _⟩ =>
      show win0_12.index t 1 * 1024 ≤ (i 1 : Nat) ∧ (i 1 : Nat) < win0_12.index t 1 * 1024 + 1024
      rw [(index12 t).2]; omega

/-- The whole run: the results in closed form, the arguments unchanged. -/
theorem kernel_run (ρ : Dev nD → PrngReg) :
    θ_run (defs (F := Ideal)) (onTc (τ := τ) (main (F := Ideal))) ⟨m, fun _ => 0, ρ⟩ fun r => ∀ c : Dev nD,
      r.2.mem ((c.tc : Thread nD τ).loc main_v6_0) = ker0 m c
      ∧ r.2.mem ((c.tc : Thread nD τ).loc main_v6_1) = ker1 m c
      ∧ r.2.mem ((c.tc : Thread nD τ).loc main_v6_2) = ker2 m c
      ∧ r.2.mem ((c.tc : Thread nD τ).loc main_v6_3) = ker3 m c
      ∧ r.2.mem ((c.tc : Thread nD τ).loc main_v6_4) = ker4 m c
      ∧ r.2.mem ((c.tc : Thread nD τ).loc main_v6_5) = ker5 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (final0 m c), (h c).2.1.trans (final1 m c), (h c).2.2.1.trans (final2 m c), (h c).2.2.2.1.trans (final3 m c), (h c).2.2.2.2.1.trans (final4 m c), (h c).2.2.2.2.2.1.trans (final5 m c), (h c).2.2.2.2.2.2⟩)
    (Cert.Kernel15Ideal.Value.run_blocks m ρ)

end Kernel

section Reference

open Cert.Reference15Ideal Cert.Reference15Ideal.Gen Idealize.ShloMosaic.TcCoe Idealize.SL.Sem

variable (m : (ℓ : Loc nD τ sig) → Buf (Elt Ideal) ℓ)

/-- The reference's results on device `c`. -/
def ref0 (c : Dev nD) : Rows :=
  sharedRows (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
def ref1 (c : Dev nD) : Rows :=
  queryNorm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
def ref2 (c : Dev nD) : Rows :=
  keyRows (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
def ref3 (c : Dev nD) : Rows :=
  valueRows (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
def ref4 (c : Dev nD) : Rows :=
  queryRows (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
def ref5 (c : Dev nD) : Rows :=
  gateRows (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

theorem reference_run (ρ : Dev nD → PrngReg) :
    θ_run (defs (F := Ideal)) (onTc (τ := τ) (main (F := Ideal))) ⟨m, fun _ => 0, ρ⟩ fun r => ∀ c : Dev nD,
      r.2.mem ((c.tc : Thread nD τ).loc main_v30) = ref0 m c
      ∧ r.2.mem ((c.tc : Thread nD τ).loc main_v31) = ref1 m c
      ∧ r.2.mem ((c.tc : Thread nD τ).loc main_v32) = ref2 m c
      ∧ r.2.mem ((c.tc : Thread nD τ).loc main_v33) = ref3 m c
      ∧ r.2.mem ((c.tc : Thread nD τ).loc main_v34) = ref4 m c
      ∧ r.2.mem ((c.tc : Thread nD τ).loc main_v29) = ref5 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2⟩)
    (Cert.Reference15Ideal.Value.run m ρ)
  · funext j
    obtain ⟨p, l, rfl⟩ : ∃ (p : Fin 8192) (l : Fin 1024), j = ix2 p l := ⟨j 0, j 1, eq_ix2 j⟩
    pointwise [ref0, sharedRows, normed, scale, meanSq]
  · funext j
    obtain ⟨p, l, rfl⟩ : ∃ (p : Fin 8192) (l : Fin 1024), j = ix2 p l := ⟨j 0, j 1, eq_ix2 j⟩
    pointwise [ref1, queryNorm, normed, scale, meanSq]
  · funext j
    obtain ⟨p, l, rfl⟩ : ∃ (p : Fin 8192) (l : Fin 1024), j = ix2 p l := ⟨j 0, j 1, eq_ix2 j⟩
    pointwise [ref2, keyRows, times, normed, scale, meanSq]
  · funext j
    obtain ⟨p, l, rfl⟩ : ∃ (p : Fin 8192) (l : Fin 1024), j = ix2 p l := ⟨j 0, j 1, eq_ix2 j⟩
    pointwise [ref3, valueRows, times, normed, scale, meanSq]
  · funext j
    obtain ⟨p, l, rfl⟩ : ∃ (p : Fin 8192) (l : Fin 1024), j = ix2 p l := ⟨j 0, j 1, eq_ix2 j⟩
    pointwise [ref4, queryRows, times, normed, scale, meanSq]
  · funext j
    obtain ⟨p, l, rfl⟩ : ∃ (p : Fin 8192) (l : Fin 1024), j = ix2 p l := ⟨j 0, j 1, eq_ix2 j⟩
    pointwise [ref5, gateRows, times, normed, scale, meanSq]

end Reference

end Cert.InputB
-- ==== Proof.OutputB.lean ====
/-
  The second mixer's gate, output projection and norm: the kernel's run and the reference's, both read down to the same row formulas.
-/
module

public import proofs.«01_k».proof.Proof.Gen.Kernel16Ideal.Value
public import proofs.«01_k».proof.Proof.Gen.Reference16Ideal.Run
public import proofs.«01_k».proof.Proof.RowFormula

@[expose] public section

noncomputable section

namespace Cert.OutputB

open Idealize.ShloMosaic Cert.NormsProj Cert.Weight Cert.RowFormula

/-- The gated rows, row by row. -/
def gatedRows (A0 : Arr 8192 1024) (A1 : Arr 8192 1024) (A2 : Arr 8192 1024) (A3 : Arr 1 1024) (A4 : Arr 1024 1024) : Rows := fun i =>
  gatedB (fun k => A0 (ix2 (i 0) k)) (fun k => A1 (ix2 (i 0) k)) (i 1)

/-- Their projection, row by row. -/
def outRows (A0 : Arr 8192 1024) (A1 : Arr 8192 1024) (A2 : Arr 8192 1024) (A3 : Arr 1 1024) (A4 : Arr 1024 1024) : Rows := fun i =>
  times (gatedB (fun k => A0 (ix2 (i 0) k)) (fun k => A1 (ix2 (i 0) k))) (fun u k => A4 (ix2 u k)) (i 1)

/-- The next residual, row by row. -/
def nextRows (A0 : Arr 8192 1024) (A1 : Arr 8192 1024) (A2 : Arr 8192 1024) (A3 : Arr 1 1024) (A4 : Arr 1024 1024) : Rows := fun i =>
  residualNorm (fun k => A2 (ix2 (i 0) k)) (times (gatedB (fun k => A0 (ix2 (i 0) k)) (fun k => A1 (ix2 (i 0) k))) (fun u k => A4 (ix2 u k))) (fun k => A3 (ix2 0 k)) (i 1)

section Kernel

open Cert.Kernel16Ideal Cert.Kernel16Ideal.Gen Idealize.ShloMosaic.TcCoe Idealize.SL.Sem

/-- What a grid point gives output 1. -/
def blockOut0 (x0 : FVec Ideal S512x1024 .f32) (x1 : FVec Ideal S512x1024 .f32) : FVec Ideal S512x1024 .bf16 :=
  (k0_pay1 (F := Ideal) x0 x1)

theorem blockOut0_apply (x0 : FVec Ideal S512x1024 .f32) (x1 : FVec Ideal S512x1024 .f32) (r : Fin 512) (l : Fin 1024) :
    blockOut0 x0 x1 (ix2 r l) = gatedB (fun k => x0 (ix2 r k)) (fun k => x1 (ix2 r k)) l := by
  pointwise [blockOut0, zero_sub, k0_pay1, k0_pay2, k0_pay3, gatedB, silu, sigmoid]

/-- What a grid point gives output 2. -/
def blockOut1 (x0 : FVec Ideal S512x1024 .f32) (x1 : FVec Ideal S512x1024 .f32) (x4 : FVec Ideal S1024x1024 .bf16) : FVec Ideal S512x1024 .f32 :=
  (k0_pay2 (F := Ideal) x0 x1 x4)

theorem blockOut1_apply (x0 : FVec Ideal S512x1024 .f32) (x1 : FVec Ideal S512x1024 .f32) (x4 : FVec Ideal S1024x1024 .bf16) (r : Fin 512) (l : Fin 1024) :
    blockOut1 x0 x1 x4 (ix2 r l) = times (gatedB (fun k => x0 (ix2 r k)) (fun k => x1 (ix2 r k))) (fun u k => x4 (ix2 u k)) l := by
  pointwise [blockOut1, zero_sub, k0_pay1, k0_pay2, k0_pay3, times, gatedB, silu, sigmoid]

/-- What a grid point gives output 3. -/
def blockOut2 (x0 : FVec Ideal S512x1024 .f32) (x1 : FVec Ideal S512x1024 .f32) (x2 : FVec Ideal S512x1024 .f32) (x3 : FVec Ideal S1x1024 .f32) (x4 : FVec Ideal S1024x1024 .bf16) : FVec Ideal S512x1024 .f32 :=
  (k0_pay3 (F := Ideal) x0 x1 x2 x3 x4)

theorem blockOut2_apply (x0 : FVec Ideal S512x1024 .f32) (x1 : FVec Ideal S512x1024 .f32) (x2 : FVec Ideal S512x1024 .f32) (x3 : FVec Ideal S1x1024 .f32) (x4 : FVec Ideal S1024x1024 .bf16) (r : Fin 512) (l : Fin 1024) :
    blockOut2 x0 x1 x2 x3 x4 (ix2 r l) = residualNorm (fun k => x2 (ix2 r k)) (times (gatedB (fun k => x0 (ix2 r k)) (fun k => x1 (ix2 r k))) (fun u k => x4 (ix2 u k))) (fun k => x3 (ix2 0 k)) l := by
  pointwise [blockOut2, zero_sub, k0_pay1, k0_pay2, k0_pay3, residualNorm, times, gatedB, silu, sigmoid, normed, scale, meanSq]

theorem case0 (x0 : FVec Ideal S512x1024 .f32) (x1 : FVec Ideal S512x1024 .f32) (x2 : FVec Ideal S512x1024 .f32) (x3 : FVec Ideal S1x1024 .f32) (x4 : FVec Ideal S1024x1024 .bf16) :
    out0_5 (F := Ideal) x0 x1 x2 x3 x4 = blockOut0 x0 x1 := by
  unfold out0_5 r0_0
  rw [View.canon_unit_zero zeros]
  simp only [View.ld_unit_zero (S := S512x1024) zeros]
  rfl

theorem case1 (x0 : FVec Ideal S512x1024 .f32) (x1 : FVec Ideal S512x1024 .f32) (x2 : FVec Ideal S512x1024 .f32) (x3 : FVec Ideal S1x1024 .f32) (x4 : FVec Ideal S1024x1024 .bf16) :
    out0_6 (F := Ideal) x0 x1 x2 x3 x4 = blockOut1 x0 x1 x4 := by
  unfold out0_6 r0_0 r0_2
  rw [View.canon_unit_zero zeros]
  simp only [View.ld_unit_zero (S := S1024x1024) zeros, View.ld_unit_zero (S := S512x1024) zeros]
  rfl

theorem case2 (x0 : FVec Ideal S512x1024 .f32) (x1 : FVec Ideal S512x1024 .f32) (x2 : FVec Ideal S512x1024 .f32) (x3 : FVec Ideal S1x1024 .f32) (x4 : FVec Ideal S1024x1024 .bf16) :
    out0_7 (F := Ideal) x0 x1 x2 x3 x4 = blockOut2 x0 x1 x2 x3 x4 := by
  unfold out0_7 r0_0 r0_1 r0_2
  rw [View.canon_unit_zero zeros]
  simp only [View.ld_unit_zero (S := S1024x1024) zeros, View.ld_unit_zero (S := S1x1024) zeros, View.ld_unit_zero (S := S512x1024) zeros]
  rfl

variable (m : (ℓ : Loc nD τ sig) → Buf (Elt Ideal) ℓ) (c : Dev nD)

theorem index0 : ∀ t : Fin cfg0.N, win0_0.index t 0 = t.val ∧ win0_0.index t 1 = 0 := by decide +kernel

theorem blk0 (t : Fin cfg0.N) (r : Fin 512) (k : Fin 1024) (h : 512 * t.val + r.val < 8192) :
    (iblk m c 0 t : FVec Ideal S512x1024 .f32) (ix2 r k) = m ((c : Thread nD τ).loc main_arg0) (ix2 ⟨512 * t.val + r.val, h⟩ k) := by
  unfold iblk
  rw [View.read_apply]
  show V m c main_arg0 _ = _
  refine (congrArg (V m c main_arg0) (?_ : _ = (ix2 ⟨512 * t.val + r.val, h⟩ k : S8192x1024.Idx))).trans ?_
  · funext a
    apply Fin.ext
    match a with
    | ⟨0, _⟩ => show win0_0.index t 0 * 512 + 1 * r.val = 512 * t.val + r.val; rw [(index0 t).1]; omega
    | ⟨1, _⟩ => show win0_0.index t 1 * 1024 + 1 * k.val = k.val; rw [(index0 t).2]; omega
  · rw [V_main_arg0]

theorem index1 : ∀ t : Fin cfg0.N, win0_1.index t 0 = t.val ∧ win0_1.index t 1 = 0 := by decide +kernel

theorem blk1 (t : Fin cfg0.N) (r : Fin 512) (k : Fin 1024) (h : 512 * t.val + r.val < 8192) :
    (iblk m c 1 t : FVec Ideal S512x1024 .f32) (ix2 r k) = m ((c : Thread nD τ).loc main_arg1) (ix2 ⟨512 * t.val + r.val, h⟩ k) := by
  unfold iblk
  rw [View.read_apply]
  show V m c main_arg1 _ = _
  refine (congrArg (V m c main_arg1) (?_ : _ = (ix2 ⟨512 * t.val + r.val, h⟩ k : S8192x1024.Idx))).trans ?_
  · funext a
    apply Fin.ext
    match a with
    | ⟨0, _⟩ => show win0_1.index t 0 * 512 + 1 * r.val = 512 * t.val + r.val; rw [(index1 t).1]; omega
    | ⟨1, _⟩ => show win0_1.index t 1 * 1024 + 1 * k.val = k.val; rw [(index1 t).2]; omega
  · rw [V_main_arg1]

theorem index2 : ∀ t : Fin cfg0.N, win0_2.index t 0 = t.val ∧ win0_2.index t 1 = 0 := by decide +kernel

theorem blk2 (t : Fin cfg0.N) (r : Fin 512) (k : Fin 1024) (h : 512 * t.val + r.val < 8192) :
    (iblk m c 2 t : FVec Ideal S512x1024 .f32) (ix2 r k) = m ((c : Thread nD τ).loc main_arg2) (ix2 ⟨512 * t.val + r.val, h⟩ k) := by
  unfold iblk
  rw [View.read_apply]
  show V m c main_arg2 _ = _
  refine (congrArg (V m c main_arg2) (?_ : _ = (ix2 ⟨512 * t.val + r.val, h⟩ k : S8192x1024.Idx))).trans ?_
  · funext a
    apply Fin.ext
    match a with
    | ⟨0, _⟩ => show win0_2.index t 0 * 512 + 1 * r.val = 512 * t.val + r.val; rw [(index2 t).1]; omega
    | ⟨1, _⟩ => show win0_2.index t 1 * 1024 + 1 * k.val = k.val; rw [(index2 t).2]; omega
  · rw [V_main_arg2]

theorem index3 : ∀ t : Fin cfg0.N, win0_3.index t 0 = 0 ∧ win0_3.index t 1 = 0 := by decide +kernel

theorem blk3 (t : Fin cfg0.N) (k : Fin 1024) :
    (iblk m c 3 t : FVec Ideal S1x1024 .f32) (ix2 0 k) = m ((c : Thread nD τ).loc main_arg3) (ix2 0 k) := by
  unfold iblk
  rw [View.read_apply]
  show V m c main_arg3 _ = _
  refine (congrArg (V m c main_arg3) (?_ : _ = (ix2 0 k : S1x1024.Idx))).trans ?_
  · funext a
    apply Fin.ext
    match a with
    | ⟨0, _⟩ => show win0_3.index t 0 * 1 + 1 * 0 = 0; rw [(index3 t).1]
    | ⟨1, _⟩ => show win0_3.index t 1 * 1024 + 1 * k.val = k.val; rw [(index3 t).2]; omega
  · rw [V_main_arg3]

theorem index4 : ∀ t : Fin cfg0.N, win0_4.index t 0 = 0 ∧ win0_4.index t 1 = 0 := by decide +kernel

theorem blk4 (t : Fin cfg0.N) (u : Fin 1024) (k : Fin 1024) :
    (iblk m c 4 t : FVec Ideal S1024x1024 .bf16) (ix2 u k) = (m ((c : Thread nD τ).loc main_arg4) : Arr 1024 1024) (ix2 u k) := by
  unfold iblk
  rw [View.read_apply]
  show V m c main_v0 _ = _
  refine (congrArg (V m c main_v0) (?_ : _ = (ix2 u k : S1024x1024.Idx))).trans ?_
  · funext a
    apply Fin.ext
    match a with
    | ⟨0, _⟩ => show win0_4.index t 0 * 1024 + 1 * u.val = u.val; rw [(index4 t).1]; omega
    | ⟨1, _⟩ => show win0_4.index t 1 * 1024 + 1 * k.val = k.val; rw [(index4 t).2]; omega
  · entry_read
    pointwise

theorem point_row (t : Fin cfg0.N) (r : Fin 512) : 512 * t.val + r.val < 8192 := by
  have := t.isLt; have : cfg0.N = 16 := N_0; omega

/-- The kernel's result 1 on device `c`, as a function of the arrays it starts from. -/
def ker0 : Rows :=
  gatedRows (m ((c : Thread nD τ).loc main_arg0)) (m ((c : Thread nD τ).loc main_arg1)) (m ((c : Thread nD τ).loc main_arg2)) (m ((c : Thread nD τ).loc main_arg3)) (m ((c : Thread nD τ).loc main_arg4))

theorem share0 (t : Fin cfg0.N) (r : Fin 512) (l : Fin 1024) :
    blockOut0 (iblk m c 0 t) (iblk m c 1 t) (ix2 r l) = ker0 m c (ix2 ⟨512 * t.val + r.val, point_row t r⟩ l) := by
  rw [blockOut0_apply]
  simp only [blk0 m c t r _ (point_row t r), blk1 m c t r _ (point_row t r)]
  rfl

/-- The kernel's result 2 on device `c`, as a function of the arrays it starts from. -/
def ker1 : Rows :=
  outRows (m ((c : Thread nD τ).loc main_arg0)) (m ((c : Thread nD τ).loc main_arg1)) (m ((c : Thread nD τ).loc main_arg2)) (m ((c : Thread nD τ).loc main_arg3)) (m ((c : Thread nD τ).loc main_arg4))

theorem share1 (t : Fin cfg0.N) (r : Fin 512) (l : Fin 1024) :
    blockOut1 (iblk m c 0 t) (iblk m c 1 t) (iblk m c 4 t) (ix2 r l) = ker1 m c (ix2 ⟨512 * t.val + r.val, point_row t r⟩ l) := by
  rw [blockOut1_apply]
  simp only [blk0 m c t r _ (point_row t r), blk1 m c t r _ (point_row t r), blk4]
  rfl

/-- The kernel's result 3 on device `c`, as a function of the arrays it starts from. -/
def ker2 : Rows :=
  nextRows (m ((c : Thread nD τ).loc main_arg0)) (m ((c : Thread nD τ).loc main_arg1)) (m ((c : Thread nD τ).loc main_arg2)) (m ((c : Thread nD τ).loc main_arg3)) (m ((c : Thread nD τ).loc main_arg4))

theorem share2 (t : Fin cfg0.N) (r : Fin 512) (l : Fin 1024) :
    blockOut2 (iblk m c 0 t) (iblk m c 1 t) (iblk m c 2 t) (iblk m c 3 t) (iblk m c 4 t) (ix2 r l) = ker2 m c (ix2 ⟨512 * t.val + r.val, point_row t r⟩ l) := by
  rw [blockOut2_apply]
  simp only [blk0 m c t r _ (point_row t r), blk1 m c t r _ (point_row t r), blk2 m c t r _ (point_row t r), blk3, blk4]
  rfl

theorem index5 : ∀ t : Fin cfg0.N, win0_5.index t 0 = t.val ∧ win0_5.index t 1 = 0 := by decide +kernel

theorem flushed0 (t : Fin cfg0.N) : (dats m 0 c).flushed 5 t = ((cfg0.win 5).blk t).view.read (Elt Ideal) (ker0 m c) := by
  rw [Cert.Kernel16Ideal.Value.flushed5, case0]
  funext j
  obtain ⟨r, l, rfl⟩ : ∃ (r : Fin 512) (l : Fin 1024), j = ix2 r l := ⟨j 0, j 1, eq_ix2 j⟩
  refine (share0 m c t r l).trans ?_
  rw [View.read_apply]
  congr 1
  funext a
  apply Fin.ext
  match a with
  | ⟨0, _⟩ => show 512 * t.val + r.val = win0_5.index t 0 * 512 + 1 * r.val; rw [(index5 t).1]; omega
  | ⟨1, _⟩ => show l.val = win0_5.index t 1 * 1024 + 1 * l.val; rw [(index5 t).2]; omega

theorem final0 : (dats m 0 c).arrAt 5 cfg0.N = ker0 m c :=
  (dats m 0 c).arrAt_eq_of_cover 5 (ker0 m c) (fun t _ => flushed0 m c t) fun i => by
    have hN : cfg0.N = 16 := N_0
    have h0 : (i 0 : Nat) < 8192 := (i 0).isLt
    have h1 : (i 1 : Nat) < 1024 := (i 1).isLt
    obtain ⟨t, ht⟩ : ∃ t : Fin cfg0.N, t.val = (i 0 : Nat) / 512 := ⟨⟨(i 0 : Nat) / 512, by omega⟩, rfl⟩
    refine ⟨t, flush0_5 t, ?_⟩
    show i ∈ ((View.whole main_v1_0).slice (win0_5.rect t)).set
    rw [View.set_slice_whole, Rect.mem_set_unit]
    intro a
    match a with
    | ⟨0, _⟩ =>
      show win0_5.index t 0 * 512 ≤ (i 0 : Nat) ∧ (i 0 : Nat) < win0_5.index t 0 * 512 + 512
      rw [(index5 t).1]; omega
    | ⟨1, _⟩ =>
      show win0_5.index t 1 * 1024 ≤ (i 1 : Nat) ∧ (i 1 : Nat) < win0_5.index t 1 * 1024 + 1024
      rw [(index5 t).2]; omega

theorem index6 : ∀ t : Fin cfg0.N, win0_6.index t 0 = t.val ∧ win0_6.index t 1 = 0 := by decide +kernel

theorem flushed1 (t : Fin cfg0.N) : (dats m 0 c).flushed 6 t = ((cfg0.win 6).blk t).view.read (Elt Ideal) (ker1 m c) := by
  rw [Cert.Kernel16Ideal.Value.flushed6, case1]
  funext j
  obtain ⟨r, l, rfl⟩ : ∃ (r : Fin 512) (l : Fin 1024), j = ix2 r l := ⟨j 0, j 1, eq_ix2 j⟩
  refine (share1 m c t r l).trans ?_
  rw [View.read_apply]
  congr 1
  funext a
  apply Fin.ext
  match a with
  | ⟨0, _⟩ => show 512 * t.val + r.val = win0_6.index t 0 * 512 + 1 * r.val; rw [(index6 t).1]; omega
  | ⟨1, _⟩ => show l.val = win0_6.index t 1 * 1024 + 1 * l.val; rw [(index6 t).2]; omega

theorem final1 : (dats m 0 c).arrAt 6 cfg0.N = ker1 m c :=
  (dats m 0 c).arrAt_eq_of_cover 6 (ker1 m c) (fun t _ => flushed1 m c t) fun i => by
    have hN : cfg0.N = 16 := N_0
    have h0 : (i 0 : Nat) < 8192 := (i 0).isLt
    have h1 : (i 1 : Nat) < 1024 := (i 1).isLt
    obtain ⟨t, ht⟩ : ∃ t : Fin cfg0.N, t.val = (i 0 : Nat) / 512 := ⟨⟨(i 0 : Nat) / 512, by omega⟩, rfl⟩
    refine ⟨t, flush0_6 t, ?_⟩
    show i ∈ ((View.whole main_v1_1).slice (win0_6.rect t)).set
    rw [View.set_slice_whole, Rect.mem_set_unit]
    intro a
    match a with
    | ⟨0, _⟩ =>
      show win0_6.index t 0 * 512 ≤ (i 0 : Nat) ∧ (i 0 : Nat) < win0_6.index t 0 * 512 + 512
      rw [(index6 t).1]; omega
    | ⟨1, _⟩ =>
      show win0_6.index t 1 * 1024 ≤ (i 1 : Nat) ∧ (i 1 : Nat) < win0_6.index t 1 * 1024 + 1024
      rw [(index6 t).2]; omega

theorem index7 : ∀ t : Fin cfg0.N, win0_7.index t 0 = t.val ∧ win0_7.index t 1 = 0 := by decide +kernel

theorem flushed2 (t : Fin cfg0.N) : (dats m 0 c).flushed 7 t = ((cfg0.win 7).blk t).view.read (Elt Ideal) (ker2 m c) := by
  rw [Cert.Kernel16Ideal.Value.flushed7, case2]
  funext j
  obtain ⟨r, l, rfl⟩ : ∃ (r : Fin 512) (l : Fin 1024), j = ix2 r l := ⟨j 0, j 1, eq_ix2 j⟩
  refine (share2 m c t r l).trans ?_
  rw [View.read_apply]
  congr 1
  funext a
  apply Fin.ext
  match a with
  | ⟨0, _⟩ => show 512 * t.val + r.val = win0_7.index t 0 * 512 + 1 * r.val; rw [(index7 t).1]; omega
  | ⟨1, _⟩ => show l.val = win0_7.index t 1 * 1024 + 1 * l.val; rw [(index7 t).2]; omega

theorem final2 : (dats m 0 c).arrAt 7 cfg0.N = ker2 m c :=
  (dats m 0 c).arrAt_eq_of_cover 7 (ker2 m c) (fun t _ => flushed2 m c t) fun i => by
    have hN : cfg0.N = 16 := N_0
    have h0 : (i 0 : Nat) < 8192 := (i 0).isLt
    have h1 : (i 1 : Nat) < 1024 := (i 1).isLt
    obtain ⟨t, ht⟩ : ∃ t : Fin cfg0.N, t.val = (i 0 : Nat) / 512 := ⟨⟨(i 0 : Nat) / 512, by omega⟩, rfl⟩
    refine ⟨t, flush0_7 t, ?_⟩
    show i ∈ ((View.whole main_v1_2).slice (win0_7.rect t)).set
    rw [View.set_slice_whole, Rect.mem_set_unit]
    intro a
    match a with
    | ⟨0, _⟩ =>
      show win0_7.index t 0 * 512 ≤ (i 0 : Nat) ∧ (i 0 : Nat) < win0_7.index t 0 * 512 + 512
      rw [(index7 t).1]; omega
    | ⟨1, _⟩ =>
      show win0_7.index t 1 * 1024 ≤ (i 1 : Nat) ∧ (i 1 : Nat) < win0_7.index t 1 * 1024 + 1024
      rw [(index7 t).2]; omega

/-- The whole run: the results in closed form, the arguments unchanged. -/
theorem kernel_run (ρ : Dev nD → PrngReg) :
    θ_run (defs (F := Ideal)) (onTc (τ := τ) (main (F := Ideal))) ⟨m, fun _ => 0, ρ⟩ fun r => ∀ c : Dev nD,
      r.2.mem ((c.tc : Thread nD τ).loc main_v1_0) = ker0 m c
      ∧ r.2.mem ((c.tc : Thread nD τ).loc main_v1_1) = ker1 m c
      ∧ r.2.mem ((c.tc : Thread nD τ).loc main_v1_2) = ker2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (final0 m c), (h c).2.1.trans (final1 m c), (h c).2.2.1.trans (final2 m c), (h c).2.2.2⟩)
    (Cert.Kernel16Ideal.Value.run_blocks m ρ)

end Kernel

section Reference

open Cert.Reference16Ideal Cert.Reference16Ideal.Gen Idealize.ShloMosaic.TcCoe Idealize.SL.Sem

variable (m : (ℓ : Loc nD τ sig) → Buf (Elt Ideal) ℓ)

/-- The reference's results on device `c`. -/
def ref0 (c : Dev nD) : Rows :=
  gatedRows (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
def ref1 (c : Dev nD) : Rows :=
  outRows (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
def ref2 (c : Dev nD) : Rows :=
  nextRows (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

theorem reference_run (ρ : Dev nD → PrngReg) :
    θ_run (defs (F := Ideal)) (onTc (τ := τ) (main (F := Ideal))) ⟨m, fun _ => 0, ρ⟩ fun r => ∀ c : Dev nD,
      r.2.mem ((c.tc : Thread nD τ).loc main_v3) = ref0 m c
      ∧ r.2.mem ((c.tc : Thread nD τ).loc main_v2) = ref1 m c
      ∧ r.2.mem ((c.tc : Thread nD τ).loc main_v16) = ref2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun _ h c => ⟨(h c).1.trans ?_, (h c).2.1.trans ?_, (h c).2.2.1.trans ?_, (h c).2.2.2⟩)
    (Cert.Reference16Ideal.Value.run m ρ)
  · funext j
    obtain ⟨p, l, rfl⟩ : ∃ (p : Fin 8192) (l : Fin 1024), j = ix2 p l := ⟨j 0, j 1, eq_ix2 j⟩
    pointwise [ref0, gatedRows, gatedB, silu, sigmoid]
    all_goals simp only [mul_assoc, mul_comm, mul_left_comm, add_assoc, add_comm, add_left_comm]
  · funext j
    obtain ⟨p, l, rfl⟩ : ∃ (p : Fin 8192) (l : Fin 1024), j = ix2 p l := ⟨j 0, j 1, eq_ix2 j⟩
    pointwise [ref1, outRows, times, gatedB, silu, sigmoid]
    all_goals simp only [mul_assoc, mul_comm, mul_left_comm, add_assoc, add_comm, add_left_comm]
  · funext j
    obtain ⟨p, l, rfl⟩ : ∃ (p : Fin 8192) (l : Fin 1024), j = ix2 p l := ⟨j 0, j 1, eq_ix2 j⟩
    pointwise [ref2, nextRows, residualNorm, times, gatedB, silu, sigmoid, normed, scale, meanSq]
    all_goals simp only [mul_assoc, mul_comm, mul_left_comm, add_assoc, add_comm, add_left_comm]

end Reference

end Cert.OutputB
-- ==== Proof.lean ====
/- The claims of the certificate: five for each call. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.KernelValue
public import proofs.«01_k».proof.Proof.RefValue
public import proofs.«01_k».proof.Proof.Gen.Kernel2
public import proofs.«01_k».proof.Proof.Gen.Kernel2.Frame
public import proofs.«01_k».proof.Proof.Gen.Kernel3
public import proofs.«01_k».proof.Proof.Gen.Kernel3.Frame
public import proofs.«01_k».proof.Proof.Gen.Kernel4
public import proofs.«01_k».proof.Proof.Gen.Kernel4.Frame
public import proofs.«01_k».proof.Proof.Gen.Kernel5
public import proofs.«01_k».proof.Proof.Gen.Kernel5.Frame
public import proofs.«01_k».proof.Proof.Gen.Kernel6
public import proofs.«01_k».proof.Proof.Gen.Kernel6.Frame
public import proofs.«01_k».proof.Proof.Gen.Kernel7
public import proofs.«01_k».proof.Proof.Gen.Kernel7.Frame
public import proofs.«01_k».proof.Proof.Gen.Kernel8
public import proofs.«01_k».proof.Proof.Gen.Kernel8.Frame
public import proofs.«01_k».proof.Proof.Gen.Kernel9
public import proofs.«01_k».proof.Proof.Gen.Kernel9.Frame
public import proofs.«01_k».proof.Proof.Gen.Kernel10
public import proofs.«01_k».proof.Proof.Gen.Kernel10.Frame
public import proofs.«01_k».proof.Proof.Gen.Kernel11
public import proofs.«01_k».proof.Proof.Gen.Kernel11.Frame
public import proofs.«01_k».proof.Proof.Gen.Kernel12
public import proofs.«01_k».proof.Proof.Gen.Kernel12.Frame
public import proofs.«01_k».proof.Proof.Gen.Kernel13
public import proofs.«01_k».proof.Proof.Gen.Kernel13.Frame
public import proofs.«01_k».proof.Proof.Gen.Kernel14
public import proofs.«01_k».proof.Proof.Gen.Kernel14.Frame
public import proofs.«01_k».proof.Proof.Gen.Kernel15
public import proofs.«01_k».proof.Proof.Gen.Kernel15.Frame
public import proofs.«01_k».proof.Proof.Gen.Kernel16
public import proofs.«01_k».proof.Proof.Gen.Kernel16.Frame
public import proofs.«01_k».proof.Proof.Weight2
public import proofs.«01_k».proof.Proof.Weight3
public import proofs.«01_k».proof.Proof.Weight4
public import proofs.«01_k».proof.Proof.Weight5
public import proofs.«01_k».proof.Proof.InputBackA
public import proofs.«01_k».proof.Proof.OutputBackA
public import proofs.«01_k».proof.Proof.GateBack
public import proofs.«01_k».proof.Proof.OutputBackB
public import proofs.«01_k».proof.Proof.GateBackA
public import proofs.«01_k».proof.Proof.InputA
public import proofs.«01_k».proof.Proof.GluA
public import proofs.«01_k».proof.Proof.OutputA
public import proofs.«01_k».proof.Proof.Gate
public import proofs.«01_k».proof.Proof.InputB
public import proofs.«01_k».proof.Proof.OutputB
public import Idealize.ShloMosaic.Adequacy
public import Idealize.ShloMosaic.Init

@[expose] public section

noncomputable section

namespace Cert.Proof

open Idealize.ShloMosaic Idealize.SL.Sem Cert.Kernel

attribute [local instance] Cert.Kernel.Gen.facts Cert.KernelIdeal.Gen.facts Cert.ReferenceIdeal.Gen.facts
  Cert.Kernel2.Gen.facts
  Cert.Kernel2Ideal.Gen.facts Cert.Reference2Ideal.Gen.facts
  Cert.Kernel3.Gen.facts
  Cert.Kernel3Ideal.Gen.facts Cert.Reference3Ideal.Gen.facts
  Cert.Kernel4.Gen.facts
  Cert.Kernel4Ideal.Gen.facts Cert.Reference4Ideal.Gen.facts
  Cert.Kernel5.Gen.facts
  Cert.Kernel5Ideal.Gen.facts Cert.Reference5Ideal.Gen.facts
  Cert.Kernel6.Gen.facts
  Cert.Kernel6Ideal.Gen.facts Cert.Reference6Ideal.Gen.facts
  Cert.Kernel7.Gen.facts
  Cert.Kernel7Ideal.Gen.facts Cert.Reference7Ideal.Gen.facts
  Cert.Kernel8.Gen.facts
  Cert.Kernel8Ideal.Gen.facts Cert.Reference8Ideal.Gen.facts
  Cert.Kernel9.Gen.facts
  Cert.Kernel9Ideal.Gen.facts Cert.Reference9Ideal.Gen.facts
  Cert.Kernel10.Gen.facts
  Cert.Kernel10Ideal.Gen.facts Cert.Reference10Ideal.Gen.facts
  Cert.Kernel11.Gen.facts
  Cert.Kernel11Ideal.Gen.facts Cert.Reference11Ideal.Gen.facts
  Cert.Kernel12.Gen.facts
  Cert.Kernel12Ideal.Gen.facts Cert.Reference12Ideal.Gen.facts
  Cert.Kernel13.Gen.facts
  Cert.Kernel13Ideal.Gen.facts Cert.Reference13Ideal.Gen.facts
  Cert.Kernel14.Gen.facts
  Cert.Kernel14Ideal.Gen.facts Cert.Reference14Ideal.Gen.facts
  Cert.Kernel15.Gen.facts
  Cert.Kernel15Ideal.Gen.facts Cert.Reference15Ideal.Gen.facts
  Cert.Kernel16.Gen.facts
  Cert.Kernel16Ideal.Gen.facts Cert.Reference16Ideal.Gen.facts

/-- The kernel's three results are the reference's, on every device. -/
theorem norms_algebraic : Cert.algebraic_KernelIdeal_ReferenceIdeal := by
  intro m g m' g' _ same
  refine ⟨Cert.NormsProj.kerX m, Cert.NormsProj.kerK m, Cert.NormsProj.kerP m, Cert.NormsProj.kernel_run m g, ?_⟩
  refine (θ_run Cert.ReferenceIdeal.defs _ _).mono (fun r h c => ?_) (Cert.NormsProj.reference_run m' g')
  obtain ⟨e0, e1, e2, e3, e4, e5, e6, e7, e8, e9⟩ := same c
  refine ⟨(h c).1.trans ?_, (h c).2.1.trans ?_, (h c).2.2.1.trans ?_, (h c).2.2.2⟩
  · rw [Cert.NormsProj.refX, e0, e1, e2, e3, e4, e5, e6, e7, e8, e9]; rfl
  · rw [Cert.NormsProj.refK, e0, e2, e3, e8]; rfl
  · rw [Cert.NormsProj.refP, e0, e4, e5, e9]; rfl

/-- The reference leaves its arguments unchanged; it declares no semaphore. -/
theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.NormsProj.reference_run m ρ)

theorem algebraic2 : Cert.algebraic_Kernel2Ideal_Reference2Ideal := by
  intro m g m' g' _ same
  refine ⟨Cert.Weight2.ker m, Cert.Weight2.kernel_run m g, ?_⟩
  refine (θ_run Cert.Reference2Ideal.defs _ _).mono (fun r h c => ?_) (Cert.Weight2.reference_run m' g')
  obtain ⟨e0, e1, e2⟩ := same c
  refine ⟨(h c).1.trans ?_, (h c).2⟩
  · rw [Cert.Weight2.ref, e0, e2]; rfl

theorem frame_reference2 : Cert.quiescent_Reference2Ideal := fun m ρ _ =>
  (θ_run Cert.Reference2Ideal.defs _ _).mono (fun r h => ⟨fun c => (h c).2, sem_eq_zero_of_no_sems (by decide) r.2⟩)
    (Cert.Weight2.reference_run m ρ)

theorem algebraic3 : Cert.algebraic_Kernel3Ideal_Reference3Ideal := by
  intro m g m' g' _ same
  refine ⟨Cert.Weight3.ker m, Cert.Weight3.kernel_run m g, ?_⟩
  refine (θ_run Cert.Reference3Ideal.defs _ _).mono (fun r h c => ?_) (Cert.Weight3.reference_run m' g')
  obtain ⟨e0, e1, e2⟩ := same c
  refine ⟨(h c).1.trans ?_, (h c).2⟩
  · rw [Cert.Weight3.ref, e0, e2]; rfl

theorem frame_reference3 : Cert.quiescent_Reference3Ideal := fun m ρ _ =>
  (θ_run Cert.Reference3Ideal.defs _ _).mono (fun r h => ⟨fun c => (h c).2, sem_eq_zero_of_no_sems (by decide) r.2⟩)
    (Cert.Weight3.reference_run m ρ)

theorem algebraic4 : Cert.algebraic_Kernel4Ideal_Reference4Ideal := by
  intro m g m' g' _ same
  refine ⟨Cert.Weight4.ker m, Cert.Weight4.kernel_run m g, ?_⟩
  refine (θ_run Cert.Reference4Ideal.defs _ _).mono (fun r h c => ?_) (Cert.Weight4.reference_run m' g')
  obtain ⟨e0, e1, e2⟩ := same c
  refine ⟨(h c).1.trans ?_, (h c).2⟩
  · rw [Cert.Weight4.ref, e0, e2]; rfl

theorem frame_reference4 : Cert.quiescent_Reference4Ideal := fun m ρ _ =>
  (θ_run Cert.Reference4Ideal.defs _ _).mono (fun r h => ⟨fun c => (h c).2, sem_eq_zero_of_no_sems (by decide) r.2⟩)
    (Cert.Weight4.reference_run m ρ)

theorem algebraic5 : Cert.algebraic_Kernel5Ideal_Reference5Ideal := by
  intro m g m' g' _ same
  refine ⟨Cert.Weight5.ker m, Cert.Weight5.kernel_run m g, ?_⟩
  refine (θ_run Cert.Reference5Ideal.defs _ _).mono (fun r h c => ?_) (Cert.Weight5.reference_run m' g')
  obtain ⟨e0, e1, e2⟩ := same c
  refine ⟨(h c).1.trans ?_, (h c).2⟩
  · rw [Cert.Weight5.ref, e0, e2]; rfl

theorem frame_reference5 : Cert.quiescent_Reference5Ideal := fun m ρ _ =>
  (θ_run Cert.Reference5Ideal.defs _ _).mono (fun r h => ⟨fun c => (h c).2, sem_eq_zero_of_no_sems (by decide) r.2⟩)
    (Cert.Weight5.reference_run m ρ)

theorem algebraic6 : Cert.algebraic_Kernel6Ideal_Reference6Ideal := by
  intro m g m' g' _ same
  refine ⟨Cert.InputBackA.ker0 m, Cert.InputBackA.ker1 m, Cert.InputBackA.kernel_run m g, ?_⟩
  refine (θ_run Cert.Reference6Ideal.defs _ _).mono (fun r h c => ?_) (Cert.InputBackA.reference_run m' g')
  obtain ⟨e0, e1, e2, e3, e4, e5⟩ := same c
  refine ⟨(h c).1.trans ?_, (h c).2.1.trans ?_, (h c).2.2⟩
  · rw [Cert.InputBackA.ref0, e0, e1, e2, e3, e4, e5]; rfl
  · rw [Cert.InputBackA.ref1, e0, e1, e2, e3, e4, e5]; rfl

theorem frame_reference6 : Cert.quiescent_Reference6Ideal := fun m ρ _ =>
  (θ_run Cert.Reference6Ideal.defs _ _).mono (fun r h => ⟨fun c => (h c).2.2, sem_eq_zero_of_no_sems (by decide) r.2⟩)
    (Cert.InputBackA.reference_run m ρ)

theorem algebraic7 : Cert.algebraic_Kernel7Ideal_Reference7Ideal := by
  intro m g m' g' _ same
  refine ⟨Cert.OutputBackA.ker0 m, Cert.OutputBackA.ker2 m, Cert.OutputBackA.kernel_run m g, ?_⟩
  refine (θ_run Cert.Reference7Ideal.defs _ _).mono (fun r h c => ?_) (Cert.OutputBackA.reference_run m' g')
  obtain ⟨e0, e1, e2, e3⟩ := same c
  refine ⟨(h c).1.trans ?_, (h c).2.1.trans ?_, (h c).2.2⟩
  · rw [Cert.OutputBackA.ref0, e0, e1, e2, e3]; rfl
  · rw [Cert.OutputBackA.ref2, e0, e1, e2, e3]; rfl

theorem frame_reference7 : Cert.quiescent_Reference7Ideal := fun m ρ _ =>
  (θ_run Cert.Reference7Ideal.defs _ _).mono (fun r h => ⟨fun c => (h c).2.2, sem_eq_zero_of_no_sems (by decide) r.2⟩)
    (Cert.OutputBackA.reference_run m ρ)

theorem algebraic8 : Cert.algebraic_Kernel8Ideal_Reference8Ideal := by
  intro m g m' g' _ same
  refine ⟨Cert.GateBack.ker0 m, Cert.GateBack.ker1 m, Cert.GateBack.ker2 m, Cert.GateBack.kernel_run m g, ?_⟩
  refine (θ_run Cert.Reference8Ideal.defs _ _).mono (fun r h c => ?_) (Cert.GateBack.reference_run m' g')
  obtain ⟨e0, e1, e2, e3, e4⟩ := same c
  refine ⟨(h c).1.trans ?_, (h c).2.1.trans ?_, (h c).2.2.1.trans ?_, (h c).2.2.2⟩
  · rw [Cert.GateBack.ref0, e0, e1, e2, e3, e4]; rfl
  · rw [Cert.GateBack.ref1, e0, e1, e2, e3, e4]; rfl
  · rw [Cert.GateBack.ref2, e0, e1, e2, e3, e4]; rfl

theorem frame_reference8 : Cert.quiescent_Reference8Ideal := fun m ρ _ =>
  (θ_run Cert.Reference8Ideal.defs _ _).mono (fun r h => ⟨fun c => (h c).2.2.2, sem_eq_zero_of_no_sems (by decide) r.2⟩)
    (Cert.GateBack.reference_run m ρ)

theorem algebraic9 : Cert.algebraic_Kernel9Ideal_Reference9Ideal := by
  intro m g m' g' _ same
  refine ⟨Cert.OutputBackB.ker0 m, Cert.OutputBackB.ker1 m, Cert.OutputBackB.ker2 m, Cert.OutputBackB.ker3 m, Cert.OutputBackB.kernel_run m g, ?_⟩
  refine (θ_run Cert.Reference9Ideal.defs _ _).mono (fun r h c => ?_) (Cert.OutputBackB.reference_run m' g')
  obtain ⟨e0, e1, e2, e3, e4⟩ := same c
  refine ⟨(h c).1.trans ?_, (h c).2.1.trans ?_, (h c).2.2.1.trans ?_, (h c).2.2.2.1.trans ?_, (h c).2.2.2.2⟩
  · rw [Cert.OutputBackB.ref0, e0, e1, e2, e3, e4]; rfl
  · rw [Cert.OutputBackB.ref1, e0, e1, e2, e3, e4]; rfl
  · rw [Cert.OutputBackB.ref2, e0, e1, e2, e3, e4]; rfl
  · rw [Cert.OutputBackB.ref3, e0, e1, e2, e3, e4]; rfl

theorem frame_reference9 : Cert.quiescent_Reference9Ideal := fun m ρ _ =>
  (θ_run Cert.Reference9Ideal.defs _ _).mono (fun r h => ⟨fun c => (h c).2.2.2.2, sem_eq_zero_of_no_sems (by decide) r.2⟩)
    (Cert.OutputBackB.reference_run m ρ)

theorem algebraic10 : Cert.algebraic_Kernel10Ideal_Reference10Ideal := by
  intro m g m' g' _ same
  refine ⟨Cert.GateBackA.ker0 m, Cert.GateBackA.ker1 m, Cert.GateBackA.ker2 m, Cert.GateBackA.ker3 m, Cert.GateBackA.ker4 m, Cert.GateBackA.ker5 m, Cert.GateBackA.kernel_run m g, ?_⟩
  refine (θ_run Cert.Reference10Ideal.defs _ _).mono (fun r h c => ?_) (Cert.GateBackA.reference_run m' g')
  obtain ⟨e0, e1, e2, e3, e4, e5, e6⟩ := same c
  refine ⟨(h c).1.trans ?_, (h c).2.1.trans ?_, (h c).2.2.1.trans ?_, (h c).2.2.2.1.trans ?_, (h c).2.2.2.2.1.trans ?_, (h c).2.2.2.2.2.1.trans ?_, (h c).2.2.2.2.2.2⟩
  · rw [Cert.GateBackA.ref0, e0, e1, e2, e3, e4, e5, e6]; rfl
  · rw [Cert.GateBackA.ref1, e0, e1, e2, e3, e4, e5, e6]; rfl
  · rw [Cert.GateBackA.ref2, e0, e1, e2, e3, e4, e5, e6]; rfl
  · rw [Cert.GateBackA.ref3, e0, e1, e2, e3, e4, e5, e6]; rfl
  · rw [Cert.GateBackA.ref4, e0, e1, e2, e3, e4, e5, e6]; rfl
  · rw [Cert.GateBackA.ref5, e0, e1, e2, e3, e4, e5, e6]; rfl

theorem frame_reference10 : Cert.quiescent_Reference10Ideal := fun m ρ _ =>
  (θ_run Cert.Reference10Ideal.defs _ _).mono (fun r h => ⟨fun c => (h c).2.2.2.2.2.2, sem_eq_zero_of_no_sems (by decide) r.2⟩)
    (Cert.GateBackA.reference_run m ρ)

theorem algebraic11 : Cert.algebraic_Kernel11Ideal_Reference11Ideal := by
  intro m g m' g' _ same
  refine ⟨Cert.InputA.ker0 m, Cert.InputA.ker1 m, Cert.InputA.ker2 m, Cert.InputA.kernel_run m g, ?_⟩
  refine (θ_run Cert.Reference11Ideal.defs _ _).mono (fun r h c => ?_) (Cert.InputA.reference_run m' g')
  obtain ⟨e0, e1, e2⟩ := same c
  refine ⟨(h c).1.trans ?_, (h c).2.1.trans ?_, (h c).2.2.1.trans ?_, (h c).2.2.2⟩
  · rw [Cert.InputA.ref0, e0, e1, e2]; rfl
  · rw [Cert.InputA.ref1, e0, e1, e2]; rfl
  · rw [Cert.InputA.ref2, e0, e1, e2]; rfl

theorem frame_reference11 : Cert.quiescent_Reference11Ideal := fun m ρ _ =>
  (θ_run Cert.Reference11Ideal.defs _ _).mono (fun r h => ⟨fun c => (h c).2.2.2, sem_eq_zero_of_no_sems (by decide) r.2⟩)
    (Cert.InputA.reference_run m ρ)

theorem algebraic12 : Cert.algebraic_Kernel12Ideal_Reference12Ideal := by
  intro m g m' g' _ same
  refine ⟨Cert.GluA.ker0 m, Cert.GluA.ker1 m, Cert.GluA.kernel_run m g, ?_⟩
  refine (θ_run Cert.Reference12Ideal.defs _ _).mono (fun r h c => ?_) (Cert.GluA.reference_run m' g')
  obtain ⟨e0, e1, e2, e3⟩ := same c
  refine ⟨(h c).1.trans ?_, (h c).2.1.trans ?_, (h c).2.2⟩
  · rw [Cert.GluA.ref0, e0, e1, e2, e3]; rfl
  · rw [Cert.GluA.ref1, e0, e1, e2, e3]; rfl

theorem frame_reference12 : Cert.quiescent_Reference12Ideal := fun m ρ _ =>
  (θ_run Cert.Reference12Ideal.defs _ _).mono (fun r h => ⟨fun c => (h c).2.2, sem_eq_zero_of_no_sems (by decide) r.2⟩)
    (Cert.GluA.reference_run m ρ)

theorem algebraic13 : Cert.algebraic_Kernel13Ideal_Reference13Ideal := by
  intro m g m' g' _ same
  refine ⟨Cert.OutputA.ker0 m, Cert.OutputA.ker1 m, Cert.OutputA.ker2 m, Cert.OutputA.kernel_run m g, ?_⟩
  refine (θ_run Cert.Reference13Ideal.defs _ _).mono (fun r h c => ?_) (Cert.OutputA.reference_run m' g')
  obtain ⟨e0, e1, e2, e3, e4, e5, e6, e7, e8⟩ := same c
  refine ⟨(h c).1.trans ?_, (h c).2.1.trans ?_, (h c).2.2.1.trans ?_, (h c).2.2.2⟩
  · rw [Cert.OutputA.ref0, e0, e1, e2, e3, e4, e5, e6, e7, e8]; rfl
  · rw [Cert.OutputA.ref1, e0, e1, e2, e3, e4, e5, e6, e7, e8]; rfl
  · rw [Cert.OutputA.ref2, e0, e1, e2, e3, e4, e5, e6, e7, e8]; rfl

theorem frame_reference13 : Cert.quiescent_Reference13Ideal := fun m ρ _ =>
  (θ_run Cert.Reference13Ideal.defs _ _).mono (fun r h => ⟨fun c => (h c).2.2.2, sem_eq_zero_of_no_sems (by decide) r.2⟩)
    (Cert.OutputA.reference_run m ρ)

theorem algebraic14 : Cert.algebraic_Kernel14Ideal_Reference14Ideal := by
  intro m g m' g' _ same
  refine ⟨Cert.Gate.ker0 m, Cert.Gate.ker1 m, Cert.Gate.ker2 m, Cert.Gate.kernel_run m g, ?_⟩
  refine (θ_run Cert.Reference14Ideal.defs _ _).mono (fun r h c => ?_) (Cert.Gate.reference_run m' g')
  obtain ⟨e0, e1, e2, e3⟩ := same c
  refine ⟨(h c).1.trans ?_, (h c).2.1.trans ?_, (h c).2.2.1.trans ?_, (h c).2.2.2⟩
  · rw [Cert.Gate.ref0, e0, e1, e2, e3]; rfl
  · rw [Cert.Gate.ref1, e0, e1, e2, e3]; rfl
  · rw [Cert.Gate.ref2, e0, e1, e2, e3]; rfl

theorem frame_reference14 : Cert.quiescent_Reference14Ideal := fun m ρ _ =>
  (θ_run Cert.Reference14Ideal.defs _ _).mono (fun r h => ⟨fun c => (h c).2.2.2, sem_eq_zero_of_no_sems (by decide) r.2⟩)
    (Cert.Gate.reference_run m ρ)

theorem algebraic15 : Cert.algebraic_Kernel15Ideal_Reference15Ideal := by
  intro m g m' g' _ same
  refine ⟨Cert.InputB.ker0 m, Cert.InputB.ker1 m, Cert.InputB.ker2 m, Cert.InputB.ker3 m, Cert.InputB.ker4 m, Cert.InputB.ker5 m, Cert.InputB.kernel_run m g, ?_⟩
  refine (θ_run Cert.Reference15Ideal.defs _ _).mono (fun r h c => ?_) (Cert.InputB.reference_run m' g')
  obtain ⟨e0, e1, e2, e3, e4⟩ := same c
  refine ⟨(h c).1.trans ?_, (h c).2.1.trans ?_, (h c).2.2.1.trans ?_, (h c).2.2.2.1.trans ?_, (h c).2.2.2.2.1.trans ?_, (h c).2.2.2.2.2.1.trans ?_, (h c).2.2.2.2.2.2⟩
  · rw [Cert.InputB.ref0, e0, e1, e2, e3, e4]; rfl
  · rw [Cert.InputB.ref1, e0, e1, e2, e3, e4]; rfl
  · rw [Cert.InputB.ref2, e0, e1, e2, e3, e4]; rfl
  · rw [Cert.InputB.ref3, e0, e1, e2, e3, e4]; rfl
  · rw [Cert.InputB.ref4, e0, e1, e2, e3, e4]; rfl
  · rw [Cert.InputB.ref5, e0, e1, e2, e3, e4]; rfl

theorem frame_reference15 : Cert.quiescent_Reference15Ideal := fun m ρ _ =>
  (θ_run Cert.Reference15Ideal.defs _ _).mono (fun r h => ⟨fun c => (h c).2.2.2.2.2.2, sem_eq_zero_of_no_sems (by decide) r.2⟩)
    (Cert.InputB.reference_run m ρ)

theorem algebraic16 : Cert.algebraic_Kernel16Ideal_Reference16Ideal := by
  intro m g m' g' _ same
  refine ⟨Cert.OutputB.ker0 m, Cert.OutputB.ker1 m, Cert.OutputB.ker2 m, Cert.OutputB.kernel_run m g, ?_⟩
  refine (θ_run Cert.Reference16Ideal.defs _ _).mono (fun r h c => ?_) (Cert.OutputB.reference_run m' g')
  obtain ⟨e0, e1, e2, e3, e4⟩ := same c
  refine ⟨(h c).1.trans ?_, (h c).2.1.trans ?_, (h c).2.2.1.trans ?_, (h c).2.2.2⟩
  · rw [Cert.OutputB.ref0, e0, e1, e2, e3, e4]; rfl
  · rw [Cert.OutputB.ref1, e0, e1, e2, e3, e4]; rfl
  · rw [Cert.OutputB.ref2, e0, e1, e2, e3, e4]; rfl

theorem frame_reference16 : Cert.quiescent_Reference16Ideal := fun m ρ _ =>
  (θ_run Cert.Reference16Ideal.defs _ _).mono (fun r h => ⟨fun c => (h c).2.2.2, sem_eq_zero_of_no_sems (by decide) r.2⟩)
    (Cert.OutputB.reference_run m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  fun m ρ _ => Cert.Kernel.Gen.frame m ρ, fun m ρ _ => Cert.KernelIdeal.Gen.frame m ρ, frame_reference,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel6.Gen.frame m ρ, fun m ρ _ => Cert.Kernel6Ideal.Gen.frame m ρ, frame_reference6,
  fun m ρ _ => Cert.Kernel7.Gen.frame m ρ, fun m ρ _ => Cert.Kernel7Ideal.Gen.frame m ρ, frame_reference7,
  fun m ρ _ => Cert.Kernel8.Gen.frame m ρ, fun m ρ _ => Cert.Kernel8Ideal.Gen.frame m ρ, frame_reference8,
  fun m ρ _ => Cert.Kernel9.Gen.frame m ρ, fun m ρ _ => Cert.Kernel9Ideal.Gen.frame m ρ, frame_reference9,
  fun m ρ _ => Cert.Kernel10.Gen.frame m ρ, fun m ρ _ => Cert.Kernel10Ideal.Gen.frame m ρ, frame_reference10,
  fun m ρ _ => Cert.Kernel11.Gen.frame m ρ, fun m ρ _ => Cert.Kernel11Ideal.Gen.frame m ρ, frame_reference11,
  fun m ρ _ => Cert.Kernel12.Gen.frame m ρ, fun m ρ _ => Cert.Kernel12Ideal.Gen.frame m ρ, frame_reference12,
  fun m ρ _ => Cert.Kernel13.Gen.frame m ρ, fun m ρ _ => Cert.Kernel13Ideal.Gen.frame m ρ, frame_reference13,
  fun m ρ _ => Cert.Kernel14.Gen.frame m ρ, fun m ρ _ => Cert.Kernel14Ideal.Gen.frame m ρ, frame_reference14,
  fun m ρ _ => Cert.Kernel15.Gen.frame m ρ, fun m ρ _ => Cert.Kernel15Ideal.Gen.frame m ρ, frame_reference15,
  fun m ρ _ => Cert.Kernel16.Gen.frame m ρ, fun m ρ _ => Cert.Kernel16Ideal.Gen.frame m ρ, frame_reference16,
  trivial, norms_algebraic, trivial, algebraic2, trivial, algebraic3, trivial, algebraic4, trivial, algebraic5, trivial, algebraic6, trivial, algebraic7, trivial, algebraic8, trivial, algebraic9, trivial, algebraic10, trivial, algebraic11, trivial, algebraic12, trivial, algebraic13, trivial, algebraic14, trivial, algebraic15, trivial, algebraic16⟩

end Cert.Proof

end
